-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S2x16x1024x1024 : Shape := ⟨4, ![2, 16, 1024, 1024]⟩
abbrev S2x16x1024 : Shape := ⟨3, ![2, 16, 1024]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S2x16x1024x1 : Shape := ⟨4, ![2, 16, 1024, 1]⟩
abbrev S2x16x1024x128 : Shape := ⟨4, ![2, 16, 1024, 128]⟩
abbrev S2048x1024 : Shape := ⟨2, ![2048, 1024]⟩
abbrev S2x2x1x1024x1024 : Shape := ⟨5, ![2, 2, 1, 1024, 1024]⟩
abbrev S2 : Shape := ⟨1, ![2]⟩
abbrev S2x2x1x1024x128 : Shape := ⟨5, ![2, 2, 1, 1024, 128]⟩
abbrev S2x1x1024x256 : Shape := ⟨4, ![2, 1, 1024, 256]⟩
abbrev S2x1x256x1024 : Shape := ⟨4, ![2, 1, 256, 1024]⟩
abbrev S1 : Shape := ⟨1, ![1]⟩
abbrev S_ : Shape := ⟨0, ![]⟩
abbrev S1x2x1x1024x1024 : Shape := ⟨5, ![1, 2, 1, 1024, 1024]⟩
abbrev S2x1x1024x1024 : Shape := ⟨4, ![2, 1, 1024, 1024]⟩
abbrev S1x2x1x1024x128 : Shape := ⟨5, ![1, 2, 1, 1024, 128]⟩
abbrev S2x1x1024x128 : Shape := ⟨4, ![2, 1, 1024, 128]⟩
abbrev S1x1x1024x256 : Shape := ⟨4, ![1, 1, 1024, 256]⟩
abbrev S1x1024x256 : Shape := ⟨3, ![1, 1024, 256]⟩
abbrev S1x1x256x1024 : Shape := ⟨4, ![1, 1, 256, 1024]⟩
abbrev S1x256x1024 : Shape := ⟨3, ![1, 256, 1024]⟩
abbrev S1024x256 : Shape := ⟨2, ![1024, 256]⟩
abbrev S1024x1024 : Shape := ⟨2, ![1024, 1024]⟩
abbrev S256x1024 : Shape := ⟨2, ![256, 1024]⟩
abbrev S1x1x1024x1024 : Shape := ⟨4, ![1, 1, 1024, 1024]⟩
abbrev S1024x768 : Shape := ⟨2, ![1024, 768]⟩
abbrev S768x1024 : Shape := ⟨2, ![768, 1024]⟩
abbrev S2x1x1024x1 : Shape := ⟨4, ![2, 1, 1024, 1]⟩
abbrev S2x1024x1 : Shape := ⟨3, ![2, 1024, 1]⟩
abbrev S2048x1 : Shape := ⟨2, ![2048, 1]⟩
abbrev S2x1024x1024 : Shape := ⟨3, ![2, 1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S16x1024x2816, .f32⟩
  | .hbm, ⟨6, _⟩ => ⟨S16x1024x2816, .f32⟩
  | .hbm, ⟨7, _⟩ => ⟨S16x2816x1024, .f32⟩
  | .hbm, ⟨8, _⟩ => ⟨S2x16x1024x1, .f32⟩
  | .hbm, ⟨9, _⟩ => ⟨S2x16x1024x128, .f32⟩
  | .hbm, ⟨10, _⟩ => ⟨S2x16x1024x1024, .bf16⟩
  | .hbm, ⟨11, _⟩ => ⟨S2x16x1024x1024, .bf16⟩
  | .local _ .vmem, ⟨0, _⟩ => ⟨S2048x1024, .f32⟩
  | .local _ .vmem, ⟨1, _⟩ => ⟨S2x2x1x1024x1024, .bf16⟩
  | .local _ .vmem, ⟨2, _⟩ => ⟨S2x2x1x1024x128, .f32⟩
  | .local _ .vmem, ⟨3, _⟩ => ⟨S2x1x1024x256, .f32⟩
  | .local _ .vmem, ⟨4, _⟩ => ⟨S2x1x1024x256, .f32⟩
  | .local _ .vmem, ⟨5, _⟩ => ⟨S2x1x256x1024, .f32⟩
  | .local _ .vmem, ⟨6, _⟩ => ⟨S2x1x1024x256, .f32⟩
  | .local _ .vmem, ⟨7, _⟩ => ⟨S2x1x1024x256, .f32⟩
  | .local _ .vmem, ⟨8, _⟩ => ⟨S2x1x256x1024, .f32⟩
  | .local _ .vmem, ⟨9, _⟩ => ⟨S2x1x1024x256, .f32⟩
  | .local _ .vmem, ⟨10, _⟩ => ⟨S2x1x1024x256, .f32⟩
  | .local _ .vmem, ⟨11, _⟩ => ⟨S2x1x256x1024, .f32⟩
  | .local _ .vmem, ⟨12, _⟩ => ⟨S2x1x1024x256, .f32⟩
  | .local _ .vmem, ⟨13, _⟩ => ⟨S2x1x1024x256, .f32⟩
  | .local _ .vmem, ⟨14, _⟩ => ⟨S2x1x256x1024, .f32⟩
  | .local _ .vmem, ⟨15, _⟩ => ⟨S2x2x1x1024x1024, .bf16⟩
  | _, _ => ⟨S2x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_scoped8 : Ref sig .tc := ⟨.vmem, 5, rfl⟩
abbrev cc0_scoped10 : Ref sig .tc := ⟨.vmem, 6, rfl⟩
abbrev cc0_scoped12 : Ref sig .tc := ⟨.vmem, 7, rfl⟩
abbrev cc0_scoped14 : Ref sig .tc := ⟨.vmem, 8, rfl⟩
abbrev cc0_scoped16 : Ref sig .tc := ⟨.vmem, 9, rfl⟩
abbrev cc0_scoped18 : Ref sig .tc := ⟨.vmem, 10, rfl⟩
abbrev cc0_scoped20 : Ref sig .tc := ⟨.vmem, 11, rfl⟩
abbrev cc0_scoped22 : Ref sig .tc := ⟨.vmem, 12, rfl⟩
abbrev cc0_scoped24 : Ref sig .tc := ⟨.vmem, 13, rfl⟩
abbrev cc0_scoped26 : Ref sig .tc := ⟨.vmem, 14, rfl⟩
abbrev cc0_scoped28 : Ref sig .tc := ⟨.vmem, 15, rfl⟩

abbrev nD : Nat := 1
abbrev τ : Topo := Topo.v7x

variable {F : FTy → Type} [FloatOps F]

abbrev grid0 : Pipeline.Grid := .none

def k0_off1 : Fin 1 → Nat :=
  let c0_i32_41_r0 : BitVec 32 := 0#32
  let c2_i32_42_r0 : BitVec 32 := 2#32
  let v43_r0 : BitVec 32 := Scalar.remui c0_i32_41_r0 c2_i32_42_r0
  ![v43_r0.toNat]
def k0_off2 : Fin 5 → Nat :=
  let c0_i32_41_r0 : BitVec 32 := 0#32
  let c2_i32_42_r0 : BitVec 32 := 2#32
  let v43_r0 : BitVec 32 := Scalar.remui c0_i32_41_r0 c2_i32_42_r0
  let c0_i32_44_r0 : BitVec 32 := 0#32
  let c0_i32_45_r0 : BitVec 32 := 0#32
  let c0_i32_46_r0 : BitVec 32 := 0#32
  let c0_i32_47_r0 : BitVec 32 := 0#32
  ![v43_r0.toNat, 0, 0, 0, 0]
def k0_off3 : Fin 4 → Nat :=
  let c0_i32_48_r0 : BitVec 32 := 0#32
  let c1_i32_43_r0 : BitVec 32 := 1#32
  let c0_i32_37_r0 : BitVec 32 := 0#32
  let c0_i32_38_r0 : BitVec 32 := 0#32
  let v41_r0 : BitVec 32 := Scalar.addi c0_i32_37_r0 c0_i32_38_r0
  let v44_r0 : BitVec 32 := Scalar.muli c1_i32_43_r0 v41_r0
  let c0_i32_49_r0 : BitVec 32 := 0#32
  let c0_i32_50_r0 : BitVec 32 := 0#32
  ![0, v44_r0.toNat, 0, 0]
def k0_off4 : Fin 5 → Nat :=
  let c0_i32_57_r0 : BitVec 32 := 0#32
  let c2_i32_58_r0 : BitVec 32 := 2#32
  let v53_r0 : BitVec 32 := Scalar.remui c0_i32_57_r0 c2_i32_58_r0
  let c0_i32_60_r0 : BitVec 32 := 0#32
  let c0_i32_61_r0 : BitVec 32 := 0#32
  let c0_i32_62_r0 : BitVec 32 := 0#32
  let c0_i32_63_r0 : BitVec 32 := 0#32
  ![v53_r0.toNat, 0, 0, 0, 0]
def k0_off5 : Fin 4 → Nat :=
  let c0_i32_64_r0 : BitVec 32 := 0#32
  let c1_i32_59_r0 : BitVec 32 := 1#32
  let c0_i32_53_r0 : BitVec 32 := 0#32
  let c0_i32_54_r0 : BitVec 32 := 0#32
  let v51_r0 : BitVec 32 := Scalar.addi c0_i32_53_r0 c0_i32_54_r0
  let v54_r0 : BitVec 32 := Scalar.muli c1_i32_59_r0 v51_r0
  let c0_i32_65_r0 : BitVec 32 := 0#32
  let c0_i32_66_r0 : BitVec 32 := 0#32
  ![0, v54_r0.toNat, 0, 0]
def k0_off6 : Fin 4 → Nat :=
  let c0_i32_69_r0 : BitVec 32 := 0#32
  let c2_i32_70_r0 : BitVec 32 := 2#32
  let v61_r0 : BitVec 32 := Scalar.remui c0_i32_69_r0 c2_i32_70_r0
  let c0_i32_72_r0 : BitVec 32 := 0#32
  let c0_i32_73_r0 : BitVec 32 := 0#32
  let c0_i32_74_r0 : BitVec 32 := 0#32
  ![v61_r0.toNat, 0, 0, 0]
def k0_off7 (c0_i32_71_r0 : BitVec 32) : Fin 3 → Nat :=
  let c0_i32_75_r0 : BitVec 32 := 0#32
  let c0_i32_76_r0 : BitVec 32 := 0#32
  let c256_i32_r0 : BitVec 32 := 256#32
  let c10_i32_r0 : BitVec 32 := 10#32
  let v62_r0 : BitVec 32 := Scalar.minsi c0_i32_71_r0 c10_i32_r0
  let v63_r0 : BitVec 32 := Scalar.muli c256_i32_r0 v62_r0
  ![0, 0, v63_r0.toNat]
def k0_off8 : Fin 4 → Nat :=
  let c0_i32_91_r0 : BitVec 32 := 0#32
  let c2_i32_92_r0 : BitVec 32 := 2#32
  let v79_r0 : BitVec 32 := Scalar.remui c0_i32_91_r0 c2_i32_92_r0
  let c0_i32_96_r0 : BitVec 32 := 0#32
  let c0_i32_97_r0 : BitVec 32 := 0#32
  let c0_i32_98_r0 : BitVec 32 := 0#32
  ![v79_r0.toNat, 0, 0, 0]
def k0_off9 (c0_i32_93_r0 : BitVec 32) : Fin 3 → Nat :=
  let c0_i32_99_r0 : BitVec 32 := 0#32
  let c256_i32_95_r0 : BitVec 32 := 256#32
  let c10_i32_94_r0 : BitVec 32 := 10#32
  let v80_r0 : BitVec 32 := Scalar.minsi c0_i32_93_r0 c10_i32_94_r0
  let v81_r0 : BitVec 32 := Scalar.muli c256_i32_95_r0 v80_r0
  let c0_i32_100_r0 : BitVec 32 := 0#32
  ![0, v81_r0.toNat, 0]
@[reducible] def k0_t1_loop : Scf.Loop 32 :=
  let c0_i32_233_r0 : BitVec 32 := 0#32
  let c48_i32_r0 : BitVec 32 := 48#32
  let v169_r0 : BitVec 32 := Scalar.addi c0_i32_233_r0 c48_i32_r0
  let c1_i32_234_r0 : BitVec 32 := 1#32
  ⟨c0_i32_233_r0, v169_r0, c1_i32_234_r0⟩
def k0_off10 (arg57_r0 : BitVec 32) : Fin 1 → Nat :=
  let c2_i32_711_r0 : BitVec 32 := 2#32
  let v1034_r0 : BitVec 32 := Scalar.remui arg57_r0 c2_i32_711_r0
  ![v1034_r0.toNat]
def k0_cond1 (arg53_r0 : BitVec 32) (arg55_r0 : BitVec 32) : BitVec 1 :=
  let c0_i32_699_r0 : BitVec 32 := 0#32
  let v1018_r0 : BitVec 32 := Scalar.addi arg53_r0 c0_i32_699_r0
  let c0_i32_701_r0 : BitVec 32 := 0#32
  let v1020_r0 : BitVec 32 := Scalar.addi arg55_r0 c0_i32_701_r0
  let v1022_r0 : BitVec 1 := Scalar.cmpi .ne v1018_r0 v1020_r0
  let v1023_r0 : BitVec 32 := Scalar.extui v1022_r0
  let c0_i32_703_r0 : BitVec 32 := 0#32
  let v1024_r0 : BitVec 1 := Scalar.cmpi .ne v1023_r0 c0_i32_703_r0
  v1024_r0

def k0_off11 (arg57_r0 : BitVec 32) : Fin 5 → Nat :=
  let c2_i32_711_r0 : BitVec 32 := 2#32
  let v1034_r0 : BitVec 32 := Scalar.remui arg57_r0 c2_i32_711_r0
  let c0_i32_713_r0 : BitVec 32 := 0#32
  let c0_i32_714_r0 : BitVec 32 := 0#32
  let c0_i32_715_r0 : BitVec 32 := 0#32
  let c0_i32_716_r0 : BitVec 32 := 0#32
  ![v1034_r0.toNat, 0, 0, 0, 0]
def k0_off12 (arg55_r0 : BitVec 32) : Fin 4 → Nat :=
  let c0_i32_717_r0 : BitVec 32 := 0#32
  let c1_i32_712_r0 : BitVec 32 := 1#32
  let c0_i32_701_r0 : BitVec 32 := 0#32
  let v1020_r0 : BitVec 32 := Scalar.addi arg55_r0 c0_i32_701_r0
  let v1035_r0 : BitVec 32 := Scalar.muli c1_i32_712_r0 v1020_r0
  let c0_i32_718_r0 : BitVec 32 := 0#32
  let c0_i32_719_r0 : BitVec 32 := 0#32
  ![0, v1035_r0.toNat, 0, 0]

def k0_chk2 (arg53_r0 : BitVec 32) (arg55_r0 : BitVec 32) : Prop :=
  (∀ (k0_h1 : k0_cond1 arg53_r0 arg55_r0 = 1#1), ∀ a, (k0_off12 arg55_r0) a + S2x1x1024x1024.size a ≤ S2x16x1024x1024.size a) ∧
  (∀ (k0_h1 : k0_cond1 arg53_r0 arg55_r0 = 1#1), ∀ (hinb : ∀ a, (k0_off12 arg55_r0) a + S2x1x1024x1024.size a ≤ S2x16x1024x1024.size a), (Rect.unit (s := S2x16x1024x1024) (k0_off12 arg55_r0) S2x1x1024x1024.size hinb).WholeWords (EltTy.packing .bf16))
theorem k0_off12_inb : ∀ (arg53_r0 : BitVec 32) (arg55_r0 : BitVec 32) (k0_hw2 : k0_chk2 arg53_r0 arg55_r0), ∀ (k0_h1 : k0_cond1 arg53_r0 arg55_r0 = 1#1), ∀ a, (k0_off12 arg55_r0) a + S2x1x1024x1024.size a ≤ S2x16x1024x1024.size a := fun arg53_r0 arg55_r0 k0_hw2 k0_h1 => k0_hw2.1 k0_h1
theorem k0_off12_wordsbf16 : ∀ (arg53_r0 : BitVec 32) (arg55_r0 : BitVec 32) (k0_hw2 : k0_chk2 arg53_r0 arg55_r0), ∀ (k0_h1 : k0_cond1 arg53_r0 arg55_r0 = 1#1), (Rect.unit (s := S2x16x1024x1024) (k0_off12 arg55_r0) S2x1x1024x1024.size (k0_off12_inb arg53_r0 arg55_r0 k0_hw2 k0_h1)).WholeWords (EltTy.packing .bf16) := fun arg53_r0 arg55_r0 k0_hw2 k0_h1 => k0_hw2.2 k0_h1 (k0_off12_inb arg53_r0 arg55_r0 k0_hw2 k0_h1)

def k0_chk1 (arg53_r0 : BitVec 32) (arg55_r0 : BitVec 32) (arg57_r0 : BitVec 32) : Prop :=
  (∀ (k0_h1 : k0_cond1 arg53_r0 arg55_r0 = 1#1), ∀ a, (k0_off10 arg57_r0) a + S1.size a ≤ S2.size a) ∧
  (∀ (k0_h1 : k0_cond1 arg53_r0 arg55_r0 = 1#1), ∀ a, (k0_off11 arg57_r0) a + S1x2x1x1024x1024.size a ≤ S2x2x1x1024x1024.size a) ∧
  (∀ (k0_h1 : k0_cond1 arg53_r0 arg55_r0 = 1#1), ∀ (hinb : ∀ a, (k0_off11 arg57_r0) a + S1x2x1x1024x1024.size a ≤ S2x2x1x1024x1024.size a), (Rect.unit (s := S2x2x1x1024x1024) (k0_off11 arg57_r0) S1x2x1x1024x1024.size hinb).WholeWords (EltTy.packing .bf16))
theorem k0_off10_inb : ∀ (arg53_r0 : BitVec 32) (arg55_r0 : BitVec 32) (arg57_r0 : BitVec 32) (k0_hw1 : k0_chk1 arg53_r0 arg55_r0 arg57_r0), ∀ (k0_h1 : k0_cond1 arg53_r0 arg55_r0 = 1#1), ∀ a, (k0_off10 arg57_r0) a + S1.size a ≤ S2.size a := fun arg53_r0 arg55_r0 arg57_r0 k0_hw1 k0_h1 => k0_hw1.1 k0_h1
theorem k0_off11_inb : ∀ (arg53_r0 : BitVec 32) (arg55_r0 : BitVec 32) (arg57_r0 : BitVec 32) (k0_hw1 : k0_chk1 arg53_r0 arg55_r0 arg57_r0), ∀ (k0_h1 : k0_cond1 arg53_r0 arg55_r0 = 1#1), ∀ a, (k0_off11 arg57_r0) a + S1x2x1x1024x1024.size a ≤ S2x2x1x1024x1024.size a := fun arg53_r0 arg55_r0 arg57_r0 k0_hw1 k0_h1 => k0_hw1.2.1 k0_h1
theorem k0_off11_wordsbf16 : ∀ (arg53_r0 : BitVec 32) (arg55_r0 : BitVec 32) (arg57_r0 : BitVec 32) (k0_hw1 : k0_chk1 arg53_r0 arg55_r0 arg57_r0), ∀ (k0_h1 : k0_cond1 arg53_r0 arg55_r0 = 1#1), (Rect.unit (s := S2x2x1x1024x1024) (k0_off11 arg57_r0) S1x2x1x1024x1024.size (k0_off11_inb arg53_r0 arg55_r0 arg57_r0 k0_hw1 k0_h1)).WholeWords (EltTy.packing .bf16) := fun arg53_r0 arg55_r0 arg57_r0 k0_hw1 k0_h1 => k0_hw1.2.2 k0_h1 (k0_off11_inb arg53_r0 arg55_r0 arg57_r0 k0_hw1 k0_h1)

def k0_off13 (arg57_r0 : BitVec 32) : Fin 1 → Nat :=
  let c2_i32_711_r0 : BitVec 32 := 2#32
  let v1034_r0 : BitVec 32 := Scalar.remui arg57_r0 c2_i32_711_r0
  ![v1034_r0.toNat]
def k0_cond2 (arg53_r0 : BitVec 32) (arg55_r0 : BitVec 32) : BitVec 1 :=
  let c0_i32_699_r0 : BitVec 32 := 0#32
  let v1018_r0 : BitVec 32 := Scalar.addi arg53_r0 c0_i32_699_r0
  let c0_i32_701_r0 : BitVec 32 := 0#32
  let v1020_r0 : BitVec 32 := Scalar.addi arg55_r0 c0_i32_701_r0
  let v1022_r0 : BitVec 1 := Scalar.cmpi .ne v1018_r0 v1020_r0
  let v1023_r0 : BitVec 32 := Scalar.extui v1022_r0
  let c0_i32_703_r0 : BitVec 32 := 0#32
  let v1024_r0 : BitVec 1 := Scalar.cmpi .ne v1023_r0 c0_i32_703_r0
  v1024_r0

def k0_off14 (arg57_r0 : BitVec 32) : Fin 5 → Nat :=
  let c2_i32_711_r0 : BitVec 32 := 2#32
  let v1034_r0 : BitVec 32 := Scalar.remui arg57_r0 c2_i32_711_r0
  let c0_i32_713_r0 : BitVec 32 := 0#32
  let c0_i32_714_r0 : BitVec 32 := 0#32
  let c0_i32_715_r0 : BitVec 32 := 0#32
  let c0_i32_716_r0 : BitVec 32 := 0#32
  ![v1034_r0.toNat, 0, 0, 0, 0]

def k0_chk3 (arg53_r0 : BitVec 32) (arg55_r0 : BitVec 32) (arg57_r0 : BitVec 32) : Prop :=
  (∀ (k0_h2 : k0_cond2 arg53_r0 arg55_r0 = 1#1), ∀ a, (k0_off13 arg57_r0) a + S1.size a ≤ S2.size a) ∧
  (∀ (k0_h2 : k0_cond2 arg53_r0 arg55_r0 = 1#1), ∀ a, (k0_off14 arg57_r0) a + S1x2x1x1024x128.size a ≤ S2x2x1x1024x128.size a)
theorem k0_off13_inb : ∀ (arg53_r0 : BitVec 32) (arg55_r0 : BitVec 32) (arg57_r0 : BitVec 32) (k0_hw3 : k0_chk3 arg53_r0 arg55_r0 arg57_r0), ∀ (k0_h2 : k0_cond2 arg53_r0 arg55_r0 = 1#1), ∀ a, (k0_off13 arg57_r0) a + S1.size a ≤ S2.size a := fun arg53_r0 arg55_r0 arg57_r0 k0_hw3 k0_h2 => k0_hw3.1 k0_h2
theorem k0_off14_inb : ∀ (arg53_r0 : BitVec 32) (arg55_r0 : BitVec 32) (arg57_r0 : BitVec 32) (k0_hw3 : k0_chk3 arg53_r0 arg55_r0 arg57_r0), ∀ (k0_h2 : k0_cond2 arg53_r0 arg55_r0 = 1#1), ∀ a, (k0_off14 arg57_r0) a + S1x2x1x1024x128.size a ≤ S2x2x1x1024x128.size a := fun arg53_r0 arg55_r0 arg57_r0 k0_hw3 k0_h2 => k0_hw3.2 k0_h2

def k0_off15 (arg55_r0 : BitVec 32) : Fin 4 → Nat :=
  let c0_i32_717_r0 : BitVec 32 := 0#32
  let c1_i32_712_r0 : BitVec 32 := 1#32
  let c0_i32_701_r0 : BitVec 32 := 0#32
  let v1020_r0 : BitVec 32 := Scalar.addi arg55_r0 c0_i32_701_r0
  let v1035_r0 : BitVec 32 := Scalar.muli c1_i32_712_r0 v1020_r0
  let c0_i32_718_r0 : BitVec 32 := 0#32
  let c0_i32_719_r0 : BitVec 32 := 0#32
  ![0, v1035_r0.toNat, 0, 0]

def k0_chk4 (arg53_r0 : BitVec 32) (arg55_r0 : BitVec 32) : Prop :=
  (∀ (k0_h2 : k0_cond2 arg53_r0 arg55_r0 = 1#1), ∀ a, (k0_off15 arg55_r0) a + S2x1x1024x128.size a ≤ S2x16x1024x128.size a)
theorem k0_off15_inb : ∀ (arg53_r0 : BitVec 32) (arg55_r0 : BitVec 32) (k0_hw4 : k0_chk4 arg53_r0 arg55_r0), ∀ (k0_h2 : k0_cond2 arg53_r0 arg55_r0 = 1#1), ∀ a, (k0_off15 arg55_r0) a + S2x1x1024x128.size a ≤ S2x16x1024x128.size a := fun arg53_r0 arg55_r0 k0_hw4 k0_h2 => k0_hw4 k0_h2

def k0_off16 (arg25_r0 : BitVec 32) : Fin 1 → Nat :=
  let c2_i32_699_r0 : BitVec 32 := 2#32
  let v1018_r0 : BitVec 32 := Scalar.remui arg25_r0 c2_i32_699_r0
  ![v1018_r0.toNat]
def k0_cond3 (k0_t1 : Fin k0_t1_loop.trips) (arg51_r0 : BitVec 32) (arg52_r0 : BitVec 32) : BitVec 1 :=
  let c0_i32_330_r0 : BitVec 32 := 0#32
  let c0_i32_282_r0 : BitVec 32 := 0#32
  let v220_r0 : BitVec 32 := Scalar.addi arg51_r0 c0_i32_282_r0
  let v278_r0 : BitVec 32 := Scalar.addi c0_i32_330_r0 v220_r0
  let c0_i32_333_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v282_r0 : BitVec 32 := Scalar.addi c0_i32_333_r0 v240_r0
  let v286_r0 : BitVec 1 := Scalar.cmpi .ne v278_r0 v282_r0
  let c4_i32_r0 : BitVec 32 := 4#32
  let c0_i32_283_r0 : BitVec 32 := 0#32
  let v221_r0 : BitVec 32 := Scalar.addi arg52_r0 c0_i32_283_r0
  let v279_r0 : BitVec 32 := Scalar.muli c4_i32_r0 v221_r0
  let c0_i32_331_r0 : BitVec 32 := 0#32
  let v280_r0 : BitVec 32 := Scalar.addi v279_r0 c0_i32_331_r0
  let c10_i32_332_r0 : BitVec 32 := 10#32
  let v281_r0 : BitVec 32 := Scalar.minsi v280_r0 c10_i32_332_r0
  let c4_i32_334_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v283_r0 : BitVec 32 := Scalar.muli c4_i32_334_r0 v241_r0
  let c0_i32_335_r0 : BitVec 32 := 0#32
  let v284_r0 : BitVec 32 := Scalar.addi v283_r0 c0_i32_335_r0
  let c10_i32_336_r0 : BitVec 32 := 10#32
  let v285_r0 : BitVec 32 := Scalar.minsi v284_r0 c10_i32_336_r0
  let v287_r0 : BitVec 1 := Scalar.cmpi .ne v281_r0 v285_r0
  let v288_r0 : BitVec 1 := Scalar.ori v286_r0 v287_r0
  let c0_i32_233_r0 : BitVec 32 := 0#32
  let c1_i32_234_r0 : BitVec 32 := 1#32
  let arg16_r0 : BitVec 32 := Scf.iv c0_i32_233_r0 c1_i32_234_r0 k0_t1
  let c47_i32_337_r0 : BitVec 32 := 47#32
  let v289_r0 : BitVec 1 := Scalar.cmpi .sge arg16_r0 c47_i32_337_r0
  let true_338_r0 : BitVec 1 := 1#1
  let v290_r0 : BitVec 1 := Scalar.xori v289_r0 true_338_r0
  let v291_r0 : BitVec 1 := Scalar.andi v288_r0 v290_r0
  let true_339_r0 : BitVec 1 := 1#1
  let v292_r0 : BitVec 1 := Scalar.andi v291_r0 true_339_r0
  let v293_r0 : BitVec 32 := Scalar.extui v292_r0
  let c0_i32_340_r0 : BitVec 32 := 0#32
  let v294_r0 : BitVec 1 := Scalar.cmpi .ne v293_r0 c0_i32_340_r0
  v294_r0

def k0_off17 (arg25_r0 : BitVec 32) : Fin 4 → Nat :=
  let c2_i32_699_r0 : BitVec 32 := 2#32
  let v1018_r0 : BitVec 32 := Scalar.remui arg25_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off18 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c0_i32_702_r0 : BitVec 32 := 0#32
  let v1021_r0 : BitVec 32 := Scalar.addi v1020_r0 c0_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off19 (arg27_r0 : BitVec 32) : Fin 1 → Nat :=
  let c2_i32_699_r0 : BitVec 32 := 2#32
  let v1018_r0 : BitVec 32 := Scalar.remui arg27_r0 c2_i32_699_r0
  ![v1018_r0.toNat]
def k0_cond4 (k0_t1 : Fin k0_t1_loop.trips) (arg51_r0 : BitVec 32) (arg52_r0 : BitVec 32) : BitVec 1 :=
  let c0_i32_343_r0 : BitVec 32 := 0#32
  let c0_i32_282_r0 : BitVec 32 := 0#32
  let v220_r0 : BitVec 32 := Scalar.addi arg51_r0 c0_i32_282_r0
  let v298_r0 : BitVec 32 := Scalar.addi c0_i32_343_r0 v220_r0
  let c0_i32_347_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v302_r0 : BitVec 32 := Scalar.addi c0_i32_347_r0 v240_r0
  let v306_r0 : BitVec 1 := Scalar.cmpi .ne v298_r0 v302_r0
  let c4_i32_344_r0 : BitVec 32 := 4#32
  let c0_i32_283_r0 : BitVec 32 := 0#32
  let v221_r0 : BitVec 32 := Scalar.addi arg52_r0 c0_i32_283_r0
  let v299_r0 : BitVec 32 := Scalar.muli c4_i32_344_r0 v221_r0
  let c0_i32_345_r0 : BitVec 32 := 0#32
  let v300_r0 : BitVec 32 := Scalar.addi v299_r0 c0_i32_345_r0
  let c10_i32_346_r0 : BitVec 32 := 10#32
  let v301_r0 : BitVec 32 := Scalar.minsi v300_r0 c10_i32_346_r0
  let c4_i32_348_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v303_r0 : BitVec 32 := Scalar.muli c4_i32_348_r0 v241_r0
  let c0_i32_349_r0 : BitVec 32 := 0#32
  let v304_r0 : BitVec 32 := Scalar.addi v303_r0 c0_i32_349_r0
  let c10_i32_350_r0 : BitVec 32 := 10#32
  let v305_r0 : BitVec 32 := Scalar.minsi v304_r0 c10_i32_350_r0
  let v307_r0 : BitVec 1 := Scalar.cmpi .ne v301_r0 v305_r0
  let v308_r0 : BitVec 1 := Scalar.ori v306_r0 v307_r0
  let c0_i32_233_r0 : BitVec 32 := 0#32
  let c1_i32_234_r0 : BitVec 32 := 1#32
  let arg16_r0 : BitVec 32 := Scf.iv c0_i32_233_r0 c1_i32_234_r0 k0_t1
  let c47_i32_351_r0 : BitVec 32 := 47#32
  let v309_r0 : BitVec 1 := Scalar.cmpi .sge arg16_r0 c47_i32_351_r0
  let true_352_r0 : BitVec 1 := 1#1
  let v310_r0 : BitVec 1 := Scalar.xori v309_r0 true_352_r0
  let v311_r0 : BitVec 1 := Scalar.andi v308_r0 v310_r0
  let true_353_r0 : BitVec 1 := 1#1
  let v312_r0 : BitVec 1 := Scalar.andi v311_r0 true_353_r0
  let v313_r0 : BitVec 32 := Scalar.extui v312_r0
  let c0_i32_354_r0 : BitVec 32 := 0#32
  let v314_r0 : BitVec 1 := Scalar.cmpi .ne v313_r0 c0_i32_354_r0
  v314_r0

def k0_off20 (arg27_r0 : BitVec 32) : Fin 4 → Nat :=
  let c2_i32_699_r0 : BitVec 32 := 2#32
  let v1018_r0 : BitVec 32 := Scalar.remui arg27_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off21 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c0_i32_702_r0 : BitVec 32 := 0#32
  let v1021_r0 : BitVec 32 := Scalar.addi v1020_r0 c0_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off22 (arg29_r0 : BitVec 32) : Fin 1 → Nat :=
  let c2_i32_699_r0 : BitVec 32 := 2#32
  let v1018_r0 : BitVec 32 := Scalar.remui arg29_r0 c2_i32_699_r0
  ![v1018_r0.toNat]
def k0_cond5 (k0_t1 : Fin k0_t1_loop.trips) (arg51_r0 : BitVec 32) (arg52_r0 : BitVec 32) : BitVec 1 :=
  let c0_i32_357_r0 : BitVec 32 := 0#32
  let c0_i32_282_r0 : BitVec 32 := 0#32
  let v220_r0 : BitVec 32 := Scalar.addi arg51_r0 c0_i32_282_r0
  let v318_r0 : BitVec 32 := Scalar.addi c0_i32_357_r0 v220_r0
  let c0_i32_361_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v322_r0 : BitVec 32 := Scalar.addi c0_i32_361_r0 v240_r0
  let v326_r0 : BitVec 1 := Scalar.cmpi .ne v318_r0 v322_r0
  let c4_i32_358_r0 : BitVec 32 := 4#32
  let c0_i32_283_r0 : BitVec 32 := 0#32
  let v221_r0 : BitVec 32 := Scalar.addi arg52_r0 c0_i32_283_r0
  let v319_r0 : BitVec 32 := Scalar.muli c4_i32_358_r0 v221_r0
  let c0_i32_359_r0 : BitVec 32 := 0#32
  let v320_r0 : BitVec 32 := Scalar.addi v319_r0 c0_i32_359_r0
  let c10_i32_360_r0 : BitVec 32 := 10#32
  let v321_r0 : BitVec 32 := Scalar.minsi v320_r0 c10_i32_360_r0
  let c4_i32_362_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v323_r0 : BitVec 32 := Scalar.muli c4_i32_362_r0 v241_r0
  let c0_i32_363_r0 : BitVec 32 := 0#32
  let v324_r0 : BitVec 32 := Scalar.addi v323_r0 c0_i32_363_r0
  let c10_i32_364_r0 : BitVec 32 := 10#32
  let v325_r0 : BitVec 32 := Scalar.minsi v324_r0 c10_i32_364_r0
  let v327_r0 : BitVec 1 := Scalar.cmpi .ne v321_r0 v325_r0
  let v328_r0 : BitVec 1 := Scalar.ori v326_r0 v327_r0
  let c0_i32_233_r0 : BitVec 32 := 0#32
  let c1_i32_234_r0 : BitVec 32 := 1#32
  let arg16_r0 : BitVec 32 := Scf.iv c0_i32_233_r0 c1_i32_234_r0 k0_t1
  let c47_i32_365_r0 : BitVec 32 := 47#32
  let v329_r0 : BitVec 1 := Scalar.cmpi .sge arg16_r0 c47_i32_365_r0
  let true_366_r0 : BitVec 1 := 1#1
  let v330_r0 : BitVec 1 := Scalar.xori v329_r0 true_366_r0
  let v331_r0 : BitVec 1 := Scalar.andi v328_r0 v330_r0
  let true_367_r0 : BitVec 1 := 1#1
  let v332_r0 : BitVec 1 := Scalar.andi v331_r0 true_367_r0
  let v333_r0 : BitVec 32 := Scalar.extui v332_r0
  let c0_i32_368_r0 : BitVec 32 := 0#32
  let v334_r0 : BitVec 1 := Scalar.cmpi .ne v333_r0 c0_i32_368_r0
  v334_r0

def k0_off23 (arg29_r0 : BitVec 32) : Fin 4 → Nat :=
  let c2_i32_699_r0 : BitVec 32 := 2#32
  let v1018_r0 : BitVec 32 := Scalar.remui arg29_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off24 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c0_i32_702_r0 : BitVec 32 := 0#32
  let v1021_r0 : BitVec 32 := Scalar.addi v1020_r0 c0_i32_702_r0
  let c10_i32_703_r0 : BitVec 32 := 10#32
  let v1022_r0 : BitVec 32 := Scalar.minsi v1021_r0 c10_i32_703_r0
  let v1024_r0 : BitVec 32 := Scalar.muli c256_i32_705_r0 v1022_r0
  let c0_i32_709_r0 : BitVec 32 := 0#32
  ![v1023_r0.toNat, v1024_r0.toNat, 0]
def k0_off25 (arg31_r0 : BitVec 32) : Fin 1 → Nat :=
  let c2_i32_699_r0 : BitVec 32 := 2#32
  let v1018_r0 : BitVec 32 := Scalar.remui arg31_r0 c2_i32_699_r0
  ![v1018_r0.toNat]
def k0_cond6 (k0_t1 : Fin k0_t1_loop.trips) (arg51_r0 : BitVec 32) (arg52_r0 : BitVec 32) : BitVec 1 :=
  let c0_i32_371_r0 : BitVec 32 := 0#32
  let c0_i32_282_r0 : BitVec 32 := 0#32
  let v220_r0 : BitVec 32 := Scalar.addi arg51_r0 c0_i32_282_r0
  let v338_r0 : BitVec 32 := Scalar.addi c0_i32_371_r0 v220_r0
  let c0_i32_375_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v342_r0 : BitVec 32 := Scalar.addi c0_i32_375_r0 v240_r0
  let v346_r0 : BitVec 1 := Scalar.cmpi .ne v338_r0 v342_r0
  let c4_i32_372_r0 : BitVec 32 := 4#32
  let c0_i32_283_r0 : BitVec 32 := 0#32
  let v221_r0 : BitVec 32 := Scalar.addi arg52_r0 c0_i32_283_r0
  let v339_r0 : BitVec 32 := Scalar.muli c4_i32_372_r0 v221_r0
  let c1_i32_373_r0 : BitVec 32 := 1#32
  let v340_r0 : BitVec 32 := Scalar.addi v339_r0 c1_i32_373_r0
  let c10_i32_374_r0 : BitVec 32 := 10#32
  let v341_r0 : BitVec 32 := Scalar.minsi v340_r0 c10_i32_374_r0
  let c4_i32_376_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v343_r0 : BitVec 32 := Scalar.muli c4_i32_376_r0 v241_r0
  let c1_i32_377_r0 : BitVec 32 := 1#32
  let v344_r0 : BitVec 32 := Scalar.addi v343_r0 c1_i32_377_r0
  let c10_i32_378_r0 : BitVec 32 := 10#32
  let v345_r0 : BitVec 32 := Scalar.minsi v344_r0 c10_i32_378_r0
  let v347_r0 : BitVec 1 := Scalar.cmpi .ne v341_r0 v345_r0
  let v348_r0 : BitVec 1 := Scalar.ori v346_r0 v347_r0
  let c0_i32_233_r0 : BitVec 32 := 0#32
  let c1_i32_234_r0 : BitVec 32 := 1#32
  let arg16_r0 : BitVec 32 := Scf.iv c0_i32_233_r0 c1_i32_234_r0 k0_t1
  let c47_i32_379_r0 : BitVec 32 := 47#32
  let v349_r0 : BitVec 1 := Scalar.cmpi .sge arg16_r0 c47_i32_379_r0
  let true_380_r0 : BitVec 1 := 1#1
  let v350_r0 : BitVec 1 := Scalar.xori v349_r0 true_380_r0
  let v351_r0 : BitVec 1 := Scalar.andi v348_r0 v350_r0
  let true_381_r0 : BitVec 1 := 1#1
  let v352_r0 : BitVec 1 := Scalar.andi v351_r0 true_381_r0
  let v353_r0 : BitVec 32 := Scalar.extui v352_r0
  let c0_i32_382_r0 : BitVec 32 := 0#32
  let v354_r0 : BitVec 1 := Scalar.cmpi .ne v353_r0 c0_i32_382_r0
  v354_r0

def k0_off26 (arg31_r0 : BitVec 32) : Fin 4 → Nat :=
  let c2_i32_699_r0 : BitVec 32 := 2#32
  let v1018_r0 : BitVec 32 := Scalar.remui arg31_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off27 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c1_i32_702_r0 : BitVec 32 := 1#32
  let v1021_r0 : BitVec 32 := Scalar.addi v1020_r0 c1_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off28 (arg33_r0 : BitVec 32) : Fin 1 → Nat :=
  let c2_i32_699_r0 : BitVec 32 := 2#32
  let v1018_r0 : BitVec 32 := Scalar.remui arg33_r0 c2_i32_699_r0
  ![v1018_r0.toNat]
def k0_cond7 (k0_t1 : Fin k0_t1_loop.trips) (arg51_r0 : BitVec 32) (arg52_r0 : BitVec 32) : BitVec 1 :=
  let c0_i32_385_r0 : BitVec 32 := 0#32
  let c0_i32_282_r0 : BitVec 32 := 0#32
  let v220_r0 : BitVec 32 := Scalar.addi arg51_r0 c0_i32_282_r0
  let v358_r0 : BitVec 32 := Scalar.addi c0_i32_385_r0 v220_r0
  let c0_i32_389_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v362_r0 : BitVec 32 := Scalar.addi c0_i32_389_r0 v240_r0
  let v366_r0 : BitVec 1 := Scalar.cmpi .ne v358_r0 v362_r0
  let c4_i32_386_r0 : BitVec 32 := 4#32
  let c0_i32_283_r0 : BitVec 32 := 0#32
  let v221_r0 : BitVec 32 := Scalar.addi arg52_r0 c0_i32_283_r0
  let v359_r0 : BitVec 32 := Scalar.muli c4_i32_386_r0 v221_r0
  let c1_i32_387_r0 : BitVec 32 := 1#32
  let v360_r0 : BitVec 32 := Scalar.addi v359_r0 c1_i32_387_r0
  let c10_i32_388_r0 : BitVec 32 := 10#32
  let v361_r0 : BitVec 32 := Scalar.minsi v360_r0 c10_i32_388_r0
  let c4_i32_390_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v363_r0 : BitVec 32 := Scalar.muli c4_i32_390_r0 v241_r0
  let c1_i32_391_r0 : BitVec 32 := 1#32
  let v364_r0 : BitVec 32 := Scalar.addi v363_r0 c1_i32_391_r0
  let c10_i32_392_r0 : BitVec 32 := 10#32
  let v365_r0 : BitVec 32 := Scalar.minsi v364_r0 c10_i32_392_r0
  let v367_r0 : BitVec 1 := Scalar.cmpi .ne v361_r0 v365_r0
  let v368_r0 : BitVec 1 := Scalar.ori v366_r0 v367_r0
  let c0_i32_233_r0 : BitVec 32 := 0#32
  let c1_i32_234_r0 : BitVec 32 := 1#32
  let arg16_r0 : BitVec 32 := Scf.iv c0_i32_233_r0 c1_i32_234_r0 k0_t1
  let c47_i32_393_r0 : BitVec 32 := 47#32
  let v369_r0 : BitVec 1 := Scalar.cmpi .sge arg16_r0 c47_i32_393_r0
  let true_394_r0 : BitVec 1 := 1#1
  let v370_r0 : BitVec 1 := Scalar.xori v369_r0 true_394_r0
  let v371_r0 : BitVec 1 := Scalar.andi v368_r0 v370_r0
  let true_395_r0 : BitVec 1 := 1#1
  let v372_r0 : BitVec 1 := Scalar.andi v371_r0 true_395_r0
  let v373_r0 : BitVec 32 := Scalar.extui v372_r0
  let c0_i32_396_r0 : BitVec 32 := 0#32
  let v374_r0 : BitVec 1 := Scalar.cmpi .ne v373_r0 c0_i32_396_r0
  v374_r0

def k0_off29 (arg33_r0 : BitVec 32) : Fin 4 → Nat :=
  let c2_i32_699_r0 : BitVec 32 := 2#32
  let v1018_r0 : BitVec 32 := Scalar.remui arg33_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off30 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c1_i32_702_r0 : BitVec 32 := 1#32
  let v1021_r0 : BitVec 32 := Scalar.addi v1020_r0 c1_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off31 (arg35_r0 : BitVec 32) : Fin 1 → Nat :=
  let c2_i32_699_r0 : BitVec 32 := 2#32
  let v1018_r0 : BitVec 32 := Scalar.remui arg35_r0 c2_i32_699_r0
  ![v1018_r0.toNat]
def k0_cond8 (k0_t1 : Fin k0_t1_loop.trips) (arg51_r0 : BitVec 32) (arg52_r0 : BitVec 32) : BitVec 1 :=
  let c0_i32_399_r0 : BitVec 32 := 0#32
  let c0_i32_282_r0 : BitVec 32 := 0#32
  let v220_r0 : BitVec 32 := Scalar.addi arg51_r0 c0_i32_282_r0
  let v378_r0 : BitVec 32 := Scalar.addi c0_i32_399_r0 v220_r0
  let c0_i32_403_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v382_r0 : BitVec 32 := Scalar.addi c0_i32_403_r0 v240_r0
  let v386_r0 : BitVec 1 := Scalar.cmpi .ne v378_r0 v382_r0
  let c4_i32_400_r0 : BitVec 32 := 4#32
  let c0_i32_283_r0 : BitVec 32 := 0#32
  let v221_r0 : BitVec 32 := Scalar.addi arg52_r0 c0_i32_283_r0
  let v379_r0 : BitVec 32 := Scalar.muli c4_i32_400_r0 v221_r0
  let c1_i32_401_r0 : BitVec 32 := 1#32
  let v380_r0 : BitVec 32 := Scalar.addi v379_r0 c1_i32_401_r0
  let c10_i32_402_r0 : BitVec 32 := 10#32
  let v381_r0 : BitVec 32 := Scalar.minsi v380_r0 c10_i32_402_r0
  let c4_i32_404_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v383_r0 : BitVec 32 := Scalar.muli c4_i32_404_r0 v241_r0
  let c1_i32_405_r0 : BitVec 32 := 1#32
  let v384_r0 : BitVec 32 := Scalar.addi v383_r0 c1_i32_405_r0
  let c10_i32_406_r0 : BitVec 32 := 10#32
  let v385_r0 : BitVec 32 := Scalar.minsi v384_r0 c10_i32_406_r0
  let v387_r0 : BitVec 1 := Scalar.cmpi .ne v381_r0 v385_r0
  let v388_r0 : BitVec 1 := Scalar.ori v386_r0 v387_r0
  let c0_i32_233_r0 : BitVec 32 := 0#32
  let c1_i32_234_r0 : BitVec 32 := 1#32
  let arg16_r0 : BitVec 32 := Scf.iv c0_i32_233_r0 c1_i32_234_r0 k0_t1
  let c47_i32_407_r0 : BitVec 32 := 47#32
  let v389_r0 : BitVec 1 := Scalar.cmpi .sge arg16_r0 c47_i32_407_r0
  let true_408_r0 : BitVec 1 := 1#1
  let v390_r0 : BitVec 1 := Scalar.xori v389_r0 true_408_r0
  let v391_r0 : BitVec 1 := Scalar.andi v388_r0 v390_r0
  let true_409_r0 : BitVec 1 := 1#1
  let v392_r0 : BitVec 1 := Scalar.andi v391_r0 true_409_r0
  let v393_r0 : BitVec 32 := Scalar.extui v392_r0
  let c0_i32_410_r0 : BitVec 32 := 0#32
  let v394_r0 : BitVec 1 := Scalar.cmpi .ne v393_r0 c0_i32_410_r0
  v394_r0

def k0_off32 (arg35_r0 : BitVec 32) : Fin 4 → Nat :=
  let c2_i32_699_r0 : BitVec 32 := 2#32
  let v1018_r0 : BitVec 32 := Scalar.remui arg35_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off33 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c1_i32_702_r0 : BitVec 32 := 1#32
  let v1021_r0 : BitVec 32 := Scalar.addi v1020_r0 c1_i32_702_r0
  let c10_i32_703_r0 : BitVec 32 := 10#32
  let v1022_r0 : BitVec 32 := Scalar.minsi v1021_r0 c10_i32_703_r0
  let v1024_r0 : BitVec 32 := Scalar.muli c256_i32_705_r0 v1022_r0
  let c0_i32_709_r0 : BitVec 32 := 0#32
  ![v1023_r0.toNat, v1024_r0.toNat, 0]
def k0_off34 (arg37_r0 : BitVec 32) : Fin 1 → Nat :=
  let c2_i32_699_r0 : BitVec 32 := 2#32
  let v1018_r0 : BitVec 32 := Scalar.remui arg37_r0 c2_i32_699_r0
  ![v1018_r0.toNat]
def k0_cond9 (k0_t1 : Fin k0_t1_loop.trips) (arg51_r0 : BitVec 32) (arg52_r0 : BitVec 32) : BitVec 1 :=
  let c0_i32_413_r0 : BitVec 32 := 0#32
  let c0_i32_282_r0 : BitVec 32 := 0#32
  let v220_r0 : BitVec 32 := Scalar.addi arg51_r0 c0_i32_282_r0
  let v398_r0 : BitVec 32 := Scalar.addi c0_i32_413_r0 v220_r0
  let c0_i32_417_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v402_r0 : BitVec 32 := Scalar.addi c0_i32_417_r0 v240_r0
  let v406_r0 : BitVec 1 := Scalar.cmpi .ne v398_r0 v402_r0
  let c4_i32_414_r0 : BitVec 32 := 4#32
  let c0_i32_283_r0 : BitVec 32 := 0#32
  let v221_r0 : BitVec 32 := Scalar.addi arg52_r0 c0_i32_283_r0
  let v399_r0 : BitVec 32 := Scalar.muli c4_i32_414_r0 v221_r0
  let c2_i32_415_r0 : BitVec 32 := 2#32
  let v400_r0 : BitVec 32 := Scalar.addi v399_r0 c2_i32_415_r0
  let c10_i32_416_r0 : BitVec 32 := 10#32
  let v401_r0 : BitVec 32 := Scalar.minsi v400_r0 c10_i32_416_r0
  let c4_i32_418_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v403_r0 : BitVec 32 := Scalar.muli c4_i32_418_r0 v241_r0
  let c2_i32_419_r0 : BitVec 32 := 2#32
  let v404_r0 : BitVec 32 := Scalar.addi v403_r0 c2_i32_419_r0
  let c10_i32_420_r0 : BitVec 32 := 10#32
  let v405_r0 : BitVec 32 := Scalar.minsi v404_r0 c10_i32_420_r0
  let v407_r0 : BitVec 1 := Scalar.cmpi .ne v401_r0 v405_r0
  let v408_r0 : BitVec 1 := Scalar.ori v406_r0 v407_r0
  let c0_i32_233_r0 : BitVec 32 := 0#32
  let c1_i32_234_r0 : BitVec 32 := 1#32
  let arg16_r0 : BitVec 32 := Scf.iv c0_i32_233_r0 c1_i32_234_r0 k0_t1
  let c47_i32_421_r0 : BitVec 32 := 47#32
  let v409_r0 : BitVec 1 := Scalar.cmpi .sge arg16_r0 c47_i32_421_r0
  let true_422_r0 : BitVec 1 := 1#1
  let v410_r0 : BitVec 1 := Scalar.xori v409_r0 true_422_r0
  let v411_r0 : BitVec 1 := Scalar.andi v408_r0 v410_r0
  let true_423_r0 : BitVec 1 := 1#1
  let v412_r0 : BitVec 1 := Scalar.andi v411_r0 true_423_r0
  let v413_r0 : BitVec 32 := Scalar.extui v412_r0
  let c0_i32_424_r0 : BitVec 32 := 0#32
  let v414_r0 : BitVec 1 := Scalar.cmpi .ne v413_r0 c0_i32_424_r0
  v414_r0

def k0_off35 (arg37_r0 : BitVec 32) : Fin 4 → Nat :=
  let c2_i32_699_r0 : BitVec 32 := 2#32
  let v1018_r0 : BitVec 32 := Scalar.remui arg37_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off36 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c2_i32_702_r0 : BitVec 32 := 2#32
  let v1021_r0 : BitVec 32 := Scalar.addi v1020_r0 c2_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off37 (arg39_r0 : BitVec 32) : Fin 1 → Nat :=
  let c2_i32_699_r0 : BitVec 32 := 2#32
  let v1018_r0 : BitVec 32 := Scalar.remui arg39_r0 c2_i32_699_r0
  ![v1018_r0.toNat]
def k0_cond10 (k0_t1 : Fin k0_t1_loop.trips) (arg51_r0 : BitVec 32) (arg52_r0 : BitVec 32) : BitVec 1 :=
  let c0_i32_427_r0 : BitVec 32 := 0#32
  let c0_i32_282_r0 : BitVec 32 := 0#32
  let v220_r0 : BitVec 32 := Scalar.addi arg51_r0 c0_i32_282_r0
  let v418_r0 : BitVec 32 := Scalar.addi c0_i32_427_r0 v220_r0
  let c0_i32_431_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v422_r0 : BitVec 32 := Scalar.addi c0_i32_431_r0 v240_r0
  let v426_r0 : BitVec 1 := Scalar.cmpi .ne v418_r0 v422_r0
  let c4_i32_428_r0 : BitVec 32 := 4#32
  let c0_i32_283_r0 : BitVec 32 := 0#32
  let v221_r0 : BitVec 32 := Scalar.addi arg52_r0 c0_i32_283_r0
  let v419_r0 : BitVec 32 := Scalar.muli c4_i32_428_r0 v221_r0
  let c2_i32_429_r0 : BitVec 32 := 2#32
  let v420_r0 : BitVec 32 := Scalar.addi v419_r0 c2_i32_429_r0
  let c10_i32_430_r0 : BitVec 32 := 10#32
  let v421_r0 : BitVec 32 := Scalar.minsi v420_r0 c10_i32_430_r0
  let c4_i32_432_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v423_r0 : BitVec 32 := Scalar.muli c4_i32_432_r0 v241_r0
  let c2_i32_433_r0 : BitVec 32 := 2#32
  let v424_r0 : BitVec 32 := Scalar.addi v423_r0 c2_i32_433_r0
  let c10_i32_434_r0 : BitVec 32 := 10#32
  let v425_r0 : BitVec 32 := Scalar.minsi v424_r0 c10_i32_434_r0
  let v427_r0 : BitVec 1 := Scalar.cmpi .ne v421_r0 v425_r0
  let v428_r0 : BitVec 1 := Scalar.ori v426_r0 v427_r0
  let c0_i32_233_r0 : BitVec 32 := 0#32
  let c1_i32_234_r0 : BitVec 32 := 1#32
  let arg16_r0 : BitVec 32 := Scf.iv c0_i32_233_r0 c1_i32_234_r0 k0_t1
  let c47_i32_435_r0 : BitVec 32 := 47#32
  let v429_r0 : BitVec 1 := Scalar.cmpi .sge arg16_r0 c47_i32_435_r0
  let true_436_r0 : BitVec 1 := 1#1
  let v430_r0 : BitVec 1 := Scalar.xori v429_r0 true_436_r0
  let v431_r0 : BitVec 1 := Scalar.andi v428_r0 v430_r0
  let true_437_r0 : BitVec 1 := 1#1
  let v432_r0 : BitVec 1 := Scalar.andi v431_r0 true_437_r0
  let v433_r0 : BitVec 32 := Scalar.extui v432_r0
  let c0_i32_438_r0 : BitVec 32 := 0#32
  let v434_r0 : BitVec 1 := Scalar.cmpi .ne v433_r0 c0_i32_438_r0
  v434_r0

def k0_off38 (arg39_r0 : BitVec 32) : Fin 4 → Nat :=
  let c2_i32_699_r0 : BitVec 32 := 2#32
  let v1018_r0 : BitVec 32 := Scalar.remui arg39_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off39 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c2_i32_702_r0 : BitVec 32 := 2#32
  let v1021_r0 : BitVec 32 := Scalar.addi v1020_r0 c2_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off40 (arg41_r0 : BitVec 32) : Fin 1 → Nat :=
  let c2_i32_699_r0 : BitVec 32 := 2#32
  let v1018_r0 : BitVec 32 := Scalar.remui arg41_r0 c2_i32_699_r0
  ![v1018_r0.toNat]
def k0_cond11 (k0_t1 : Fin k0_t1_loop.trips) (arg51_r0 : BitVec 32) (arg52_r0 : BitVec 32) : BitVec 1 :=
  let c0_i32_441_r0 : BitVec 32 := 0#32
  let c0_i32_282_r0 : BitVec 32 := 0#32
  let v220_r0 : BitVec 32 := Scalar.addi arg51_r0 c0_i32_282_r0
  let v438_r0 : BitVec 32 := Scalar.addi c0_i32_441_r0 v220_r0
  let c0_i32_445_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v442_r0 : BitVec 32 := Scalar.addi c0_i32_445_r0 v240_r0
  let v446_r0 : BitVec 1 := Scalar.cmpi .ne v438_r0 v442_r0
  let c4_i32_442_r0 : BitVec 32 := 4#32
  let c0_i32_283_r0 : BitVec 32 := 0#32
  let v221_r0 : BitVec 32 := Scalar.addi arg52_r0 c0_i32_283_r0
  let v439_r0 : BitVec 32 := Scalar.muli c4_i32_442_r0 v221_r0
  let c2_i32_443_r0 : BitVec 32 := 2#32
  let v440_r0 : BitVec 32 := Scalar.addi v439_r0 c2_i32_443_r0
  let c10_i32_444_r0 : BitVec 32 := 10#32
  let v441_r0 : BitVec 32 := Scalar.minsi v440_r0 c10_i32_444_r0
  let c4_i32_446_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v443_r0 : BitVec 32 := Scalar.muli c4_i32_446_r0 v241_r0
  let c2_i32_447_r0 : BitVec 32 := 2#32
  let v444_r0 : BitVec 32 := Scalar.addi v443_r0 c2_i32_447_r0
  let c10_i32_448_r0 : BitVec 32 := 10#32
  let v445_r0 : BitVec 32 := Scalar.minsi v444_r0 c10_i32_448_r0
  let v447_r0 : BitVec 1 := Scalar.cmpi .ne v441_r0 v445_r0
  let v448_r0 : BitVec 1 := Scalar.ori v446_r0 v447_r0
  let c0_i32_233_r0 : BitVec 32 := 0#32
  let c1_i32_234_r0 : BitVec 32 := 1#32
  let arg16_r0 : BitVec 32 := Scf.iv c0_i32_233_r0 c1_i32_234_r0 k0_t1
  let c47_i32_449_r0 : BitVec 32 := 47#32
  let v449_r0 : BitVec 1 := Scalar.cmpi .sge arg16_r0 c47_i32_449_r0
  let true_450_r0 : BitVec 1 := 1#1
  let v450_r0 : BitVec 1 := Scalar.xori v449_r0 true_450_r0
  let v451_r0 : BitVec 1 := Scalar.andi v448_r0 v450_r0
  let true_451_r0 : BitVec 1 := 1#1
  let v452_r0 : BitVec 1 := Scalar.andi v451_r0 true_451_r0
  let v453_r0 : BitVec 32 := Scalar.extui v452_r0
  let c0_i32_452_r0 : BitVec 32 := 0#32
  let v454_r0 : BitVec 1 := Scalar.cmpi .ne v453_r0 c0_i32_452_r0
  v454_r0

def k0_off41 (arg41_r0 : BitVec 32) : Fin 4 → Nat :=
  let c2_i32_699_r0 : BitVec 32 := 2#32
  let v1018_r0 : BitVec 32 := Scalar.remui arg41_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off42 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c2_i32_702_r0 : BitVec 32 := 2#32
  let v1021_r0 : BitVec 32 := Scalar.addi v1020_r0 c2_i32_702_r0
  let c10_i32_703_r0 : BitVec 32 := 10#32
  let v1022_r0 : BitVec 32 := Scalar.minsi v1021_r0 c10_i32_703_r0
  let v1024_r0 : BitVec 32 := Scalar.muli c256_i32_705_r0 v1022_r0
  let c0_i32_709_r0 : BitVec 32 := 0#32
  ![v1023_r0.toNat, v1024_r0.toNat, 0]
def k0_off43 (arg43_r0 : BitVec 32) : Fin 1 → Nat :=
  let c2_i32_699_r0 : BitVec 32 := 2#32
  let v1018_r0 : BitVec 32 := Scalar.remui arg43_r0 c2_i32_699_r0
  ![v1018_r0.toNat]
def k0_cond12 (k0_t1 : Fin k0_t1_loop.trips) (arg51_r0 : BitVec 32) (arg52_r0 : BitVec 32) : BitVec 1 :=
  let c0_i32_455_r0 : BitVec 32 := 0#32
  let c0_i32_282_r0 : BitVec 32 := 0#32
  let v220_r0 : BitVec 32 := Scalar.addi arg51_r0 c0_i32_282_r0
  let v458_r0 : BitVec 32 := Scalar.addi c0_i32_455_r0 v220_r0
  let c0_i32_459_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v462_r0 : BitVec 32 := Scalar.addi c0_i32_459_r0 v240_r0
  let v466_r0 : BitVec 1 := Scalar.cmpi .ne v458_r0 v462_r0
  let c4_i32_456_r0 : BitVec 32 := 4#32
  let c0_i32_283_r0 : BitVec 32 := 0#32
  let v221_r0 : BitVec 32 := Scalar.addi arg52_r0 c0_i32_283_r0
  let v459_r0 : BitVec 32 := Scalar.muli c4_i32_456_r0 v221_r0
  let c3_i32_457_r0 : BitVec 32 := 3#32
  let v460_r0 : BitVec 32 := Scalar.addi v459_r0 c3_i32_457_r0
  let c10_i32_458_r0 : BitVec 32 := 10#32
  let v461_r0 : BitVec 32 := Scalar.minsi v460_r0 c10_i32_458_r0
  let c4_i32_460_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v463_r0 : BitVec 32 := Scalar.muli c4_i32_460_r0 v241_r0
  let c3_i32_461_r0 : BitVec 32 := 3#32
  let v464_r0 : BitVec 32 := Scalar.addi v463_r0 c3_i32_461_r0
  let c10_i32_462_r0 : BitVec 32 := 10#32
  let v465_r0 : BitVec 32 := Scalar.minsi v464_r0 c10_i32_462_r0
  let v467_r0 : BitVec 1 := Scalar.cmpi .ne v461_r0 v465_r0
  let v468_r0 : BitVec 1 := Scalar.ori v466_r0 v467_r0
  let c0_i32_233_r0 : BitVec 32 := 0#32
  let c1_i32_234_r0 : BitVec 32 := 1#32
  let arg16_r0 : BitVec 32 := Scf.iv c0_i32_233_r0 c1_i32_234_r0 k0_t1
  let c47_i32_463_r0 : BitVec 32 := 47#32
  let v469_r0 : BitVec 1 := Scalar.cmpi .sge arg16_r0 c47_i32_463_r0
  let true_464_r0 : BitVec 1 := 1#1
  let v470_r0 : BitVec 1 := Scalar.xori v469_r0 true_464_r0
  let v471_r0 : BitVec 1 := Scalar.andi v468_r0 v470_r0
  let true_465_r0 : BitVec 1 := 1#1
  let v472_r0 : BitVec 1 := Scalar.andi v471_r0 true_465_r0
  let v473_r0 : BitVec 32 := Scalar.extui v472_r0
  let c0_i32_466_r0 : BitVec 32 := 0#32
  let v474_r0 : BitVec 1 := Scalar.cmpi .ne v473_r0 c0_i32_466_r0
  v474_r0

def k0_off44 (arg43_r0 : BitVec 32) : Fin 4 → Nat :=
  let c2_i32_699_r0 : BitVec 32 := 2#32
  let v1018_r0 : BitVec 32 := Scalar.remui arg43_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off45 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c3_i32_702_r0 : BitVec 32 := 3#32
  let v1021_r0 : BitVec 32 := Scalar.addi v1020_r0 c3_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off46 (arg45_r0 : BitVec 32) : Fin 1 → Nat :=
  let c2_i32_699_r0 : BitVec 32 := 2#32
  let v1018_r0 : BitVec 32 := Scalar.remui arg45_r0 c2_i32_699_r0
  ![v1018_r0.toNat]
def k0_cond13 (k0_t1 : Fin k0_t1_loop.trips) (arg51_r0 : BitVec 32) (arg52_r0 : BitVec 32) : BitVec 1 :=
  let c0_i32_469_r0 : BitVec 32 := 0#32
  let c0_i32_282_r0 : BitVec 32 := 0#32
  let v220_r0 : BitVec 32 := Scalar.addi arg51_r0 c0_i32_282_r0
  let v478_r0 : BitVec 32 := Scalar.addi c0_i32_469_r0 v220_r0
  let c0_i32_473_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v482_r0 : BitVec 32 := Scalar.addi c0_i32_473_r0 v240_r0
  let v486_r0 : BitVec 1 := Scalar.cmpi .ne v478_r0 v482_r0
  let c4_i32_470_r0 : BitVec 32 := 4#32
  let c0_i32_283_r0 : BitVec 32 := 0#32
  let v221_r0 : BitVec 32 := Scalar.addi arg52_r0 c0_i32_283_r0
  let v479_r0 : BitVec 32 := Scalar.muli c4_i32_470_r0 v221_r0
  let c3_i32_471_r0 : BitVec 32 := 3#32
  let v480_r0 : BitVec 32 := Scalar.addi v479_r0 c3_i32_471_r0
  let c10_i32_472_r0 : BitVec 32 := 10#32
  let v481_r0 : BitVec 32 := Scalar.minsi v480_r0 c10_i32_472_r0
  let c4_i32_474_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v483_r0 : BitVec 32 := Scalar.muli c4_i32_474_r0 v241_r0
  let c3_i32_475_r0 : BitVec 32 := 3#32
  let v484_r0 : BitVec 32 := Scalar.addi v483_r0 c3_i32_475_r0
  let c10_i32_476_r0 : BitVec 32 := 10#32
  let v485_r0 : BitVec 32 := Scalar.minsi v484_r0 c10_i32_476_r0
  let v487_r0 : BitVec 1 := Scalar.cmpi .ne v481_r0 v485_r0
  let v488_r0 : BitVec 1 := Scalar.ori v486_r0 v487_r0
  let c0_i32_233_r0 : BitVec 32 := 0#32
  let c1_i32_234_r0 : BitVec 32 := 1#32
  let arg16_r0 : BitVec 32 := Scf.iv c0_i32_233_r0 c1_i32_234_r0 k0_t1
  let c47_i32_477_r0 : BitVec 32 := 47#32
  let v489_r0 : BitVec 1 := Scalar.cmpi .sge arg16_r0 c47_i32_477_r0
  let true_478_r0 : BitVec 1 := 1#1
  let v490_r0 : BitVec 1 := Scalar.xori v489_r0 true_478_r0
  let v491_r0 : BitVec 1 := Scalar.andi v488_r0 v490_r0
  let true_479_r0 : BitVec 1 := 1#1
  let v492_r0 : BitVec 1 := Scalar.andi v491_r0 true_479_r0
  let v493_r0 : BitVec 32 := Scalar.extui v492_r0
  let c0_i32_480_r0 : BitVec 32 := 0#32
  let v494_r0 : BitVec 1 := Scalar.cmpi .ne v493_r0 c0_i32_480_r0
  v494_r0

def k0_off47 (arg45_r0 : BitVec 32) : Fin 4 → Nat :=
  let c2_i32_699_r0 : BitVec 32 := 2#32
  let v1018_r0 : BitVec 32 := Scalar.remui arg45_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off48 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c0_i32_709_r0 : BitVec 32 := 0#32
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c3_i32_702_r0 : BitVec 32 := 3#32
  let v1021_r0 : BitVec 32 := Scalar.addi v1020_r0 c3_i32_702_r0
  let c10_i32_703_r0 : BitVec 32 := 10#32
  let v1022_r0 : BitVec 32 := Scalar.minsi v1021_r0 c10_i32_703_r0
  let v1024_r0 : BitVec 32 := Scalar.muli c256_i32_705_r0 v1022_r0
  ![v1023_r0.toNat, 0, v1024_r0.toNat]
def k0_off49 (arg47_r0 : BitVec 32) : Fin 1 → Nat :=
  let c2_i32_699_r0 : BitVec 32 := 2#32
  let v1018_r0 : BitVec 32 := Scalar.remui arg47_r0 c2_i32_699_r0
  ![v1018_r0.toNat]
def k0_cond14 (k0_t1 : Fin k0_t1_loop.trips) (arg51_r0 : BitVec 32) (arg52_r0 : BitVec 32) : BitVec 1 :=
  let c0_i32_483_r0 : BitVec 32 := 0#32
  let c0_i32_282_r0 : BitVec 32 := 0#32
  let v220_r0 : BitVec 32 := Scalar.addi arg51_r0 c0_i32_282_r0
  let v498_r0 : BitVec 32 := Scalar.addi c0_i32_483_r0 v220_r0
  let c0_i32_487_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v502_r0 : BitVec 32 := Scalar.addi c0_i32_487_r0 v240_r0
  let v506_r0 : BitVec 1 := Scalar.cmpi .ne v498_r0 v502_r0
  let c4_i32_484_r0 : BitVec 32 := 4#32
  let c0_i32_283_r0 : BitVec 32 := 0#32
  let v221_r0 : BitVec 32 := Scalar.addi arg52_r0 c0_i32_283_r0
  let v499_r0 : BitVec 32 := Scalar.muli c4_i32_484_r0 v221_r0
  let c3_i32_485_r0 : BitVec 32 := 3#32
  let v500_r0 : BitVec 32 := Scalar.addi v499_r0 c3_i32_485_r0
  let c10_i32_486_r0 : BitVec 32 := 10#32
  let v501_r0 : BitVec 32 := Scalar.minsi v500_r0 c10_i32_486_r0
  let c4_i32_488_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v503_r0 : BitVec 32 := Scalar.muli c4_i32_488_r0 v241_r0
  let c3_i32_489_r0 : BitVec 32 := 3#32
  let v504_r0 : BitVec 32 := Scalar.addi v503_r0 c3_i32_489_r0
  let c10_i32_490_r0 : BitVec 32 := 10#32
  let v505_r0 : BitVec 32 := Scalar.minsi v504_r0 c10_i32_490_r0
  let v507_r0 : BitVec 1 := Scalar.cmpi .ne v501_r0 v505_r0
  let v508_r0 : BitVec 1 := Scalar.ori v506_r0 v507_r0
  let c0_i32_233_r0 : BitVec 32 := 0#32
  let c1_i32_234_r0 : BitVec 32 := 1#32
  let arg16_r0 : BitVec 32 := Scf.iv c0_i32_233_r0 c1_i32_234_r0 k0_t1
  let c47_i32_491_r0 : BitVec 32 := 47#32
  let v509_r0 : BitVec 1 := Scalar.cmpi .sge arg16_r0 c47_i32_491_r0
  let true_492_r0 : BitVec 1 := 1#1
  let v510_r0 : BitVec 1 := Scalar.xori v509_r0 true_492_r0
  let v511_r0 : BitVec 1 := Scalar.andi v508_r0 v510_r0
  let true_493_r0 : BitVec 1 := 1#1
  let v512_r0 : BitVec 1 := Scalar.andi v511_r0 true_493_r0
  let v513_r0 : BitVec 32 := Scalar.extui v512_r0
  let c0_i32_494_r0 : BitVec 32 := 0#32
  let v514_r0 : BitVec 1 := Scalar.cmpi .ne v513_r0 c0_i32_494_r0
  v514_r0

def k0_off50 (arg47_r0 : BitVec 32) : Fin 4 → Nat :=
  let c2_i32_699_r0 : BitVec 32 := 2#32
  let v1018_r0 : BitVec 32 := Scalar.remui arg47_r0 c2_i32_699_r0
  let c0_i32_706_r0 : BitVec 32 := 0#32
  let c0_i32_707_r0 : BitVec 32 := 0#32
  let c0_i32_708_r0 : BitVec 32 := 0#32
  ![v1018_r0.toNat, 0, 0, 0]
def k0_off51 (arg51_r0 : BitVec 32) (arg52_r0 : BitVec 32) : Fin 3 → Nat :=
  let c1_i32_704_r0 : BitVec 32 := 1#32
  let c0_i32_700_r0 : BitVec 32 := 0#32
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v1019_r0 : BitVec 32 := Scalar.addi c0_i32_700_r0 v240_r0
  let v1023_r0 : BitVec 32 := Scalar.muli c1_i32_704_r0 v1019_r0
  let c256_i32_705_r0 : BitVec 32 := 256#32
  let c4_i32_701_r0 : BitVec 32 := 4#32
  let c0_i32_296_r0 : BitVec 32 := 0#32
  let v235_r0 : BitVec 32 := Scalar.select v234_r0 c0_i32_296_r0 v233_r0
  let c0_i32_301_r0 : BitVec 32 := 0#32
  let v241_r0 : BitVec 32 := Scalar.addi v235_r0 c0_i32_301_r0
  let v1020_r0 : BitVec 32 := Scalar.muli c4_i32_701_r0 v241_r0
  let c3_i32_702_r0 : BitVec 32 := 3#32
  let v1021_r0 : BitVec 32 := Scalar.addi v1020_r0 c3_i32_702_r0
  let c10_i32_703_r0 : BitVec 32 := 10#32
  let v1022_r0 : BitVec 32 := Scalar.minsi v1021_r0 c10_i32_703_r0
  let v1024_r0 : BitVec 32 := Scalar.muli c256_i32_705_r0 v1022_r0
  let c0_i32_709_r0 : BitVec 32 := 0#32
  ![v1023_r0.toNat, v1024_r0.toNat, 0]
def k0_off52 (arg18_r0 : BitVec 32) : Fin 1 → Nat :=
  let c2_i32_700_r0 : BitVec 32 := 2#32
  let v1019_r0 : BitVec 32 := Scalar.remui arg18_r0 c2_i32_700_r0
  ![v1019_r0.toNat]
def k0_cond15 (k0_t1 : Fin k0_t1_loop.trips) (arg51_r0 : BitVec 32) (arg52_r0 : BitVec 32) : BitVec 1 :=
  let c0_i32_282_r0 : BitVec 32 := 0#32
  let v220_r0 : BitVec 32 := Scalar.addi arg51_r0 c0_i32_282_r0
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v522_r0 : BitVec 1 := Scalar.cmpi .ne v220_r0 v230_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v523_r0 : BitVec 1 := Scalar.ori v522_r0 v218_r0
  let c0_i32_499_r0 : BitVec 32 := 0#32
  let v524_r0 : BitVec 1 := Scalar.cmpi .sge arg16_r0 c0_i32_499_r0
  let v525_r0 : BitVec 1 := Scalar.andi v523_r0 v524_r0
  let v526_r0 : BitVec 32 := Scalar.extui v525_r0
  let c0_i32_500_r0 : BitVec 32 := 0#32
  let v527_r0 : BitVec 1 := Scalar.cmpi .ne v526_r0 c0_i32_500_r0
  v527_r0

def k0_off53 (arg18_r0 : BitVec 32) : Fin 5 → Nat :=
  let c2_i32_700_r0 : BitVec 32 := 2#32
  let v1019_r0 : BitVec 32 := Scalar.remui arg18_r0 c2_i32_700_r0
  let c0_i32_701_r0 : BitVec 32 := 0#32
  let c0_i32_702_r0 : BitVec 32 := 0#32
  let c0_i32_703_r0 : BitVec 32 := 0#32
  let c0_i32_704_r0 : BitVec 32 := 0#32
  ![v1019_r0.toNat, 0, 0, 0, 0]
def k0_off54 (arg51_r0 : BitVec 32) : Fin 4 → Nat :=
  let c0_i32_705_r0 : BitVec 32 := 0#32
  let c1_i32_699_r0 : BitVec 32 := 1#32
  let c0_i32_282_r0 : BitVec 32 := 0#32
  let v220_r0 : BitVec 32 := Scalar.addi arg51_r0 c0_i32_282_r0
  let v1018_r0 : BitVec 32 := Scalar.muli c1_i32_699_r0 v220_r0
  let c0_i32_706_r0 : BitVec 32 := 0#32
  let c0_i32_707_r0 : BitVec 32 := 0#32
  ![0, v1018_r0.toNat, 0, 0]
def k0_off55 (arg22_r0 : BitVec 32) : Fin 1 → Nat :=
  let c2_i32_700_r0 : BitVec 32 := 2#32
  let v1019_r0 : BitVec 32 := Scalar.remui arg22_r0 c2_i32_700_r0
  ![v1019_r0.toNat]
def k0_cond16 (k0_t1 : Fin k0_t1_loop.trips) (arg51_r0 : BitVec 32) (arg52_r0 : BitVec 32) : BitVec 1 :=
  let c0_i32_282_r0 : BitVec 32 := 0#32
  let v220_r0 : BitVec 32 := Scalar.addi arg51_r0 c0_i32_282_r0
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v528_r0 : BitVec 1 := Scalar.cmpi .ne v220_r0 v230_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v529_r0 : BitVec 1 := Scalar.ori v528_r0 v218_r0
  let c0_i32_501_r0 : BitVec 32 := 0#32
  let v530_r0 : BitVec 1 := Scalar.cmpi .sge arg16_r0 c0_i32_501_r0
  let v531_r0 : BitVec 1 := Scalar.andi v529_r0 v530_r0
  let v532_r0 : BitVec 32 := Scalar.extui v531_r0
  let c0_i32_502_r0 : BitVec 32 := 0#32
  let v533_r0 : BitVec 1 := Scalar.cmpi .ne v532_r0 c0_i32_502_r0
  v533_r0

def k0_off56 (arg22_r0 : BitVec 32) : Fin 5 → Nat :=
  let c2_i32_700_r0 : BitVec 32 := 2#32
  let v1019_r0 : BitVec 32 := Scalar.remui arg22_r0 c2_i32_700_r0
  let c0_i32_701_r0 : BitVec 32 := 0#32
  let c0_i32_702_r0 : BitVec 32 := 0#32
  let c0_i32_703_r0 : BitVec 32 := 0#32
  let c0_i32_704_r0 : BitVec 32 := 0#32
  ![v1019_r0.toNat, 0, 0, 0, 0]
def k0_off57 (arg51_r0 : BitVec 32) : Fin 4 → Nat :=
  let c0_i32_705_r0 : BitVec 32 := 0#32
  let c1_i32_699_r0 : BitVec 32 := 1#32
  let c0_i32_282_r0 : BitVec 32 := 0#32
  let v220_r0 : BitVec 32 := Scalar.addi arg51_r0 c0_i32_282_r0
  let v1018_r0 : BitVec 32 := Scalar.muli c1_i32_699_r0 v220_r0
  let c0_i32_706_r0 : BitVec 32 := 0#32
  let c0_i32_707_r0 : BitVec 32 := 0#32
  ![0, v1018_r0.toNat, 0, 0]
def k0_off58 (arg26_r0 : BitVec 32) : Fin 1 → Nat :=
  let c2_i32_705_r0 : BitVec 32 := 2#32
  let v1024_r0 : BitVec 32 := Scalar.remui arg26_r0 c2_i32_705_r0
  ![v1024_r0.toNat]
def k0_cond17 (k0_t1 : Fin k0_t1_loop.trips) (arg51_r0 : BitVec 32) (arg52_r0 : BitVec 32) : BitVec 1 :=
  let c0_i32_330_r0 : BitVec 32 := 0#32
  let c0_i32_282_r0 : BitVec 32 := 0#32
  let v220_r0 : BitVec 32 := Scalar.addi arg51_r0 c0_i32_282_r0
  let v278_r0 : BitVec 32 := Scalar.addi c0_i32_330_r0 v220_r0
  let c0_i32_503_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v534_r0 : BitVec 32 := Scalar.addi c0_i32_503_r0 v230_r0
  let v538_r0 : BitVec 1 := Scalar.cmpi .ne v278_r0 v534_r0
  let c4_i32_r0 : BitVec 32 := 4#32
  let c0_i32_283_r0 : BitVec 32 := 0#32
  let v221_r0 : BitVec 32 := Scalar.addi arg52_r0 c0_i32_283_r0
  let v279_r0 : BitVec 32 := Scalar.muli c4_i32_r0 v221_r0
  let c0_i32_331_r0 : BitVec 32 := 0#32
  let v280_r0 : BitVec 32 := Scalar.addi v279_r0 c0_i32_331_r0
  let c10_i32_332_r0 : BitVec 32 := 10#32
  let v281_r0 : BitVec 32 := Scalar.minsi v280_r0 c10_i32_332_r0
  let c4_i32_504_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v535_r0 : BitVec 32 := Scalar.muli c4_i32_504_r0 v231_r0
  let c0_i32_505_r0 : BitVec 32 := 0#32
  let v536_r0 : BitVec 32 := Scalar.addi v535_r0 c0_i32_505_r0
  let c10_i32_506_r0 : BitVec 32 := 10#32
  let v537_r0 : BitVec 32 := Scalar.minsi v536_r0 c10_i32_506_r0
  let v539_r0 : BitVec 1 := Scalar.cmpi .ne v281_r0 v537_r0
  let v540_r0 : BitVec 1 := Scalar.ori v538_r0 v539_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v541_r0 : BitVec 1 := Scalar.ori v540_r0 v218_r0
  let c0_i32_507_r0 : BitVec 32 := 0#32
  let v542_r0 : BitVec 1 := Scalar.cmpi .sge arg16_r0 c0_i32_507_r0
  let v543_r0 : BitVec 1 := Scalar.andi v541_r0 v542_r0
  let v544_r0 : BitVec 32 := Scalar.extui v543_r0
  let c0_i32_508_r0 : BitVec 32 := 0#32
  let v545_r0 : BitVec 1 := Scalar.cmpi .ne v544_r0 c0_i32_508_r0
  v545_r0

def k0_off59 (arg26_r0 : BitVec 32) : Fin 4 → Nat :=
  let c2_i32_705_r0 : BitVec 32 := 2#32
  let v1024_r0 : BitVec 32 := Scalar.remui arg26_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off60 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c0_i32_701_r0 : BitVec 32 := 0#32
  let v1020_r0 : BitVec 32 := Scalar.addi v1019_r0 c0_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off61 (arg28_r0 : BitVec 32) : Fin 1 → Nat :=
  let c2_i32_705_r0 : BitVec 32 := 2#32
  let v1024_r0 : BitVec 32 := Scalar.remui arg28_r0 c2_i32_705_r0
  ![v1024_r0.toNat]
def k0_cond18 (k0_t1 : Fin k0_t1_loop.trips) (arg51_r0 : BitVec 32) (arg52_r0 : BitVec 32) : BitVec 1 :=
  let c0_i32_343_r0 : BitVec 32 := 0#32
  let c0_i32_282_r0 : BitVec 32 := 0#32
  let v220_r0 : BitVec 32 := Scalar.addi arg51_r0 c0_i32_282_r0
  let v298_r0 : BitVec 32 := Scalar.addi c0_i32_343_r0 v220_r0
  let c0_i32_509_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v546_r0 : BitVec 32 := Scalar.addi c0_i32_509_r0 v230_r0
  let v550_r0 : BitVec 1 := Scalar.cmpi .ne v298_r0 v546_r0
  let c4_i32_344_r0 : BitVec 32 := 4#32
  let c0_i32_283_r0 : BitVec 32 := 0#32
  let v221_r0 : BitVec 32 := Scalar.addi arg52_r0 c0_i32_283_r0
  let v299_r0 : BitVec 32 := Scalar.muli c4_i32_344_r0 v221_r0
  let c0_i32_345_r0 : BitVec 32 := 0#32
  let v300_r0 : BitVec 32 := Scalar.addi v299_r0 c0_i32_345_r0
  let c10_i32_346_r0 : BitVec 32 := 10#32
  let v301_r0 : BitVec 32 := Scalar.minsi v300_r0 c10_i32_346_r0
  let c4_i32_510_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v547_r0 : BitVec 32 := Scalar.muli c4_i32_510_r0 v231_r0
  let c0_i32_511_r0 : BitVec 32 := 0#32
  let v548_r0 : BitVec 32 := Scalar.addi v547_r0 c0_i32_511_r0
  let c10_i32_512_r0 : BitVec 32 := 10#32
  let v549_r0 : BitVec 32 := Scalar.minsi v548_r0 c10_i32_512_r0
  let v551_r0 : BitVec 1 := Scalar.cmpi .ne v301_r0 v549_r0
  let v552_r0 : BitVec 1 := Scalar.ori v550_r0 v551_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v553_r0 : BitVec 1 := Scalar.ori v552_r0 v218_r0
  let c0_i32_513_r0 : BitVec 32 := 0#32
  let v554_r0 : BitVec 1 := Scalar.cmpi .sge arg16_r0 c0_i32_513_r0
  let v555_r0 : BitVec 1 := Scalar.andi v553_r0 v554_r0
  let v556_r0 : BitVec 32 := Scalar.extui v555_r0
  let c0_i32_514_r0 : BitVec 32 := 0#32
  let v557_r0 : BitVec 1 := Scalar.cmpi .ne v556_r0 c0_i32_514_r0
  v557_r0

def k0_off62 (arg28_r0 : BitVec 32) : Fin 4 → Nat :=
  let c2_i32_705_r0 : BitVec 32 := 2#32
  let v1024_r0 : BitVec 32 := Scalar.remui arg28_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off63 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c0_i32_701_r0 : BitVec 32 := 0#32
  let v1020_r0 : BitVec 32 := Scalar.addi v1019_r0 c0_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off64 (arg30_r0 : BitVec 32) : Fin 1 → Nat :=
  let c2_i32_705_r0 : BitVec 32 := 2#32
  let v1024_r0 : BitVec 32 := Scalar.remui arg30_r0 c2_i32_705_r0
  ![v1024_r0.toNat]
def k0_cond19 (k0_t1 : Fin k0_t1_loop.trips) (arg51_r0 : BitVec 32) (arg52_r0 : BitVec 32) : BitVec 1 :=
  let c0_i32_357_r0 : BitVec 32 := 0#32
  let c0_i32_282_r0 : BitVec 32 := 0#32
  let v220_r0 : BitVec 32 := Scalar.addi arg51_r0 c0_i32_282_r0
  let v318_r0 : BitVec 32 := Scalar.addi c0_i32_357_r0 v220_r0
  let c0_i32_515_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v558_r0 : BitVec 32 := Scalar.addi c0_i32_515_r0 v230_r0
  let v562_r0 : BitVec 1 := Scalar.cmpi .ne v318_r0 v558_r0
  let c4_i32_358_r0 : BitVec 32 := 4#32
  let c0_i32_283_r0 : BitVec 32 := 0#32
  let v221_r0 : BitVec 32 := Scalar.addi arg52_r0 c0_i32_283_r0
  let v319_r0 : BitVec 32 := Scalar.muli c4_i32_358_r0 v221_r0
  let c0_i32_359_r0 : BitVec 32 := 0#32
  let v320_r0 : BitVec 32 := Scalar.addi v319_r0 c0_i32_359_r0
  let c10_i32_360_r0 : BitVec 32 := 10#32
  let v321_r0 : BitVec 32 := Scalar.minsi v320_r0 c10_i32_360_r0
  let c4_i32_516_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v559_r0 : BitVec 32 := Scalar.muli c4_i32_516_r0 v231_r0
  let c0_i32_517_r0 : BitVec 32 := 0#32
  let v560_r0 : BitVec 32 := Scalar.addi v559_r0 c0_i32_517_r0
  let c10_i32_518_r0 : BitVec 32 := 10#32
  let v561_r0 : BitVec 32 := Scalar.minsi v560_r0 c10_i32_518_r0
  let v563_r0 : BitVec 1 := Scalar.cmpi .ne v321_r0 v561_r0
  let v564_r0 : BitVec 1 := Scalar.ori v562_r0 v563_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v565_r0 : BitVec 1 := Scalar.ori v564_r0 v218_r0
  let c0_i32_519_r0 : BitVec 32 := 0#32
  let v566_r0 : BitVec 1 := Scalar.cmpi .sge arg16_r0 c0_i32_519_r0
  let v567_r0 : BitVec 1 := Scalar.andi v565_r0 v566_r0
  let v568_r0 : BitVec 32 := Scalar.extui v567_r0
  let c0_i32_520_r0 : BitVec 32 := 0#32
  let v569_r0 : BitVec 1 := Scalar.cmpi .ne v568_r0 c0_i32_520_r0
  v569_r0

def k0_off65 (arg30_r0 : BitVec 32) : Fin 4 → Nat :=
  let c2_i32_705_r0 : BitVec 32 := 2#32
  let v1024_r0 : BitVec 32 := Scalar.remui arg30_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off66 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c0_i32_701_r0 : BitVec 32 := 0#32
  let v1020_r0 : BitVec 32 := Scalar.addi v1019_r0 c0_i32_701_r0
  let c10_i32_702_r0 : BitVec 32 := 10#32
  let v1021_r0 : BitVec 32 := Scalar.minsi v1020_r0 c10_i32_702_r0
  let v1023_r0 : BitVec 32 := Scalar.muli c256_i32_704_r0 v1021_r0
  let c0_i32_709_r0 : BitVec 32 := 0#32
  ![v1022_r0.toNat, v1023_r0.toNat, 0]
def k0_off67 (arg32_r0 : BitVec 32) : Fin 1 → Nat :=
  let c2_i32_705_r0 : BitVec 32 := 2#32
  let v1024_r0 : BitVec 32 := Scalar.remui arg32_r0 c2_i32_705_r0
  ![v1024_r0.toNat]
def k0_cond20 (k0_t1 : Fin k0_t1_loop.trips) (arg51_r0 : BitVec 32) (arg52_r0 : BitVec 32) : BitVec 1 :=
  let c0_i32_371_r0 : BitVec 32 := 0#32
  let c0_i32_282_r0 : BitVec 32 := 0#32
  let v220_r0 : BitVec 32 := Scalar.addi arg51_r0 c0_i32_282_r0
  let v338_r0 : BitVec 32 := Scalar.addi c0_i32_371_r0 v220_r0
  let c0_i32_521_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v570_r0 : BitVec 32 := Scalar.addi c0_i32_521_r0 v230_r0
  let v574_r0 : BitVec 1 := Scalar.cmpi .ne v338_r0 v570_r0
  let c4_i32_372_r0 : BitVec 32 := 4#32
  let c0_i32_283_r0 : BitVec 32 := 0#32
  let v221_r0 : BitVec 32 := Scalar.addi arg52_r0 c0_i32_283_r0
  let v339_r0 : BitVec 32 := Scalar.muli c4_i32_372_r0 v221_r0
  let c1_i32_373_r0 : BitVec 32 := 1#32
  let v340_r0 : BitVec 32 := Scalar.addi v339_r0 c1_i32_373_r0
  let c10_i32_374_r0 : BitVec 32 := 10#32
  let v341_r0 : BitVec 32 := Scalar.minsi v340_r0 c10_i32_374_r0
  let c4_i32_522_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v571_r0 : BitVec 32 := Scalar.muli c4_i32_522_r0 v231_r0
  let c1_i32_523_r0 : BitVec 32 := 1#32
  let v572_r0 : BitVec 32 := Scalar.addi v571_r0 c1_i32_523_r0
  let c10_i32_524_r0 : BitVec 32 := 10#32
  let v573_r0 : BitVec 32 := Scalar.minsi v572_r0 c10_i32_524_r0
  let v575_r0 : BitVec 1 := Scalar.cmpi .ne v341_r0 v573_r0
  let v576_r0 : BitVec 1 := Scalar.ori v574_r0 v575_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v577_r0 : BitVec 1 := Scalar.ori v576_r0 v218_r0
  let c0_i32_525_r0 : BitVec 32 := 0#32
  let v578_r0 : BitVec 1 := Scalar.cmpi .sge arg16_r0 c0_i32_525_r0
  let v579_r0 : BitVec 1 := Scalar.andi v577_r0 v578_r0
  let v580_r0 : BitVec 32 := Scalar.extui v579_r0
  let c0_i32_526_r0 : BitVec 32 := 0#32
  let v581_r0 : BitVec 1 := Scalar.cmpi .ne v580_r0 c0_i32_526_r0
  v581_r0

def k0_off68 (arg32_r0 : BitVec 32) : Fin 4 → Nat :=
  let c2_i32_705_r0 : BitVec 32 := 2#32
  let v1024_r0 : BitVec 32 := Scalar.remui arg32_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off69 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c1_i32_701_r0 : BitVec 32 := 1#32
  let v1020_r0 : BitVec 32 := Scalar.addi v1019_r0 c1_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off70 (arg34_r0 : BitVec 32) : Fin 1 → Nat :=
  let c2_i32_705_r0 : BitVec 32 := 2#32
  let v1024_r0 : BitVec 32 := Scalar.remui arg34_r0 c2_i32_705_r0
  ![v1024_r0.toNat]
def k0_cond21 (k0_t1 : Fin k0_t1_loop.trips) (arg51_r0 : BitVec 32) (arg52_r0 : BitVec 32) : BitVec 1 :=
  let c0_i32_385_r0 : BitVec 32 := 0#32
  let c0_i32_282_r0 : BitVec 32 := 0#32
  let v220_r0 : BitVec 32 := Scalar.addi arg51_r0 c0_i32_282_r0
  let v358_r0 : BitVec 32 := Scalar.addi c0_i32_385_r0 v220_r0
  let c0_i32_527_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v582_r0 : BitVec 32 := Scalar.addi c0_i32_527_r0 v230_r0
  let v586_r0 : BitVec 1 := Scalar.cmpi .ne v358_r0 v582_r0
  let c4_i32_386_r0 : BitVec 32 := 4#32
  let c0_i32_283_r0 : BitVec 32 := 0#32
  let v221_r0 : BitVec 32 := Scalar.addi arg52_r0 c0_i32_283_r0
  let v359_r0 : BitVec 32 := Scalar.muli c4_i32_386_r0 v221_r0
  let c1_i32_387_r0 : BitVec 32 := 1#32
  let v360_r0 : BitVec 32 := Scalar.addi v359_r0 c1_i32_387_r0
  let c10_i32_388_r0 : BitVec 32 := 10#32
  let v361_r0 : BitVec 32 := Scalar.minsi v360_r0 c10_i32_388_r0
  let c4_i32_528_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v583_r0 : BitVec 32 := Scalar.muli c4_i32_528_r0 v231_r0
  let c1_i32_529_r0 : BitVec 32 := 1#32
  let v584_r0 : BitVec 32 := Scalar.addi v583_r0 c1_i32_529_r0
  let c10_i32_530_r0 : BitVec 32 := 10#32
  let v585_r0 : BitVec 32 := Scalar.minsi v584_r0 c10_i32_530_r0
  let v587_r0 : BitVec 1 := Scalar.cmpi .ne v361_r0 v585_r0
  let v588_r0 : BitVec 1 := Scalar.ori v586_r0 v587_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v589_r0 : BitVec 1 := Scalar.ori v588_r0 v218_r0
  let c0_i32_531_r0 : BitVec 32 := 0#32
  let v590_r0 : BitVec 1 := Scalar.cmpi .sge arg16_r0 c0_i32_531_r0
  let v591_r0 : BitVec 1 := Scalar.andi v589_r0 v590_r0
  let v592_r0 : BitVec 32 := Scalar.extui v591_r0
  let c0_i32_532_r0 : BitVec 32 := 0#32
  let v593_r0 : BitVec 1 := Scalar.cmpi .ne v592_r0 c0_i32_532_r0
  v593_r0

def k0_off71 (arg34_r0 : BitVec 32) : Fin 4 → Nat :=
  let c2_i32_705_r0 : BitVec 32 := 2#32
  let v1024_r0 : BitVec 32 := Scalar.remui arg34_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off72 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c1_i32_701_r0 : BitVec 32 := 1#32
  let v1020_r0 : BitVec 32 := Scalar.addi v1019_r0 c1_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off73 (arg36_r0 : BitVec 32) : Fin 1 → Nat :=
  let c2_i32_705_r0 : BitVec 32 := 2#32
  let v1024_r0 : BitVec 32 := Scalar.remui arg36_r0 c2_i32_705_r0
  ![v1024_r0.toNat]
def k0_cond22 (k0_t1 : Fin k0_t1_loop.trips) (arg51_r0 : BitVec 32) (arg52_r0 : BitVec 32) : BitVec 1 :=
  let c0_i32_399_r0 : BitVec 32 := 0#32
  let c0_i32_282_r0 : BitVec 32 := 0#32
  let v220_r0 : BitVec 32 := Scalar.addi arg51_r0 c0_i32_282_r0
  let v378_r0 : BitVec 32 := Scalar.addi c0_i32_399_r0 v220_r0
  let c0_i32_533_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v594_r0 : BitVec 32 := Scalar.addi c0_i32_533_r0 v230_r0
  let v598_r0 : BitVec 1 := Scalar.cmpi .ne v378_r0 v594_r0
  let c4_i32_400_r0 : BitVec 32 := 4#32
  let c0_i32_283_r0 : BitVec 32 := 0#32
  let v221_r0 : BitVec 32 := Scalar.addi arg52_r0 c0_i32_283_r0
  let v379_r0 : BitVec 32 := Scalar.muli c4_i32_400_r0 v221_r0
  let c1_i32_401_r0 : BitVec 32 := 1#32
  let v380_r0 : BitVec 32 := Scalar.addi v379_r0 c1_i32_401_r0
  let c10_i32_402_r0 : BitVec 32 := 10#32
  let v381_r0 : BitVec 32 := Scalar.minsi v380_r0 c10_i32_402_r0
  let c4_i32_534_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v595_r0 : BitVec 32 := Scalar.muli c4_i32_534_r0 v231_r0
  let c1_i32_535_r0 : BitVec 32 := 1#32
  let v596_r0 : BitVec 32 := Scalar.addi v595_r0 c1_i32_535_r0
  let c10_i32_536_r0 : BitVec 32 := 10#32
  let v597_r0 : BitVec 32 := Scalar.minsi v596_r0 c10_i32_536_r0
  let v599_r0 : BitVec 1 := Scalar.cmpi .ne v381_r0 v597_r0
  let v600_r0 : BitVec 1 := Scalar.ori v598_r0 v599_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v601_r0 : BitVec 1 := Scalar.ori v600_r0 v218_r0
  let c0_i32_537_r0 : BitVec 32 := 0#32
  let v602_r0 : BitVec 1 := Scalar.cmpi .sge arg16_r0 c0_i32_537_r0
  let v603_r0 : BitVec 1 := Scalar.andi v601_r0 v602_r0
  let v604_r0 : BitVec 32 := Scalar.extui v603_r0
  let c0_i32_538_r0 : BitVec 32 := 0#32
  let v605_r0 : BitVec 1 := Scalar.cmpi .ne v604_r0 c0_i32_538_r0
  v605_r0

def k0_off74 (arg36_r0 : BitVec 32) : Fin 4 → Nat :=
  let c2_i32_705_r0 : BitVec 32 := 2#32
  let v1024_r0 : BitVec 32 := Scalar.remui arg36_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off75 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c1_i32_701_r0 : BitVec 32 := 1#32
  let v1020_r0 : BitVec 32 := Scalar.addi v1019_r0 c1_i32_701_r0
  let c10_i32_702_r0 : BitVec 32 := 10#32
  let v1021_r0 : BitVec 32 := Scalar.minsi v1020_r0 c10_i32_702_r0
  let v1023_r0 : BitVec 32 := Scalar.muli c256_i32_704_r0 v1021_r0
  let c0_i32_709_r0 : BitVec 32 := 0#32
  ![v1022_r0.toNat, v1023_r0.toNat, 0]
def k0_off76 (arg38_r0 : BitVec 32) : Fin 1 → Nat :=
  let c2_i32_705_r0 : BitVec 32 := 2#32
  let v1024_r0 : BitVec 32 := Scalar.remui arg38_r0 c2_i32_705_r0
  ![v1024_r0.toNat]
def k0_cond23 (k0_t1 : Fin k0_t1_loop.trips) (arg51_r0 : BitVec 32) (arg52_r0 : BitVec 32) : BitVec 1 :=
  let c0_i32_413_r0 : BitVec 32 := 0#32
  let c0_i32_282_r0 : BitVec 32 := 0#32
  let v220_r0 : BitVec 32 := Scalar.addi arg51_r0 c0_i32_282_r0
  let v398_r0 : BitVec 32 := Scalar.addi c0_i32_413_r0 v220_r0
  let c0_i32_539_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v606_r0 : BitVec 32 := Scalar.addi c0_i32_539_r0 v230_r0
  let v610_r0 : BitVec 1 := Scalar.cmpi .ne v398_r0 v606_r0
  let c4_i32_414_r0 : BitVec 32 := 4#32
  let c0_i32_283_r0 : BitVec 32 := 0#32
  let v221_r0 : BitVec 32 := Scalar.addi arg52_r0 c0_i32_283_r0
  let v399_r0 : BitVec 32 := Scalar.muli c4_i32_414_r0 v221_r0
  let c2_i32_415_r0 : BitVec 32 := 2#32
  let v400_r0 : BitVec 32 := Scalar.addi v399_r0 c2_i32_415_r0
  let c10_i32_416_r0 : BitVec 32 := 10#32
  let v401_r0 : BitVec 32 := Scalar.minsi v400_r0 c10_i32_416_r0
  let c4_i32_540_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v607_r0 : BitVec 32 := Scalar.muli c4_i32_540_r0 v231_r0
  let c2_i32_541_r0 : BitVec 32 := 2#32
  let v608_r0 : BitVec 32 := Scalar.addi v607_r0 c2_i32_541_r0
  let c10_i32_542_r0 : BitVec 32 := 10#32
  let v609_r0 : BitVec 32 := Scalar.minsi v608_r0 c10_i32_542_r0
  let v611_r0 : BitVec 1 := Scalar.cmpi .ne v401_r0 v609_r0
  let v612_r0 : BitVec 1 := Scalar.ori v610_r0 v611_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v613_r0 : BitVec 1 := Scalar.ori v612_r0 v218_r0
  let c0_i32_543_r0 : BitVec 32 := 0#32
  let v614_r0 : BitVec 1 := Scalar.cmpi .sge arg16_r0 c0_i32_543_r0
  let v615_r0 : BitVec 1 := Scalar.andi v613_r0 v614_r0
  let v616_r0 : BitVec 32 := Scalar.extui v615_r0
  let c0_i32_544_r0 : BitVec 32 := 0#32
  let v617_r0 : BitVec 1 := Scalar.cmpi .ne v616_r0 c0_i32_544_r0
  v617_r0

def k0_off77 (arg38_r0 : BitVec 32) : Fin 4 → Nat :=
  let c2_i32_705_r0 : BitVec 32 := 2#32
  let v1024_r0 : BitVec 32 := Scalar.remui arg38_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off78 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c2_i32_701_r0 : BitVec 32 := 2#32
  let v1020_r0 : BitVec 32 := Scalar.addi v1019_r0 c2_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off79 (arg40_r0 : BitVec 32) : Fin 1 → Nat :=
  let c2_i32_705_r0 : BitVec 32 := 2#32
  let v1024_r0 : BitVec 32 := Scalar.remui arg40_r0 c2_i32_705_r0
  ![v1024_r0.toNat]
def k0_cond24 (k0_t1 : Fin k0_t1_loop.trips) (arg51_r0 : BitVec 32) (arg52_r0 : BitVec 32) : BitVec 1 :=
  let c0_i32_427_r0 : BitVec 32 := 0#32
  let c0_i32_282_r0 : BitVec 32 := 0#32
  let v220_r0 : BitVec 32 := Scalar.addi arg51_r0 c0_i32_282_r0
  let v418_r0 : BitVec 32 := Scalar.addi c0_i32_427_r0 v220_r0
  let c0_i32_545_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v618_r0 : BitVec 32 := Scalar.addi c0_i32_545_r0 v230_r0
  let v622_r0 : BitVec 1 := Scalar.cmpi .ne v418_r0 v618_r0
  let c4_i32_428_r0 : BitVec 32 := 4#32
  let c0_i32_283_r0 : BitVec 32 := 0#32
  let v221_r0 : BitVec 32 := Scalar.addi arg52_r0 c0_i32_283_r0
  let v419_r0 : BitVec 32 := Scalar.muli c4_i32_428_r0 v221_r0
  let c2_i32_429_r0 : BitVec 32 := 2#32
  let v420_r0 : BitVec 32 := Scalar.addi v419_r0 c2_i32_429_r0
  let c10_i32_430_r0 : BitVec 32 := 10#32
  let v421_r0 : BitVec 32 := Scalar.minsi v420_r0 c10_i32_430_r0
  let c4_i32_546_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v619_r0 : BitVec 32 := Scalar.muli c4_i32_546_r0 v231_r0
  let c2_i32_547_r0 : BitVec 32 := 2#32
  let v620_r0 : BitVec 32 := Scalar.addi v619_r0 c2_i32_547_r0
  let c10_i32_548_r0 : BitVec 32 := 10#32
  let v621_r0 : BitVec 32 := Scalar.minsi v620_r0 c10_i32_548_r0
  let v623_r0 : BitVec 1 := Scalar.cmpi .ne v421_r0 v621_r0
  let v624_r0 : BitVec 1 := Scalar.ori v622_r0 v623_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v625_r0 : BitVec 1 := Scalar.ori v624_r0 v218_r0
  let c0_i32_549_r0 : BitVec 32 := 0#32
  let v626_r0 : BitVec 1 := Scalar.cmpi .sge arg16_r0 c0_i32_549_r0
  let v627_r0 : BitVec 1 := Scalar.andi v625_r0 v626_r0
  let v628_r0 : BitVec 32 := Scalar.extui v627_r0
  let c0_i32_550_r0 : BitVec 32 := 0#32
  let v629_r0 : BitVec 1 := Scalar.cmpi .ne v628_r0 c0_i32_550_r0
  v629_r0

def k0_off80 (arg40_r0 : BitVec 32) : Fin 4 → Nat :=
  let c2_i32_705_r0 : BitVec 32 := 2#32
  let v1024_r0 : BitVec 32 := Scalar.remui arg40_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off81 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c2_i32_701_r0 : BitVec 32 := 2#32
  let v1020_r0 : BitVec 32 := Scalar.addi v1019_r0 c2_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off82 (arg42_r0 : BitVec 32) : Fin 1 → Nat :=
  let c2_i32_705_r0 : BitVec 32 := 2#32
  let v1024_r0 : BitVec 32 := Scalar.remui arg42_r0 c2_i32_705_r0
  ![v1024_r0.toNat]
def k0_cond25 (k0_t1 : Fin k0_t1_loop.trips) (arg51_r0 : BitVec 32) (arg52_r0 : BitVec 32) : BitVec 1 :=
  let c0_i32_441_r0 : BitVec 32 := 0#32
  let c0_i32_282_r0 : BitVec 32 := 0#32
  let v220_r0 : BitVec 32 := Scalar.addi arg51_r0 c0_i32_282_r0
  let v438_r0 : BitVec 32 := Scalar.addi c0_i32_441_r0 v220_r0
  let c0_i32_551_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v630_r0 : BitVec 32 := Scalar.addi c0_i32_551_r0 v230_r0
  let v634_r0 : BitVec 1 := Scalar.cmpi .ne v438_r0 v630_r0
  let c4_i32_442_r0 : BitVec 32 := 4#32
  let c0_i32_283_r0 : BitVec 32 := 0#32
  let v221_r0 : BitVec 32 := Scalar.addi arg52_r0 c0_i32_283_r0
  let v439_r0 : BitVec 32 := Scalar.muli c4_i32_442_r0 v221_r0
  let c2_i32_443_r0 : BitVec 32 := 2#32
  let v440_r0 : BitVec 32 := Scalar.addi v439_r0 c2_i32_443_r0
  let c10_i32_444_r0 : BitVec 32 := 10#32
  let v441_r0 : BitVec 32 := Scalar.minsi v440_r0 c10_i32_444_r0
  let c4_i32_552_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v631_r0 : BitVec 32 := Scalar.muli c4_i32_552_r0 v231_r0
  let c2_i32_553_r0 : BitVec 32 := 2#32
  let v632_r0 : BitVec 32 := Scalar.addi v631_r0 c2_i32_553_r0
  let c10_i32_554_r0 : BitVec 32 := 10#32
  let v633_r0 : BitVec 32 := Scalar.minsi v632_r0 c10_i32_554_r0
  let v635_r0 : BitVec 1 := Scalar.cmpi .ne v441_r0 v633_r0
  let v636_r0 : BitVec 1 := Scalar.ori v634_r0 v635_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v637_r0 : BitVec 1 := Scalar.ori v636_r0 v218_r0
  let c0_i32_555_r0 : BitVec 32 := 0#32
  let v638_r0 : BitVec 1 := Scalar.cmpi .sge arg16_r0 c0_i32_555_r0
  let v639_r0 : BitVec 1 := Scalar.andi v637_r0 v638_r0
  let v640_r0 : BitVec 32 := Scalar.extui v639_r0
  let c0_i32_556_r0 : BitVec 32 := 0#32
  let v641_r0 : BitVec 1 := Scalar.cmpi .ne v640_r0 c0_i32_556_r0
  v641_r0

def k0_off83 (arg42_r0 : BitVec 32) : Fin 4 → Nat :=
  let c2_i32_705_r0 : BitVec 32 := 2#32
  let v1024_r0 : BitVec 32 := Scalar.remui arg42_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off84 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c2_i32_701_r0 : BitVec 32 := 2#32
  let v1020_r0 : BitVec 32 := Scalar.addi v1019_r0 c2_i32_701_r0
  let c10_i32_702_r0 : BitVec 32 := 10#32
  let v1021_r0 : BitVec 32 := Scalar.minsi v1020_r0 c10_i32_702_r0
  let v1023_r0 : BitVec 32 := Scalar.muli c256_i32_704_r0 v1021_r0
  let c0_i32_709_r0 : BitVec 32 := 0#32
  ![v1022_r0.toNat, v1023_r0.toNat, 0]
def k0_off85 (arg44_r0 : BitVec 32) : Fin 1 → Nat :=
  let c2_i32_705_r0 : BitVec 32 := 2#32
  let v1024_r0 : BitVec 32 := Scalar.remui arg44_r0 c2_i32_705_r0
  ![v1024_r0.toNat]
def k0_cond26 (k0_t1 : Fin k0_t1_loop.trips) (arg51_r0 : BitVec 32) (arg52_r0 : BitVec 32) : BitVec 1 :=
  let c0_i32_455_r0 : BitVec 32 := 0#32
  let c0_i32_282_r0 : BitVec 32 := 0#32
  let v220_r0 : BitVec 32 := Scalar.addi arg51_r0 c0_i32_282_r0
  let v458_r0 : BitVec 32 := Scalar.addi c0_i32_455_r0 v220_r0
  let c0_i32_557_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v642_r0 : BitVec 32 := Scalar.addi c0_i32_557_r0 v230_r0
  let v646_r0 : BitVec 1 := Scalar.cmpi .ne v458_r0 v642_r0
  let c4_i32_456_r0 : BitVec 32 := 4#32
  let c0_i32_283_r0 : BitVec 32 := 0#32
  let v221_r0 : BitVec 32 := Scalar.addi arg52_r0 c0_i32_283_r0
  let v459_r0 : BitVec 32 := Scalar.muli c4_i32_456_r0 v221_r0
  let c3_i32_457_r0 : BitVec 32 := 3#32
  let v460_r0 : BitVec 32 := Scalar.addi v459_r0 c3_i32_457_r0
  let c10_i32_458_r0 : BitVec 32 := 10#32
  let v461_r0 : BitVec 32 := Scalar.minsi v460_r0 c10_i32_458_r0
  let c4_i32_558_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v643_r0 : BitVec 32 := Scalar.muli c4_i32_558_r0 v231_r0
  let c3_i32_559_r0 : BitVec 32 := 3#32
  let v644_r0 : BitVec 32 := Scalar.addi v643_r0 c3_i32_559_r0
  let c10_i32_560_r0 : BitVec 32 := 10#32
  let v645_r0 : BitVec 32 := Scalar.minsi v644_r0 c10_i32_560_r0
  let v647_r0 : BitVec 1 := Scalar.cmpi .ne v461_r0 v645_r0
  let v648_r0 : BitVec 1 := Scalar.ori v646_r0 v647_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v649_r0 : BitVec 1 := Scalar.ori v648_r0 v218_r0
  let c0_i32_561_r0 : BitVec 32 := 0#32
  let v650_r0 : BitVec 1 := Scalar.cmpi .sge arg16_r0 c0_i32_561_r0
  let v651_r0 : BitVec 1 := Scalar.andi v649_r0 v650_r0
  let v652_r0 : BitVec 32 := Scalar.extui v651_r0
  let c0_i32_562_r0 : BitVec 32 := 0#32
  let v653_r0 : BitVec 1 := Scalar.cmpi .ne v652_r0 c0_i32_562_r0
  v653_r0

def k0_off86 (arg44_r0 : BitVec 32) : Fin 4 → Nat :=
  let c2_i32_705_r0 : BitVec 32 := 2#32
  let v1024_r0 : BitVec 32 := Scalar.remui arg44_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off87 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c3_i32_701_r0 : BitVec 32 := 3#32
  let v1020_r0 : BitVec 32 := Scalar.addi v1019_r0 c3_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off88 (arg46_r0 : BitVec 32) : Fin 1 → Nat :=
  let c2_i32_705_r0 : BitVec 32 := 2#32
  let v1024_r0 : BitVec 32 := Scalar.remui arg46_r0 c2_i32_705_r0
  ![v1024_r0.toNat]
def k0_cond27 (k0_t1 : Fin k0_t1_loop.trips) (arg51_r0 : BitVec 32) (arg52_r0 : BitVec 32) : BitVec 1 :=
  let c0_i32_469_r0 : BitVec 32 := 0#32
  let c0_i32_282_r0 : BitVec 32 := 0#32
  let v220_r0 : BitVec 32 := Scalar.addi arg51_r0 c0_i32_282_r0
  let v478_r0 : BitVec 32 := Scalar.addi c0_i32_469_r0 v220_r0
  let c0_i32_563_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v654_r0 : BitVec 32 := Scalar.addi c0_i32_563_r0 v230_r0
  let v658_r0 : BitVec 1 := Scalar.cmpi .ne v478_r0 v654_r0
  let c4_i32_470_r0 : BitVec 32 := 4#32
  let c0_i32_283_r0 : BitVec 32 := 0#32
  let v221_r0 : BitVec 32 := Scalar.addi arg52_r0 c0_i32_283_r0
  let v479_r0 : BitVec 32 := Scalar.muli c4_i32_470_r0 v221_r0
  let c3_i32_471_r0 : BitVec 32 := 3#32
  let v480_r0 : BitVec 32 := Scalar.addi v479_r0 c3_i32_471_r0
  let c10_i32_472_r0 : BitVec 32 := 10#32
  let v481_r0 : BitVec 32 := Scalar.minsi v480_r0 c10_i32_472_r0
  let c4_i32_564_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v655_r0 : BitVec 32 := Scalar.muli c4_i32_564_r0 v231_r0
  let c3_i32_565_r0 : BitVec 32 := 3#32
  let v656_r0 : BitVec 32 := Scalar.addi v655_r0 c3_i32_565_r0
  let c10_i32_566_r0 : BitVec 32 := 10#32
  let v657_r0 : BitVec 32 := Scalar.minsi v656_r0 c10_i32_566_r0
  let v659_r0 : BitVec 1 := Scalar.cmpi .ne v481_r0 v657_r0
  let v660_r0 : BitVec 1 := Scalar.ori v658_r0 v659_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v661_r0 : BitVec 1 := Scalar.ori v660_r0 v218_r0
  let c0_i32_567_r0 : BitVec 32 := 0#32
  let v662_r0 : BitVec 1 := Scalar.cmpi .sge arg16_r0 c0_i32_567_r0
  let v663_r0 : BitVec 1 := Scalar.andi v661_r0 v662_r0
  let v664_r0 : BitVec 32 := Scalar.extui v663_r0
  let c0_i32_568_r0 : BitVec 32 := 0#32
  let v665_r0 : BitVec 1 := Scalar.cmpi .ne v664_r0 c0_i32_568_r0
  v665_r0

def k0_off89 (arg46_r0 : BitVec 32) : Fin 4 → Nat :=
  let c2_i32_705_r0 : BitVec 32 := 2#32
  let v1024_r0 : BitVec 32 := Scalar.remui arg46_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off90 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c0_i32_709_r0 : BitVec 32 := 0#32
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c3_i32_701_r0 : BitVec 32 := 3#32
  let v1020_r0 : BitVec 32 := Scalar.addi v1019_r0 c3_i32_701_r0
  let c10_i32_702_r0 : BitVec 32 := 10#32
  let v1021_r0 : BitVec 32 := Scalar.minsi v1020_r0 c10_i32_702_r0
  let v1023_r0 : BitVec 32 := Scalar.muli c256_i32_704_r0 v1021_r0
  ![v1022_r0.toNat, 0, v1023_r0.toNat]
def k0_off91 (arg48_r0 : BitVec 32) : Fin 1 → Nat :=
  let c2_i32_705_r0 : BitVec 32 := 2#32
  let v1024_r0 : BitVec 32 := Scalar.remui arg48_r0 c2_i32_705_r0
  ![v1024_r0.toNat]
def k0_cond28 (k0_t1 : Fin k0_t1_loop.trips) (arg51_r0 : BitVec 32) (arg52_r0 : BitVec 32) : BitVec 1 :=
  let c0_i32_483_r0 : BitVec 32 := 0#32
  let c0_i32_282_r0 : BitVec 32 := 0#32
  let v220_r0 : BitVec 32 := Scalar.addi arg51_r0 c0_i32_282_r0
  let v498_r0 : BitVec 32 := Scalar.addi c0_i32_483_r0 v220_r0
  let c0_i32_569_r0 : BitVec 32 := 0#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v666_r0 : BitVec 32 := Scalar.addi c0_i32_569_r0 v230_r0
  let v670_r0 : BitVec 1 := Scalar.cmpi .ne v498_r0 v666_r0
  let c4_i32_484_r0 : BitVec 32 := 4#32
  let c0_i32_283_r0 : BitVec 32 := 0#32
  let v221_r0 : BitVec 32 := Scalar.addi arg52_r0 c0_i32_283_r0
  let v499_r0 : BitVec 32 := Scalar.muli c4_i32_484_r0 v221_r0
  let c3_i32_485_r0 : BitVec 32 := 3#32
  let v500_r0 : BitVec 32 := Scalar.addi v499_r0 c3_i32_485_r0
  let c10_i32_486_r0 : BitVec 32 := 10#32
  let v501_r0 : BitVec 32 := Scalar.minsi v500_r0 c10_i32_486_r0
  let c4_i32_570_r0 : BitVec 32 := 4#32
  let c2_i32_287_r0 : BitVec 32 := 2#32
  let v225_r0 : BitVec 32 := Scalar.select v224_r0 c2_i32_287_r0 v223_r0
  let c0_i32_292_r0 : BitVec 32 := 0#32
  let v231_r0 : BitVec 32 := Scalar.addi v225_r0 c0_i32_292_r0
  let v667_r0 : BitVec 32 := Scalar.muli c4_i32_570_r0 v231_r0
  let c3_i32_571_r0 : BitVec 32 := 3#32
  let v668_r0 : BitVec 32 := Scalar.addi v667_r0 c3_i32_571_r0
  let c10_i32_572_r0 : BitVec 32 := 10#32
  let v669_r0 : BitVec 32 := Scalar.minsi v668_r0 c10_i32_572_r0
  let v671_r0 : BitVec 1 := Scalar.cmpi .ne v501_r0 v669_r0
  let v672_r0 : BitVec 1 := Scalar.ori v670_r0 v671_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let v673_r0 : BitVec 1 := Scalar.ori v672_r0 v218_r0
  let c0_i32_573_r0 : BitVec 32 := 0#32
  let v674_r0 : BitVec 1 := Scalar.cmpi .sge arg16_r0 c0_i32_573_r0
  let v675_r0 : BitVec 1 := Scalar.andi v673_r0 v674_r0
  let v676_r0 : BitVec 32 := Scalar.extui v675_r0
  let c0_i32_574_r0 : BitVec 32 := 0#32
  let v677_r0 : BitVec 1 := Scalar.cmpi .ne v676_r0 c0_i32_574_r0
  v677_r0

def k0_off92 (arg48_r0 : BitVec 32) : Fin 4 → Nat :=
  let c2_i32_705_r0 : BitVec 32 := 2#32
  let v1024_r0 : BitVec 32 := Scalar.remui arg48_r0 c2_i32_705_r0
  let c0_i32_706_r0 : BitVec 32 := 0#32
  let c0_i32_707_r0 : BitVec 32 := 0#32
  let c0_i32_708_r0 : BitVec 32 := 0#32
  ![v1024_r0.toNat, 0, 0, 0]
def k0_off93 (arg51_r0 : BitVec 32) (arg52_r0 : BitVec 32) : Fin 3 → Nat :=
  let c1_i32_703_r0 : BitVec 32 := 1#32
  let c0_i32_699_r0 : BitVec 32 := 0#32
  let c0_i32_282_r0 : BitVec 32 := 0#32
  let v220_r0 : BitVec 32 := Scalar.addi arg51_r0 c0_i32_282_r0
  let v1018_r0 : BitVec 32 := Scalar.addi c0_i32_699_r0 v220_r0
  let v1022_r0 : BitVec 32 := Scalar.muli c1_i32_703_r0 v1018_r0
  let c256_i32_704_r0 : BitVec 32 := 256#32
  let c4_i32_700_r0 : BitVec 32 := 4#32
  let c0_i32_283_r0 : BitVec 32 := 0#32
  let v221_r0 : BitVec 32 := Scalar.addi arg52_r0 c0_i32_283_r0
  let v1019_r0 : BitVec 32 := Scalar.muli c4_i32_700_r0 v221_r0
  let c3_i32_701_r0 : BitVec 32 := 3#32
  let v1020_r0 : BitVec 32 := Scalar.addi v1019_r0 c3_i32_701_r0
  let c10_i32_702_r0 : BitVec 32 := 10#32
  let v1021_r0 : BitVec 32 := Scalar.minsi v1020_r0 c10_i32_702_r0
  let v1023_r0 : BitVec 32 := Scalar.muli c256_i32_704_r0 v1021_r0
  let c0_i32_709_r0 : BitVec 32 := 0#32
  ![v1022_r0.toNat, v1023_r0.toNat, 0]
def k0_off94 (arg26_r0 : BitVec 32) : Fin 4 → Nat :=
  let c2_i32_579_r0 : BitVec 32 := 2#32
  let v686_r0 : BitVec 32 := Scalar.remui arg26_r0 c2_i32_579_r0
  let c0_i32_699_r0 : BitVec 32 := 0#32
  let c0_i32_700_r0 : BitVec 32 := 0#32
  let c0_i32_701_r0 : BitVec 32 := 0#32
  ![v686_r0.toNat, 0, 0, 0]
def k0_cond31 (arg52_r0 : BitVec 32) : BitVec 1 :=
  let c0_i32_283_r0 : BitVec 32 := 0#32
  let v221_r0 : BitVec 32 := Scalar.addi arg52_r0 c0_i32_283_r0
  let c2_i32_595_r0 : BitVec 32 := 2#32
  let v704_r0 : BitVec 1 := Scalar.cmpi .slt v221_r0 c2_i32_595_r0
  let v705_r0 : BitVec 32 := Scalar.extui v704_r0
  let c0_i32_596_r0 : BitVec 32 := 0#32
  let v706_r0 : BitVec 1 := Scalar.cmpi .ne v705_r0 c0_i32_596_r0
  v706_r0

def k0_off95 (arg32_r0 : BitVec 32) : Fin 4 → Nat :=
  let c2_i32_582_r0 : BitVec 32 := 2#32
  let v689_r0 : BitVec 32 := Scalar.remui arg32_r0 c2_i32_582_r0
  let c0_i32_704_r0 : BitVec 32 := 0#32
  let c0_i32_705_r0 : BitVec 32 := 0#32
  let c0_i32_706_r0 : BitVec 32 := 0#32
  ![v689_r0.toNat, 0, 0, 0]
def k0_off96 (arg38_r0 : BitVec 32) : Fin 4 → Nat :=
  let c2_i32_585_r0 : BitVec 32 := 2#32
  let v692_r0 : BitVec 32 := Scalar.remui arg38_r0 c2_i32_585_r0
  let c0_i32_710_r0 : BitVec 32 := 0#32
  let c0_i32_711_r0 : BitVec 32 := 0#32
  let c0_i32_712_r0 : BitVec 32 := 0#32
  ![v692_r0.toNat, 0, 0, 0]
def k0_off97 (arg44_r0 : BitVec 32) : Fin 4 → Nat :=
  let c2_i32_588_r0 : BitVec 32 := 2#32
  let v695_r0 : BitVec 32 := Scalar.remui arg44_r0 c2_i32_588_r0
  let c0_i32_716_r0 : BitVec 32 := 0#32
  let c0_i32_717_r0 : BitVec 32 := 0#32
  let c0_i32_718_r0 : BitVec 32 := 0#32
  ![v695_r0.toNat, 0, 0, 0]
def k0_off98 (arg28_r0 : BitVec 32) : Fin 4 → Nat :=
  let c2_i32_580_r0 : BitVec 32 := 2#32
  let v687_r0 : BitVec 32 := Scalar.remui arg28_r0 c2_i32_580_r0
  let c0_i32_722_r0 : BitVec 32 := 0#32
  let c0_i32_723_r0 : BitVec 32 := 0#32
  let c0_i32_724_r0 : BitVec 32 := 0#32
  ![v687_r0.toNat, 0, 0, 0]
def k0_off99 (arg34_r0 : BitVec 32) : Fin 4 → Nat :=
  let c2_i32_583_r0 : BitVec 32 := 2#32
  let v690_r0 : BitVec 32 := Scalar.remui arg34_r0 c2_i32_583_r0
  let c0_i32_728_r0 : BitVec 32 := 0#32
  let c0_i32_729_r0 : BitVec 32 := 0#32
  let c0_i32_730_r0 : BitVec 32 := 0#32
  ![v690_r0.toNat, 0, 0, 0]
def k0_off100 (arg40_r0 : BitVec 32) : Fin 4 → Nat :=
  let c2_i32_586_r0 : BitVec 32 := 2#32
  let v693_r0 : BitVec 32 := Scalar.remui arg40_r0 c2_i32_586_r0
  let c0_i32_734_r0 : BitVec 32 := 0#32
  let c0_i32_735_r0 : BitVec 32 := 0#32
  let c0_i32_736_r0 : BitVec 32 := 0#32
  ![v693_r0.toNat, 0, 0, 0]
def k0_off101 (arg46_r0 : BitVec 32) : Fin 4 → Nat :=
  let c2_i32_589_r0 : BitVec 32 := 2#32
  let v696_r0 : BitVec 32 := Scalar.remui arg46_r0 c2_i32_589_r0
  let c0_i32_740_r0 : BitVec 32 := 0#32
  let c0_i32_741_r0 : BitVec 32 := 0#32
  let c0_i32_742_r0 : BitVec 32 := 0#32
  ![v696_r0.toNat, 0, 0, 0]
def k0_off102 (arg30_r0 : BitVec 32) : Fin 4 → Nat :=
  let c2_i32_581_r0 : BitVec 32 := 2#32
  let v688_r0 : BitVec 32 := Scalar.remui arg30_r0 c2_i32_581_r0
  let c0_i32_746_r0 : BitVec 32 := 0#32
  let c0_i32_747_r0 : BitVec 32 := 0#32
  let c0_i32_748_r0 : BitVec 32 := 0#32
  ![v688_r0.toNat, 0, 0, 0]
def k0_off103 (arg36_r0 : BitVec 32) : Fin 4 → Nat :=
  let c2_i32_584_r0 : BitVec 32 := 2#32
  let v691_r0 : BitVec 32 := Scalar.remui arg36_r0 c2_i32_584_r0
  let c0_i32_752_r0 : BitVec 32 := 0#32
  let c0_i32_753_r0 : BitVec 32 := 0#32
  let c0_i32_754_r0 : BitVec 32 := 0#32
  ![v691_r0.toNat, 0, 0, 0]
def k0_off104 (arg42_r0 : BitVec 32) : Fin 4 → Nat :=
  let c2_i32_587_r0 : BitVec 32 := 2#32
  let v694_r0 : BitVec 32 := Scalar.remui arg42_r0 c2_i32_587_r0
  let c0_i32_758_r0 : BitVec 32 := 0#32
  let c0_i32_759_r0 : BitVec 32 := 0#32
  let c0_i32_760_r0 : BitVec 32 := 0#32
  ![v694_r0.toNat, 0, 0, 0]
def k0_off105 (arg48_r0 : BitVec 32) : Fin 4 → Nat :=
  let c2_i32_590_r0 : BitVec 32 := 2#32
  let v697_r0 : BitVec 32 := Scalar.remui arg48_r0 c2_i32_590_r0
  let c0_i32_764_r0 : BitVec 32 := 0#32
  let c0_i32_765_r0 : BitVec 32 := 0#32
  let c0_i32_766_r0 : BitVec 32 := 0#32
  ![v697_r0.toNat, 0, 0, 0]
def k0_off106 (arg18_r0 : BitVec 32) : Fin 5 → Nat :=
  let c2_i32_577_r0 : BitVec 32 := 2#32
  let v684_r0 : BitVec 32 := Scalar.remui arg18_r0 c2_i32_577_r0
  let c0_i32_770_r0 : BitVec 32 := 0#32
  let c0_i32_771_r0 : BitVec 32 := 0#32
  let c0_i32_772_r0 : BitVec 32 := 0#32
  let c0_i32_773_r0 : BitVec 32 := 0#32
  ![v684_r0.toNat, 0, 0, 0, 0]
def k0_off107 (arg26_r0 : BitVec 32) : Fin 4 → Nat :=
  let c2_i32_579_r0 : BitVec 32 := 2#32
  let v686_r0 : BitVec 32 := Scalar.remui arg26_r0 c2_i32_579_r0
  let c0_i32_699_r0 : BitVec 32 := 0#32
  let c0_i32_700_r0 : BitVec 32 := 0#32
  let c0_i32_701_r0 : BitVec 32 := 0#32
  ![v686_r0.toNat, 0, 0, 0]
def k0_cond32 (arg52_r0 : BitVec 32) : BitVec 1 :=
  let c0_i32_283_r0 : BitVec 32 := 0#32
  let v221_r0 : BitVec 32 := Scalar.addi arg52_r0 c0_i32_283_r0
  let c2_i32_597_r0 : BitVec 32 := 2#32
  let v707_r0 : BitVec 1 := Scalar.cmpi .eq v221_r0 c2_i32_597_r0
  let v708_r0 : BitVec 32 := Scalar.extui v707_r0
  let c0_i32_598_r0 : BitVec 32 := 0#32
  let v709_r0 : BitVec 1 := Scalar.cmpi .ne v708_r0 c0_i32_598_r0
  v709_r0

def k0_off108 (arg32_r0 : BitVec 32) : Fin 4 → Nat :=
  let c2_i32_582_r0 : BitVec 32 := 2#32
  let v689_r0 : BitVec 32 := Scalar.remui arg32_r0 c2_i32_582_r0
  let c0_i32_704_r0 : BitVec 32 := 0#32
  let c0_i32_705_r0 : BitVec 32 := 0#32
  let c0_i32_706_r0 : BitVec 32 := 0#32
  ![v689_r0.toNat, 0, 0, 0]
def k0_off109 (arg38_r0 : BitVec 32) : Fin 4 → Nat :=
  let c2_i32_585_r0 : BitVec 32 := 2#32
  let v692_r0 : BitVec 32 := Scalar.remui arg38_r0 c2_i32_585_r0
  let c0_i32_710_r0 : BitVec 32 := 0#32
  let c0_i32_711_r0 : BitVec 32 := 0#32
  let c0_i32_712_r0 : BitVec 32 := 0#32
  ![v692_r0.toNat, 0, 0, 0]
def k0_off110 (arg28_r0 : BitVec 32) : Fin 4 → Nat :=
  let c2_i32_580_r0 : BitVec 32 := 2#32
  let v687_r0 : BitVec 32 := Scalar.remui arg28_r0 c2_i32_580_r0
  let c0_i32_716_r0 : BitVec 32 := 0#32
  let c0_i32_717_r0 : BitVec 32 := 0#32
  let c0_i32_718_r0 : BitVec 32 := 0#32
  ![v687_r0.toNat, 0, 0, 0]
def k0_off111 (arg34_r0 : BitVec 32) : Fin 4 → Nat :=
  let c2_i32_583_r0 : BitVec 32 := 2#32
  let v690_r0 : BitVec 32 := Scalar.remui arg34_r0 c2_i32_583_r0
  let c0_i32_722_r0 : BitVec 32 := 0#32
  let c0_i32_723_r0 : BitVec 32 := 0#32
  let c0_i32_724_r0 : BitVec 32 := 0#32
  ![v690_r0.toNat, 0, 0, 0]
def k0_off112 (arg40_r0 : BitVec 32) : Fin 4 → Nat :=
  let c2_i32_586_r0 : BitVec 32 := 2#32
  let v693_r0 : BitVec 32 := Scalar.remui arg40_r0 c2_i32_586_r0
  let c0_i32_728_r0 : BitVec 32 := 0#32
  let c0_i32_729_r0 : BitVec 32 := 0#32
  let c0_i32_730_r0 : BitVec 32 := 0#32
  ![v693_r0.toNat, 0, 0, 0]
def k0_off113 (arg30_r0 : BitVec 32) : Fin 4 → Nat :=
  let c2_i32_581_r0 : BitVec 32 := 2#32
  let v688_r0 : BitVec 32 := Scalar.remui arg30_r0 c2_i32_581_r0
  let c0_i32_734_r0 : BitVec 32 := 0#32
  let c0_i32_735_r0 : BitVec 32 := 0#32
  let c0_i32_736_r0 : BitVec 32 := 0#32
  ![v688_r0.toNat, 0, 0, 0]
def k0_off114 (arg36_r0 : BitVec 32) : Fin 4 → Nat :=
  let c2_i32_584_r0 : BitVec 32 := 2#32
  let v691_r0 : BitVec 32 := Scalar.remui arg36_r0 c2_i32_584_r0
  let c0_i32_740_r0 : BitVec 32 := 0#32
  let c0_i32_741_r0 : BitVec 32 := 0#32
  let c0_i32_742_r0 : BitVec 32 := 0#32
  ![v691_r0.toNat, 0, 0, 0]
def k0_off115 (arg42_r0 : BitVec 32) : Fin 4 → Nat :=
  let c2_i32_587_r0 : BitVec 32 := 2#32
  let v694_r0 : BitVec 32 := Scalar.remui arg42_r0 c2_i32_587_r0
  let c0_i32_746_r0 : BitVec 32 := 0#32
  let c0_i32_747_r0 : BitVec 32 := 0#32
  let c0_i32_748_r0 : BitVec 32 := 0#32
  ![v694_r0.toNat, 0, 0, 0]
def k0_off116 (arg18_r0 : BitVec 32) : Fin 5 → Nat :=
  let c2_i32_577_r0 : BitVec 32 := 2#32
  let v684_r0 : BitVec 32 := Scalar.remui arg18_r0 c2_i32_577_r0
  let c0_i32_752_r0 : BitVec 32 := 0#32
  let c0_i32_753_r0 : BitVec 32 := 0#32
  let c0_i32_754_r0 : BitVec 32 := 0#32
  let c0_i32_755_r0 : BitVec 32 := 0#32
  ![v684_r0.toNat, 0, 0, 0, 0]
def k0_off117 (arg22_r0 : BitVec 32) : Fin 5 → Nat :=
  let c2_i32_578_r0 : BitVec 32 := 2#32
  let v685_r0 : BitVec 32 := Scalar.remui arg22_r0 c2_i32_578_r0
  let c0_i32_699_r0 : BitVec 32 := 0#32
  let c0_i32_700_r0 : BitVec 32 := 0#32
  let c0_i32_701_r0 : BitVec 32 := 0#32
  let c0_i32_702_r0 : BitVec 32 := 0#32
  ![v685_r0.toNat, 0, 0, 0, 0]
def k0_cond33 (arg52_r0 : BitVec 32) : BitVec 1 :=
  let c0_i32_283_r0 : BitVec 32 := 0#32
  let v221_r0 : BitVec 32 := Scalar.addi arg52_r0 c0_i32_283_r0
  let c2_i32_599_r0 : BitVec 32 := 2#32
  let v710_r0 : BitVec 1 := Scalar.cmpi .eq v221_r0 c2_i32_599_r0
  let v711_r0 : BitVec 32 := Scalar.extui v710_r0
  let c0_i32_600_r0 : BitVec 32 := 0#32
  let v712_r0 : BitVec 1 := Scalar.cmpi .ne v711_r0 c0_i32_600_r0
  v712_r0

def k0_off118 (arg49_r0 : BitVec 32) : Fin 5 → Nat :=
  let c2_i32_591_r0 : BitVec 32 := 2#32
  let v698_r0 : BitVec 32 := Scalar.remui arg49_r0 c2_i32_591_r0
  let c0_i32_708_r0 : BitVec 32 := 0#32
  let c0_i32_709_r0 : BitVec 32 := 0#32
  let c0_i32_710_r0 : BitVec 32 := 0#32
  let c0_i32_711_r0 : BitVec 32 := 0#32
  ![v698_r0.toNat, 0, 0, 0, 0]
def k0_off119 (arg49_r0 : BitVec 32) : Fin 1 → Nat :=
  let c2_i32_699_r0 : BitVec 32 := 2#32
  let v1018_r0 : BitVec 32 := Scalar.remui arg49_r0 c2_i32_699_r0
  ![v1018_r0.toNat]
def k0_cond48 (k0_t1 : Fin k0_t1_loop.trips) (arg51_r0 : BitVec 32) (arg52_r0 : BitVec 32) : BitVec 1 :=
  let c0_i32_282_r0 : BitVec 32 := 0#32
  let v220_r0 : BitVec 32 := Scalar.addi arg51_r0 c0_i32_282_r0
  let true_294_r0 : BitVec 1 := 1#1
  let c1_i32_293_r0 : BitVec 32 := 1#32
  let v232_r0 : BitVec 32 := Scalar.addi arg52_r0 c1_i32_293_r0
  let v233_r0 : BitVec 32 := Scalar.select true_294_r0 v232_r0 arg52_r0
  let c3_i32_295_r0 : BitVec 32 := 3#32
  let v234_r0 : BitVec 1 := Scalar.cmpi .eq v233_r0 c3_i32_295_r0
  let c1_i32_297_r0 : BitVec 32 := 1#32
  let v236_r0 : BitVec 32 := Scalar.addi arg51_r0 c1_i32_297_r0
  let v237_r0 : BitVec 32 := Scalar.select v234_r0 v236_r0 arg51_r0
  let c16_i32_298_r0 : BitVec 32 := 16#32
  let v238_r0 : BitVec 1 := Scalar.cmpi .eq v237_r0 c16_i32_298_r0
  let c0_i32_299_r0 : BitVec 32 := 0#32
  let v239_r0 : BitVec 32 := Scalar.select v238_r0 c0_i32_299_r0 v237_r0
  let c0_i32_300_r0 : BitVec 32 := 0#32
  let v240_r0 : BitVec 32 := Scalar.addi v239_r0 c0_i32_300_r0
  let v807_r0 : BitVec 1 := Scalar.cmpi .ne v220_r0 v240_r0
  let c0_i32_233_r0 : BitVec 32 := 0#32
  let c1_i32_234_r0 : BitVec 32 := 1#32
  let arg16_r0 : BitVec 32 := Scf.iv c0_i32_233_r0 c1_i32_234_r0 k0_t1
  let c47_i32_r0 : BitVec 32 := 47#32
  let v219_r0 : BitVec 1 := Scalar.cmpi .eq arg16_r0 c47_i32_r0
  let v808_r0 : BitVec 1 := Scalar.ori v807_r0 v219_r0
  let v809_r0 : BitVec 32 := Scalar.extui v808_r0
  let c0_i32_629_r0 : BitVec 32 := 0#32
  let v810_r0 : BitVec 1 := Scalar.cmpi .ne v809_r0 c0_i32_629_r0
  v810_r0

def k0_off120 (arg51_r0 : BitVec 32) : Fin 4 → Nat :=
  let c0_i32_701_r0 : BitVec 32 := 0#32
  let c1_i32_700_r0 : BitVec 32 := 1#32
  let c0_i32_282_r0 : BitVec 32 := 0#32
  let v220_r0 : BitVec 32 := Scalar.addi arg51_r0 c0_i32_282_r0
  let v1019_r0 : BitVec 32 := Scalar.muli c1_i32_700_r0 v220_r0
  let c0_i32_702_r0 : BitVec 32 := 0#32
  let c0_i32_703_r0 : BitVec 32 := 0#32
  ![0, v1019_r0.toNat, 0, 0]
def k0_off121 (arg49_r0 : BitVec 32) : Fin 5 → Nat :=
  let c2_i32_699_r0 : BitVec 32 := 2#32
  let v1018_r0 : BitVec 32 := Scalar.remui arg49_r0 c2_i32_699_r0
  let c0_i32_704_r0 : BitVec 32 := 0#32
  let c0_i32_705_r0 : BitVec 32 := 0#32
  let c0_i32_706_r0 : BitVec 32 := 0#32
  let c0_i32_707_r0 : BitVec 32 := 0#32
  ![v1018_r0.toNat, 0, 0, 0, 0]
def k0_off122 (arg50_r0 : BitVec 32) : Fin 1 → Nat :=
  let c2_i32_699_r0 : BitVec 32 := 2#32
  let v1018_r0 : BitVec 32 := Scalar.remui arg50_r0 c2_i32_699_r0
  ![v1018_r0.toNat]
def k0_cond63 (k0_t1 : Fin k0_t1_loop.trips) (arg51_r0 : BitVec 32) (arg52_r0 : BitVec 32) : BitVec 1 :=
  let c0_i32_282_r0 : BitVec 32 := 0#32
  let v220_r0 : BitVec 32 := Scalar.addi arg51_r0 c0_i32_282_r0
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v922_r0 : BitVec 1 := Scalar.cmpi .ne v220_r0 v230_r0
  let c0_i32_233_r0 : BitVec 32 := 0#32
  let c1_i32_234_r0 : BitVec 32 := 1#32
  let arg16_r0 : BitVec 32 := Scf.iv c0_i32_233_r0 c1_i32_234_r0 k0_t1
  let c0_i32_281_r0 : BitVec 32 := 0#32
  let v218_r0 : BitVec 1 := Scalar.cmpi .eq arg16_r0 c0_i32_281_r0
  let true_674_r0 : BitVec 1 := 1#1
  let v923_r0 : BitVec 1 := Scalar.xori v218_r0 true_674_r0
  let v924_r0 : BitVec 1 := Scalar.andi v922_r0 v923_r0
  let v925_r0 : BitVec 32 := Scalar.extui v924_r0
  let c0_i32_675_r0 : BitVec 32 := 0#32
  let v926_r0 : BitVec 1 := Scalar.cmpi .ne v925_r0 c0_i32_675_r0
  v926_r0

def k0_off123 (arg51_r0 : BitVec 32) (arg52_r0 : BitVec 32) : Fin 4 → Nat :=
  let c0_i32_701_r0 : BitVec 32 := 0#32
  let c1_i32_700_r0 : BitVec 32 := 1#32
  let true_285_r0 : BitVec 1 := 1#1
  let c1_i32_284_r0 : BitVec 32 := 1#32
  let v222_r0 : BitVec 32 := Scalar.subi arg52_r0 c1_i32_284_r0
  let v223_r0 : BitVec 32 := Scalar.select true_285_r0 v222_r0 arg52_r0
  let c_m1_i32_286_r0 : BitVec 32 := 4294967295#32
  let v224_r0 : BitVec 1 := Scalar.cmpi .eq v223_r0 c_m1_i32_286_r0
  let c1_i32_288_r0 : BitVec 32 := 1#32
  let v226_r0 : BitVec 32 := Scalar.subi arg51_r0 c1_i32_288_r0
  let v227_r0 : BitVec 32 := Scalar.select v224_r0 v226_r0 arg51_r0
  let c_m1_i32_289_r0 : BitVec 32 := 4294967295#32
  let v228_r0 : BitVec 1 := Scalar.cmpi .eq v227_r0 c_m1_i32_289_r0
  let c15_i32_290_r0 : BitVec 32 := 15#32
  let v229_r0 : BitVec 32 := Scalar.select v228_r0 c15_i32_290_r0 v227_r0
  let c0_i32_291_r0 : BitVec 32 := 0#32
  let v230_r0 : BitVec 32 := Scalar.addi v229_r0 c0_i32_291_r0
  let v1019_r0 : BitVec 32 := Scalar.muli c1_i32_700_r0 v230_r0
  let c0_i32_702_r0 : BitVec 32 := 0#32
  let c0_i32_703_r0 : BitVec 32 := 0#32
  ![0, v1019_r0.toNat, 0, 0]
def k0_off124 (arg50_r0 : BitVec 32) : Fin 5 → Nat :=
  let c2_i32_699_r0 : BitVec 32 := 2#32
  let v1018_r0 : BitVec 32 := Scalar.remui arg50_r0 c2_i32_699_r0
  let c0_i32_704_r0 : BitVec 32 := 0#32
  let c0_i32_705_r0 : BitVec 32 := 0#32
  let c0_i32_706_r0 : BitVec 32 := 0#32
  let c0_i32_707_r0 : BitVec 32 := 0#32
  ![v1018_r0.toNat, 0, 0, 0, 0]

def k0_chk5_0 (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) : Prop :=
  (∀ (k0_h3 : k0_cond3 k0_t1 arg51_r0 arg52_r0 = 1#1), ∀ a, (k0_off16 arg25_r0) a + S1.size a ≤ S2.size a) ∧
  (∀ (k0_h3 : k0_cond3 k0_t1 arg51_r0 arg52_r0 = 1#1), ∀ a, (k0_off17 arg25_r0) a + S1x1x1024x256.size a ≤ S2x1x1024x256.size a) ∧
  (∀ (k0_h3 : k0_cond3 k0_t1 arg51_r0 arg52_r0 = 1#1), ∀ a, (k0_off18 arg51_r0 arg52_r0) a + S1x1024x256.size a ≤ S16x1024x2816.size a) ∧
  (∀ (k0_h4 : k0_cond4 k0_t1 arg51_r0 arg52_r0 = 1#1), ∀ a, (k0_off19 arg27_r0) a + S1.size a ≤ S2.size a) ∧
  (∀ (k0_h4 : k0_cond4 k0_t1 arg51_r0 arg52_r0 = 1#1), ∀ a, (k0_off20 arg27_r0) a + S1x1x1024x256.size a ≤ S2x1x1024x256.size a) ∧
  (∀ (k0_h4 : k0_cond4 k0_t1 arg51_r0 arg52_r0 = 1#1), ∀ a, (k0_off21 arg51_r0 arg52_r0) a + S1x1024x256.size a ≤ S16x1024x2816.size a) ∧
  (∀ (k0_h5 : k0_cond5 k0_t1 arg51_r0 arg52_r0 = 1#1), ∀ a, (k0_off22 arg29_r0) a + S1.size a ≤ S2.size a) ∧
  (∀ (k0_h5 : k0_cond5 k0_t1 arg51_r0 arg52_r0 = 1#1), ∀ a, (k0_off23 arg29_r0) a + S1x1x256x1024.size a ≤ S2x1x256x1024.size a) ∧
  (∀ (k0_h5 : k0_cond5 k0_t1 arg51_r0 arg52_r0 = 1#1), ∀ a, (k0_off24 arg51_r0 arg52_r0) a + S1x256x1024.size a ≤ S16x2816x1024.size a) ∧
  (∀ (k0_h6 : k0_cond6 k0_t1 arg51_r0 arg52_r0 = 1#1), ∀ a, (k0_off25 arg31_r0) a + S1.size a ≤ S2.size a) ∧
  (∀ (k0_h6 : k0_cond6 k0_t1 arg51_r0 arg52_r0 = 1#1), ∀ a, (k0_off26 arg31_r0) a + S1x1x1024x256.size a ≤ S2x1x1024x256.size a) ∧
  (∀ (k0_h6 : k0_cond6 k0_t1 arg51_r0 arg52_r0 = 1#1), ∀ a, (k0_off27 arg51_r0 arg52_r0) a + S1x1024x256.size a ≤ S16x1024x2816.size a) ∧
  (∀ (k0_h7 : k0_cond7 k0_t1 arg51_r0 arg52_r0 = 1#1), ∀ a, (k0_off28 arg33_r0) a + S1.size a ≤ S2.size a) ∧
  (∀ (k0_h7 : k0_cond7 k0_t1 arg51_r0 arg52_r0 = 1#1), ∀ a, (k0_off29 arg33_r0) a + S1x1x1024x256.size a ≤ S2x1x1024x256.size a) ∧
  (∀ (k0_h7 : k0_cond7 k0_t1 arg51_r0 arg52_r0 = 1#1), ∀ a, (k0_off30 arg51_r0 arg52_r0) a + S1x1024x256.size a ≤ S16x1024x2816.size a) ∧
  (∀ (k0_h8 : k0_cond8 k0_t1 arg51_r0 arg52_r0 = 1#1), ∀ a, (k0_off31 arg35_r0) a + S1.size a ≤ S2.size a) ∧
  (∀ (k0_h8 : k0_cond8 k0_t1 arg51_r0 arg52_r0 = 1#1), ∀ a, (k0_off32 arg35_r0) a + S1x1x256x1024.size a ≤ S2x1x256x1024.size a) ∧
  (∀ (k0_h8 : k0_cond8 k0_t1 arg51_r0 arg52_r0 = 1#1), ∀ a, (k0_off33 arg51_r0 arg52_r0) a + S1x256x1024.size a ≤ S16x2816x1024.size a) ∧
  (∀ (k0_h9 : k0_cond9 k0_t1 arg51_r0 arg52_r0 = 1#1), ∀ a, (k0_off34 arg37_r0) a + S1.size a ≤ S2.size a) ∧
  (∀ (k0_h9 : k0_cond9 k0_t1 arg51_r0 arg52_r0 = 1#1), ∀ a, (k0_off35 arg37_r0) a + S1x1x1024x256.size a ≤ S2x1x1024x256.size a) ∧
  (∀ (k0_h9 : k0_cond9 k0_t1 arg51_r0 arg52_r0 = 1#1), ∀ a, (k0_off36 arg51_r0 arg52_r0) a + S1x1024x256.size a ≤ S16x1024x2816.size a) ∧
  (∀ (k0_h10 : k0_cond10 k0_t1 arg51_r0 arg52_r0 = 1#1), ∀ a, (k0_off37 arg39_r0) a + S1.size a ≤ S2.size a) ∧
  (∀ (k0_h10 : k0_cond10 k0_t1 arg51_r0 arg52_r0 = 1#1), ∀ a, (k0_off38 arg39_r0) a + S1x1x1024x256.size a ≤ S2x1x1024x256.size a) ∧
  (∀ (k0_h10 : k0_cond10 k0_t1 arg51_r0 arg52_r0 = 1#1), ∀ a, (k0_off39 arg51_r0 arg52_r0) a + S1x1024x256.size a ≤ S16x1024x2816.size a) ∧
  (∀ (k0_h11 : k0_cond11 k0_t1 arg51_r0 arg52_r0 = 1#1), ∀ a, (k0_off40 arg41_r0) a + S1.size a ≤ S2.size a) ∧
  (∀ (k0_h11 : k0_cond11 k0_t1 arg51_r0 arg52_r0 = 1#1), ∀ a, (k0_off41 arg41_r0) a + S1x1x256x1024.size a ≤ S2x1x256x1024.size a) ∧
  (∀ (k0_h11 : k0_cond11 k0_t1 arg51_r0 arg52_r0 = 1#1), ∀ a, (k0_off42 arg51_r0 arg52_r0) a + S1x256x1024.size a ≤ S16x2816x1024.size a) ∧
  (∀ (k0_h12 : k0_cond12 k0_t1 arg51_r0 arg52_r0 = 1#1), ∀ a, (k0_off43 arg43_r0) a + S1.size a ≤ S2.size a) ∧
  (∀ (k0_h12 : k0_cond12 k0_t1 arg51_r0 arg52_r0 = 1#1), ∀ a, (k0_off44 arg43_r0) a + S1x1x1024x256.size a ≤ S2x1x1024x256.size a) ∧
  (∀ (k0_h12 : k0_cond12 k0_t1 arg51_r0 arg52_r0 = 1#1), ∀ a, (k0_off45 arg51_r0 arg52_r0) a + S1x1024x256.size a ≤ S16x1024x2816.size a) ∧
  (∀ (k0_h13 : k0_cond13 k0_t1 arg51_r0 arg52_r0 = 1#1), ∀ a, (k0_off46 arg45_r0) a + S1.size a ≤ S2.size a) ∧
  (∀ (k0_h13 : k0_cond13 k0_t1 arg51_r0 arg52_r0 = 1#1), ∀ a, (k0_off47 arg45_r0) a + S1x1x1024x256.size a ≤ S2x1x1024x256.size a)
def k0_chk5_1 (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) : Prop :=
  (∀ (k0_h13 : k0_cond13 k0_t1 arg51_r0 arg52_r0 = 1#1), ∀ a, (k0_off48 arg51_r0 arg52_r0) a + S1x1024x256.size a ≤ S16x1024x2816.size a) ∧
  (∀ (k0_h14 : k0_cond14 k0_t1 arg51_r0 arg52_r0 = 1#1), ∀ a, (k0_off49 arg47_r0) a + S1.size a ≤ S2.size a) ∧
  (∀ (k0_h14 : k0_cond14 k0_t1 arg51_r0 arg52_r0 = 1#1), ∀ a, (k0_off50 arg47_r0) a + S1x1x256x1024.size a ≤ S2x1x256x1024.size a) ∧
  (∀ (k0_h14 : k0_cond14 k0_t1 arg51_r0 arg52_r0 = 1#1), ∀ a, (k0_off51 arg51_r0 arg52_r0) a + S1x256x1024.size a ≤ S16x2816x1024.size a) ∧
  (∀ (k0_h15 : k0_cond15 k0_t1 arg51_r0 arg52_r0 = 1#1), ∀ a, (k0_off52 arg18_r0) a + S1.size a ≤ S2.size a) ∧
  (∀ (k0_h15 : k0_cond15 k0_t1 arg51_r0 arg52_r0 = 1#1), ∀ a, (k0_off53 arg18_r0) a + S1x2x1x1024x1024.size a ≤ S2x2x1x1024x1024.size a) ∧
  (∀ (k0_h15 : k0_cond15 k0_t1 arg51_r0 arg52_r0 = 1#1), ∀ a, (k0_off54 arg51_r0) a + S2x1x1024x1024.size a ≤ S2x16x1024x1024.size a) ∧
  (∀ (k0_h15 : k0_cond15 k0_t1 arg51_r0 arg52_r0 = 1#1), ∀ (hinb : ∀ a, (k0_off54 arg51_r0) a + S2x1x1024x1024.size a ≤ S2x16x1024x1024.size a), (Rect.unit (s := S2x16x1024x1024) (k0_off54 arg51_r0) S2x1x1024x1024.size hinb).WholeWords (EltTy.packing .bf16)) ∧
  (∀ (k0_h15 : k0_cond15 k0_t1 arg51_r0 arg52_r0 = 1#1), ∀ (hinb : ∀ a, (k0_off53 arg18_r0) a + S1x2x1x1024x1024.size a ≤ S2x2x1x1024x1024.size a), (Rect.unit (s := S2x2x1x1024x1024) (k0_off53 arg18_r0) S1x2x1x1024x1024.size hinb).WholeWords (EltTy.packing .bf16)) ∧
  (∀ (k0_h16 : k0_cond16 k0_t1 arg51_r0 arg52_r0 = 1#1), ∀ a, (k0_off55 arg22_r0) a + S1.size a ≤ S2.size a) ∧
  (∀ (k0_h16 : k0_cond16 k0_t1 arg51_r0 arg52_r0 = 1#1), ∀ a, (k0_off56 arg22_r0) a + S1x2x1x1024x128.size a ≤ S2x2x1x1024x128.size a) ∧
  (∀ (k0_h16 : k0_cond16 k0_t1 arg51_r0 arg52_r0 = 1#1), ∀ a, (k0_off57 arg51_r0) a + S2x1x1024x128.size a ≤ S2x16x1024x128.size a) ∧
  (∀ (k0_h17 : k0_cond17 k0_t1 arg51_r0 arg52_r0 = 1#1), ∀ a, (k0_off58 arg26_r0) a + S1.size a ≤ S2.size a) ∧
  (∀ (k0_h17 : k0_cond17 k0_t1 arg51_r0 arg52_r0 = 1#1), ∀ a, (k0_off59 arg26_r0) a + S1x1x1024x256.size a ≤ S2x1x1024x256.size a) ∧
  (∀ (k0_h17 : k0_cond17 k0_t1 arg51_r0 arg52_r0 = 1#1), ∀ a, (k0_off60 arg51_r0 arg52_r0) a + S1x1024x256.size a ≤ S16x1024x2816.size a) ∧
  (∀ (k0_h18 : k0_cond18 k0_t1 arg51_r0 arg52_r0 = 1#1), ∀ a, (k0_off61 arg28_r0) a + S1.size a ≤ S2.size a) ∧
  (∀ (k0_h18 : k0_cond18 k0_t1 arg51_r0 arg52_r0 = 1#1), ∀ a, (k0_off62 arg28_r0) a + S1x1x1024x256.size a ≤ S2x1x1024x256.size a) ∧
  (∀ (k0_h18 : k0_cond18 k0_t1 arg51_r0 arg52_r0 = 1#1), ∀ a, (k0_off63 arg51_r0 arg52_r0) a + S1x1024x256.size a ≤ S16x1024x2816.size a) ∧
  (∀ (k0_h19 : k0_cond19 k0_t1 arg51_r0 arg52_r0 = 1#1), ∀ a, (k0_off64 arg30_r0) a + S1.size a ≤ S2.size a) ∧
  (∀ (k0_h19 : k0_cond19 k0_t1 arg51_r0 arg52_r0 = 1#1), ∀ a, (k0_off65 arg30_r0) a + S1x1x256x1024.size a ≤ S2x1x256x1024.size a) ∧
  (∀ (k0_h19 : k0_cond19 k0_t1 arg51_r0 arg52_r0 = 1#1), ∀ a, (k0_off66 arg51_r0 arg52_r0) a + S1x256x1024.size a ≤ S16x2816x1024.size a) ∧
  (∀ (k0_h20 : k0_cond20 k0_t1 arg51_r0 arg52_r0 = 1#1), ∀ a, (k0_off67 arg32_r0) a + S1.size a ≤ S2.size a) ∧
  (∀ (k0_h20 : k0_cond20 k0_t1 arg51_r0 arg52_r0 = 1#1), ∀ a, (k0_off68 arg32_r0) a + S1x1x1024x256.size a ≤ S2x1x1024x256.size a) ∧
  (∀ (k0_h20 : k0_cond20 k0_t1 arg51_r0 arg52_r0 = 1#1), ∀ a, (k0_off69 arg51_r0 arg52_r0) a + S1x1024x256.size a ≤ S16x1024x2816.size a) ∧
  (∀ (k0_h21 : k0_cond21 k0_t1 arg51_r0 arg52_r0 = 1#1), ∀ a, (k0_off70 arg34_r0) a + S1.size a ≤ S2.size a) ∧
  (∀ (k0_h21 : k0_cond21 k0_t1 arg51_r0 arg52_r0 = 1#1), ∀ a, (k0_off71 arg34_r0) a + S1x1x1024x256.size a ≤ S2x1x1024x256.size a) ∧
  (∀ (k0_h21 : k0_cond21 k0_t1 arg51_r0 arg52_r0 = 1#1), ∀ a, (k0_off72 arg51_r0 arg52_r0) a + S1x1024x256.size a ≤ S16x1024x2816.size a) ∧
  (∀ (k0_h22 : k0_cond22 k0_t1 arg51_r0 arg52_r0 = 1#1), ∀ a, (k0_off73 arg36_r0) a + S1.size a ≤ S2.size a) ∧
  (∀ (k0_h22 : k0_cond22 k0_t1 arg51_r0 arg52_r0 = 1#1), ∀ a, (k0_off74 arg36_r0) a + S1x1x256x1024.size a ≤ S2x1x256x1024.size a) ∧
  (∀ (k0_h22 : k0_cond22 k0_t1 arg51_r0 arg52_r0 = 1#1), ∀ a, (k0_off75 arg51_r0 arg52_r0) a + S1x256x1024.size a ≤ S16x2816x1024.size a) ∧
  (∀ (k0_h23 : k0_cond23 k0_t1 arg51_r0 arg52_r0 = 1#1), ∀ a, (k0_off76 arg38_r0) a + S1.size a ≤ S2.size a) ∧
  (∀ (k0_h23 : k0_cond23 k0_t1 arg51_r0 arg52_r0 = 1#1), ∀ a, (k0_off77 arg38_r0) a + S1x1x1024x256.size a ≤ S2x1x1024x256.size a)
def k0_chk5_2 (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) : Prop :=
  (∀ (k0_h23 : k0_cond23 k0_t1 arg51_r0 arg52_r0 = 1#1), ∀ a, (k0_off78 arg51_r0 arg52_r0) a + S1x1024x256.size a ≤ S16x1024x2816.size a) ∧
  (∀ (k0_h24 : k0_cond24 k0_t1 arg51_r0 arg52_r0 = 1#1), ∀ a, (k0_off79 arg40_r0) a + S1.size a ≤ S2.size a) ∧
  (∀ (k0_h24 : k0_cond24 k0_t1 arg51_r0 arg52_r0 = 1#1), ∀ a, (k0_off80 arg40_r0) a + S1x1x1024x256.size a ≤ S2x1x1024x256.size a) ∧
  (∀ (k0_h24 : k0_cond24 k0_t1 arg51_r0 arg52_r0 = 1#1), ∀ a, (k0_off81 arg51_r0 arg52_r0) a + S1x1024x256.size a ≤ S16x1024x2816.size a) ∧
  (∀ (k0_h25 : k0_cond25 k0_t1 arg51_r0 arg52_r0 = 1#1), ∀ a, (k0_off82 arg42_r0) a + S1.size a ≤ S2.size a) ∧
  (∀ (k0_h25 : k0_cond25 k0_t1 arg51_r0 arg52_r0 = 1#1), ∀ a, (k0_off83 arg42_r0) a + S1x1x256x1024.size a ≤ S2x1x256x1024.size a) ∧
  (∀ (k0_h25 : k0_cond25 k0_t1 arg51_r0 arg52_r0 = 1#1), ∀ a, (k0_off84 arg51_r0 arg52_r0) a + S1x256x1024.size a ≤ S16x2816x1024.size a) ∧
  (∀ (k0_h26 : k0_cond26 k0_t1 arg51_r0 arg52_r0 = 1#1), ∀ a, (k0_off85 arg44_r0) a + S1.size a ≤ S2.size a) ∧
  (∀ (k0_h26 : k0_cond26 k0_t1 arg51_r0 arg52_r0 = 1#1), ∀ a, (k0_off86 arg44_r0) a + S1x1x1024x256.size a ≤ S2x1x1024x256.size a) ∧
  (∀ (k0_h26 : k0_cond26 k0_t1 arg51_r0 arg52_r0 = 1#1), ∀ a, (k0_off87 arg51_r0 arg52_r0) a + S1x1024x256.size a ≤ S16x1024x2816.size a) ∧
  (∀ (k0_h27 : k0_cond27 k0_t1 arg51_r0 arg52_r0 = 1#1), ∀ a, (k0_off88 arg46_r0) a + S1.size a ≤ S2.size a) ∧
  (∀ (k0_h27 : k0_cond27 k0_t1 arg51_r0 arg52_r0 = 1#1), ∀ a, (k0_off89 arg46_r0) a + S1x1x1024x256.size a ≤ S2x1x1024x256.size a) ∧
  (∀ (k0_h27 : k0_cond27 k0_t1 arg51_r0 arg52_r0 = 1#1), ∀ a, (k0_off90 arg51_r0 arg52_r0) a + S1x1024x256.size a ≤ S16x1024x2816.size a) ∧
  (∀ (k0_h28 : k0_cond28 k0_t1 arg51_r0 arg52_r0 = 1#1), ∀ a, (k0_off91 arg48_r0) a + S1.size a ≤ S2.size a) ∧
  (∀ (k0_h28 : k0_cond28 k0_t1 arg51_r0 arg52_r0 = 1#1), ∀ a, (k0_off92 arg48_r0) a + S1x1x256x1024.size a ≤ S2x1x256x1024.size a) ∧
  (∀ (k0_h28 : k0_cond28 k0_t1 arg51_r0 arg52_r0 = 1#1), ∀ a, (k0_off93 arg51_r0 arg52_r0) a + S1x256x1024.size a ≤ S16x2816x1024.size a) ∧
  (∀ (k0_h31 : k0_cond31 arg52_r0 = 1#1), ∀ a, (k0_off94 arg26_r0) a + S1x1x1024x256.size a ≤ S2x1x1024x256.size a) ∧
  (∀ (k0_h31 : k0_cond31 arg52_r0 = 1#1), ∀ a, (k0_off95 arg32_r0) a + S1x1x1024x256.size a ≤ S2x1x1024x256.size a) ∧
  (∀ (k0_h31 : k0_cond31 arg52_r0 = 1#1), ∀ a, (k0_off96 arg38_r0) a + S1x1x1024x256.size a ≤ S2x1x1024x256.size a) ∧
  (∀ (k0_h31 : k0_cond31 arg52_r0 = 1#1), ∀ a, (k0_off97 arg44_r0) a + S1x1x1024x256.size a ≤ S2x1x1024x256.size a) ∧
  (∀ (k0_h31 : k0_cond31 arg52_r0 = 1#1), ∀ a, (k0_off98 arg28_r0) a + S1x1x1024x256.size a ≤ S2x1x1024x256.size a) ∧
  (∀ (k0_h31 : k0_cond31 arg52_r0 = 1#1), ∀ a, (k0_off99 arg34_r0) a + S1x1x1024x256.size a ≤ S2x1x1024x256.size a) ∧
  (∀ (k0_h31 : k0_cond31 arg52_r0 = 1#1), ∀ a, (k0_off100 arg40_r0) a + S1x1x1024x256.size a ≤ S2x1x1024x256.size a) ∧
  (∀ (k0_h31 : k0_cond31 arg52_r0 = 1#1), ∀ a, (k0_off101 arg46_r0) a + S1x1x1024x256.size a ≤ S2x1x1024x256.size a) ∧
  (∀ (k0_h31 : k0_cond31 arg52_r0 = 1#1), ∀ a, (k0_off102 arg30_r0) a + S1x1x256x1024.size a ≤ S2x1x256x1024.size a) ∧
  (∀ (k0_h31 : k0_cond31 arg52_r0 = 1#1), ∀ a, (k0_off103 arg36_r0) a + S1x1x256x1024.size a ≤ S2x1x256x1024.size a) ∧
  (∀ (k0_h31 : k0_cond31 arg52_r0 = 1#1), ∀ a, (k0_off104 arg42_r0) a + S1x1x256x1024.size a ≤ S2x1x256x1024.size a) ∧
  (∀ (k0_h31 : k0_cond31 arg52_r0 = 1#1), ∀ a, (k0_off105 arg48_r0) a + S1x1x256x1024.size a ≤ S2x1x256x1024.size a) ∧
  (∀ (k0_h31 : k0_cond31 arg52_r0 = 1#1), ∀ a, (k0_off106 arg18_r0) a + S1x2x1x1024x1024.size a ≤ S2x2x1x1024x1024.size a) ∧
  (∀ (k0_h32 : k0_cond32 arg52_r0 = 1#1), ∀ a, (k0_off107 arg26_r0) a + S1x1x1024x256.size a ≤ S2x1x1024x256.size a) ∧
  (∀ (k0_h32 : k0_cond32 arg52_r0 = 1#1), ∀ a, (k0_off108 arg32_r0) a + S1x1x1024x256.size a ≤ S2x1x1024x256.size a) ∧
  (∀ (k0_h32 : k0_cond32 arg52_r0 = 1#1), ∀ a, (k0_off109 arg38_r0) a + S1x1x1024x256.size a ≤ S2x1x1024x256.size a)
def k0_chk5_3 (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) : Prop :=
  (∀ (k0_h32 : k0_cond32 arg52_r0 = 1#1), ∀ a, (k0_off110 arg28_r0) a + S1x1x1024x256.size a ≤ S2x1x1024x256.size a) ∧
  (∀ (k0_h32 : k0_cond32 arg52_r0 = 1#1), ∀ a, (k0_off111 arg34_r0) a + S1x1x1024x256.size a ≤ S2x1x1024x256.size a) ∧
  (∀ (k0_h32 : k0_cond32 arg52_r0 = 1#1), ∀ a, (k0_off112 arg40_r0) a + S1x1x1024x256.size a ≤ S2x1x1024x256.size a) ∧
  (∀ (k0_h32 : k0_cond32 arg52_r0 = 1#1), ∀ a, (k0_off113 arg30_r0) a + S1x1x256x1024.size a ≤ S2x1x256x1024.size a) ∧
  (∀ (k0_h32 : k0_cond32 arg52_r0 = 1#1), ∀ a, (k0_off114 arg36_r0) a + S1x1x256x1024.size a ≤ S2x1x256x1024.size a) ∧
  (∀ (k0_h32 : k0_cond32 arg52_r0 = 1#1), ∀ a, (k0_off115 arg42_r0) a + S1x1x256x1024.size a ≤ S2x1x256x1024.size a) ∧
  (∀ (k0_h32 : k0_cond32 arg52_r0 = 1#1), ∀ a, (k0_off116 arg18_r0) a + S1x2x1x1024x1024.size a ≤ S2x2x1x1024x1024.size a) ∧
  (∀ (k0_h33 : k0_cond33 arg52_r0 = 1#1), ∀ a, (k0_off117 arg22_r0) a + S1x2x1x1024x128.size a ≤ S2x2x1x1024x128.size a) ∧
  (∀ (k0_h33 : k0_cond33 arg52_r0 = 1#1), ∀ a, (k0_off118 arg49_r0) a + S1x2x1x1024x1024.size a ≤ S2x2x1x1024x1024.size a) ∧
  (∀ (k0_h33 : k0_cond33 arg52_r0 = 1#1), ∀ (hinb : ∀ a, (k0_off118 arg49_r0) a + S1x2x1x1024x1024.size a ≤ S2x2x1x1024x1024.size a), (Rect.unit (s := S2x2x1x1024x1024) (k0_off118 arg49_r0) S1x2x1x1024x1024.size hinb).PackedRows (EltTy.packing .bf16)) ∧
  (∀ (k0_h48 : k0_cond48 k0_t1 arg51_r0 arg52_r0 = 1#1), ∀ a, (k0_off119 arg49_r0) a + S1.size a ≤ S2.size a) ∧
  (∀ (k0_h48 : k0_cond48 k0_t1 arg51_r0 arg52_r0 = 1#1), ∀ a, (k0_off120 arg51_r0) a + S2x1x1024x1024.size a ≤ S2x16x1024x1024.size a) ∧
  (∀ (k0_h48 : k0_cond48 k0_t1 arg51_r0 arg52_r0 = 1#1), ∀ a, (k0_off121 arg49_r0) a + S1x2x1x1024x1024.size a ≤ S2x2x1x1024x1024.size a) ∧
  (∀ (k0_h48 : k0_cond48 k0_t1 arg51_r0 arg52_r0 = 1#1), ∀ (hinb : ∀ a, (k0_off121 arg49_r0) a + S1x2x1x1024x1024.size a ≤ S2x2x1x1024x1024.size a), (Rect.unit (s := S2x2x1x1024x1024) (k0_off121 arg49_r0) S1x2x1x1024x1024.size hinb).WholeWords (EltTy.packing .bf16)) ∧
  (∀ (k0_h48 : k0_cond48 k0_t1 arg51_r0 arg52_r0 = 1#1), ∀ (hinb : ∀ a, (k0_off120 arg51_r0) a + S2x1x1024x1024.size a ≤ S2x16x1024x1024.size a), (Rect.unit (s := S2x16x1024x1024) (k0_off120 arg51_r0) S2x1x1024x1024.size hinb).WholeWords (EltTy.packing .bf16)) ∧
  (∀ (k0_h63 : k0_cond63 k0_t1 arg51_r0 arg52_r0 = 1#1), ∀ a, (k0_off122 arg50_r0) a + S1.size a ≤ S2.size a) ∧
  (∀ (k0_h63 : k0_cond63 k0_t1 arg51_r0 arg52_r0 = 1#1), ∀ a, (k0_off123 arg51_r0 arg52_r0) a + S2x1x1024x1024.size a ≤ S2x16x1024x1024.size a) ∧
  (∀ (k0_h63 : k0_cond63 k0_t1 arg51_r0 arg52_r0 = 1#1), ∀ a, (k0_off124 arg50_r0) a + S1x2x1x1024x1024.size a ≤ S2x2x1x1024x1024.size a) ∧
  (∀ (k0_h63 : k0_cond63 k0_t1 arg51_r0 arg52_r0 = 1#1), ∀ (hinb : ∀ a, (k0_off124 arg50_r0) a + S1x2x1x1024x1024.size a ≤ S2x2x1x1024x1024.size a), (Rect.unit (s := S2x2x1x1024x1024) (k0_off124 arg50_r0) S1x2x1x1024x1024.size hinb).WholeWords (EltTy.packing .bf16)) ∧
  (∀ (k0_h63 : k0_cond63 k0_t1 arg51_r0 arg52_r0 = 1#1), ∀ (hinb : ∀ a, (k0_off123 arg51_r0 arg52_r0) a + S2x1x1024x1024.size a ≤ S2x16x1024x1024.size a), (Rect.unit (s := S2x16x1024x1024) (k0_off123 arg51_r0 arg52_r0) S2x1x1024x1024.size hinb).WholeWords (EltTy.packing .bf16))
def k0_chk5 (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) : Prop :=
  k0_chk5_0 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 ∧
  k0_chk5_1 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 ∧
  k0_chk5_2 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 ∧
  k0_chk5_3 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0
theorem k0_off16_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h3 : k0_cond3 k0_t1 arg51_r0 arg52_r0 = 1#1), ∀ a, (k0_off16 arg25_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h3 => k0_hw5.1.1 k0_h3
theorem k0_off17_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h3 : k0_cond3 k0_t1 arg51_r0 arg52_r0 = 1#1), ∀ a, (k0_off17 arg25_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h3 => k0_hw5.1.2.1 k0_h3
theorem k0_off18_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h3 : k0_cond3 k0_t1 arg51_r0 arg52_r0 = 1#1), ∀ a, (k0_off18 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h3 => k0_hw5.1.2.2.1 k0_h3
theorem k0_off19_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h4 : k0_cond4 k0_t1 arg51_r0 arg52_r0 = 1#1), ∀ a, (k0_off19 arg27_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h4 => k0_hw5.1.2.2.2.1 k0_h4
theorem k0_off20_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h4 : k0_cond4 k0_t1 arg51_r0 arg52_r0 = 1#1), ∀ a, (k0_off20 arg27_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h4 => k0_hw5.1.2.2.2.2.1 k0_h4
theorem k0_off21_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h4 : k0_cond4 k0_t1 arg51_r0 arg52_r0 = 1#1), ∀ a, (k0_off21 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h4 => k0_hw5.1.2.2.2.2.2.1 k0_h4
theorem k0_off22_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h5 : k0_cond5 k0_t1 arg51_r0 arg52_r0 = 1#1), ∀ a, (k0_off22 arg29_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h5 => k0_hw5.1.2.2.2.2.2.2.1 k0_h5
theorem k0_off23_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h5 : k0_cond5 k0_t1 arg51_r0 arg52_r0 = 1#1), ∀ a, (k0_off23 arg29_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h5 => k0_hw5.1.2.2.2.2.2.2.2.1 k0_h5
theorem k0_off24_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h5 : k0_cond5 k0_t1 arg51_r0 arg52_r0 = 1#1), ∀ a, (k0_off24 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h5 => k0_hw5.1.2.2.2.2.2.2.2.2.1 k0_h5
theorem k0_off25_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h6 : k0_cond6 k0_t1 arg51_r0 arg52_r0 = 1#1), ∀ a, (k0_off25 arg31_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h6 => k0_hw5.1.2.2.2.2.2.2.2.2.2.1 k0_h6
theorem k0_off26_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h6 : k0_cond6 k0_t1 arg51_r0 arg52_r0 = 1#1), ∀ a, (k0_off26 arg31_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h6 => k0_hw5.1.2.2.2.2.2.2.2.2.2.2.1 k0_h6
theorem k0_off27_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h6 : k0_cond6 k0_t1 arg51_r0 arg52_r0 = 1#1), ∀ a, (k0_off27 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h6 => k0_hw5.1.2.2.2.2.2.2.2.2.2.2.2.1 k0_h6
theorem k0_off28_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h7 : k0_cond7 k0_t1 arg51_r0 arg52_r0 = 1#1), ∀ a, (k0_off28 arg33_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h7 => k0_hw5.1.2.2.2.2.2.2.2.2.2.2.2.2.1 k0_h7
theorem k0_off29_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h7 : k0_cond7 k0_t1 arg51_r0 arg52_r0 = 1#1), ∀ a, (k0_off29 arg33_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h7 => k0_hw5.1.2.2.2.2.2.2.2.2.2.2.2.2.2.1 k0_h7
theorem k0_off30_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h7 : k0_cond7 k0_t1 arg51_r0 arg52_r0 = 1#1), ∀ a, (k0_off30 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h7 => k0_hw5.1.2.2.2.2.2.2.2.2.2.2.2.2.2.2.1 k0_h7
theorem k0_off31_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h8 : k0_cond8 k0_t1 arg51_r0 arg52_r0 = 1#1), ∀ a, (k0_off31 arg35_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h8 => k0_hw5.1.2.2.2.2.2.2.2.2.2.2.2.2.2.2.2.1 k0_h8
theorem k0_off32_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h8 : k0_cond8 k0_t1 arg51_r0 arg52_r0 = 1#1), ∀ a, (k0_off32 arg35_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h8 => k0_hw5.1.2.2.2.2.2.2.2.2.2.2.2.2.2.2.2.2.1 k0_h8
theorem k0_off33_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h8 : k0_cond8 k0_t1 arg51_r0 arg52_r0 = 1#1), ∀ a, (k0_off33 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h8 => k0_hw5.1.2.2.2.2.2.2.2.2.2.2.2.2.2.2.2.2.2.1 k0_h8
theorem k0_off34_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h9 : k0_cond9 k0_t1 arg51_r0 arg52_r0 = 1#1), ∀ a, (k0_off34 arg37_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h9 => k0_hw5.1.2.2.2.2.2.2.2.2.2.2.2.2.2.2.2.2.2.2.1 k0_h9
theorem k0_off35_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h9 : k0_cond9 k0_t1 arg51_r0 arg52_r0 = 1#1), ∀ a, (k0_off35 arg37_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h9 => k0_hw5.1.2.2.2.2.2.2.2.2.2.2.2.2.2.2.2.2.2.2.2.1 k0_h9
theorem k0_off36_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h9 : k0_cond9 k0_t1 arg51_r0 arg52_r0 = 1#1), ∀ a, (k0_off36 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h9 => k0_hw5.1.2.2.2.2.2.2.2.2.2.2.2.2.2.2.2.2.2.2.2.2.1 k0_h9
theorem k0_off37_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h10 : k0_cond10 k0_t1 arg51_r0 arg52_r0 = 1#1), ∀ a, (k0_off37 arg39_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h10 => k0_hw5.1.2.2.2.2.2.2.2.2.2.2.2.2.2.2.2.2.2.2.2.2.2.1 k0_h10
theorem k0_off38_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h10 : k0_cond10 k0_t1 arg51_r0 arg52_r0 = 1#1), ∀ a, (k0_off38 arg39_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h10 => k0_hw5.1.2.2.2.2.2.2.2.2.2.2.2.2.2.2.2.2.2.2.2.2.2.2.1 k0_h10
theorem k0_off39_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h10 : k0_cond10 k0_t1 arg51_r0 arg52_r0 = 1#1), ∀ a, (k0_off39 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h10 => k0_hw5.1.2.2.2.2.2.2.2.2.2.2.2.2.2.2.2.2.2.2.2.2.2.2.2.1 k0_h10
theorem k0_off40_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h11 : k0_cond11 k0_t1 arg51_r0 arg52_r0 = 1#1), ∀ a, (k0_off40 arg41_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h11 => k0_hw5.1.2.2.2.2.2.2.2.2.2.2.2.2.2.2.2.2.2.2.2.2.2.2.2.2.1 k0_h11
theorem k0_off41_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h11 : k0_cond11 k0_t1 arg51_r0 arg52_r0 = 1#1), ∀ a, (k0_off41 arg41_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h11 => k0_hw5.1.2.2.2.2.2.2.2.2.2.2.2.2.2.2.2.2.2.2.2.2.2.2.2.2.2.1 k0_h11
theorem k0_off42_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h11 : k0_cond11 k0_t1 arg51_r0 arg52_r0 = 1#1), ∀ a, (k0_off42 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h11 => k0_hw5.1.2.2.2.2.2.2.2.2.2.2.2.2.2.2.2.2.2.2.2.2.2.2.2.2.2.2.1 k0_h11
theorem k0_off43_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h12 : k0_cond12 k0_t1 arg51_r0 arg52_r0 = 1#1), ∀ a, (k0_off43 arg43_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h12 => k0_hw5.1.2.2.2.2.2.2.2.2.2.2.2.2.2.2.2.2.2.2.2.2.2.2.2.2.2.2.2.1 k0_h12
theorem k0_off44_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h12 : k0_cond12 k0_t1 arg51_r0 arg52_r0 = 1#1), ∀ a, (k0_off44 arg43_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h12 => k0_hw5.1.2.2.2.2.2.2.2.2.2.2.2.2.2.2.2.2.2.2.2.2.2.2.2.2.2.2.2.2.1 k0_h12
theorem k0_off45_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h12 : k0_cond12 k0_t1 arg51_r0 arg52_r0 = 1#1), ∀ a, (k0_off45 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h12 => k0_hw5.1.2.2.2.2.2.2.2.2.2.2.2.2.2.2.2.2.2.2.2.2.2.2.2.2.2.2.2.2.2.1 k0_h12
theorem k0_off46_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h13 : k0_cond13 k0_t1 arg51_r0 arg52_r0 = 1#1), ∀ a, (k0_off46 arg45_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h13 => k0_hw5.1.2.2.2.2.2.2.2.2.2.2.2.2.2.2.2.2.2.2.2.2.2.2.2.2.2.2.2.2.2.2.1 k0_h13
theorem k0_off47_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h13 : k0_cond13 k0_t1 arg51_r0 arg52_r0 = 1#1), ∀ a, (k0_off47 arg45_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h13 => k0_hw5.1.2.2.2.2.2.2.2.2.2.2.2.2.2.2.2.2.2.2.2.2.2.2.2.2.2.2.2.2.2.2.2 k0_h13
theorem k0_off48_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h13 : k0_cond13 k0_t1 arg51_r0 arg52_r0 = 1#1), ∀ a, (k0_off48 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h13 => k0_hw5.2.1.1 k0_h13
theorem k0_off49_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h14 : k0_cond14 k0_t1 arg51_r0 arg52_r0 = 1#1), ∀ a, (k0_off49 arg47_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h14 => k0_hw5.2.1.2.1 k0_h14
theorem k0_off50_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h14 : k0_cond14 k0_t1 arg51_r0 arg52_r0 = 1#1), ∀ a, (k0_off50 arg47_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h14 => k0_hw5.2.1.2.2.1 k0_h14
theorem k0_off51_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h14 : k0_cond14 k0_t1 arg51_r0 arg52_r0 = 1#1), ∀ a, (k0_off51 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h14 => k0_hw5.2.1.2.2.2.1 k0_h14
theorem k0_off52_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h15 : k0_cond15 k0_t1 arg51_r0 arg52_r0 = 1#1), ∀ a, (k0_off52 arg18_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15 => k0_hw5.2.1.2.2.2.2.1 k0_h15
theorem k0_off53_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h15 : k0_cond15 k0_t1 arg51_r0 arg52_r0 = 1#1), ∀ a, (k0_off53 arg18_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15 => k0_hw5.2.1.2.2.2.2.2.1 k0_h15
theorem k0_off54_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h15 : k0_cond15 k0_t1 arg51_r0 arg52_r0 = 1#1), ∀ a, (k0_off54 arg51_r0) a + S2x1x1024x1024.size a ≤ S2x16x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15 => k0_hw5.2.1.2.2.2.2.2.2.1 k0_h15
theorem k0_off54_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h15 : k0_cond15 k0_t1 arg51_r0 arg52_r0 = 1#1), (Rect.unit (s := S2x16x1024x1024) (k0_off54 arg51_r0) S2x1x1024x1024.size (k0_off54_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15 => k0_hw5.2.1.2.2.2.2.2.2.2.1 k0_h15 (k0_off54_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15)
theorem k0_off53_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h15 : k0_cond15 k0_t1 arg51_r0 arg52_r0 = 1#1), (Rect.unit (s := S2x2x1x1024x1024) (k0_off53 arg18_r0) S1x2x1x1024x1024.size (k0_off53_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15 => k0_hw5.2.1.2.2.2.2.2.2.2.2.1 k0_h15 (k0_off53_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h15)
theorem k0_off55_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h16 : k0_cond16 k0_t1 arg51_r0 arg52_r0 = 1#1), ∀ a, (k0_off55 arg22_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h16 => k0_hw5.2.1.2.2.2.2.2.2.2.2.2.1 k0_h16
theorem k0_off56_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h16 : k0_cond16 k0_t1 arg51_r0 arg52_r0 = 1#1), ∀ a, (k0_off56 arg22_r0) a + S1x2x1x1024x128.size a ≤ S2x2x1x1024x128.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h16 => k0_hw5.2.1.2.2.2.2.2.2.2.2.2.2.1 k0_h16
theorem k0_off57_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h16 : k0_cond16 k0_t1 arg51_r0 arg52_r0 = 1#1), ∀ a, (k0_off57 arg51_r0) a + S2x1x1024x128.size a ≤ S2x16x1024x128.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h16 => k0_hw5.2.1.2.2.2.2.2.2.2.2.2.2.2.1 k0_h16
theorem k0_off58_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h17 : k0_cond17 k0_t1 arg51_r0 arg52_r0 = 1#1), ∀ a, (k0_off58 arg26_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h17 => k0_hw5.2.1.2.2.2.2.2.2.2.2.2.2.2.2.1 k0_h17
theorem k0_off59_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h17 : k0_cond17 k0_t1 arg51_r0 arg52_r0 = 1#1), ∀ a, (k0_off59 arg26_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h17 => k0_hw5.2.1.2.2.2.2.2.2.2.2.2.2.2.2.2.1 k0_h17
theorem k0_off60_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h17 : k0_cond17 k0_t1 arg51_r0 arg52_r0 = 1#1), ∀ a, (k0_off60 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h17 => k0_hw5.2.1.2.2.2.2.2.2.2.2.2.2.2.2.2.2.1 k0_h17
theorem k0_off61_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h18 : k0_cond18 k0_t1 arg51_r0 arg52_r0 = 1#1), ∀ a, (k0_off61 arg28_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h18 => k0_hw5.2.1.2.2.2.2.2.2.2.2.2.2.2.2.2.2.2.1 k0_h18
theorem k0_off62_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h18 : k0_cond18 k0_t1 arg51_r0 arg52_r0 = 1#1), ∀ a, (k0_off62 arg28_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h18 => k0_hw5.2.1.2.2.2.2.2.2.2.2.2.2.2.2.2.2.2.2.1 k0_h18
theorem k0_off63_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h18 : k0_cond18 k0_t1 arg51_r0 arg52_r0 = 1#1), ∀ a, (k0_off63 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h18 => k0_hw5.2.1.2.2.2.2.2.2.2.2.2.2.2.2.2.2.2.2.2.1 k0_h18
theorem k0_off64_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h19 : k0_cond19 k0_t1 arg51_r0 arg52_r0 = 1#1), ∀ a, (k0_off64 arg30_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h19 => k0_hw5.2.1.2.2.2.2.2.2.2.2.2.2.2.2.2.2.2.2.2.2.1 k0_h19
theorem k0_off65_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h19 : k0_cond19 k0_t1 arg51_r0 arg52_r0 = 1#1), ∀ a, (k0_off65 arg30_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h19 => k0_hw5.2.1.2.2.2.2.2.2.2.2.2.2.2.2.2.2.2.2.2.2.2.1 k0_h19
theorem k0_off66_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h19 : k0_cond19 k0_t1 arg51_r0 arg52_r0 = 1#1), ∀ a, (k0_off66 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h19 => k0_hw5.2.1.2.2.2.2.2.2.2.2.2.2.2.2.2.2.2.2.2.2.2.2.1 k0_h19
theorem k0_off67_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h20 : k0_cond20 k0_t1 arg51_r0 arg52_r0 = 1#1), ∀ a, (k0_off67 arg32_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h20 => k0_hw5.2.1.2.2.2.2.2.2.2.2.2.2.2.2.2.2.2.2.2.2.2.2.2.1 k0_h20
theorem k0_off68_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h20 : k0_cond20 k0_t1 arg51_r0 arg52_r0 = 1#1), ∀ a, (k0_off68 arg32_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h20 => k0_hw5.2.1.2.2.2.2.2.2.2.2.2.2.2.2.2.2.2.2.2.2.2.2.2.2.1 k0_h20
theorem k0_off69_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h20 : k0_cond20 k0_t1 arg51_r0 arg52_r0 = 1#1), ∀ a, (k0_off69 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h20 => k0_hw5.2.1.2.2.2.2.2.2.2.2.2.2.2.2.2.2.2.2.2.2.2.2.2.2.2.1 k0_h20
theorem k0_off70_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h21 : k0_cond21 k0_t1 arg51_r0 arg52_r0 = 1#1), ∀ a, (k0_off70 arg34_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h21 => k0_hw5.2.1.2.2.2.2.2.2.2.2.2.2.2.2.2.2.2.2.2.2.2.2.2.2.2.2.1 k0_h21
theorem k0_off71_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h21 : k0_cond21 k0_t1 arg51_r0 arg52_r0 = 1#1), ∀ a, (k0_off71 arg34_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h21 => k0_hw5.2.1.2.2.2.2.2.2.2.2.2.2.2.2.2.2.2.2.2.2.2.2.2.2.2.2.2.1 k0_h21
theorem k0_off72_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h21 : k0_cond21 k0_t1 arg51_r0 arg52_r0 = 1#1), ∀ a, (k0_off72 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h21 => k0_hw5.2.1.2.2.2.2.2.2.2.2.2.2.2.2.2.2.2.2.2.2.2.2.2.2.2.2.2.2.1 k0_h21
theorem k0_off73_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h22 : k0_cond22 k0_t1 arg51_r0 arg52_r0 = 1#1), ∀ a, (k0_off73 arg36_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h22 => k0_hw5.2.1.2.2.2.2.2.2.2.2.2.2.2.2.2.2.2.2.2.2.2.2.2.2.2.2.2.2.2.1 k0_h22
theorem k0_off74_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h22 : k0_cond22 k0_t1 arg51_r0 arg52_r0 = 1#1), ∀ a, (k0_off74 arg36_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h22 => k0_hw5.2.1.2.2.2.2.2.2.2.2.2.2.2.2.2.2.2.2.2.2.2.2.2.2.2.2.2.2.2.2.1 k0_h22
theorem k0_off75_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h22 : k0_cond22 k0_t1 arg51_r0 arg52_r0 = 1#1), ∀ a, (k0_off75 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h22 => k0_hw5.2.1.2.2.2.2.2.2.2.2.2.2.2.2.2.2.2.2.2.2.2.2.2.2.2.2.2.2.2.2.2.1 k0_h22
theorem k0_off76_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h23 : k0_cond23 k0_t1 arg51_r0 arg52_r0 = 1#1), ∀ a, (k0_off76 arg38_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h23 => k0_hw5.2.1.2.2.2.2.2.2.2.2.2.2.2.2.2.2.2.2.2.2.2.2.2.2.2.2.2.2.2.2.2.2.1 k0_h23
theorem k0_off77_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h23 : k0_cond23 k0_t1 arg51_r0 arg52_r0 = 1#1), ∀ a, (k0_off77 arg38_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h23 => k0_hw5.2.1.2.2.2.2.2.2.2.2.2.2.2.2.2.2.2.2.2.2.2.2.2.2.2.2.2.2.2.2.2.2.2 k0_h23
theorem k0_off78_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h23 : k0_cond23 k0_t1 arg51_r0 arg52_r0 = 1#1), ∀ a, (k0_off78 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h23 => k0_hw5.2.2.1.1 k0_h23
theorem k0_off79_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h24 : k0_cond24 k0_t1 arg51_r0 arg52_r0 = 1#1), ∀ a, (k0_off79 arg40_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h24 => k0_hw5.2.2.1.2.1 k0_h24
theorem k0_off80_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h24 : k0_cond24 k0_t1 arg51_r0 arg52_r0 = 1#1), ∀ a, (k0_off80 arg40_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h24 => k0_hw5.2.2.1.2.2.1 k0_h24
theorem k0_off81_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h24 : k0_cond24 k0_t1 arg51_r0 arg52_r0 = 1#1), ∀ a, (k0_off81 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h24 => k0_hw5.2.2.1.2.2.2.1 k0_h24
theorem k0_off82_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h25 : k0_cond25 k0_t1 arg51_r0 arg52_r0 = 1#1), ∀ a, (k0_off82 arg42_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h25 => k0_hw5.2.2.1.2.2.2.2.1 k0_h25
theorem k0_off83_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h25 : k0_cond25 k0_t1 arg51_r0 arg52_r0 = 1#1), ∀ a, (k0_off83 arg42_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h25 => k0_hw5.2.2.1.2.2.2.2.2.1 k0_h25
theorem k0_off84_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h25 : k0_cond25 k0_t1 arg51_r0 arg52_r0 = 1#1), ∀ a, (k0_off84 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h25 => k0_hw5.2.2.1.2.2.2.2.2.2.1 k0_h25
theorem k0_off85_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h26 : k0_cond26 k0_t1 arg51_r0 arg52_r0 = 1#1), ∀ a, (k0_off85 arg44_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h26 => k0_hw5.2.2.1.2.2.2.2.2.2.2.1 k0_h26
theorem k0_off86_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h26 : k0_cond26 k0_t1 arg51_r0 arg52_r0 = 1#1), ∀ a, (k0_off86 arg44_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h26 => k0_hw5.2.2.1.2.2.2.2.2.2.2.2.1 k0_h26
theorem k0_off87_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h26 : k0_cond26 k0_t1 arg51_r0 arg52_r0 = 1#1), ∀ a, (k0_off87 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h26 => k0_hw5.2.2.1.2.2.2.2.2.2.2.2.2.1 k0_h26
theorem k0_off88_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h27 : k0_cond27 k0_t1 arg51_r0 arg52_r0 = 1#1), ∀ a, (k0_off88 arg46_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h27 => k0_hw5.2.2.1.2.2.2.2.2.2.2.2.2.2.1 k0_h27
theorem k0_off89_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h27 : k0_cond27 k0_t1 arg51_r0 arg52_r0 = 1#1), ∀ a, (k0_off89 arg46_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h27 => k0_hw5.2.2.1.2.2.2.2.2.2.2.2.2.2.2.1 k0_h27
theorem k0_off90_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h27 : k0_cond27 k0_t1 arg51_r0 arg52_r0 = 1#1), ∀ a, (k0_off90 arg51_r0 arg52_r0) a + S1x1024x256.size a ≤ S16x1024x2816.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h27 => k0_hw5.2.2.1.2.2.2.2.2.2.2.2.2.2.2.2.1 k0_h27
theorem k0_off91_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h28 : k0_cond28 k0_t1 arg51_r0 arg52_r0 = 1#1), ∀ a, (k0_off91 arg48_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h28 => k0_hw5.2.2.1.2.2.2.2.2.2.2.2.2.2.2.2.2.1 k0_h28
theorem k0_off92_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h28 : k0_cond28 k0_t1 arg51_r0 arg52_r0 = 1#1), ∀ a, (k0_off92 arg48_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h28 => k0_hw5.2.2.1.2.2.2.2.2.2.2.2.2.2.2.2.2.2.1 k0_h28
theorem k0_off93_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h28 : k0_cond28 k0_t1 arg51_r0 arg52_r0 = 1#1), ∀ a, (k0_off93 arg51_r0 arg52_r0) a + S1x256x1024.size a ≤ S16x2816x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h28 => k0_hw5.2.2.1.2.2.2.2.2.2.2.2.2.2.2.2.2.2.2.1 k0_h28
theorem k0_off94_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off94 arg26_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.1 k0_h31
theorem k0_off95_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off95 arg32_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.1 k0_h31
theorem k0_off96_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off96 arg38_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.1 k0_h31
theorem k0_off97_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off97 arg44_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.1 k0_h31
theorem k0_off98_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off98 arg28_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.1 k0_h31
theorem k0_off99_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off99 arg34_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.1 k0_h31
theorem k0_off100_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off100 arg40_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.1 k0_h31
theorem k0_off101_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off101 arg46_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.1 k0_h31
theorem k0_off102_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off102 arg30_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.2.1 k0_h31
theorem k0_off103_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off103 arg36_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.2.2.1 k0_h31
theorem k0_off104_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off104 arg42_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.2.2.2.1 k0_h31
theorem k0_off105_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off105 arg48_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.2.2.2.2.1 k0_h31
theorem k0_off106_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h31 : k0_cond31 arg52_r0 = 1#1), ∀ a, (k0_off106 arg18_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h31 => k0_hw5.2.2.1.2.2.2.2.2.2.2.2.2.2.2.2.2.2.2.2.2.2.2.2.2.2.2.2.2.2.2.2.1 k0_h31
theorem k0_off107_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off107 arg26_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.1.2.2.2.2.2.2.2.2.2.2.2.2.2.2.2.2.2.2.2.2.2.2.2.2.2.2.2.2.2.1 k0_h32
theorem k0_off108_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off108 arg32_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.1.2.2.2.2.2.2.2.2.2.2.2.2.2.2.2.2.2.2.2.2.2.2.2.2.2.2.2.2.2.2.1 k0_h32
theorem k0_off109_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off109 arg38_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.1.2.2.2.2.2.2.2.2.2.2.2.2.2.2.2.2.2.2.2.2.2.2.2.2.2.2.2.2.2.2.2 k0_h32
theorem k0_off110_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off110 arg28_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.1 k0_h32
theorem k0_off111_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off111 arg34_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.1 k0_h32
theorem k0_off112_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off112 arg40_r0) a + S1x1x1024x256.size a ≤ S2x1x1024x256.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.2.1 k0_h32
theorem k0_off113_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off113 arg30_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.2.2.1 k0_h32
theorem k0_off114_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off114 arg36_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.2.2.2.1 k0_h32
theorem k0_off115_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off115 arg42_r0) a + S1x1x256x1024.size a ≤ S2x1x256x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.2.2.2.2.1 k0_h32
theorem k0_off116_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h32 : k0_cond32 arg52_r0 = 1#1), ∀ a, (k0_off116 arg18_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h32 => k0_hw5.2.2.2.2.2.2.2.2.2.1 k0_h32
theorem k0_off117_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h33 : k0_cond33 arg52_r0 = 1#1), ∀ a, (k0_off117 arg22_r0) a + S1x2x1x1024x128.size a ≤ S2x2x1x1024x128.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h33 => k0_hw5.2.2.2.2.2.2.2.2.2.2.1 k0_h33
theorem k0_off118_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h33 : k0_cond33 arg52_r0 = 1#1), ∀ a, (k0_off118 arg49_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h33 => k0_hw5.2.2.2.2.2.2.2.2.2.2.2.1 k0_h33
theorem k0_off118_packedbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h33 : k0_cond33 arg52_r0 = 1#1), (Rect.unit (s := S2x2x1x1024x1024) (k0_off118 arg49_r0) S1x2x1x1024x1024.size (k0_off118_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h33)).PackedRows (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h33 => k0_hw5.2.2.2.2.2.2.2.2.2.2.2.2.1 k0_h33 (k0_off118_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h33)
theorem k0_off119_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h48 : k0_cond48 k0_t1 arg51_r0 arg52_r0 = 1#1), ∀ a, (k0_off119 arg49_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48 => k0_hw5.2.2.2.2.2.2.2.2.2.2.2.2.2.1 k0_h48
theorem k0_off120_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h48 : k0_cond48 k0_t1 arg51_r0 arg52_r0 = 1#1), ∀ a, (k0_off120 arg51_r0) a + S2x1x1024x1024.size a ≤ S2x16x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48 => k0_hw5.2.2.2.2.2.2.2.2.2.2.2.2.2.2.1 k0_h48
theorem k0_off121_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h48 : k0_cond48 k0_t1 arg51_r0 arg52_r0 = 1#1), ∀ a, (k0_off121 arg49_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48 => k0_hw5.2.2.2.2.2.2.2.2.2.2.2.2.2.2.2.1 k0_h48
theorem k0_off121_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h48 : k0_cond48 k0_t1 arg51_r0 arg52_r0 = 1#1), (Rect.unit (s := S2x2x1x1024x1024) (k0_off121 arg49_r0) S1x2x1x1024x1024.size (k0_off121_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48 => k0_hw5.2.2.2.2.2.2.2.2.2.2.2.2.2.2.2.2.1 k0_h48 (k0_off121_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48)
theorem k0_off120_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h48 : k0_cond48 k0_t1 arg51_r0 arg52_r0 = 1#1), (Rect.unit (s := S2x16x1024x1024) (k0_off120 arg51_r0) S2x1x1024x1024.size (k0_off120_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48 => k0_hw5.2.2.2.2.2.2.2.2.2.2.2.2.2.2.2.2.2.1 k0_h48 (k0_off120_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h48)
theorem k0_off122_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h63 : k0_cond63 k0_t1 arg51_r0 arg52_r0 = 1#1), ∀ a, (k0_off122 arg50_r0) a + S1.size a ≤ S2.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63 => k0_hw5.2.2.2.2.2.2.2.2.2.2.2.2.2.2.2.2.2.2.1 k0_h63
theorem k0_off123_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h63 : k0_cond63 k0_t1 arg51_r0 arg52_r0 = 1#1), ∀ a, (k0_off123 arg51_r0 arg52_r0) a + S2x1x1024x1024.size a ≤ S2x16x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63 => k0_hw5.2.2.2.2.2.2.2.2.2.2.2.2.2.2.2.2.2.2.2.1 k0_h63
theorem k0_off124_inb : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h63 : k0_cond63 k0_t1 arg51_r0 arg52_r0 = 1#1), ∀ a, (k0_off124 arg50_r0) a + S1x2x1x1024x1024.size a ≤ S2x2x1x1024x1024.size a := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63 => k0_hw5.2.2.2.2.2.2.2.2.2.2.2.2.2.2.2.2.2.2.2.2.1 k0_h63
theorem k0_off124_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h63 : k0_cond63 k0_t1 arg51_r0 arg52_r0 = 1#1), (Rect.unit (s := S2x2x1x1024x1024) (k0_off124 arg50_r0) S1x2x1x1024x1024.size (k0_off124_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63 => k0_hw5.2.2.2.2.2.2.2.2.2.2.2.2.2.2.2.2.2.2.2.2.2.1 k0_h63 (k0_off124_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63)
theorem k0_off123_wordsbf16 : ∀ (k0_t1 : Fin k0_t1_loop.trips) (arg18_r0 : BitVec 32) (arg22_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (arg52_r0 : BitVec 32) (k0_hw5 : k0_chk5 k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0), ∀ (k0_h63 : k0_cond63 k0_t1 arg51_r0 arg52_r0 = 1#1), (Rect.unit (s := S2x16x1024x1024) (k0_off123 arg51_r0 arg52_r0) S2x1x1024x1024.size (k0_off123_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63)).WholeWords (EltTy.packing .bf16) := fun k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63 => k0_hw5.2.2.2.2.2.2.2.2.2.2.2.2.2.2.2.2.2.2.2.2.2.2 k0_h63 (k0_off123_inb k0_t1 arg18_r0 arg22_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg43_r0 arg44_r0 arg45_r0 arg46_r0 arg47_r0 arg48_r0 arg49_r0 arg50_r0 arg51_r0 arg52_r0 k0_hw5 k0_h63)

def k0_off125 (v170_33_r0 : BitVec 32) : Fin 1 → Nat :=
  let c2_i32_272_r0 : BitVec 32 := 2#32
  let v211_r0 : BitVec 32 := Scalar.remui v170_33_r0 c2_i32_272_r0
  ![v211_r0.toNat]

def k0_off126 (v170_35_r0 : BitVec 32) (v170_34_r0 : BitVec 32) : Fin 4 → Nat :=
  let c0_i32_274_r0 : BitVec 32 := 0#32
  let c1_i32_273_r0 : BitVec 32 := 1#32
  let true_237_r0 : BitVec 1 := 1#1
  let c1_i32_236_r0 : BitVec 32 := 1#32
  let v171_r0 : BitVec 32 := Scalar.subi v170_35_r0 c1_i32_236_r0
  let v172_r0 : BitVec 32 := Scalar.select true_237_r0 v171_r0 v170_35_r0
  let c_m1_i32_238_r0 : BitVec 32 := 4294967295#32
  let v173_r0 : BitVec 1 := Scalar.cmpi .eq v172_r0 c_m1_i32_238_r0
  let c1_i32_240_r0 : BitVec 32 := 1#32
  let v175_r0 : BitVec 32 := Scalar.subi v170_34_r0 c1_i32_240_r0
  let v176_r0 : BitVec 32 := Scalar.select v173_r0 v175_r0 v170_34_r0
  let c_m1_i32_241_r0 : BitVec 32 := 4294967295#32
  let v177_r0 : BitVec 1 := Scalar.cmpi .eq v176_r0 c_m1_i32_241_r0
  let c15_i32_242_r0 : BitVec 32 := 15#32
  let v178_r0 : BitVec 32 := Scalar.select v177_r0 c15_i32_242_r0 v176_r0
  let c0_i32_243_r0 : BitVec 32 := 0#32
  let v179_r0 : BitVec 32 := Scalar.addi v178_r0 c0_i32_243_r0
  let v212_r0 : BitVec 32 := Scalar.muli c1_i32_273_r0 v179_r0
  let c0_i32_275_r0 : BitVec 32 := 0#32
  let c0_i32_276_r0 : BitVec 32 := 0#32
  ![0, v212_r0.toNat, 0, 0]

def k0_off127 (v170_33_r0 : BitVec 32) : Fin 5 → Nat :=
  let c2_i32_272_r0 : BitVec 32 := 2#32
  let v211_r0 : BitVec 32 := Scalar.remui v170_33_r0 c2_i32_272_r0
  let c0_i32_277_r0 : BitVec 32 := 0#32
  let c0_i32_278_r0 : BitVec 32 := 0#32
  let c0_i32_279_r0 : BitVec 32 := 0#32
  let c0_i32_280_r0 : BitVec 32 := 0#32
  ![v211_r0.toNat, 0, 0, 0, 0]

def k0_chk6 (v170_33_r0 : BitVec 32) : Prop :=
  (∀ a, (k0_off125 v170_33_r0) a + S1.size a ≤ S2.size a) ∧
  (∀ a, (k0_off127 v170_33_r0) a + S1x2x1x1024x1024.size a ≤ S2x2x1x1024x1024.size a) ∧
  (∀ (hinb : ∀ a, (k0_off127 v170_33_r0) a + S1x2x1x1024x1024.size a ≤ S2x2x1x1024x1024.size a), (Rect.unit (s := S2x2x1x1024x1024) (k0_off127 v170_33_r0) S1x2x1x1024x1024.size hinb).WholeWords (EltTy.packing .bf16))
theorem k0_off125_inb : ∀ (v170_33_r0 : BitVec 32) (k0_hw6 : k0_chk6 v170_33_r0), ∀ a, (k0_off125 v170_33_r0) a + S1.size a ≤ S2.size a := fun v170_33_r0 k0_hw6 => k0_hw6.1
theorem k0_off127_inb : ∀ (v170_33_r0 : BitVec 32) (k0_hw6 : k0_chk6 v170_33_r0), ∀ a, (k0_off127 v170_33_r0) a + S1x2x1x1024x1024.size a ≤ S2x2x1x1024x1024.size a := fun v170_33_r0 k0_hw6 => k0_hw6.2.1
theorem k0_off127_wordsbf16 : ∀ (v170_33_r0 : BitVec 32) (k0_hw6 : k0_chk6 v170_33_r0), (Rect.unit (s := S2x2x1x1024x1024) (k0_off127 v170_33_r0) S1x2x1x1024x1024.size (k0_off127_inb v170_33_r0 k0_hw6)).WholeWords (EltTy.packing .bf16) := fun v170_33_r0 k0_hw6 => k0_hw6.2.2 (k0_off127_inb v170_33_r0 k0_hw6)

def k0_chk7 (v170_35_r0 : BitVec 32) (v170_34_r0 : BitVec 32) : Prop :=
  (∀ a, (k0_off126 v170_35_r0 v170_34_r0) a + S2x1x1024x1024.size a ≤ S2x16x1024x1024.size a) ∧
  (∀ (hinb : ∀ a, (k0_off126 v170_35_r0 v170_34_r0) a + S2x1x1024x1024.size a ≤ S2x16x1024x1024.size a), (Rect.unit (s := S2x16x1024x1024) (k0_off126 v170_35_r0 v170_34_r0) S2x1x1024x1024.size hinb).WholeWords (EltTy.packing .bf16))
theorem k0_off126_inb : ∀ (v170_35_r0 : BitVec 32) (v170_34_r0 : BitVec 32) (k0_hw7 : k0_chk7 v170_35_r0 v170_34_r0), ∀ a, (k0_off126 v170_35_r0 v170_34_r0) a + S2x1x1024x1024.size a ≤ S2x16x1024x1024.size a := fun v170_35_r0 v170_34_r0 k0_hw7 => k0_hw7.1
theorem k0_off126_wordsbf16 : ∀ (v170_35_r0 : BitVec 32) (v170_34_r0 : BitVec 32) (k0_hw7 : k0_chk7 v170_35_r0 v170_34_r0), (Rect.unit (s := S2x16x1024x1024) (k0_off126 v170_35_r0 v170_34_r0) S2x1x1024x1024.size (k0_off126_inb v170_35_r0 v170_34_r0 k0_hw7)).WholeWords (EltTy.packing .bf16) := fun v170_35_r0 v170_34_r0 k0_hw7 => k0_hw7.2 (k0_off126_inb v170_35_r0 v170_34_r0 k0_hw7)
-- ==== ReferenceIdeal.lean ====
abbrev S2x16x1024x1024 : Shape := ⟨4, ![2, 16, 1024, 1024]⟩
abbrev S2x16x1024 : Shape := ⟨3, ![2, 16, 1024]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x2x1024 : Shape := ⟨4, ![16, 2816, 2, 1024]⟩
abbrev S2x16x1024x2816 : Shape := ⟨4, ![2, 16, 1024, 2816]⟩
abbrev S_ : Shape := ⟨0, ![]⟩
abbrev S16x2816x1024 : Shape := ⟨3, ![16, 2816, 1024]⟩
abbrev S16x1024x2x1024 : Shape := ⟨4, ![16, 1024, 2, 1024]⟩
abbrev S2x16x1024x1 : Shape := ⟨4, ![2, 16, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S16x1024x2816, .f32⟩
  | .hbm, ⟨6, _⟩ => ⟨S16x2816x2x1024, .f32⟩
  | .hbm, ⟨7, _⟩ => ⟨S2x16x1024x2816, .f32⟩
  | .hbm, ⟨8, _⟩ => ⟨S2x16x1024x2816, .f32⟩
  | .hbm, ⟨9, _⟩ => ⟨S2x16x1024x2816, .f32⟩
  | .hbm, ⟨10, _⟩ => ⟨S_, .f32⟩
  | .hbm, ⟨11, _⟩ => ⟨S2x16x1024x2816, .f32⟩
  | .hbm, ⟨12, _⟩ => ⟨S2x16x1024x2816, .f32⟩
  | .hbm, ⟨13, _⟩ => ⟨S_, .f32⟩
  | .hbm, ⟨14, _⟩ => ⟨S2x16x1024x2816, .f32⟩
  | .hbm, ⟨15, _⟩ => ⟨S2x16x1024x2816, .f32⟩
  | .hbm, ⟨16, _⟩ => ⟨S2x16x1024x2816, .f32⟩
  | .hbm, ⟨17, _⟩ => ⟨S16x1024x2816, .f32⟩
  | .hbm, ⟨18, _⟩ => ⟨S16x2816x2x1024, .f32⟩
  | .hbm, ⟨19, _⟩ => ⟨S2x16x1024x2816, .f32⟩
  | .hbm, ⟨20, _⟩ => ⟨S2x16x1024x2816, .f32⟩
  | .hbm, ⟨21, _⟩ => ⟨S16x2816x1024, .f32⟩
  | .hbm, ⟨22, _⟩ => ⟨S16x1024x2x1024, .f32⟩
  | .hbm, ⟨23, _⟩ => ⟨S2x16x1024x1024, .f32⟩
  | .hbm, ⟨24, _⟩ => ⟨S2x16x1024x1, .f32⟩
  | .hbm, ⟨25, _⟩ => ⟨S2x16x1024x1024, .f32⟩
  | .hbm, ⟨26, _⟩ => ⟨S2x16x1024x1024, .f32⟩
  | .hbm, ⟨27, _⟩ => ⟨S2x16x1024x1024, .bf16⟩
  | _, _ => ⟨S2x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel2.lean ====
abbrev S2x1024 : Shape := ⟨2, ![2, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S2x6144 : Shape := ⟨2, ![2, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S2x6144, .f32⟩
  | .local _ .vmem, ⟨0, _⟩ => ⟨S2x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x1024 : Shape := ⟨2, ![2, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S2x6144 : Shape := ⟨2, ![2, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024x6144, .f32⟩
  | .hbm, ⟨2, _⟩ => ⟨S1x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1024x6144, .f32⟩
  | .hbm, ⟨13, _⟩ => ⟨S2x6144, .f32⟩
  | .hbm, ⟨14, _⟩ => ⟨S6144, .f32⟩
  | .hbm, ⟨15, _⟩ => ⟨S1x6144, .f32⟩
  | .hbm, ⟨16, _⟩ => ⟨S2x6144, .f32⟩
  | .hbm, ⟨17, _⟩ => ⟨S2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1x1024 : Shape := ⟨2, ![1, 1024]⟩
abbrev S1x1024x1792 : Shape := ⟨3, ![1, 1024, 1792]⟩
abbrev S16384x1024 : Shape := ⟨2, ![16384, 1024]⟩
abbrev S2x6x1024 : Shape := ⟨3, ![2, 6, 1024]⟩
abbrev S1024 : Shape := ⟨1, ![1024]⟩
abbrev S1024x1792 : Shape := ⟨2, ![1024, 1792]⟩
abbrev S16384x512 : Shape := ⟨2, ![16384, 512]⟩
abbrev S1024x1024 : Shape := ⟨2, ![1024, 1024]⟩
abbrev S1x6x1024 : Shape := ⟨3, ![1, 6, 1024]⟩
abbrev S1024x512 : Shape := ⟨2, ![1024, 512]⟩
abbrev S1x1x1024 : Shape := ⟨3, ![1, 1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1024x768 : Shape := ⟨2, ![1024, 768]⟩
abbrev S256x768 : Shape := ⟨2, ![256, 768]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1x1024, .f32⟩
  | .hbm, ⟨3, _⟩ => ⟨S1x1024x1792, .f32⟩
  | .hbm, ⟨4, _⟩ => ⟨S16384x1024, .f32⟩
  | .hbm, ⟨5, _⟩ => ⟨S2x6x1024, .f32⟩
  | .hbm, ⟨6, _⟩ => ⟨S1024, .f32⟩
  | .hbm, ⟨7, _⟩ => ⟨S1x1024, .f32⟩
  | .hbm, ⟨8, _⟩ => ⟨S1024x1792, .f32⟩
  | .hbm, ⟨9, _⟩ => ⟨S1024x1792, .bf16⟩
  | .hbm, ⟨10, _⟩ => ⟨S16384x512, .bf16⟩
  | .hbm, ⟨11, _⟩ => ⟨S16384x512, .bf16⟩
  | .hbm, ⟨12, _⟩ => ⟨S16384x512, .f32⟩
  | .hbm, ⟨13, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1792, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x8192x1024 : Shape := ⟨3, ![2, 8192, 1024]⟩
abbrev S2x6144 : Shape := ⟨2, ![2, 6144]⟩
abbrev S1x1024 : Shape := ⟨2, ![1, 1024]⟩
abbrev S1x1024x1792 : Shape := ⟨3, ![1, 1024, 1792]⟩
abbrev S2x1024 : Shape := ⟨2, ![2, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x1792 : Shape := ⟨2, ![1024, 1792]⟩
abbrev S2x8192x1792 : Shape := ⟨3, ![2, 8192, 1792]⟩
abbrev S2x8192x512 : Shape := ⟨3, ![2, 8192, 512]⟩
abbrev S2x8192x128 : Shape := ⟨3, ![2, 8192, 128]⟩
abbrev S16384x2x64 : Shape := ⟨3, ![16384, 2, 64]⟩
abbrev S16384x4x64 : Shape := ⟨3, ![16384, 4, 64]⟩
abbrev S16384x4x1x64 : Shape := ⟨4, ![16384, 4, 1, 64]⟩
abbrev S16384x4x2x64 : Shape := ⟨4, ![16384, 4, 2, 64]⟩
abbrev S16384x512 : Shape := ⟨2, ![16384, 512]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1x1024, .f32⟩
  | .hbm, ⟨3, _⟩ => ⟨S1x1024x1792, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S1024x1792, .f32⟩
  | .hbm, ⟨37, _⟩ => ⟨S2x8192x1792, .f32⟩
  | .hbm, ⟨38, _⟩ => ⟨S2x8192x512, .f32⟩
  | .hbm, ⟨39, _⟩ => ⟨S2x8192x128, .f32⟩
  | .hbm, ⟨40, _⟩ => ⟨S2x8192x128, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x512, .f32⟩
  | .hbm, ⟨60, _⟩ => ⟨S2x8192x512, .f32⟩
  | .hbm, ⟨61, _⟩ => ⟨S16384x2x64, .f32⟩
  | .hbm, ⟨62, _⟩ => ⟨S16384x2x64, .f32⟩
  | .hbm, ⟨63, _⟩ => ⟨S16384x4x64, .f32⟩
  | .hbm, ⟨64, _⟩ => ⟨S16384x4x1x64, .f32⟩
  | .hbm, ⟨65, _⟩ => ⟨S16384x4x2x64, .f32⟩
  | .hbm, ⟨66, _⟩ => ⟨S_, .f32⟩
  | .hbm, ⟨67, _⟩ => ⟨S2x8192x512, .f32⟩
  | .hbm, ⟨68, _⟩ => ⟨S2x8192x512, .f32⟩
  | .hbm, ⟨69, _⟩ => ⟨S16384x512, .f32⟩
  | .hbm, ⟨70, _⟩ => ⟨S16384x512, .bf16⟩
  | .hbm, ⟨71, _⟩ => ⟨S16384x512, .f32⟩
  | .hbm, ⟨72, _⟩ => ⟨S16384x512, .bf16⟩
  | .hbm, ⟨73, _⟩ => ⟨S16384x512, .f32⟩
  | .hbm, ⟨74, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x512 : Shape := ⟨3, ![2, 8192, 512]⟩
abbrev S2x8192x128 : Shape := ⟨3, ![2, 8192, 128]⟩
abbrev S2x6144 : Shape := ⟨2, ![2, 6144]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x16 : Shape := ⟨3, ![1, 1024, 16]⟩
abbrev S8 : Shape := ⟨1, ![8]⟩
abbrev S2x8192x64 : Shape := ⟨3, ![2, 8192, 64]⟩
abbrev S2x8192x256 : Shape := ⟨3, ![2, 8192, 256]⟩
abbrev S3x8x128x384 : Shape := ⟨4, ![3, 8, 128, 384]⟩
abbrev S_ : Shape := ⟨0, ![]⟩
abbrev S1x8x1x1 : Shape := ⟨4, ![1, 8, 1, 1]⟩
abbrev S3x2x512x384 : Shape := ⟨4, ![3, 2, 512, 384]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S16384x1024 : Shape := ⟨2, ![16384, 1024]⟩
abbrev S16384x512 : Shape := ⟨2, ![16384, 512]⟩
abbrev S2x6x1024 : Shape := ⟨3, ![2, 6, 1024]⟩
abbrev S8x128x128 : Shape := ⟨3, ![8, 128, 128]⟩
abbrev S4x256x128 : Shape := ⟨3, ![4, 256, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S2x16x8192 : Shape := ⟨3, ![2, 16, 8192]⟩
abbrev S1024x512 : Shape := ⟨2, ![1024, 512]⟩
abbrev S1x6x1024 : Shape := ⟨3, ![1, 6, 1024]⟩
abbrev S1x16x1024 : Shape := ⟨3, ![1, 16, 1024]⟩
abbrev S1280x512 : Shape := ⟨2, ![1280, 512]⟩
abbrev S1x128 : Shape := ⟨2, ![1, 128]⟩
abbrev S512x1 : Shape := ⟨2, ![512, 1]⟩
abbrev S1 : Shape := ⟨1, ![1]⟩
abbrev S384x512 : Shape := ⟨2, ![384, 512]⟩
abbrev S384x128 : Shape := ⟨2, ![384, 128]⟩
abbrev S128x128 : Shape := ⟨2, ![128, 128]⟩
abbrev S512x128 : Shape := ⟨2, ![512, 128]⟩
abbrev S512x384 : Shape := ⟨2, ![512, 384]⟩
abbrev S1x1x512x384 : Shape := ⟨4, ![1, 1, 512, 384]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S1024x1 : Shape := ⟨2, ![1024, 1]⟩
abbrev S512x1024 : Shape := ⟨2, ![512, 1024]⟩
abbrev S1x1x1024 : Shape := ⟨3, ![1, 1, 1024]⟩

abbrev nBuf : Space → Nat
  | .hbm => 103
  | .vmem => 36
  | .smem => 1
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x128, .f32⟩
  | .hbm, ⟨3, _⟩ => ⟨S2x8192x128, .f32⟩
  | .hbm, ⟨4, _⟩ => ⟨S2x8192x512, .f32⟩
  | .hbm, ⟨5, _⟩ => ⟨S2x8192x512, .f32⟩
  | .hbm, ⟨6, _⟩ => ⟨S2x6144, .f32⟩
  | .hbm, ⟨7, _⟩ => ⟨S1x8, .f32⟩
  | .hbm, ⟨8, _⟩ => ⟨S1x512, .f32⟩
  | .hbm, ⟨9, _⟩ => ⟨S1x512, .f32⟩
  | .hbm, ⟨10, _⟩ => ⟨S1x8x128x128, .f32⟩
  | .hbm, ⟨11, _⟩ => ⟨S1x8x128, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S1x1024, .f32⟩
  | .hbm, ⟨16, _⟩ => ⟨S1x1024, .f32⟩
  | .hbm, ⟨17, _⟩ => ⟨S1x1024x16, .f32⟩
  | .hbm, ⟨18, _⟩ => ⟨S8, .f32⟩
  | .hbm, ⟨19, _⟩ => ⟨S2x8192x64, .f32⟩
  | .hbm, ⟨20, _⟩ => ⟨S2x8192x64, .f32⟩
  | .hbm, ⟨21, _⟩ => ⟨S2x8192x256, .f32⟩
  | .hbm, ⟨22, _⟩ => ⟨S2x8192x64, .f32⟩
  | .hbm, ⟨23, _⟩ => ⟨S2x8192x64, .f32⟩
  | .hbm, ⟨24, _⟩ => ⟨S2x8192x256, .f32⟩
  | .hbm, ⟨25, _⟩ => ⟨S2x8192x512, .f32⟩
  | .hbm, ⟨26, _⟩ => ⟨S3x8x128x384, .i32⟩
  | .hbm, ⟨27, _⟩ => ⟨S3x8x128x384, .i32⟩
  | .hbm, ⟨28, _⟩ => ⟨S3x8x128x384, .i32⟩
  | .hbm, ⟨29, _⟩ => ⟨S3x8x128x384, .i32⟩
  | .hbm, ⟨30, _⟩ => ⟨S_, .i32⟩
  | .hbm, ⟨31, _⟩ => ⟨S3x8x128x384, .i32⟩
  | .hbm, ⟨32, _⟩ => ⟨S3x8x128x384, .i32⟩
  | .hbm, ⟨33, _⟩ => ⟨S3x8x128x384, .i32⟩
  | .hbm, ⟨34, _⟩ => ⟨S3x8x128x384, .i32⟩
  | .hbm, ⟨35, _⟩ => ⟨S_, .i32⟩
  | .hbm, ⟨36, _⟩ => ⟨S3x8x128x384, .i32⟩
  | .hbm, ⟨37, _⟩ => ⟨S3x8x128x384, .i1⟩
  | .hbm, ⟨38, _⟩ => ⟨S_, .i32⟩
  | .hbm, ⟨39, _⟩ => ⟨S3x8x128x384, .i32⟩
  | .hbm, ⟨40, _⟩ => ⟨S3x8x128x384, .i1⟩
  | .hbm, ⟨41, _⟩ => ⟨S_, .i32⟩
  | .hbm, ⟨42, _⟩ => ⟨S3x8x128x384, .i32⟩
  | .hbm, ⟨43, _⟩ => ⟨S3x8x128x384, .i1⟩
  | .hbm, ⟨44, _⟩ => ⟨S3x8x128x384, .i1⟩
  | .hbm, ⟨45, _⟩ => ⟨S3x8x128x384, .i1⟩
  | .hbm, ⟨46, _⟩ => ⟨S_, .i32⟩
  | .hbm, ⟨47, _⟩ => ⟨S3x8x128x384, .i32⟩
  | .hbm, ⟨48, _⟩ => ⟨S3x8x128x384, .i1⟩
  | .hbm, ⟨49, _⟩ => ⟨S_, .i32⟩
  | .hbm, ⟨50, _⟩ => ⟨S3x8x128x384, .i32⟩
  | .hbm, ⟨51, _⟩ => ⟨S3x8x128x384, .i1⟩
  | .hbm, ⟨52, _⟩ => ⟨S3x8x128x384, .i1⟩
  | .hbm, ⟨53, _⟩ => ⟨S3x8x128x384, .i1⟩
  | .hbm, ⟨54, _⟩ => ⟨S1x8x1x1, .f32⟩
  | .hbm, ⟨55, _⟩ => ⟨S1x8x1x1, .f32⟩
  | .hbm, ⟨56, _⟩ => ⟨S3x8x128x384, .f32⟩
  | .hbm, ⟨57, _⟩ => ⟨S3x8x128x384, .f32⟩
  | .hbm, ⟨58, _⟩ => ⟨S3x8x128x384, .f32⟩
  | .hbm, ⟨59, _⟩ => ⟨S_, .f32⟩
  | .hbm, ⟨60, _⟩ => ⟨S_, .f32⟩
  | .hbm, ⟨61, _⟩ => ⟨S3x8x128x384, .f32⟩
  | .hbm, ⟨62, _⟩ => ⟨S3x8x128x384, .f32⟩
  | .hbm, ⟨63, _⟩ => ⟨S3x2x512x384, .f32⟩
  | .hbm, ⟨64, _⟩ => ⟨S8x128, .f32⟩
  | .hbm, ⟨65, _⟩ => ⟨S128x8, .f32⟩
  | .hbm, ⟨66, _⟩ => ⟨S128x8x64, .f32⟩
  | .hbm, ⟨67, _⟩ => ⟨S128x512, .f32⟩
  | .hbm, ⟨68, _⟩ => ⟨S16384x1024, .f32⟩
  | .hbm, ⟨69, _⟩ => ⟨S_, .f32⟩
  | .hbm, ⟨70, _⟩ => ⟨S2x8192x512, .f32⟩
  | .hbm, ⟨71, _⟩ => ⟨S2x8192x512, .f32⟩
  | .hbm, ⟨72, _⟩ => ⟨S2x8192x512, .bf16⟩
  | .hbm, ⟨73, _⟩ => ⟨S16384x512, .bf16⟩
  | .hbm, ⟨74, _⟩ => ⟨S2x8192x512, .bf16⟩
  | .hbm, ⟨75, _⟩ => ⟨S16384x512, .bf16⟩
  | .hbm, ⟨76, _⟩ => ⟨S16384x512, .f32⟩
  | .hbm, ⟨77, _⟩ => ⟨S16384x512, .f32⟩
  | .hbm, ⟨78, _⟩ => ⟨S2x6x1024, .f32⟩
  | .hbm, ⟨79, _⟩ => ⟨S8, .f32⟩
  | .hbm, ⟨80, _⟩ => ⟨S8x128x128, .f32⟩
  | .hbm, ⟨81, _⟩ => ⟨S8x128x128, .bf16⟩
  | .hbm, ⟨82, _⟩ => ⟨S4x256x128, .bf16⟩
  | .hbm, ⟨83, _⟩ => ⟨S512, .f32⟩
  | .hbm, ⟨84, _⟩ => ⟨S1x512, .f32⟩
  | .hbm, ⟨85, _⟩ => ⟨S512, .f32⟩
  | .hbm, ⟨86, _⟩ => ⟨S1x512, .f32⟩
  | .hbm, ⟨87, _⟩ => ⟨S512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S1024x1024, .f32⟩
  | .hbm, ⟨92, _⟩ => ⟨S1024x1024, .bf16⟩
  | .hbm, ⟨93, _⟩ => ⟨S1024, .f32⟩
  | .hbm, ⟨94, _⟩ => ⟨S1x1024, .f32⟩
  | .hbm, ⟨95, _⟩ => ⟨S1024, .f32⟩
  | .hbm, ⟨96, _⟩ => ⟨S1x1024, .f32⟩
  | .hbm, ⟨97, _⟩ => ⟨S1024x16, .f32⟩
  | .hbm, ⟨98, _⟩ => ⟨S16x1024, .f32⟩
  | .hbm, ⟨99, _⟩ => ⟨S16x1024, .bf16⟩
  | .hbm, ⟨100, _⟩ => ⟨S16384x1024, .f32⟩
  | .hbm, ⟨101, _⟩ => ⟨S16384x1024, .bf16⟩
  | .hbm, ⟨102, _⟩ => ⟨S2x16x8192, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x6x1024, .f32⟩
  | .local _ .vmem, ⟨15, _⟩ => ⟨S1x6x1024, .f32⟩
  | .local _ .vmem, ⟨16, _⟩ => ⟨S3x2x512x384, .f32⟩
  | .local _ .vmem, ⟨17, _⟩ => ⟨S4x256x128, .bf16⟩
  | .local _ .vmem, ⟨18, _⟩ => ⟨S128x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S16x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1x16x1024, .f32⟩
  | .local _ .vmem, ⟨32, _⟩ => ⟨S1x16x1024, .f32⟩
  | .local _ .vmem, ⟨33, _⟩ => ⟨S1280x512, .bf16⟩
  | .local _ .vmem, ⟨34, _⟩ => ⟨S1024x512, .f32⟩
  | .local _ .vmem, ⟨35, _⟩ => ⟨S1024x512, .f32⟩
  | .local _ .smem, ⟨0, _⟩ => ⟨S8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71_0 : Ref sig .tc := ⟨.hbm, 100, rfl⟩
abbrev main_v71_1 : Ref sig .tc := ⟨.hbm, 101, rfl⟩
abbrev main_v71_2 : Ref sig .tc := ⟨.hbm, 102, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_22 : BitVec 32 := 0#32
  let c8_i32 : BitVec 32 := 8#32
  let v85 : BitVec 32 := Scalar.addi c0_i32_22 c8_i32
  let c1_i32_23 : BitVec 32 := 1#32
  ⟨c0_i32_22, v85, c1_i32_23⟩
def k0_mult1 (k0_t1 : Fin k0_t1_loop.trips) : BitVec 32 :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  v186
def k0_off1 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v204 : Index := Scalar.indexCast v187
  let c0_90 : Index := 0#32
  ![v204.toNat, 0]
def k0_off2 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v208 : Index := Scalar.indexCast v187
  let c0_91 : Index := 0#32
  ![v208.toNat, 0]
def k0_off3 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v219 : Index := Scalar.indexCast v187
  let c128_92 : Index := 128#32
  ![v219.toNat, 128]
def k0_off4 (i : grid0.Coords) (k0_t1 : Fin k0_t1_loop.trips) : Fin 4 → Nat :=
  let arg0 : BitVec 32 := BitVec.ofNat 32 (i 0).val
  let c8_i32_79 : BitVec 32 := 8#32
  let v188 : BitVec 32 := Scalar.muli arg0 c8_i32_79
  let c0_i32_22 : BitVec 32 := 0#32
  let c1_i32_23 : BitVec 32 := 1#32
  let arg27 : BitVec 32 := Scf.iv c0_i32_22 c1_i32_23 k0_t1
  let v189 : BitVec 32 := Scalar.addi v188 arg27
  let c64_i32_80 : BitVec 32 := 64#32
  let c0_i32_81 : BitVec 32 := 0#32
  let v190 : BitVec 1 := Scalar.cmpi .eq c64_i32_80 c0_i32_81
  let c1_i32_82 : BitVec 32 := 1#32
  let v191 : BitVec 32 := Scalar.select v190 c1_i32_82 c64_i32_80
  let v192 : BitVec 32 := Scalar.remsi v189 v191
  let c0_i32_84 : BitVec 32 := 0#32
  let v194 : BitVec 1 := Scalar.cmpi .slt v192 c0_i32_84
  let c0_i32_85 : BitVec 32 := 0#32
  let v195 : BitVec 1 := Scalar.cmpi .slt v191 c0_i32_85
  let v196 : BitVec 1 := Scalar.xori v194 v195
  let c0_i32_83 : BitVec 32 := 0#32
  let v193 : BitVec 1 := Scalar.cmpi .ne v192 c0_i32_83
  let v197 : BitVec 1 := Scalar.andi v196 v193
  let v198 : BitVec 32 := Scalar.addi v192 v191
  let v199 : BitVec 32 := Scalar.select v197 v198 v192
  let c0_i32_86 : BitVec 32 := 0#32
  let v200 : BitVec 1 := Scalar.cmpi .eq v199 c0_i32_86
  let c0_i32_89 : BitVec 32 := 0#32
  let c63_i32 : BitVec 32 := 63#32
  let v201 : BitVec 1 := Scalar.cmpi .eq v199 c63_i32
  let c2_i32_87 : BitVec 32 := 2#32
  let c1_i32_88 : BitVec 32 := 1#32
  let v202 : BitVec 32 := Scalar.select v201 c2_i32_87 c1_i32_88
  let v203 : BitVec 32 := Scalar.select v200 c0_i32_89 v202
  let v232 : Index := Scalar.indexCast v203
  let c0_94 : Index := 0#32
  let c0_95 : Index := 0#32
  let c0_96 : Index := 0#32
  ![v232.toNat, 0, 0, 0]
def k0_off5 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v271 : Index := Scalar.indexCast v187
  let c256 : Index := 256#32
  ![v271.toNat, 256]
def k0_off6 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v282 : Index := Scalar.indexCast v187
  let c384 : Index := 384#32
  ![v282.toNat, 384]
def k0_off7 (i : grid0.Coords) (k0_t1 : Fin k0_t1_loop.trips) : Fin 4 → Nat :=
  let arg0 : BitVec 32 := BitVec.ofNat 32 (i 0).val
  let c8_i32_79 : BitVec 32 := 8#32
  let v188 : BitVec 32 := Scalar.muli arg0 c8_i32_79
  let c0_i32_22 : BitVec 32 := 0#32
  let c1_i32_23 : BitVec 32 := 1#32
  let arg27 : BitVec 32 := Scf.iv c0_i32_22 c1_i32_23 k0_t1
  let v189 : BitVec 32 := Scalar.addi v188 arg27
  let c64_i32_80 : BitVec 32 := 64#32
  let c0_i32_81 : BitVec 32 := 0#32
  let v190 : BitVec 1 := Scalar.cmpi .eq c64_i32_80 c0_i32_81
  let c1_i32_82 : BitVec 32 := 1#32
  let v191 : BitVec 32 := Scalar.select v190 c1_i32_82 c64_i32_80
  let v192 : BitVec 32 := Scalar.remsi v189 v191
  let c0_i32_84 : BitVec 32 := 0#32
  let v194 : BitVec 1 := Scalar.cmpi .slt v192 c0_i32_84
  let c0_i32_85 : BitVec 32 := 0#32
  let v195 : BitVec 1 := Scalar.cmpi .slt v191 c0_i32_85
  let v196 : BitVec 1 := Scalar.xori v194 v195
  let c0_i32_83 : BitVec 32 := 0#32
  let v193 : BitVec 1 := Scalar.cmpi .ne v192 c0_i32_83
  let v197 : BitVec 1 := Scalar.andi v196 v193
  let v198 : BitVec 32 := Scalar.addi v192 v191
  let v199 : BitVec 32 := Scalar.select v197 v198 v192
  let c0_i32_86 : BitVec 32 := 0#32
  let v200 : BitVec 1 := Scalar.cmpi .eq v199 c0_i32_86
  let c0_i32_89 : BitVec 32 := 0#32
  let c63_i32 : BitVec 32 := 63#32
  let v201 : BitVec 1 := Scalar.cmpi .eq v199 c63_i32
  let c2_i32_87 : BitVec 32 := 2#32
  let c1_i32_88 : BitVec 32 := 1#32
  let v202 : BitVec 32 := Scalar.select v201 c2_i32_87 c1_i32_88
  let v203 : BitVec 32 := Scalar.select v200 c0_i32_89 v202
  let v295 : Index := Scalar.indexCast v203
  let c1_103 : Index := 1#32
  let c0_104 : Index := 0#32
  let c0_105 : Index := 0#32
  ![v295.toNat, 1, 0, 0]
def k0_off8 (k0_t1 : Fin k0_t1_loop.trips) : Fin 2 → Nat :=
  let c0_i32_22 : BitVec 32 := 0#32
  let c1_i32_23 : BitVec 32 := 1#32
  let arg27 : BitVec 32 := Scf.iv c0_i32_22 c1_i32_23 k0_t1
  let c128_i32_78 : BitVec 32 := 128#32
  let v186 : BitVec 32 := Scalar.muli arg27 c128_i32_78
  let v187 : BitVec 32 := v186
  let v332 : Index := Scalar.indexCast v187
  let c0_111 : Index := 0#32
  ![v332.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x2x512x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x16x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Proof.Mix.Run.lean ====
/-
  The mixing: the run of one grid point.  The skeletons of the program's functions are executed once, at a symbolic
  grid point, with the block loop by its invariant; the run finds what is stored in the three results.
-/
module

public import proofs.«01_k».proof.Proof.Gen.Kernel4Ideal.Frame.Runs

@[expose] public section

-- membership in a rectangle of production extents (`View.cover_of_tiled`): the elaborator's structural look
-- recurses once per coordinate of the long axes
set_option maxRecDepth 16384

noncomputable section

namespace Cert.Mix

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 40000000 in
/-- What one grid point stores into the three results' blocks, last store first, with the proof that the body, on its
    inputs' blocks and on anything in the results' and the scratch buffers, runs and leaves just that. -/
noncomputable def kernelRun0_A (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) :
    Σ' (L20 : List (View.Piece (Elt F) S1024x1024 .f32)), Σ' (L21 : List (View.Piece (Elt F) S1024x1024 .bf16)), { L22 : List (View.Piece (Elt F) S1x16x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0_mix_eq_skeleton]; unfold cc0_mix_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    have hrd0 : ∀ (𝒱 : Variants) (c : Dev nD) (bd : Option 𝒱.V) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole) (arg0 : BitVec 32) (v17 : IVec S1x128 1) (v42 : IVec S512x1 32) (v63 : FVec F S512x1 .f32) (v79 : FVec F S512x1 .f32) (v82 : Elt F .f32) (cst_21 : F .bf16) (X_arg3 : BufTy.Contents (Elt F) arg3.view.ty) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg24 : BufTy.Contents (Elt F) arg24.view.ty) (hrdF : BufTy.Contents (Elt F) arg25.view.ty) (hrdB : LoadRect S1024x512), arg25.view.readAt (Elt F) hrdB (arg25.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).1) = arg25.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).1 S128x128.size (by sl_kernel_rfl) (hrdB.idx hrdJ))
    have hrd1 : ∀ (𝒱 : Variants) (c : Dev nD) (bd : Option 𝒱.V) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole) (arg0 : BitVec 32) (v17 : IVec S1x128 1) (v42 : IVec S512x1 32) (v63 : FVec F S512x1 .f32) (v79 : FVec F S512x1 .f32) (v82 : Elt F .f32) (cst_21 : F .bf16) (X_arg3 : BufTy.Contents (Elt F) arg3.view.ty) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg24 : BufTy.Contents (Elt F) arg24.view.ty) (hrdF : BufTy.Contents (Elt F) arg26.view.ty) (hrdB : LoadRect S1024x512), arg26.view.readAt (Elt F) hrdB (arg26.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).2) = arg26.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v17 v42 v63 v79 v82 cst_21 X_arg3 X_arg7 X_arg8 X_arg10 X_arg11 X_arg12 X_arg13 X_arg14 X_arg24 (Scf.trips k0_t1_loop.lb k0_t1_loop.ub k0_t1_loop.st)).2 S128x128.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Mix

end
-- ==== Proof.Mix.Frame.lean ====
/-
  The mixing: the frame.  What the three results' blocks hold point by point, the obligation of one grid point, from the
  run of `Run`, and the launch.
-/
module

public import proofs.«01_k».proof.Proof.Mix.Run
public import Idealize.ShloMosaic.Lib.Claim

@[expose] public section

-- membership in a rectangle of production extents (`View.cover_of_tiled`): the elaborator's structural look
-- recurses once per coordinate of the long axes
set_option maxRecDepth 16384

noncomputable section

namespace Cert.Mix

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's stores into result 20's block cover it. -/
theorem cover0_A_20 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).1 S1024x1024.size (by sl_kernel_rfl) y

/-- What the run leaves in output 20's staging buffer: its pieces read back over junk. -/
def out0_A_20 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) : Vec F S1024x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).1)

/-- The run's stores into result 21's block cover it. -/
theorem cover0_A_21 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.1 S1024x1024.size (by sl_kernel_rfl) y

/-- What the run leaves in output 21's staging buffer: its pieces read back over junk. -/
def out0_A_21 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) : Vec F S1024x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.1)

/-- The run's stores into result 22's block cover it. -/
theorem cover0_A_22 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) (y : S1x16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.2.1 S1x16x1024.size (by sl_kernel_rfl) y

/-- What the run leaves in output 22's staging buffer: its pieces read back over junk. -/
def out0_A_22 (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S128x512 .bf16) (harg4 : arg4.IsWhole) (arg5 : Memref sig .tc .vmem S1024x512 .bf16) (harg5 : arg5.IsWhole) (arg6 : Memref sig .tc .vmem S128x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x6x1024 .f32) (harg9 : arg9.IsWhole) (arg10 : Memref sig .tc .vmem S3x2x512x384 .f32) (harg10 : arg10.IsWhole) (arg11 : Memref sig .tc .vmem S4x256x128 .bf16) (harg11 : arg11.IsWhole) (arg12 : Memref sig .tc .vmem S128x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S16x1024 .bf16) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S1x16x1024 .f32) (harg23 : arg23.IsWhole) (arg24 : Memref sig .tc .vmem S1280x512 .bf16) (harg24 : arg24.IsWhole) (arg25 : Memref sig .tc .vmem S1024x512 .f32) (harg25 : arg25.IsWhole) (arg26 : Memref sig .tc .vmem S1024x512 .f32) (harg26 : arg26.IsWhole)
    (x0 : Vec F S8 .f32) (x1 : Vec F S1024x1024 .f32) (x2 : Vec F S1024x512 .bf16) (x3 : Vec F S128x512 .bf16) (x4 : Vec F S1024x512 .bf16) (x5 : Vec F S128x512 .bf16) (x6 : Vec F S1024x512 .f32) (x7 : Vec F S1024x512 .f32) (x8 : Vec F S1x6x1024 .f32) (x9 : Vec F S3x2x512x384 .f32) (x10 : Vec F S4x256x128 .bf16) (x11 : Vec F S128x512 .f32) (x12 : Vec F S1x512 .f32) (x13 : Vec F S1x512 .f32) (x14 : Vec F S1x512 .f32) (x15 : Vec F S1x512 .f32) (x16 : Vec F S1024x1024 .bf16) (x17 : Vec F S1x1024 .f32) (x18 : Vec F S1x1024 .f32) (x19 : Vec F S16x1024 .bf16) : Vec F S1x16x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19).2.2.1)

/-! ## What the outputs hold after each point -/

/-- What the outputs' staging buffers hold after the body at point `t` (as a tuple, in window order): the run's contents at
    the point's memrefs and input blocks. -/
def outsAt0 (c : Dev nD) (t : Fin cfg0.N) : Vec F S1024x1024 .f32 × Vec F S1024x1024 .bf16 × Vec F S1x16x1024 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t).1
    | ⟨21, _⟩ => (outsAt0 m c t).2.1
    | ⟨22, _⟩ => (outsAt0 m c t).2.2
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t).1 := by dsimp only [dats]
theorem after0_21 (c : Dev nD) (t : Fin cfg0.N) : (dats m 0 c).after 21 t = (outsAt0 m c t).2.1 := by dsimp only [dats]
theorem after0_22 (c : Dev nD) (t : Fin cfg0.N) : (dats m 0 c).after 22 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_20 out0_A_21 out0_A_22; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, ⟨%e20, H20⟩, ⟨%e21, H21⟩, ⟨%e22, H22⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame: the program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Mix

end
-- ==== Proof.Mix.Same.lean ====
/-
  The mixing: the program and its ideal reading have the same text, so the one frame is both programs'.
-/
module

public import proofs.«01_k».proof.Defs
public import proofs.«01_k».proof.Proof.Gen.Kernel4
public import proofs.«01_k».proof.Proof.Mix.Frame

@[expose] public section

set_option maxHeartbeats 16000000

noncomputable section

namespace Cert.Mix

open Idealize.ShloMosaic Idealize.SL.Sem

/-- The mixing: the program's one label has the same body in both readings, -/
theorem body4 : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl
  | ⟨_ + 1, h⟩, _ => exact absurd h (Nat.not_lt.2 (Nat.le_add_left _ _))
theorem defs4 : Cert.Kernel4.defs (F := Bits) = Cert.Kernel4Ideal.defs (F := Bits) :=
  congrArg (Pipeline.defs (Cert.Kernel4Ideal.pcfgs (F := Bits))) body4
theorem main4 : Cert.Kernel4.main (F := Bits) = Cert.Kernel4Ideal.main (F := Bits) := rfl
/-- so that the one run, read at machine words, is the program's frame. -/
theorem frame_kernel : Cert.quiescent_Kernel4 := fun m ρ _ => by
  have h := frame (F := Bits) m ρ
  rw [← defs4] at h
  exact h

end Cert.Mix

end
-- ==== Proof.Base.lean ====
/-
  The numbers the pipeline keeps, in closed form; the assertions a buffer slot goes through; and the rules by which a
  transfer into a slot is issued and waited for.
-/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic
public import Idealize.ShloMosaic.Lib.Pipeline.Kit

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the transfers' counters. -/
abbrev UU (nD : Nat) (τ : Topo) : Type := UR sig nD τ × Counters

local notation "𝕄" => MT nD τ sig Unit (Elt F) ℕ (UU nD τ) ℕ

/-- Calls are answered below a natural number: the prefetch loops call themselves. -/
abbrev 𝒱₀ : Variants := Variants.nat

/-! ## The carried numbers before trip `t`, in closed form -/

/-- A number as a word. -/
abbrev wd (n : ℕ) : BitVec 32 := BitVec.ofNat 32 n
/-- Token blocks issued so far. -/
abbrev wX (t : ℕ) : BitVec 32 := wd (if t % 3 = 0 then min (t / 3 + 1) 16 else min (t / 3 + 2) 16)
/-- The expert being worked on. -/
abbrev wE (t : ℕ) : BitVec 32 := wd (t / 3)
/-- Where the look-ahead over the grid stands: the expert, -/
abbrev wPe (t : ℕ) : BitVec 32 := wd (if 45 ≤ t then 15 else if t % 3 = 0 then t / 3 else t / 3 + 1)
/-- and the step within it. -/
abbrev wPf (t : ℕ) : BitVec 32 := wd (if 45 < t then 2 else 0)
/-- Weight blocks issued so far. -/
abbrev wN (t : ℕ) : BitVec 32 := wd (min (t + 1) 48)
/-- Weight blocks waited for so far. -/
abbrev wT (t : ℕ) : BitVec 32 := wd t
/-- Result blocks waited for so far. -/
abbrev wO (t : ℕ) : BitVec 32 := wd (if t = 48 then 15 else if t % 3 = 0 then t / 3 - 1 else t / 3)
/-- The grid's expert, -/
abbrev wI (t : ℕ) : BitVec 32 := wd (t / 3 % 16)
/-- and its step. -/
abbrev wF (t : ℕ) : BitVec 32 := wd (t % 3)

/-- A function of every array, staging buffer and semaphore array the kernel is given. -/
abbrev MemFn (β : Type 1) : Type 1 := (arg0 : Memref sig .tc .hbm S2x16x1024x1024 .bf16) → (harg0 : arg0.IsWhole) → (arg1 : Memref sig .tc .hbm S2x16x1024x128 .f32) → (harg1 : arg1.IsWhole) → (arg2 : Memref sig .tc .hbm S16x1024x2816 .f32) → (harg2 : arg2.IsWhole) → (arg3 : Memref sig .tc .hbm S16x1024x2816 .f32) → (harg3 : arg3.IsWhole) → (arg4 : Memref sig .tc .hbm S16x2816x1024 .f32) → (harg4 : arg4.IsWhole) → (arg5 : Memref sig .tc .hbm S16x1024x2816 .f32) → (harg5 : arg5.IsWhole) → (arg6 : Memref sig .tc .hbm S16x1024x2816 .f32) → (harg6 : arg6.IsWhole) → (arg7 : Memref sig .tc .hbm S16x2816x1024 .f32) → (harg7 : arg7.IsWhole) → (arg8 : Memref sig .tc .hbm S16x1024x2816 .f32) → (harg8 : arg8.IsWhole) → (arg9 : Memref sig .tc .hbm S16x1024x2816 .f32) → (harg9 : arg9.IsWhole) → (arg10 : Memref sig .tc .hbm S16x2816x1024 .f32) → (harg10 : arg10.IsWhole) → (arg11 : Memref sig .tc .hbm S16x1024x2816 .f32) → (harg11 : arg11.IsWhole) → (arg12 : Memref sig .tc .hbm S16x1024x2816 .f32) → (harg12 : arg12.IsWhole) → (arg13 : Memref sig .tc .hbm S16x2816x1024 .f32) → (harg13 : arg13.IsWhole) → (arg14 : Memref sig .tc .hbm S2x16x1024x1024 .bf16) → (harg14 : arg14.IsWhole) → (arg15 : Memref sig .tc .vmem S2048x1024 .f32) → (harg15 : arg15.IsWhole) → (alloca : Memref sig .tc .vmem S2x2x1x1024x1024 .bf16) → (halloca : alloca.IsWhole) → (v0 : DmaSems sig S2) → (alloca_0 : Memref sig .tc .vmem S2x2x1x1024x128 .f32) → (halloca_0 : alloca_0.IsWhole) → (v1 : DmaSems sig S2) → (alloca_1 : Memref sig .tc .vmem S2x1x1024x256 .f32) → (halloca_1 : alloca_1.IsWhole) → (v2 : DmaSems sig S2) → (alloca_2 : Memref sig .tc .vmem S2x1x1024x256 .f32) → (halloca_2 : alloca_2.IsWhole) → (v3 : DmaSems sig S2) → (alloca_3 : Memref sig .tc .vmem S2x1x256x1024 .f32) → (halloca_3 : alloca_3.IsWhole) → (v4 : DmaSems sig S2) → (alloca_4 : Memref sig .tc .vmem S2x1x1024x256 .f32) → (halloca_4 : alloca_4.IsWhole) → (v5 : DmaSems sig S2) → (alloca_5 : Memref sig .tc .vmem S2x1x1024x256 .f32) → (halloca_5 : alloca_5.IsWhole) → (v6 : DmaSems sig S2) → (alloca_6 : Memref sig .tc .vmem S2x1x256x1024 .f32) → (halloca_6 : alloca_6.IsWhole) → (v7 : DmaSems sig S2) → (alloca_7 : Memref sig .tc .vmem S2x1x1024x256 .f32) → (halloca_7 : alloca_7.IsWhole) → (v8 : DmaSems sig S2) → (alloca_8 : Memref sig .tc .vmem S2x1x1024x256 .f32) → (halloca_8 : alloca_8.IsWhole) → (v9 : DmaSems sig S2) → (alloca_9 : Memref sig .tc .vmem S2x1x256x1024 .f32) → (halloca_9 : alloca_9.IsWhole) → (v10 : DmaSems sig S2) → (alloca_10 : Memref sig .tc .vmem S2x1x1024x256 .f32) → (halloca_10 : alloca_10.IsWhole) → (v11 : DmaSems sig S2) → (alloca_11 : Memref sig .tc .vmem S2x1x1024x256 .f32) → (halloca_11 : alloca_11.IsWhole) → (v12 : DmaSems sig S2) → (alloca_12 : Memref sig .tc .vmem S2x1x256x1024 .f32) → (halloca_12 : alloca_12.IsWhole) → (v13 : DmaSems sig S2) → (alloca_13 : Memref sig .tc .vmem S2x2x1x1024x1024 .bf16) → (halloca_13 : alloca_13.IsWhole) → (v14 : DmaSems sig S2) → β

/-- It, at the kernel's own. -/
abbrev atMems {β : Type 1} (f : MemFn β) : β :=
  f (Memref.whole main_v5) (Memref.isWhole_whole _) (Memref.whole main_v4) (Memref.isWhole_whole _) (Memref.whole main_v0) (Memref.isWhole_whole _) (Memref.whole main_v1) (Memref.isWhole_whole _) (Memref.whole main_v2) (Memref.isWhole_whole _) (Memref.whole main_v0) (Memref.isWhole_whole _) (Memref.whole main_v1) (Memref.isWhole_whole _) (Memref.whole main_v2) (Memref.isWhole_whole _) (Memref.whole main_v0) (Memref.isWhole_whole _) (Memref.whole main_v1) (Memref.isWhole_whole _) (Memref.whole main_v2) (Memref.isWhole_whole _) (Memref.whole main_v0) (Memref.isWhole_whole _) (Memref.whole main_v1) (Memref.isWhole_whole _) (Memref.whole main_v2) (Memref.isWhole_whole _) (Memref.whole main_v6) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29

/-! ## The canonical slots, blocks and semaphores -/

theorem inb_sem (n : ℕ) : ∀ a, (![n % 2] : Fin 1 → ℕ) a + S1.size a ≤ S2.size a := by
  intro a; fin_cases a; show n % 2 + 1 ≤ 2; omega
theorem inb_g (n : ℕ) : ∀ a, (![n % 2, 0, 0, 0] : Fin 4 → ℕ) a + S1x1x1024x256.size a ≤ S2x1x1024x256.size a := by
  intro a; fin_cases a <;> (first | (show n % 2 + 1 ≤ 2; omega) | exact (Nat.zero_add _).le)
theorem inb_d (n : ℕ) : ∀ a, (![n % 2, 0, 0, 0] : Fin 4 → ℕ) a + S1x1x256x1024.size a ≤ S2x1x256x1024.size a := by
  intro a; fin_cases a <;> (first | (show n % 2 + 1 ≤ 2; omega) | exact (Nat.zero_add _).le)
theorem inb_x (n : ℕ) : ∀ a, (![n % 2, 0, 0, 0, 0] : Fin 5 → ℕ) a + S1x2x1x1024x1024.size a ≤ S2x2x1x1024x1024.size a := by
  intro a; fin_cases a <;> (first | (show n % 2 + 1 ≤ 2; omega) | exact (Nat.zero_add _).le)
theorem inb_s (n : ℕ) : ∀ a, (![n % 2, 0, 0, 0, 0] : Fin 5 → ℕ) a + S1x2x1x1024x128.size a ≤ S2x2x1x1024x128.size a := by
  intro a; fin_cases a <;> (first | (show n % 2 + 1 ≤ 2; omega) | exact (Nat.zero_add _).le)
theorem inb_gB (e k : ℕ) : ∀ a, (![e % 16, 0, 256 * min k 10] : Fin 3 → ℕ) a + S1x1024x256.size a ≤ S16x1024x2816.size a := by
  intro a; fin_cases a <;> (first | (show e % 16 + 1 ≤ 16; omega) | (show 256 * min k 10 + 256 ≤ 2816; omega) | exact (Nat.zero_add _).le)
theorem inb_dB (e k : ℕ) : ∀ a, (![e % 16, 256 * min k 10, 0] : Fin 3 → ℕ) a + S1x256x1024.size a ≤ S16x2816x1024.size a := by
  intro a; fin_cases a <;> (first | (show e % 16 + 1 ≤ 16; omega) | (show 256 * min k 10 + 256 ≤ 2816; omega) | exact (Nat.zero_add _).le)
theorem inb_xB (e : ℕ) : ∀ a, (![0, e % 16, 0, 0] : Fin 4 → ℕ) a + S2x1x1024x1024.size a ≤ S2x16x1024x1024.size a := by
  intro a; fin_cases a <;> (first | (show e % 16 + 1 ≤ 16; omega) | exact (Nat.zero_add _).le)
theorem inb_sB (e : ℕ) : ∀ a, (![0, e % 16, 0, 0] : Fin 4 → ℕ) a + S2x1x1024x128.size a ≤ S2x16x1024x128.size a := by
  intro a; fin_cases a <;> (first | (show e % 16 + 1 ≤ 16; omega) | exact (Nat.zero_add _).le)

/-- Semaphore `n mod 2` of a pair. -/
abbrev semC (v : DmaSems sig S2) (n : ℕ) : DmaSem sig := ((v.slice (Rect.unit (s := S2) ![n % 2] S1.size (inb_sem n))).squeeze S_ squeezes_S1_S_).sem
/-- Slot `n mod 2` of a pair of gate or up blocks, -/
abbrev slotG (al : Memref sig .tc .vmem S2x1x1024x256 .f32) (n : ℕ) : Memref sig .tc .vmem S1x1024x256 .f32 :=
  (al.slice (Rect.unit (s := S2x1x1024x256) ![n % 2, 0, 0, 0] S1x1x1024x256.size (inb_g n)) (fun _ => rfl)).squeeze S1x1024x256 squeezes_S1x1x1024x256_S1x1024x256
/-- of a pair of down blocks, -/
abbrev slotD (al : Memref sig .tc .vmem S2x1x256x1024 .f32) (n : ℕ) : Memref sig .tc .vmem S1x256x1024 .f32 :=
  (al.slice (Rect.unit (s := S2x1x256x1024) ![n % 2, 0, 0, 0] S1x1x256x1024.size (inb_d n)) (fun _ => rfl)).squeeze S1x256x1024 squeezes_S1x1x256x1024_S1x256x1024
/-- of a pair of token (or result) blocks, -/
abbrev slotX (al : Memref sig .tc .vmem S2x2x1x1024x1024 .bf16) (n : ℕ) : Memref sig .tc .vmem S2x1x1024x1024 .bf16 :=
  (al.slice (Rect.unit (s := S2x2x1x1024x1024) ![n % 2, 0, 0, 0, 0] S1x2x1x1024x1024.size (inb_x n)) (fun _ => rfl)).squeeze S2x1x1024x1024 squeezes_S1x2x1x1024x1024_S2x1x1024x1024
/-- of a pair of routing-weight blocks. -/
abbrev slotS (al : Memref sig .tc .vmem S2x2x1x1024x128 .f32) (n : ℕ) : Memref sig .tc .vmem S2x1x1024x128 .f32 :=
  (al.slice (Rect.unit (s := S2x2x1x1024x128) ![n % 2, 0, 0, 0, 0] S1x2x1x1024x128.size (inb_s n)) (fun _ => rfl)).squeeze S2x1x1024x128 squeezes_S1x2x1x1024x128_S2x1x1024x128
/-- Column block `k` of expert `e` of the gate or up weights, -/
abbrev blkG (a : Memref sig .tc .hbm S16x1024x2816 .f32) (e k : ℕ) : Memref sig .tc .hbm S1x1024x256 .f32 :=
  a.slice (Rect.unit (s := S16x1024x2816) ![e % 16, 0, 256 * min k 10] S1x1024x256.size (inb_gB e k)) (fun _ => rfl)
/-- row block `k` of expert `e` of the down weights, -/
abbrev blkD (a : Memref sig .tc .hbm S16x2816x1024 .f32) (e k : ℕ) : Memref sig .tc .hbm S1x256x1024 .f32 :=
  a.slice (Rect.unit (s := S16x2816x1024) ![e % 16, 256 * min k 10, 0] S1x256x1024.size (inb_dB e k)) (fun _ => rfl)
/-- expert `e`'s tokens (or results), -/
abbrev blkX (a : Memref sig .tc .hbm S2x16x1024x1024 .bf16) (e : ℕ) : Memref sig .tc .hbm S2x1x1024x1024 .bf16 :=
  a.slice (Rect.unit (s := S2x16x1024x1024) ![0, e % 16, 0, 0] S2x1x1024x1024.size (inb_xB e)) (fun _ => rfl)
/-- and its routing weights. -/
abbrev blkS (a : Memref sig .tc .hbm S2x16x1024x128 .f32) (e : ℕ) : Memref sig .tc .hbm S2x1x1024x128 .f32 :=
  a.slice (Rect.unit (s := S2x16x1024x128) ![0, e % 16, 0, 0] S2x1x1024x128.size (inb_sB e)) (fun _ => rfl)

/-! ## What is held -/

/-- The transfers' counters in the resource algebra. -/
abbrev EC : UEmb Counters 𝕄 := countersEmb (U := UU nD τ)

/-- An array that is only read: some share of it, all of it at `f`. -/
def RO {ℓ : Loc nD τ sig} (f : Buf (Elt F) ℓ) : sProp 𝕄 := iprop(∃ q, ℓ ↦{q} f)

/-- Half of any share is a share. -/
theorem RO_dup {ℓ : Loc nD τ sig} (f : Buf (Elt F) ℓ) : (RO f : sProp 𝕄) ⊢ iprop(RO f ∗ RO f) := by
  unfold RO
  iintro ⟨%q, H⟩
  ihave H := (pointsTo_share (PosShare.mem_left_op_right q)).1 $$ H
  icases H with ⟨H1, H2⟩
  isplitl [H1]
  · iexists _; iexact H1
  · iexists _; iexact H2

variable (c : Dev nD) {sp sp' : Space} {s : Shape} {e : EltTy}

/-- What a core owes: nothing, whatever it has waited for. -/
def OW : sProp 𝕄 := iprop(∃ W, owes (c : Thread nD τ) (0 : CellTallies nD τ sig Unit) W)

/-- A view's elements at the contents `X`. -/
abbrev At (d : Memref sig .tc sp s e) (X : s.Idx → Elt F e) : sProp 𝕄 :=
  d.view.loc (c : Thread nD τ) ↦[d.view.set]{fullShare} d.view.rep X
/-- A view's elements at something. -/
abbrev Some' (d : Memref sig .tc sp s e) : sProp 𝕄 :=
  iprop(∃ f, d.view.loc (c : Thread nD τ) ↦[d.view.set]{fullShare} f)
/-- Semaphore `m` at zero. -/
abbrev Zero (m : DmaSem sig) : sProp 𝕄 := semVal ((c : Thread nD τ), .dma m) 0
/-- A slot nothing is in flight to. -/
def Free (d : Memref sig .tc sp s e) (m : DmaSem sig) : sProp 𝕄 := iprop(Some' c d ∗ Zero c m)
/-- A slot a transfer of `X` has landed in. -/
def Land (d : Memref sig .tc sp s e) (m : DmaSem sig) (X : s.Idx → Elt F e) : sProp 𝕄 := iprop(At c d X ∗ Zero c m)
/-- A slot a transfer of `X` is in flight to. -/
def InFl (d : Memref sig .tc sp s e) (m : DmaSem sig) (X : s.Idx → Elt F e) : sProp 𝕄 :=
  Transfers.Flight EC (c : Thread nD τ) (.dma m) () d.view.dmaCredit (At c d X)

theorem Land_free (d : Memref sig .tc sp s e) (m : DmaSem sig) (X : s.Idx → Elt F e) : Land (F := F) c d m X ⊢ Free c d m := by
  unfold Land Free
  iintro ⟨H, Hz⟩
  isplitl [H]
  · iexists _; iexact H
  iexact Hz

variable {α : Type}

/-- Written whole with `X` and held on its own elements, a view is held at `X`. -/
theorem at_of_written (d : Memref sig .tc sp s e) (f : Buf (Elt F) (d.view.loc (c : Thread nD τ))) (X : s.Idx → Elt F e) :
    (d.view.loc (c : Thread nD τ) ↦[d.view.set]{fullShare} d.view.write (Elt F) f X Finset.univ : sProp 𝕄) ⊢ At c d X := by
  have h := pointsTo_rep (Val := Elt F) (Ix := Unit) (Name := ℕ) (U := UU nD τ) (Lvl := ℕ) (c : Thread nD τ) d (d.view.write (Elt F) f X Finset.univ) fullShare
  rw [View.read_write_univ] at h
  exact Entails.of_eq h

/-- A transfer issued into a free slot from an array that is only read. -/
theorem wp_issue {bd : Option 𝒱₀.V} {src src' : Memref sig .tc .hbm s e} {dst dst' : Memref sig .tc .vmem s e} {m m' : DmaSem sig}
    (hs : src = src') (hd : dst = dst') (hm : m = m') (hp : 0 < s.numel)
    {hsrc : src.view.WordExact} {hdst : dst.view.WordExact} {hsem : DmaTarget.Typed (nD := nD) .hbm (.dma m) (.here (p := .tc) dst)}
    {f : Buf (Elt F) (src'.view.loc (c : Thread nD τ))} {k : PUnit → Prog (TpuEff nD τ sig (Elt F) (Λ₀ F) .tc) α} {Q : α → sProp 𝕄} :
    iprop(RO f ∗ Free c dst' m')
      ⊢ iprop((iprop(RO f ∗ InFl c dst' m' (src'.view.read (Elt F) f)) -∗ wp frame (wpE (defs₀ (F := F)) 𝒱₀ (c : Thread nD τ) bd) Set.univ (k ⟨⟩) Q)
        -∗ wp frame (wpE (defs₀ (F := F)) 𝒱₀ (c : Thread nD τ) bd) Set.univ (Prog.lift (.enqueueDma (p := .tc) src (.here dst) (.dma m) hsrc hdst hsem) >>= k) Q) := by
  subst hs hd hm
  iintro ⟨HR, HF⟩ Hk
  ihave HR := (RO_dup f) $$ HR
  unfold RO Free
  icases HR with ⟨⟨%q, HR⟩, HR'⟩
  icases HF with ⟨⟨%fd, Hd⟩, Hz⟩
  ihave HR := (pointsTo_split_subset (Finset.subset_univ src.view.set)).1 $$ HR
  icases HR with ⟨HR, -⟩
  iapply (Transfers.wp_dmaLocal EC 𝒱₀ (c : Thread nD τ) bd () dst.view.dmaCredit rfl (dst.view.dmaCredit_pos hp) (Finset.Subset.refl _)) $$ [HR Hd Hz]
  · isplitl [HR]; · iexact HR
    isplitl [Hd] <;> iassumption
  iintro HFl
  iapply Hk
  isplitl [HR']; · iexact HR'
  unfold InFl
  iapply (Transfers.Flight_mono EC (c : Thread nD τ) (sep_elim_left.trans (at_of_written c dst fd (src.view.read (Elt F) f)))) $$ HFl

/-- A slot's transfer waited for. -/
theorem wp_await {srcw : Memref sig .tc sp' s e} {dst dst' : Memref sig .tc sp s e} {m m' : DmaSem sig}
    (hd : dst = dst') (hm : m = m')
    {hsrc : srcw.view.WordExact} {hdst : dst.view.WordExact} {X : s.Idx → Elt F e}
    {k : PUnit → Prog (TpuEff nD τ sig (Elt F) (Λ₀ F) .tc) α} {Q : α → sProp 𝕄} :
    iprop(InFl c dst' m' X ∗ OW c)
      ⊢ iprop((iprop(Land c dst' m' X ∗ OW c) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.waitDma2 m srcw dst hsrc hdst) >>= k) Q) := by
  subst hd hm
  unfold OW InFl
  iintro ⟨HF, ⟨%W, HO⟩⟩ Hk
  iapply (Transfers.wp_waitLocal EC 𝒱₀ (c : Thread nD τ) none () rfl) $$ [HF HO]
  · isplitl [HF] <;> iassumption
  iintro ⟨HD, Hz, HO⟩
  iapply Hk
  unfold Land
  isplitl [HD Hz]
  · isplitl [HD] <;> iassumption
  iexists _; iexact HO

end Cert.Proof.Ffn

end
-- ==== Proof.Words.lean ====
/-
  Each part of the grid's body at the arguments it meets in trip `t`, and the numbers it gives back.
-/
module

public import proofs.«01_k».proof.Proof.Base

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A truth value as a word of one bit. -/
abbrev b1 (p : Prop) [Decidable p] : BitVec 1 := if p then 1#1 else 0#1
/-- The column block window `k` holds in trip `t`. -/
abbrev wC (k t : ℕ) : BitVec 32 := wd (min (4 * (t % 3) + k) 10)

/-- Every slice a trip takes is inside its array. -/
theorem chk5_at : ∀ t : Fin k0_t1_loop.trips, k0_chk5 t (wE t) (wE t) (wN t) (wT t) (wN t) (wT t) (wN t) (wT t) (wN t) (wT t) (wN t) (wT t) (wN t) (wT t) (wN t) (wT t) (wN t) (wT t) (wN t) (wT t) (wN t) (wT t) (wN t) (wT t) (wN t) (wT t) (wE t) (wO t) (wI t) (wF t) := by decide +kernel

variable (t : Fin k0_t1_loop.trips)

/-- What trip `t` finds carried. -/
abbrev carry (t : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wX t, wE t, wPe t, wPf t, wX t, wE t, wPe t, wPf t, wN t, wT t, wN t, wT t, wN t, wT t, wN t, wT t, wN t, wT t, wN t, wT t, wN t, wT t, wN t, wT t, wN t, wT t, wN t, wT t, wN t, wT t, wN t, wT t, wE t, wO t, wI t, wF t)

/-- Part 6 of the body in trip `t`, -/
abbrev p6 := atMems (k0_part6 (F := F)) 0#32 1#32 t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val)
/-- and what it gives back. -/
abbrev o6 : Σ' (k0_hw5 : k0_chk5 t (wE t) (wE t) (wN t) (wT t) (wN t) (wT t) (wN t) (wT t) (wN t) (wT t) (wN t) (wT t) (wN t) (wT t) (wN t) (wT t) (wN t) (wT t) (wN t) (wT t) (wN t) (wT t) (wN t) (wT t) (wN t) (wT t) (wE t) (wO t) (wI t) (wF t)) (arg16 : BitVec 32) (v218 : BitVec 1) (v219 : BitVec 1) (v220 : BitVec 32) (v221 : BitVec 32) (v230 : BitVec 32) (v231 : BitVec 32) (v240 : BitVec 32) (v241 : BitVec 32) (v245 : BitVec 32) (v247 : BitVec 32), BitVec 32 := ⟨(chk5_at t), (wd t.val), (b1 (t.val = 0)), (b1 (t.val = 47)), (wI t.val), (wF t.val), (wI (t.val + 47)), (wF (t.val + 47)), (wI (t.val + 1)), (wF (t.val + 1)), (wF (t.val + 47)), (wd ((t.val + 1) / 3 % 16 + if (t.val + 1) % 3 = 2 then 1 else 0)), (16#32)⟩
/-- Part 7 of the body in trip `t`, -/
abbrev p7 := atMems (k0_part7 (F := F)) t (wX t.val) (wE t.val) (wPe t.val) (wPf t.val) (wX t.val) (wE t.val) (wPe t.val) (wPf t.val) (wd t.val) (wI t.val) (wF t.val) (wI (t.val + 1)) (wF (t.val + 47)) (wd ((t.val + 1) / 3 % 16 + if (t.val + 1) % 3 = 2 then 1 else 0)) (16#32)
/-- and what it gives back. -/
abbrev o7 : Σ' (v264_0 : BitVec 32) (v264_1 : BitVec 32) (v264_4 : BitVec 32) (v277_0 : BitVec 32) (v277_1 : BitVec 32) (v277_4 : BitVec 32) (v278 : BitVec 32) (v280 : BitVec 32), BitVec 32 := ⟨(wPe (t.val + 1)), (wPf (t.val + 1)), (wX (t.val + 1)), (wPe (t.val + 1)), (wPf (t.val + 1)), (wX (t.val + 1)), (wI t.val), (wC 0 t.val), (10#32)⟩
/-- Part 8 of the body in trip `t`, -/
abbrev p8 := atMems (k0_part8 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (wI t.val) (wC 0 t.val) (10#32)
/-- and what it gives back. -/
abbrev o8 : Σ' (v281 : BitVec 32) (v282 : BitVec 32) (v285 : BitVec 32) (v297 : BitVec 32) (v298 : BitVec 32) (v301 : BitVec 32) (v302 : BitVec 32) (v305 : BitVec 32), BitVec 1 := ⟨(wC 0 t.val), (wI (t.val + 1)), (wC 0 (t.val + 1)), (wN (t.val + 1)), (wI t.val), (wC 0 t.val), (wI (t.val + 1)), (wC 0 (t.val + 1)), (b1 (t.val < 47))⟩
/-- Part 9 of the body in trip `t`, -/
abbrev p9 := atMems (k0_part9 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (b1 (t.val < 47))
/-- and what it gives back. -/
abbrev o9 : Σ' (v317 : BitVec 32) (v318 : BitVec 32) (v321 : BitVec 32) (v322 : BitVec 32) (v325 : BitVec 32) (v337 : BitVec 32) (v338 : BitVec 32) (v341 : BitVec 32) (v342 : BitVec 32) (v345 : BitVec 32) (v348 : BitVec 1) (v349 : BitVec 1), BitVec 1 := ⟨(wN (t.val + 1)), (wI t.val), (wC 0 t.val), (wI (t.val + 1)), (wC 0 (t.val + 1)), (wN (t.val + 1)), (wI t.val), (wC 1 t.val), (wI (t.val + 1)), (wC 1 (t.val + 1)), (1#1), (b1 (t.val = 47)), (1#1)⟩
/-- Part 10 of the body in trip `t`, -/
abbrev p10 := atMems (k0_part10 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (1#1) (b1 (t.val = 47)) (1#1)
/-- and what it gives back. -/
abbrev o10 : Σ' (v357 : BitVec 32) (v358 : BitVec 32) (v361 : BitVec 32) (v362 : BitVec 32) (v365 : BitVec 32) (v377 : BitVec 32) (v378 : BitVec 32) (v381 : BitVec 32) (v382 : BitVec 32), BitVec 32 := ⟨(wN (t.val + 1)), (wI t.val), (wC 1 t.val), (wI (t.val + 1)), (wC 1 (t.val + 1)), (wN (t.val + 1)), (wI t.val), (wC 1 t.val), (wI (t.val + 1)), (wC 0 (t.val + 1))⟩
/-- Part 11 of the body in trip `t`, -/
abbrev p11 := atMems (k0_part11 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (wI t.val) (wC 1 t.val) (wI (t.val + 1)) (wC 0 (t.val + 1))
/-- and what it gives back. -/
abbrev o11 : Σ' (v385 : BitVec 32) (v397 : BitVec 32) (v398 : BitVec 32) (v401 : BitVec 32) (v402 : BitVec 32) (v405 : BitVec 32) (v417 : BitVec 32), BitVec 32 := ⟨(wC 1 (t.val + 1)), (wN (t.val + 1)), (wI t.val), (wC 2 t.val), (wI (t.val + 1)), (wC 2 (t.val + 1)), (wN (t.val + 1)), (wI t.val)⟩
/-- Part 12 of the body in trip `t`, -/
abbrev p12 := atMems (k0_part12 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (wI t.val)
/-- and what it gives back. -/
abbrev o12 : Σ' (v421 : BitVec 32) (v422 : BitVec 32) (v425 : BitVec 32) (v437 : BitVec 32) (v438 : BitVec 32) (v441 : BitVec 32) (v442 : BitVec 32) (v445 : BitVec 32) (v451 : BitVec 1), BitVec 32 := ⟨(wC 2 t.val), (wI (t.val + 1)), (wC 2 (t.val + 1)), (wN (t.val + 1)), (wI t.val), (wC 2 t.val), (wI (t.val + 1)), (wC 2 (t.val + 1)), (b1 (t.val < 47)), (wd (if t.val < 47 then 1 else 0))⟩
/-- Part 13 of the body in trip `t`, -/
abbrev p13 := atMems (k0_part13 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 1)) (wF (t.val + 1)) (b1 (t.val < 47)) (wd (if t.val < 47 then 1 else 0))
/-- and what it gives back. -/
abbrev o13 : Σ' (v457 : BitVec 32) (v458 : BitVec 32) (v461 : BitVec 32) (v462 : BitVec 32) (v465 : BitVec 32) (v477 : BitVec 32) (v478 : BitVec 32) (v481 : BitVec 32) (v482 : BitVec 32) (v485 : BitVec 32), BitVec 1 := ⟨(wN (t.val + 1)), (wI t.val), (wC 3 t.val), (wI (t.val + 1)), (wC 3 (t.val + 1)), (wN (t.val + 1)), (wI t.val), (wC 3 t.val), (wI (t.val + 1)), (wC 3 (t.val + 1)), (b1 (t.val % 3 = 2))⟩
/-- Part 14 of the body in trip `t`, -/
abbrev p14 := atMems (k0_part14 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (wI t.val) (wF t.val) (wI (t.val + 47)) (wI (t.val + 1)) (wF (t.val + 1)) (wC 3 t.val) (wC 3 (t.val + 1)) (b1 (t.val % 3 = 2))
/-- and what it gives back. -/
abbrev o14 : Σ' (v497 : BitVec 32) (v498 : BitVec 32) (v501 : BitVec 32) (v502 : BitVec 32) (v505 : BitVec 32) (v517 : BitVec 32), BitVec 1 := ⟨(wN (t.val + 1)), (wI t.val), (wC 3 t.val), (wI (t.val + 1)), (wC 3 (t.val + 1)), (wN (t.val + 1)), (b1 (t.val % 3 = 0))⟩
/-- Part 15 of the body in trip `t`, -/
abbrev p15 := atMems (k0_part15 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (b1 (t.val = 0)) (wI t.val) (wF t.val) (wI (t.val + 47)) (wF (t.val + 47)) (wI t.val) (wC 0 t.val) (wI t.val) (wC 0 t.val) (b1 (t.val % 3 = 0))
/-- and what it gives back. -/
abbrev o15 : Σ' (v534 : BitVec 32) (v537 : BitVec 32) (v546 : BitVec 32) (v549 : BitVec 32) (v558 : BitVec 32) (v559 : BitVec 32), BitVec 32 := ⟨(wI (t.val + 47)), (wC 0 (t.val + 47)), (wI (t.val + 47)), (wC 0 (t.val + 47)), (wI (t.val + 47)), (wC 0 (t.val + 47)), (0#32)⟩
/-- Part 16 of the body in trip `t`, -/
abbrev p16 := atMems (k0_part16 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (b1 (t.val = 0)) (wI t.val) (wF t.val) (wI (t.val + 47)) (wF (t.val + 47)) (wI t.val) (wC 0 t.val) (wI t.val) (wC 1 t.val) (wI t.val) (wC 1 t.val) (wI (t.val + 47)) (wC 0 (t.val + 47)) (0#32)
/-- and what it gives back. -/
abbrev o16 : Σ' (v561 : BitVec 32) (v570 : BitVec 32) (v573 : BitVec 32) (v582 : BitVec 32) (v585 : BitVec 32) (v594 : BitVec 32), BitVec 32 := ⟨(wC 0 (t.val + 47)), (wI (t.val + 47)), (wC 1 (t.val + 47)), (wI (t.val + 47)), (wC 1 (t.val + 47)), (wI (t.val + 47)), (wC 1 (t.val + 47))⟩
/-- Part 17 of the body in trip `t`, -/
abbrev p17 := atMems (k0_part17 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (b1 (t.val = 0)) (wI t.val) (wF t.val) (wI (t.val + 47)) (wF (t.val + 47)) (wI t.val) (wC 1 t.val) (wI t.val) (wC 2 t.val) (wI t.val) (wC 2 t.val) (wI t.val) (wC 2 t.val) (wI (t.val + 47)) (wC 1 (t.val + 47))
/-- and what it gives back. -/
abbrev o17 : Σ' (v606 : BitVec 32) (v609 : BitVec 32) (v618 : BitVec 32) (v621 : BitVec 32) (v630 : BitVec 32) (v633 : BitVec 32), BitVec 1 := ⟨(wI (t.val + 47)), (wC 2 (t.val + 47)), (wI (t.val + 47)), (wC 2 (t.val + 47)), (wI (t.val + 47)), (wC 2 (t.val + 47)), (1#1)⟩
/-- Part 18 of the body in trip `t`, -/
abbrev p18 := atMems (k0_part18 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (b1 (t.val = 0)) (wI t.val) (wF t.val) (wI (t.val + 47)) (wF (t.val + 47)) (wI t.val) (wC 3 t.val) (wI t.val) (wC 3 t.val) (wI t.val) (wC 3 t.val) (1#1)
/-- and what it gives back. -/
abbrev o18 : Σ' (v642 : BitVec 32) (v645 : BitVec 32) (v654 : BitVec 32) (v657 : BitVec 32) (v666 : BitVec 32) (v669 : BitVec 32) (v673 : BitVec 1), BitVec 1 := ⟨(wI (t.val + 47)), (wC 3 (t.val + 47)), (wI (t.val + 47)), (wC 3 (t.val + 47)), (wI (t.val + 47)), (wC 3 (t.val + 47)), (1#1), (1#1)⟩
/-- Part 19 of the body in trip `t`, -/
abbrev p19 := atMems (k0_part19 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wd t.val) (b1 (t.val = 0)) (wI t.val) (wF t.val) (wI (t.val + 47)) (1#1) (1#1)
/-- and what it gives back. -/
abbrev o19 : BitVec 32 := (2#32)
/-- Part 20 of the body in trip `t`, -/
abbrev p20 := atMems (k0_part20 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (b1 (t.val = 47)) (wI t.val) (wF t.val) (wI (t.val + 1)) (wI t.val) (wC 0 t.val) (wI (t.val + 1)) (wC 0 (t.val + 1)) (wI t.val) (wC 0 t.val) (wI (t.val + 1)) (wC 0 (t.val + 1)) (wI t.val) (wC 0 t.val) (wI (t.val + 1)) (wC 0 (t.val + 1)) (wI t.val) (wC 1 t.val) (wI (t.val + 1)) (wC 1 (t.val + 1)) (2#32)
/-- and what it gives back. -/
abbrev o20 : BitVec 1 := (1#1)
/-- Part 21 of the body in trip `t`, -/
abbrev p21 := atMems (k0_part21 (F := F)) (b1 (t.val = 47)) (wI t.val) (wC 1 t.val) (wI (t.val + 1)) (wC 1 (t.val + 1)) (wI t.val) (wC 1 t.val) (wI (t.val + 1)) (wC 1 (t.val + 1)) (wI t.val) (wC 2 t.val) (wI (t.val + 1)) (wC 2 (t.val + 1)) (wI t.val) (wC 2 t.val) (wI (t.val + 1)) (wC 2 (t.val + 1)) (wI t.val) (wC 2 t.val) (wI (t.val + 1)) (wC 2 (t.val + 1)) (wI t.val) (wC 3 t.val) (wI (t.val + 1)) (wC 3 (t.val + 1)) (1#1)
/-- and what it gives back. -/
abbrev o21 : BitVec 1 := (1#1)
/-- Part 22 of the body in trip `t`, -/
abbrev p22 := atMems (k0_part22 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (b1 (t.val = 0)) (b1 (t.val = 47)) (wI t.val) (wI (t.val + 47)) (wI (t.val + 1)) (wI t.val) (wC 0 t.val) (wI t.val) (wC 3 t.val) (wI (t.val + 1)) (wC 3 (t.val + 1)) (wI t.val) (wC 3 t.val) (wI (t.val + 1)) (wC 3 (t.val + 1)) (wI (t.val + 47)) (wC 0 (t.val + 47)) (1#1)
/-- and what it gives back. -/
abbrev o22 : Σ' (v813 : BitVec 32) (v826 : BitVec 1), BitVec 1 := ⟨(wE (t.val + 1)), (b1 (t.val % 3 = 0)), (1#1)⟩
/-- Part 23 of the body in trip `t`, -/
abbrev p23 := atMems (k0_part23 (F := F)) (b1 (t.val = 0)) (wI t.val) (wC 0 t.val) (wI t.val) (wC 0 t.val) (wI t.val) (wC 1 t.val) (wI t.val) (wC 1 t.val) (wI t.val) (wC 1 t.val) (wI (t.val + 47)) (wC 0 (t.val + 47)) (wI (t.val + 47)) (wC 0 (t.val + 47)) (wI (t.val + 47)) (wC 1 (t.val + 47)) (wI (t.val + 47)) (wC 1 (t.val + 47)) (wI (t.val + 47)) (wC 1 (t.val + 47)) (b1 (t.val % 3 = 0)) (1#1)
/-- and what it gives back. -/
abbrev o23 : Σ' (v866 : BitVec 1), BitVec 1 := ⟨(b1 (t.val % 3 = 0)), (1#1)⟩
/-- Part 24 of the body in trip `t`, -/
abbrev p24 := atMems (k0_part24 (F := F)) (b1 (t.val = 0)) (wI t.val) (wC 2 t.val) (wI t.val) (wC 2 t.val) (wI t.val) (wC 2 t.val) (wI t.val) (wC 3 t.val) (wI t.val) (wC 3 t.val) (wI (t.val + 47)) (wC 2 (t.val + 47)) (wI (t.val + 47)) (wC 2 (t.val + 47)) (wI (t.val + 47)) (wC 2 (t.val + 47)) (wI (t.val + 47)) (wC 3 (t.val + 47)) (wI (t.val + 47)) (wC 3 (t.val + 47)) (b1 (t.val % 3 = 0)) (1#1)
/-- and what it gives back. -/
abbrev o24 : Σ' (v906 : BitVec 1), BitVec 1 := ⟨(b1 (t.val % 3 = 0)), (1#1)⟩
/-- Part 25 of the body in trip `t`, -/
abbrev p25 := atMems (k0_part25 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (b1 (t.val = 0)) (b1 (t.val = 47)) (wI t.val) (wI (t.val + 47)) (wI (t.val + 1)) (wI t.val) (wC 0 t.val) (wI (t.val + 1)) (wC 0 (t.val + 1)) (wI t.val) (wC 0 t.val) (wI (t.val + 1)) (wC 0 (t.val + 1)) (wI t.val) (wI (t.val + 1)) (wI t.val) (wC 3 t.val) (wI (t.val + 47)) (wC 3 (t.val + 47)) (b1 (t.val % 3 = 0)) (1#1)
/-- and what it gives back. -/
abbrev o25 : Σ' (v929 : BitVec 32) (v933 : BitVec 32) (v937 : BitVec 32) (v943 : BitVec 32) (v949 : BitVec 32), BitVec 1 := ⟨(wI t.val), (wE (t.val + 1)), (wE (t.val + 1)), (wN t.val), (wN t.val), (b1 (t.val % 3 = 2))⟩
/-- Part 26 of the body in trip `t`, -/
abbrev p26 := atMems (k0_part26 (F := F)) (wT t.val) (wT t.val) (wT t.val) (wT t.val) (wT t.val) (wT t.val) (wT t.val) (wT t.val) (b1 (t.val = 47)) (wC 0 t.val) (wC 0 (t.val + 1)) (wI t.val) (wC 1 t.val) (wI (t.val + 1)) (wC 1 (t.val + 1)) (wI t.val) (wC 1 t.val) (wI (t.val + 1)) (wC 1 (t.val + 1)) (wI t.val) (wC 1 t.val) (wI (t.val + 1)) (wC 1 (t.val + 1)) (wI t.val) (wC 2 t.val) (wI (t.val + 1)) (wC 2 (t.val + 1)) (wI t.val) (wC 2 t.val) (wI (t.val + 1)) (wC 2 (t.val + 1)) (wI t.val) (wC 2 t.val) (wI (t.val + 1)) (wC 2 (t.val + 1)) (wI t.val) (wC 3 t.val) (wI (t.val + 1)) (wC 3 (t.val + 1)) (wI t.val) (wC 3 t.val) (wI (t.val + 1)) (wC 3 (t.val + 1)) (b1 (t.val % 3 = 2))
/-- and what it gives back. -/
abbrev o26 : Σ' (v955 : BitVec 32) (v961 : BitVec 32) (v967 : BitVec 32) (v973 : BitVec 32) (v979 : BitVec 32) (v985 : BitVec 32) (v991 : BitVec 32) (v997 : BitVec 32) (v1001 : BitVec 1), BitVec 32 := ⟨(wN t.val), (wN t.val), (wN t.val), (wN t.val), (wN t.val), (wN t.val), (wN t.val), (wN t.val), (1#1), (1#32)⟩

end Cert.Proof.Ffn

end
-- ==== Proof.Rules.lean ====
/-
  Where a trip's slices lie, in closed form; and the guarded transfers of a trip, as rules over what its slots hold.
-/
module

public import proofs.«01_k».proof.Proof.Words

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Slices at computed offsets are the canonical ones -/

section Canonical

theorem semC_eq {v : DmaSems sig S2} {n : ℕ} {off : Fin 1 → ℕ} {hb : ∀ a, off a + S1.size a ≤ S2.size a} (h : off = ![n % 2]) :
    ((v.slice (Rect.unit (s := S2) off S1.size hb)).squeeze S_ squeezes_S1_S_).sem = semC v n := by subst h; rfl
theorem slotG_eq {al : Memref sig .tc .vmem S2x1x1024x256 .f32} {n : ℕ} {off : Fin 4 → ℕ} {hb : ∀ a, off a + S1x1x1024x256.size a ≤ S2x1x1024x256.size a} (h : off = ![n % 2, 0, 0, 0]) :
    (al.slice (Rect.unit (s := S2x1x1024x256) off S1x1x1024x256.size hb) (fun _ => rfl)).squeeze S1x1024x256 squeezes_S1x1x1024x256_S1x1024x256 = slotG al n := by subst h; rfl
theorem slotD_eq {al : Memref sig .tc .vmem S2x1x256x1024 .f32} {n : ℕ} {off : Fin 4 → ℕ} {hb : ∀ a, off a + S1x1x256x1024.size a ≤ S2x1x256x1024.size a} (h : off = ![n % 2, 0, 0, 0]) :
    (al.slice (Rect.unit (s := S2x1x256x1024) off S1x1x256x1024.size hb) (fun _ => rfl)).squeeze S1x256x1024 squeezes_S1x1x256x1024_S1x256x1024 = slotD al n := by subst h; rfl
theorem slotX_eq {al : Memref sig .tc .vmem S2x2x1x1024x1024 .bf16} {n : ℕ} {off : Fin 5 → ℕ} {hb : ∀ a, off a + S1x2x1x1024x1024.size a ≤ S2x2x1x1024x1024.size a} (h : off = ![n % 2, 0, 0, 0, 0]) :
    (al.slice (Rect.unit (s := S2x2x1x1024x1024) off S1x2x1x1024x1024.size hb) (fun _ => rfl)).squeeze S2x1x1024x1024 squeezes_S1x2x1x1024x1024_S2x1x1024x1024 = slotX al n := by subst h; rfl
theorem slotS_eq {al : Memref sig .tc .vmem S2x2x1x1024x128 .f32} {n : ℕ} {off : Fin 5 → ℕ} {hb : ∀ a, off a + S1x2x1x1024x128.size a ≤ S2x2x1x1024x128.size a} (h : off = ![n % 2, 0, 0, 0, 0]) :
    (al.slice (Rect.unit (s := S2x2x1x1024x128) off S1x2x1x1024x128.size hb) (fun _ => rfl)).squeeze S2x1x1024x128 squeezes_S1x2x1x1024x128_S2x1x1024x128 = slotS al n := by subst h; rfl
theorem blkG_eq {a : Memref sig .tc .hbm S16x1024x2816 .f32} {e k : ℕ} {off : Fin 3 → ℕ} {hb : ∀ b, off b + S1x1024x256.size b ≤ S16x1024x2816.size b} (h : off = ![e % 16, 0, 256 * min k 10]) :
    a.slice (Rect.unit (s := S16x1024x2816) off S1x1024x256.size hb) (fun _ => rfl) = blkG a e k := by subst h; rfl
theorem blkD_eq {a : Memref sig .tc .hbm S16x2816x1024 .f32} {e k : ℕ} {off : Fin 3 → ℕ} {hb : ∀ b, off b + S1x256x1024.size b ≤ S16x2816x1024.size b} (h : off = ![e % 16, 256 * min k 10, 0]) :
    a.slice (Rect.unit (s := S16x2816x1024) off S1x256x1024.size hb) (fun _ => rfl) = blkD a e k := by subst h; rfl
theorem blkX_eq {a : Memref sig .tc .hbm S2x16x1024x1024 .bf16} {e : ℕ} {off : Fin 4 → ℕ} {hb : ∀ b, off b + S2x1x1024x1024.size b ≤ S2x16x1024x1024.size b} (h : off = ![0, e % 16, 0, 0]) :
    a.slice (Rect.unit (s := S2x16x1024x1024) off S2x1x1024x1024.size hb) (fun _ => rfl) = blkX a e := by subst h; rfl
theorem blkS_eq {a : Memref sig .tc .hbm S2x16x1024x128 .f32} {e : ℕ} {off : Fin 4 → ℕ} {hb : ∀ b, off b + S2x1x1024x128.size b ≤ S2x16x1024x128.size b} (h : off = ![0, e % 16, 0, 0]) :
    a.slice (Rect.unit (s := S2x16x1024x128) off S2x1x1024x128.size hb) (fun _ => rfl) = blkS a e := by subst h; rfl

end Canonical

/-! ## The offsets a trip computes -/

section Offsets
theorem semN : ∀ t : Fin k0_t1_loop.trips, k0_off16 (wN t.val) = ![(t.val + 1) % 2] := by decide +kernel
theorem slotN : ∀ t : Fin k0_t1_loop.trips, k0_off17 (wN t.val) = ![(t.val + 1) % 2, 0, 0, 0] := by decide +kernel
theorem atG0 : ∀ t : Fin k0_t1_loop.trips, k0_off18 (wI t.val) (wF t.val) = ![(t.val + 1) / 3 % 16, 0, 256 * min (4 * ((t.val + 1) % 3) + 0) 10] := by decide +kernel
theorem atD0 : ∀ t : Fin k0_t1_loop.trips, k0_off24 (wI t.val) (wF t.val) = ![(t.val + 1) / 3 % 16, 256 * min (4 * ((t.val + 1) % 3) + 0) 10, 0] := by decide +kernel
theorem atG1 : ∀ t : Fin k0_t1_loop.trips, k0_off27 (wI t.val) (wF t.val) = ![(t.val + 1) / 3 % 16, 0, 256 * min (4 * ((t.val + 1) % 3) + 1) 10] := by decide +kernel
theorem atD1 : ∀ t : Fin k0_t1_loop.trips, k0_off33 (wI t.val) (wF t.val) = ![(t.val + 1) / 3 % 16, 256 * min (4 * ((t.val + 1) % 3) + 1) 10, 0] := by decide +kernel
theorem atG2 : ∀ t : Fin k0_t1_loop.trips, k0_off36 (wI t.val) (wF t.val) = ![(t.val + 1) / 3 % 16, 0, 256 * min (4 * ((t.val + 1) % 3) + 2) 10] := by decide +kernel
theorem atD2 : ∀ t : Fin k0_t1_loop.trips, k0_off42 (wI t.val) (wF t.val) = ![(t.val + 1) / 3 % 16, 256 * min (4 * ((t.val + 1) % 3) + 2) 10, 0] := by decide +kernel
theorem atG3 : ∀ t : Fin k0_t1_loop.trips, k0_off45 (wI t.val) (wF t.val) = ![(t.val + 1) / 3 % 16, 0, 256 * min (4 * ((t.val + 1) % 3) + 3) 10] := by decide +kernel
theorem atD3 : ∀ t : Fin k0_t1_loop.trips, k0_off51 (wI t.val) (wF t.val) = ![(t.val + 1) / 3 % 16, 256 * min (4 * ((t.val + 1) % 3) + 3) 10, 0] := by decide +kernel
theorem semE : ∀ t : Fin k0_t1_loop.trips, k0_off52 (wE t.val) = ![t.val / 3 % 2] := by decide +kernel
theorem slotE : ∀ t : Fin k0_t1_loop.trips, k0_off53 (wE t.val) = ![t.val / 3 % 2, 0, 0, 0, 0] := by decide +kernel
theorem semT : ∀ t : Fin k0_t1_loop.trips, k0_off58 (wT t.val) = ![t.val % 2] := by decide +kernel
theorem slotT : ∀ t : Fin k0_t1_loop.trips, k0_off59 (wT t.val) = ![t.val % 2, 0, 0, 0] := by decide +kernel
theorem atY : ∀ t : Fin k0_t1_loop.trips, k0_off120 (wI t.val) = ![0, t.val / 3 % 16, 0, 0] := by decide +kernel
theorem semO : ∀ t : Fin k0_t1_loop.trips, t.val % 3 = 0 → 0 < t.val → k0_off122 (wO t.val) = ![(t.val / 3 - 1) % 2] := by decide +kernel
theorem slotO : ∀ t : Fin k0_t1_loop.trips, t.val % 3 = 0 → 0 < t.val → k0_off124 (wO t.val) = ![(t.val / 3 - 1) % 2, 0, 0, 0, 0] := by decide +kernel
end Offsets

/-! ## Guarded transfers -/

variable (c : Dev nD) {sp sp' : Space} {s : Shape} {e : EltTy} {α : Type}

/-- A slot for trip `n`: its block is on the way while there is such a trip. -/
def Nxt (n : ℕ) (d : Memref sig .tc sp s e) (m : DmaSem sig) (X : s.Idx → Elt F e) : sProp 𝕄 :=
  if n < 48 then InFl c d m X else Free c d m

/-- A transfer issued under a guard that says whether there is a next trip. -/
theorem wp_issue_if {n : ℕ} {p : Prop} [Decidable p] (hn : p ↔ n < 48) {src : p → Memref sig .tc .hbm s e} {src' : Memref sig .tc .hbm s e}
    {dst : p → Memref sig .tc .vmem s e} {dst' : Memref sig .tc .vmem s e} {m : p → DmaSem sig} {m' : DmaSem sig}
    (hs : ∀ h, src h = src') (hd : ∀ h, dst h = dst') (hm : ∀ h, m h = m') (hp : 0 < s.numel)
    {hsrc : ∀ h, (src h).view.WordExact} {hdst : ∀ h, (dst h).view.WordExact}
    {hsem : ∀ h, DmaTarget.Typed (nD := nD) .hbm (.dma (m h)) (.here (p := .tc) (dst h))}
    {f : Buf (Elt F) (src'.view.loc (c : Thread nD τ))} {k : PUnit → Prog (TpuEff nD τ sig (Elt F) (Λ₀ F) .tc) α} {Q : α → sProp 𝕄} :
    iprop(RO f ∗ Free c dst' m')
      ⊢ iprop((iprop(RO f ∗ Nxt c n dst' m' (src'.view.read (Elt F) f)) -∗ wp frame (wpE (defs₀ (F := F)) 𝒱₀ (c : Thread nD τ) none) Set.univ (k ⟨⟩) Q)
        -∗ wp frame (wpE (defs₀ (F := F)) 𝒱₀ (c : Thread nD τ) none) Set.univ
          (if h : p then Prog.lift (.enqueueDma (p := .tc) (src h) (.here (dst h)) (.dma (m h)) (hsrc h) (hdst h) (hsem h)) >>= k else k ⟨⟩) Q) := by
  unfold Nxt
  by_cases h : p
  · rw [dif_pos h, if_pos (hn.1 h)]
    exact wp_issue c (hs h) (hd h) (hm h) hp
  · rw [dif_neg h, if_neg (fun h' => h (hn.2 h'))]
    iintro H Hk
    iapply Hk
    iexact H

/-- A wait every trip makes. -/
theorem wp_await_nxt {n : ℕ} {p : Prop} [Decidable p] (hp : p) (hn : n < 48) {srcw : p → Memref sig .tc sp' s e}
    {dst : p → Memref sig .tc sp s e} {dst' : Memref sig .tc sp s e} {m : p → DmaSem sig} {m' : DmaSem sig}
    (hd : ∀ h, dst h = dst') (hm : ∀ h, m h = m')
    {hsrc : ∀ h, (srcw h).view.WordExact} {hdst : ∀ h, (dst h).view.WordExact} {X : s.Idx → Elt F e}
    {k : PUnit → Prog (TpuEff nD τ sig (Elt F) (Λ₀ F) .tc) α} {Q : α → sProp 𝕄} :
    iprop(Nxt c n dst' m' X ∗ OW c)
      ⊢ iprop((iprop(Land c dst' m' X ∗ OW c) -∗ wp frame (wpE (defs₀ (F := F)) 𝒱₀ (c : Thread nD τ) none) Set.univ (k ⟨⟩) Q)
        -∗ wp frame (wpE (defs₀ (F := F)) 𝒱₀ (c : Thread nD τ) none) Set.univ
          (if h : p then Prog.lift (.waitDma2 (m h) (srcw h) (dst h) (hsrc h) (hdst h)) >>= k else k ⟨⟩) Q) := by
  unfold Nxt
  rw [dif_pos hp, if_pos hn]
  exact wp_await c (hd hp) (hm hp)

/-- A block that only the trips with `q` wait for; on the others it is there already. -/
def Cur (q : Prop) [Decidable q] (d : Memref sig .tc sp s e) (m : DmaSem sig) (X : s.Idx → Elt F e) : sProp 𝕄 :=
  if q then InFl c d m X else Land c d m X

theorem wp_await_cur {p q : Prop} [Decidable p] [Decidable q] (hq : p ↔ q) {srcw : p → Memref sig .tc sp' s e}
    {dst : p → Memref sig .tc sp s e} {dst' : Memref sig .tc sp s e} {m : p → DmaSem sig} {m' : DmaSem sig}
    (hd : ∀ h, dst h = dst') (hm : ∀ h, m h = m')
    {hsrc : ∀ h, (srcw h).view.WordExact} {hdst : ∀ h, (dst h).view.WordExact} {X : s.Idx → Elt F e}
    {k : PUnit → Prog (TpuEff nD τ sig (Elt F) (Λ₀ F) .tc) α} {Q : α → sProp 𝕄} :
    iprop(Cur c q dst' m' X ∗ OW c)
      ⊢ iprop((iprop(Land c dst' m' X ∗ OW c) -∗ wp frame (wpE (defs₀ (F := F)) 𝒱₀ (c : Thread nD τ) none) Set.univ (k ⟨⟩) Q)
        -∗ wp frame (wpE (defs₀ (F := F)) 𝒱₀ (c : Thread nD τ) none) Set.univ
          (if h : p then Prog.lift (.waitDma2 (m h) (srcw h) (dst h) (hsrc h) (hdst h)) >>= k else k ⟨⟩) Q) := by
  unfold Cur
  by_cases h : p
  · rw [dif_pos h, if_pos (hq.1 h)]
    exact wp_await c (hd h) (hm h)
  · rw [dif_neg h, if_neg (fun h' => h (hq.2 h'))]
    iintro H Hk
    iapply Hk
    iexact H

end Cert.Proof.Ffn

end
-- ==== Proof.Parts.lean ====
/-
  The parts of a trip that fetch the next trip's weight blocks, and those that wait for this trip's blocks.
-/
module

public import proofs.«01_k».proof.Proof.Rules

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)

/-- What an array holds. -/
abbrev HB {s : Shape} {e : EltTy} (a : Memref sig .tc .hbm s e) : Type := Buf (Elt F) (a.view.loc (c : Thread nD τ))

/-- Gate or up block `k` of trip `n`, -/
abbrev XG (a : Memref sig .tc .hbm S16x1024x2816 .f32) (f : HB (F := F) c a) (k n : ℕ) : S1x1024x256.Idx → Elt F .f32 :=
  (blkG a (n / 3) (4 * (n % 3) + k)).view.read (Elt F) f
/-- and down block `k`. -/
abbrev XD (a : Memref sig .tc .hbm S16x2816x1024 .f32) (f : HB (F := F) c a) (k n : ℕ) : S1x256x1024.Idx → Elt F .f32 :=
  (blkD a (n / 3) (4 * (n % 3) + k)).view.read (Elt F) f

abbrev NG (al : Memref sig .tc .vmem S2x1x1024x256 .f32) (v : DmaSems sig S2) (a : Memref sig .tc .hbm S16x1024x2816 .f32) (f : HB (F := F) c a) (k n : ℕ) : sProp 𝕄 :=
  Nxt c n (slotG al n) (semC v n) (XG c a f k n)
abbrev ND (al : Memref sig .tc .vmem S2x1x256x1024 .f32) (v : DmaSems sig S2) (a : Memref sig .tc .hbm S16x2816x1024 .f32) (f : HB (F := F) c a) (k n : ℕ) : sProp 𝕄 :=
  Nxt c n (slotD al n) (semC v n) (XD c a f k n)
abbrev FG (al : Memref sig .tc .vmem S2x1x1024x256 .f32) (v : DmaSems sig S2) (n : ℕ) : sProp 𝕄 := Free c (slotG al n) (semC v n)
abbrev FD (al : Memref sig .tc .vmem S2x1x256x1024 .f32) (v : DmaSems sig S2) (n : ℕ) : sProp 𝕄 := Free c (slotD al n) (semC v n)

variable {α : Type}

/-- The next trip's gate or up block fetched, if there is a next trip. -/
theorem wp_fetchG {n k : ℕ} {a : Memref sig .tc .hbm S16x1024x2816 .f32} {al : Memref sig .tc .vmem S2x1x1024x256 .f32} {v : DmaSems sig S2}
    {p : Prop} [Decidable p] (hn : p ↔ n < 48) {src : p → Memref sig .tc .hbm S1x1024x256 .f32}
    {dst : p → Memref sig .tc .vmem S1x1024x256 .f32} {m : p → DmaSem sig}
    (hs : ∀ h, src h = blkG a (n / 3) (4 * (n % 3) + k)) (hd : ∀ h, dst h = slotG al n) (hm : ∀ h, m h = semC v n)
    {hsrc : ∀ h, (src h).view.WordExact} {hdst : ∀ h, (dst h).view.WordExact}
    {hsem : ∀ h, DmaTarget.Typed (nD := nD) .hbm (.dma (m h)) (.here (p := .tc) (dst h))}
    {f : HB (F := F) c a} {K : PUnit → Prog (TpuEff nD τ sig (Elt F) (Λ₀ F) .tc) α} {Q : α → sProp 𝕄} :
    iprop(RO f ∗ FG c al v n)
      ⊢ iprop((iprop(RO f ∗ NG c al v a f k n) -∗ wp frame (wpE (defs₀ (F := F)) 𝒱₀ (c : Thread nD τ) none) Set.univ (K ⟨⟩) Q)
        -∗ wp frame (wpE (defs₀ (F := F)) 𝒱₀ (c : Thread nD τ) none) Set.univ
          (if h : p then Prog.lift (.enqueueDma (p := .tc) (src h) (.here (dst h)) (.dma (m h)) (hsrc h) (hdst h) (hsem h)) >>= K else K ⟨⟩) Q) :=
  wp_issue_if (s := S1x1024x256) (src' := blkG a (n / 3) (4 * (n % 3) + k)) c hn hs hd hm (by decide) (f := id f)

/-- The next trip's down block fetched, if there is a next trip. -/
theorem wp_fetchD {n k : ℕ} {a : Memref sig .tc .hbm S16x2816x1024 .f32} {al : Memref sig .tc .vmem S2x1x256x1024 .f32} {v : DmaSems sig S2}
    {p : Prop} [Decidable p] (hn : p ↔ n < 48) {src : p → Memref sig .tc .hbm S1x256x1024 .f32}
    {dst : p → Memref sig .tc .vmem S1x256x1024 .f32} {m : p → DmaSem sig}
    (hs : ∀ h, src h = blkD a (n / 3) (4 * (n % 3) + k)) (hd : ∀ h, dst h = slotD al n) (hm : ∀ h, m h = semC v n)
    {hsrc : ∀ h, (src h).view.WordExact} {hdst : ∀ h, (dst h).view.WordExact}
    {hsem : ∀ h, DmaTarget.Typed (nD := nD) .hbm (.dma (m h)) (.here (p := .tc) (dst h))}
    {f : HB (F := F) c a} {K : PUnit → Prog (TpuEff nD τ sig (Elt F) (Λ₀ F) .tc) α} {Q : α → sProp 𝕄} :
    iprop(RO f ∗ FD c al v n)
      ⊢ iprop((iprop(RO f ∗ ND c al v a f k n) -∗ wp frame (wpE (defs₀ (F := F)) 𝒱₀ (c : Thread nD τ) none) Set.univ (K ⟨⟩) Q)
        -∗ wp frame (wpE (defs₀ (F := F)) 𝒱₀ (c : Thread nD τ) none) Set.univ
          (if h : p then Prog.lift (.enqueueDma (p := .tc) (src h) (.here (dst h)) (.dma (m h)) (hsrc h) (hdst h) (hsem h)) >>= K else K ⟨⟩) Q) :=
  wp_issue_if (s := S1x256x1024) (src' := blkD a (n / 3) (4 * (n % 3) + k)) c hn hs hd hm (by decide) (f := id f)

abbrev M0 : Memref sig .tc .hbm S16x1024x2816 .f32 := Memref.whole main_v0
abbrev M1 : Memref sig .tc .hbm S16x1024x2816 .f32 := Memref.whole main_v1
abbrev M2 : Memref sig .tc .hbm S16x2816x1024 .f32 := Memref.whole main_v2
abbrev M4 : Memref sig .tc .hbm S2x16x1024x128 .f32 := Memref.whole main_v4
abbrev M5 : Memref sig .tc .hbm S2x16x1024x1024 .bf16 := Memref.whole main_v5

variable (f0 : HB (F := F) c M0) (f1 : HB (F := F) c M1) (f2 : HB (F := F) c M2) (t : Fin k0_t1_loop.trips)

/-- Expert `n / 3`'s tokens, -/
abbrev XX (f : HB (F := F) c M5) (n : ℕ) : S2x1x1024x1024.Idx → Elt F .bf16 := (blkX M5 (n / 3)).view.read (Elt F) f
/-- and its routing weights. -/
abbrev XS (f : HB (F := F) c M4) (n : ℕ) : S2x1x1024x128.Idx → Elt F .f32 := (blkS M4 (n / 3)).view.read (Elt F) f

abbrev LG (al : Memref sig .tc .vmem S2x1x1024x256 .f32) (v : DmaSems sig S2) (a : Memref sig .tc .hbm S16x1024x2816 .f32) (f : HB (F := F) c a) (k n : ℕ) : sProp 𝕄 :=
  Land c (slotG al n) (semC v n) (XG c a f k n)
abbrev LD (al : Memref sig .tc .vmem S2x1x256x1024 .f32) (v : DmaSems sig S2) (a : Memref sig .tc .hbm S16x2816x1024 .f32) (f : HB (F := F) c a) (k n : ℕ) : sProp 𝕄 :=
  Land c (slotD al n) (semC v n) (XD c a f k n)
abbrev CX (al : Memref sig .tc .vmem S2x2x1x1024x1024 .bf16) (v : DmaSems sig S2) (f : HB (F := F) c M5) (n : ℕ) : sProp 𝕄 :=
  Cur c (n % 3 = 0) (slotX al (n / 3)) (semC v (n / 3)) (XX c f n)
abbrev CS (al : Memref sig .tc .vmem S2x2x1x1024x128 .f32) (v : DmaSems sig S2) (f : HB (F := F) c M4) (n : ℕ) : sProp 𝕄 :=
  Cur c (n % 3 = 0) (slotS al (n / 3)) (semC v (n / 3)) (XS c f n)
abbrev LX (al : Memref sig .tc .vmem S2x2x1x1024x1024 .bf16) (v : DmaSems sig S2) (f : HB (F := F) c M5) (n : ℕ) : sProp 𝕄 :=
  Land c (slotX al (n / 3)) (semC v (n / 3)) (XX c f n)
abbrev LS (al : Memref sig .tc .vmem S2x2x1x1024x128 .f32) (v : DmaSems sig S2) (f : HB (F := F) c M4) (n : ℕ) : sProp 𝕄 :=
  Land c (slotS al (n / 3)) (semC v (n / 3)) (XS c f n)

variable (fx : HB (F := F) c M5) (fs : HB (F := F) c M4)

/-- Part 8 fetches the next trip's blocks of windows 0 and 1. -/
theorem part8_wp :
    iprop(RO f0 ∗ RO f1 ∗ FG c (Memref.whole cc0_scoped4) cc0_scoped5 (t.val + 1) ∗ FG c (Memref.whole cc0_scoped6) cc0_scoped7 (t.val + 1))
      ⊢ (wp frame (wpE (defs₀ (F := F)) 𝒱₀ (c : Thread nD τ) none) Set.univ (p8 t) fun r =>
        iprop(⌜r = o8 t⌝ ∗ RO f0 ∗ RO f1 ∗ NG c (Memref.whole cc0_scoped4) cc0_scoped5 M0 f0 0 (t.val + 1) ∗ NG c (Memref.whole cc0_scoped6) cc0_scoped7 M1 f1 0 (t.val + 1)) : sProp 𝕄) := by
  unfold p8
  rw [k0_part8_eq_skeleton]
  unfold k0_part8_skel
  dsimp only [atMems]
  iintro ⟨HR0, HR1, H0, H1⟩
  iapply (wp_fetchG c (n := t.val + 1) (by revert t; decide +kernel) (fun _ => blkG_eq (atG0 t)) (fun _ => slotG_eq (slotN t)) (fun _ => semC_eq (semN t)) (f := f0)) $$ [HR0 H0]
  · isplitl [HR0] <;> iassumption
  iintro ⟨HR0, H0⟩
  beta_reduce
  iapply (wp_fetchG c (n := t.val + 1) (by revert t; decide +kernel) (fun _ => blkG_eq (atG0 t)) (fun _ => slotG_eq (slotN t)) (fun _ => semC_eq (semN t)) (f := f1)) $$ [HR1 H1]
  · isplitl [HR1] <;> iassumption
  iintro ⟨HR1, H1⟩
  beta_reduce
  sl_step
  isplitl []
  · ipureintro; revert t; decide +kernel
  isplitl [HR0]; · iexact HR0
  isplitl [HR1]; · iexact HR1
  isplitl [H0] <;> iassumption

/-- Part 9 fetches the next trip's block of window 2. -/
theorem part9_wp :
    iprop(RO f2 ∗ FD c (Memref.whole cc0_scoped8) cc0_scoped9 (t.val + 1))
      ⊢ (wp frame (wpE (defs₀ (F := F)) 𝒱₀ (c : Thread nD τ) none) Set.univ (p9 t) fun r =>
        iprop(⌜r = o9 t⌝ ∗ RO f2 ∗ ND c (Memref.whole cc0_scoped8) cc0_scoped9 M2 f2 0 (t.val + 1)) : sProp 𝕄) := by
  unfold p9
  rw [k0_part9_eq_skeleton]
  unfold k0_part9_skel
  dsimp only [atMems]
  iintro ⟨HR2, H2⟩
  iapply (wp_fetchD c (n := t.val + 1) (by revert t; decide +kernel) (fun _ => blkD_eq (atD0 t)) (fun _ => slotD_eq (slotN t)) (fun _ => semC_eq (semN t)) (f := f2)) $$ [HR2 H2]
  · isplitl [HR2] <;> iassumption
  iintro ⟨HR2, H2⟩
  beta_reduce
  sl_step
  isplitl []
  · ipureintro; revert t; decide +kernel
  isplitl [HR2] <;> iassumption

/-- Part 10 fetches the next trip's blocks of windows 3 and 4. -/
theorem part10_wp :
    iprop(RO f0 ∗ RO f1 ∗ FG c (Memref.whole cc0_scoped10) cc0_scoped11 (t.val + 1) ∗ FG c (Memref.whole cc0_scoped12) cc0_scoped13 (t.val + 1))
      ⊢ (wp frame (wpE (defs₀ (F := F)) 𝒱₀ (c : Thread nD τ) none) Set.univ (p10 t) fun r =>
        iprop(⌜r = o10 t⌝ ∗ RO f0 ∗ RO f1 ∗ NG c (Memref.whole cc0_scoped10) cc0_scoped11 M0 f0 1 (t.val + 1) ∗ NG c (Memref.whole cc0_scoped12) cc0_scoped13 M1 f1 1 (t.val + 1)) : sProp 𝕄) := by
  unfold p10
  rw [k0_part10_eq_skeleton]
  unfold k0_part10_skel
  dsimp only [atMems]
  iintro ⟨HR0, HR1, H3, H4⟩
  iapply (wp_fetchG c (n := t.val + 1) (by revert t; decide +kernel) (fun _ => blkG_eq (atG1 t)) (fun _ => slotG_eq (slotN t)) (fun _ => semC_eq (semN t)) (f := f0)) $$ [HR0 H3]
  · isplitl [HR0] <;> iassumption
  iintro ⟨HR0, H3⟩
  beta_reduce
  iapply (wp_fetchG c (n := t.val + 1) (by revert t; decide +kernel) (fun _ => blkG_eq (atG1 t)) (fun _ => slotG_eq (slotN t)) (fun _ => semC_eq (semN t)) (f := f1)) $$ [HR1 H4]
  · isplitl [HR1] <;> iassumption
  iintro ⟨HR1, H4⟩
  beta_reduce
  sl_step
  isplitl []
  · ipureintro; revert t; decide +kernel
  isplitl [HR0]; · iexact HR0
  isplitl [HR1]; · iexact HR1
  isplitl [H3] <;> iassumption

/-- Part 11 fetches the next trip's blocks of windows 5 and 6. -/
theorem part11_wp :
    iprop(RO f0 ∗ RO f2 ∗ FD c (Memref.whole cc0_scoped14) cc0_scoped15 (t.val + 1) ∗ FG c (Memref.whole cc0_scoped16) cc0_scoped17 (t.val + 1))
      ⊢ (wp frame (wpE (defs₀ (F := F)) 𝒱₀ (c : Thread nD τ) none) Set.univ (p11 t) fun r =>
        iprop(⌜r = o11 t⌝ ∗ RO f0 ∗ RO f2 ∗ ND c (Memref.whole cc0_scoped14) cc0_scoped15 M2 f2 1 (t.val + 1) ∗ NG c (Memref.whole cc0_scoped16) cc0_scoped17 M0 f0 2 (t.val + 1)) : sProp 𝕄) := by
  unfold p11
  rw [k0_part11_eq_skeleton]
  unfold k0_part11_skel
  dsimp only [atMems]
  iintro ⟨HR0, HR2, H5, H6⟩
  iapply (wp_fetchD c (n := t.val + 1) (by revert t; decide +kernel) (fun _ => blkD_eq (atD1 t)) (fun _ => slotD_eq (slotN t)) (fun _ => semC_eq (semN t)) (f := f2)) $$ [HR2 H5]
  · isplitl [HR2] <;> iassumption
  iintro ⟨HR2, H5⟩
  beta_reduce
  iapply (wp_fetchG c (n := t.val + 1) (by revert t; decide +kernel) (fun _ => blkG_eq (atG2 t)) (fun _ => slotG_eq (slotN t)) (fun _ => semC_eq (semN t)) (f := f0)) $$ [HR0 H6]
  · isplitl [HR0] <;> iassumption
  iintro ⟨HR0, H6⟩
  beta_reduce
  sl_step
  isplitl []
  · ipureintro; revert t; decide +kernel
  isplitl [HR0]; · iexact HR0
  isplitl [HR2]; · iexact HR2
  isplitl [H5] <;> iassumption

/-- Part 12 fetches the next trip's block of window 7. -/
theorem part12_wp :
    iprop(RO f1 ∗ FG c (Memref.whole cc0_scoped18) cc0_scoped19 (t.val + 1))
      ⊢ (wp frame (wpE (defs₀ (F := F)) 𝒱₀ (c : Thread nD τ) none) Set.univ (p12 t) fun r =>
        iprop(⌜r = o12 t⌝ ∗ RO f1 ∗ NG c (Memref.whole cc0_scoped18) cc0_scoped19 M1 f1 2 (t.val + 1)) : sProp 𝕄) := by
  unfold p12
  rw [k0_part12_eq_skeleton]
  unfold k0_part12_skel
  dsimp only [atMems]
  iintro ⟨HR1, H7⟩
  iapply (wp_fetchG c (n := t.val + 1) (by revert t; decide +kernel) (fun _ => blkG_eq (atG2 t)) (fun _ => slotG_eq (slotN t)) (fun _ => semC_eq (semN t)) (f := f1)) $$ [HR1 H7]
  · isplitl [HR1] <;> iassumption
  iintro ⟨HR1, H7⟩
  beta_reduce
  sl_step
  isplitl []
  · ipureintro; revert t; decide +kernel
  isplitl [HR1] <;> iassumption

/-- Part 13 fetches the next trip's blocks of windows 8 and 9. -/
theorem part13_wp :
    iprop(RO f0 ∗ RO f2 ∗ FD c (Memref.whole cc0_scoped20) cc0_scoped21 (t.val + 1) ∗ FG c (Memref.whole cc0_scoped22) cc0_scoped23 (t.val + 1))
      ⊢ (wp frame (wpE (defs₀ (F := F)) 𝒱₀ (c : Thread nD τ) none) Set.univ (p13 t) fun r =>
        iprop(⌜r = o13 t⌝ ∗ RO f0 ∗ RO f2 ∗ ND c (Memref.whole cc0_scoped20) cc0_scoped21 M2 f2 2 (t.val + 1) ∗ NG c (Memref.whole cc0_scoped22) cc0_scoped23 M0 f0 3 (t.val + 1)) : sProp 𝕄) := by
  unfold p13
  rw [k0_part13_eq_skeleton]
  unfold k0_part13_skel
  dsimp only [atMems]
  iintro ⟨HR0, HR2, H8, H9⟩
  iapply (wp_fetchD c (n := t.val + 1) (by revert t; decide +kernel) (fun _ => blkD_eq (atD2 t)) (fun _ => slotD_eq (slotN t)) (fun _ => semC_eq (semN t)) (f := f2)) $$ [HR2 H8]
  · isplitl [HR2] <;> iassumption
  iintro ⟨HR2, H8⟩
  beta_reduce
  iapply (wp_fetchG c (n := t.val + 1) (by revert t; decide +kernel) (fun _ => blkG_eq (atG3 t)) (fun _ => slotG_eq (slotN t)) (fun _ => semC_eq (semN t)) (f := f0)) $$ [HR0 H9]
  · isplitl [HR0] <;> iassumption
  iintro ⟨HR0, H9⟩
  beta_reduce
  sl_step
  isplitl []
  · ipureintro; revert t; decide +kernel
  isplitl [HR0]; · iexact HR0
  isplitl [HR2]; · iexact HR2
  isplitl [H8] <;> iassumption

/-- Part 14 fetches the next trip's blocks of windows 10 and 11. -/
theorem part14_wp :
    iprop(RO f1 ∗ RO f2 ∗ FG c (Memref.whole cc0_scoped24) cc0_scoped25 (t.val + 1) ∗ FD c (Memref.whole cc0_scoped26) cc0_scoped27 (t.val + 1))
      ⊢ (wp frame (wpE (defs₀ (F := F)) 𝒱₀ (c : Thread nD τ) none) Set.univ (p14 t) fun r =>
        iprop(⌜r = o14 t⌝ ∗ RO f1 ∗ RO f2 ∗ NG c (Memref.whole cc0_scoped24) cc0_scoped25 M1 f1 3 (t.val + 1) ∗ ND c (Memref.whole cc0_scoped26) cc0_scoped27 M2 f2 3 (t.val + 1)) : sProp 𝕄) := by
  unfold p14
  rw [k0_part14_eq_skeleton]
  unfold k0_part14_skel
  dsimp only [atMems]
  iintro ⟨HR1, HR2, H10, H11⟩
  iapply (wp_fetchG c (n := t.val + 1) (by revert t; decide +kernel) (fun _ => blkG_eq (atG3 t)) (fun _ => slotG_eq (slotN t)) (fun _ => semC_eq (semN t)) (f := f1)) $$ [HR1 H10]
  · isplitl [HR1] <;> iassumption
  iintro ⟨HR1, H10⟩
  beta_reduce
  iapply (wp_fetchD c (n := t.val + 1) (by revert t; decide +kernel) (fun _ => blkD_eq (atD3 t)) (fun _ => slotD_eq (slotN t)) (fun _ => semC_eq (semN t)) (f := f2)) $$ [HR2 H11]
  · isplitl [HR2] <;> iassumption
  iintro ⟨HR2, H11⟩
  beta_reduce
  sl_step
  isplitl []
  · ipureintro; revert t; decide +kernel
  isplitl [HR1]; · iexact HR1
  isplitl [HR2]; · iexact HR2
  isplitl [H10] <;> iassumption

/-- Part 15 waits for this trip's blocks. -/
theorem part15_wp :
    iprop(OW c ∗ CX c (Memref.whole cc0_scoped0) cc0_scoped1 fx t.val ∗ CS c (Memref.whole cc0_scoped2) cc0_scoped3 fs t.val ∗ NG c (Memref.whole cc0_scoped4) cc0_scoped5 M0 f0 0 t.val ∗ NG c (Memref.whole cc0_scoped6) cc0_scoped7 M1 f1 0 t.val)
      ⊢ (wp frame (wpE (defs₀ (F := F)) 𝒱₀ (c : Thread nD τ) none) Set.univ (p15 t) fun r =>
        iprop(⌜r = o15 t⌝ ∗ OW c ∗ LX c (Memref.whole cc0_scoped0) cc0_scoped1 fx t.val ∗ LS c (Memref.whole cc0_scoped2) cc0_scoped3 fs t.val ∗ LG c (Memref.whole cc0_scoped4) cc0_scoped5 M0 f0 0 t.val ∗ LG c (Memref.whole cc0_scoped6) cc0_scoped7 M1 f1 0 t.val) : sProp 𝕄) := by
  unfold p15
  rw [k0_part15_eq_skeleton]
  unfold k0_part15_skel
  dsimp only [atMems]
  iintro ⟨HO, Hx, Hs, H0, H1⟩
  iapply (wp_await_cur c (q := t.val % 3 = 0) (by revert t; decide +kernel) (fun _ => slotX_eq (slotE t)) (fun _ => semC_eq (semE t))) $$ [HO Hx]
  · isplitl [Hx] <;> iassumption
  iintro ⟨Hx, HO⟩
  beta_reduce
  iapply (wp_await_cur c (q := t.val % 3 = 0) (by revert t; decide +kernel) (fun _ => slotS_eq (slotE t)) (fun _ => semC_eq (semE t))) $$ [HO Hs]
  · isplitl [Hs] <;> iassumption
  iintro ⟨Hs, HO⟩
  beta_reduce
  iapply (wp_await_nxt c (n := t.val) (by revert t; decide +kernel) t.isLt (fun _ => slotG_eq (slotT t)) (fun _ => semC_eq (semT t))) $$ [HO H0]
  · isplitl [H0] <;> iassumption
  iintro ⟨H0, HO⟩
  beta_reduce
  iapply (wp_await_nxt c (n := t.val) (by revert t; decide +kernel) t.isLt (fun _ => slotG_eq (slotT t)) (fun _ => semC_eq (semT t))) $$ [HO H1]
  · isplitl [H1] <;> iassumption
  iintro ⟨H1, HO⟩
  beta_reduce
  sl_step
  isplitl []
  · ipureintro; revert t; decide +kernel
  isplitl [HO]; · iexact HO
  isplitl [Hx]; · iexact Hx
  isplitl [Hs]; · iexact Hs
  isplitl [H0] <;> iassumption

/-- Part 16 waits for this trip's blocks. -/
theorem part16_wp :
    iprop(OW c ∗ ND c (Memref.whole cc0_scoped8) cc0_scoped9 M2 f2 0 t.val ∗ NG c (Memref.whole cc0_scoped10) cc0_scoped11 M0 f0 1 t.val ∗ NG c (Memref.whole cc0_scoped12) cc0_scoped13 M1 f1 1 t.val)
      ⊢ (wp frame (wpE (defs₀ (F := F)) 𝒱₀ (c : Thread nD τ) none) Set.univ (p16 t) fun r =>
        iprop(⌜r = o16 t⌝ ∗ OW c ∗ LD c (Memref.whole cc0_scoped8) cc0_scoped9 M2 f2 0 t.val ∗ LG c (Memref.whole cc0_scoped10) cc0_scoped11 M0 f0 1 t.val ∗ LG c (Memref.whole cc0_scoped12) cc0_scoped13 M1 f1 1 t.val) : sProp 𝕄) := by
  unfold p16
  rw [k0_part16_eq_skeleton]
  unfold k0_part16_skel
  dsimp only [atMems]
  iintro ⟨HO, H2, H3, H4⟩
  iapply (wp_await_nxt c (n := t.val) (by revert t; decide +kernel) t.isLt (fun _ => slotD_eq (slotT t)) (fun _ => semC_eq (semT t))) $$ [HO H2]
  · isplitl [H2] <;> iassumption
  iintro ⟨H2, HO⟩
  beta_reduce
  iapply (wp_await_nxt c (n := t.val) (by revert t; decide +kernel) t.isLt (fun _ => slotG_eq (slotT t)) (fun _ => semC_eq (semT t))) $$ [HO H3]
  · isplitl [H3] <;> iassumption
  iintro ⟨H3, HO⟩
  beta_reduce
  iapply (wp_await_nxt c (n := t.val) (by revert t; decide +kernel) t.isLt (fun _ => slotG_eq (slotT t)) (fun _ => semC_eq (semT t))) $$ [HO H4]
  · isplitl [H4] <;> iassumption
  iintro ⟨H4, HO⟩
  beta_reduce
  sl_step
  isplitl []
  · ipureintro; revert t; decide +kernel
  isplitl [HO]; · iexact HO
  isplitl [H2]; · iexact H2
  isplitl [H3] <;> iassumption

/-- Part 17 waits for this trip's blocks. -/
theorem part17_wp :
    iprop(OW c ∗ ND c (Memref.whole cc0_scoped14) cc0_scoped15 M2 f2 1 t.val ∗ NG c (Memref.whole cc0_scoped16) cc0_scoped17 M0 f0 2 t.val ∗ NG c (Memref.whole cc0_scoped18) cc0_scoped19 M1 f1 2 t.val)
      ⊢ (wp frame (wpE (defs₀ (F := F)) 𝒱₀ (c : Thread nD τ) none) Set.univ (p17 t) fun r =>
        iprop(⌜r = o17 t⌝ ∗ OW c ∗ LD c (Memref.whole cc0_scoped14) cc0_scoped15 M2 f2 1 t.val ∗ LG c (Memref.whole cc0_scoped16) cc0_scoped17 M0 f0 2 t.val ∗ LG c (Memref.whole cc0_scoped18) cc0_scoped19 M1 f1 2 t.val) : sProp 𝕄) := by
  unfold p17
  rw [k0_part17_eq_skeleton]
  unfold k0_part17_skel
  dsimp only [atMems]
  iintro ⟨HO, H5, H6, H7⟩
  iapply (wp_await_nxt c (n := t.val) (by revert t; decide +kernel) t.isLt (fun _ => slotD_eq (slotT t)) (fun _ => semC_eq (semT t))) $$ [HO H5]
  · isplitl [H5] <;> iassumption
  iintro ⟨H5, HO⟩
  beta_reduce
  iapply (wp_await_nxt c (n := t.val) (by revert t; decide +kernel) t.isLt (fun _ => slotG_eq (slotT t)) (fun _ => semC_eq (semT t))) $$ [HO H6]
  · isplitl [H6] <;> iassumption
  iintro ⟨H6, HO⟩
  beta_reduce
  iapply (wp_await_nxt c (n := t.val) (by revert t; decide +kernel) t.isLt (fun _ => slotG_eq (slotT t)) (fun _ => semC_eq (semT t))) $$ [HO H7]
  · isplitl [H7] <;> iassumption
  iintro ⟨H7, HO⟩
  beta_reduce
  sl_step
  isplitl []
  · ipureintro; revert t; decide +kernel
  isplitl [HO]; · iexact HO
  isplitl [H5]; · iexact H5
  isplitl [H6] <;> iassumption

/-- Part 18 waits for this trip's blocks. -/
theorem part18_wp :
    iprop(OW c ∗ ND c (Memref.whole cc0_scoped20) cc0_scoped21 M2 f2 2 t.val ∗ NG c (Memref.whole cc0_scoped22) cc0_scoped23 M0 f0 3 t.val ∗ NG c (Memref.whole cc0_scoped24) cc0_scoped25 M1 f1 3 t.val)
      ⊢ (wp frame (wpE (defs₀ (F := F)) 𝒱₀ (c : Thread nD τ) none) Set.univ (p18 t) fun r =>
        iprop(⌜r = o18 t⌝ ∗ OW c ∗ LD c (Memref.whole cc0_scoped20) cc0_scoped21 M2 f2 2 t.val ∗ LG c (Memref.whole cc0_scoped22) cc0_scoped23 M0 f0 3 t.val ∗ LG c (Memref.whole cc0_scoped24) cc0_scoped25 M1 f1 3 t.val) : sProp 𝕄) := by
  unfold p18
  rw [k0_part18_eq_skeleton]
  unfold k0_part18_skel
  dsimp only [atMems]
  iintro ⟨HO, H8, H9, H10⟩
  iapply (wp_await_nxt c (n := t.val) (by revert t; decide +kernel) t.isLt (fun _ => slotD_eq (slotT t)) (fun _ => semC_eq (semT t))) $$ [HO H8]
  · isplitl [H8] <;> iassumption
  iintro ⟨H8, HO⟩
  beta_reduce
  iapply (wp_await_nxt c (n := t.val) (by revert t; decide +kernel) t.isLt (fun _ => slotG_eq (slotT t)) (fun _ => semC_eq (semT t))) $$ [HO H9]
  · isplitl [H9] <;> iassumption
  iintro ⟨H9, HO⟩
  beta_reduce
  iapply (wp_await_nxt c (n := t.val) (by revert t; decide +kernel) t.isLt (fun _ => slotG_eq (slotT t)) (fun _ => semC_eq (semT t))) $$ [HO H10]
  · isplitl [H10] <;> iassumption
  iintro ⟨H10, HO⟩
  beta_reduce
  sl_step
  isplitl []
  · ipureintro; revert t; decide +kernel
  isplitl [HO]; · iexact HO
  isplitl [H8]; · iexact H8
  isplitl [H9] <;> iassumption

end Cert.Proof.Ffn

end
-- ==== Proof.Mem.lean ====
/-
  Loads from, and stores into, buffers held at named values.
-/
module

public import proofs.«01_k».proof.Proof.Parts
public import Idealize.ShloMosaic.Lib.VecWindow

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {s : Shape} {e : EltTy} {α : Type}

/-- A load from a buffer held at `X`. -/
theorem wp_loadAt {d d' : Memref sig .tc .vmem s e} (hd : d = d') {r : LoadRect s} {hl : d.view.LoadsAt r} {X : s.Idx → Elt F e} {Y : r.shape.Idx → Elt F e}
    (hY : ∀ v : View sig .tc .vmem s e, v.readAt (Elt F) r (v.rep X) = Y)
    {k : (r.shape.Idx → Elt F e) → Prog (TpuEff nD τ sig (Elt F) (Λ₀ F) .tc) α} {Q : α → sProp 𝕄} :
    (At c d' X : sProp 𝕄)
      ⊢ iprop((At c d' X -∗ wp frame (wpE (defs₀ (F := F)) 𝒱₀ (c : Thread nD τ) none) Set.univ (k Y) Q)
        -∗ wp frame (wpE (defs₀ (F := F)) 𝒱₀ (c : Thread nD τ) none) Set.univ (Prog.lift (.load d r hl) >>= k) Q) := by
  subst hd
  have h := wp_load (Name := ℕ) (U := UU nD τ) (Γ := []) (defs := defs₀ (F := F)) 𝒱₀ (c : Thread nD τ) none Set.univ (m := d) (r := r) (hl := hl) (k := k) (Q := Q) (q := fullShare) (f := d.view.rep X)
    (View.setOn_subset_set _ _)
  rw [hY d.view] at h
  exact h

/-- A load of all of a buffer held at `X`. -/
theorem wp_loadFull {d d' : Memref sig .tc .vmem s e} (hd : d = d') {off : Fin s.rank → ℕ} {inb : ∀ a, off a + s.size a ≤ s.size a}
    {hl : d.view.LoadsAt (Rect.unit off s.size inb).toLoadRect} {X : s.Idx → Elt F e}
    {k : (s.Idx → Elt F e) → Prog (TpuEff nD τ sig (Elt F) (Λ₀ F) .tc) α} {Q : α → sProp 𝕄} :
    (At c d' X : sProp 𝕄)
      ⊢ iprop((At c d' X -∗ wp frame (wpE (defs₀ (F := F)) 𝒱₀ (c : Thread nD τ) none) Set.univ (k X) Q)
        -∗ wp frame (wpE (defs₀ (F := F)) 𝒱₀ (c : Thread nD τ) none) Set.univ (Prog.lift (.load d (Rect.unit off s.size inb).toLoadRect hl) >>= k) Q) :=
  wp_loadAt c hd (fun v => v.readAt_rep_full X inb)

/-- A load of a window of a buffer held at `X`. -/
theorem wp_loadWin {d d' : Memref sig .tc .vmem s e} (hd : d = d') {off size : Fin s.rank → ℕ} {inb : ∀ a, off a + size a ≤ s.size a}
    {hl : d.view.LoadsAt (Rect.unit off size inb).toLoadRect} {X : s.Idx → Elt F e}
    {k : ((Rect.unit off size inb).shape.Idx → Elt F e) → Prog (TpuEff nD τ sig (Elt F) (Λ₀ F) .tc) α} {Q : α → sProp 𝕄} :
    (At c d' X : sProp 𝕄)
      ⊢ iprop((At c d' X -∗ wp frame (wpE (defs₀ (F := F)) 𝒱₀ (c : Thread nD τ) none) Set.univ (k (VecWindow.window X off size inb)) Q)
        -∗ wp frame (wpE (defs₀ (F := F)) 𝒱₀ (c : Thread nD τ) none) Set.univ (Prog.lift (.load d (Rect.unit off size inb).toLoadRect hl) >>= k) Q) :=
  wp_loadAt c hd (fun v => v.readAt_rep_unit X inb rfl inb)

/-- A load whose result is not used. -/
theorem wp_loadSome {d d' : Memref sig .tc .vmem s e} (hd : d = d') {r : LoadRect s} {hl : d.view.LoadsAt r}
    {k : (r.shape.Idx → Elt F e) → Prog (TpuEff nD τ sig (Elt F) (Λ₀ F) .tc) α} {k' : Prog (TpuEff nD τ sig (Elt F) (Λ₀ F) .tc) α} (hk : ∀ x, k x = k') {Q : α → sProp 𝕄} :
    (Some' c d' : sProp 𝕄)
      ⊢ iprop((Some' c d' -∗ wp frame (wpE (defs₀ (F := F)) 𝒱₀ (c : Thread nD τ) none) Set.univ k' Q)
        -∗ wp frame (wpE (defs₀ (F := F)) 𝒱₀ (c : Thread nD τ) none) Set.univ (Prog.lift (.load d r hl) >>= k) Q) := by
  subst hd
  iintro ⟨%f, H⟩ Hk
  iapply (wp_load (Name := ℕ) (U := UU nD τ) (Γ := []) (defs := defs₀ (F := F)) 𝒱₀ (c : Thread nD τ) none Set.univ (m := d) (r := r) (hl := hl) (k := k) (Q := Q) (q := fullShare) (f := f)
    (View.setOn_subset_set _ _)) $$ H
  iintro H
  rw [hk]
  iapply Hk
  iexists _; iexact H

/-- A store into a window of a buffer held at `X`. -/
theorem wp_storeWin {d : Memref sig .tc .vmem s e} {off size : Fin s.rank → ℕ} {inb : ∀ a, off a + size a ≤ s.size a}
    {w : (Rect.unit off size inb).shape.Idx → Elt F e} {hx : (d.access (Rect.unit off size inb)).Stores Finset.univ}
    {hm : Finset.univ = Finset.univ ∨ ∀ a, (Rect.unit off size inb).stride a = 1} {X : s.Idx → Elt F e}
    {k : PUnit → Prog (TpuEff nD τ sig (Elt F) (Λ₀ F) .tc) α} {Q : α → sProp 𝕄} :
    (At c d X : sProp 𝕄)
      ⊢ iprop((At c d (VecWindow.put X off size w) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store d (Rect.unit off size inb) w Finset.univ hx hm) >>= k) Q) := by
  have h := wp_store (Name := ℕ) (U := UU nD τ) (Γ := []) (defs := defs₀ (F := F)) 𝒱₀ (c : Thread nD τ) none Set.univ (m := d) (r := Rect.unit off size inb) (w := w) (Mk := Finset.univ) (hx := hx) (hm := hm) (k := k) (Q := Q) (f := d.view.rep X) (S := d.view.set)
    (by rw [View.setOn_univ]; exact View.set_slice_subset _ _)
  have e := pointsTo_rep (Val := Elt F) (Ix := Unit) (Name := ℕ) (U := UU nD τ) (Lvl := ℕ) (c : Thread nD τ) d (d.view.writes (Elt F) (d.view.rep X) [⟨Rect.unit off size inb, w⟩]) fullShare
  rw [View.read_writes_rep_unit d.view X inb w rfl, View.writes_cons, View.writes_nil] at e
  iintro H Hk
  iapply h $$ H
  iintro H
  iapply Hk
  iapply (Entails.of_eq e) $$ H

/-- A store of all of a buffer held at anything. -/
theorem wp_storeFull {d : Memref sig .tc .vmem s e} {off : Fin s.rank → ℕ} {inb : ∀ a, off a + s.size a ≤ s.size a}
    {w : (Rect.unit off s.size inb).shape.Idx → Elt F e} {hx : (d.access (Rect.unit off s.size inb)).Stores Finset.univ}
    {hm : Finset.univ = Finset.univ ∨ ∀ a, (Rect.unit off s.size inb).stride a = 1}
    {k : PUnit → Prog (TpuEff nD τ sig (Elt F) (Λ₀ F) .tc) α} {Q : α → sProp 𝕄} :
    (Some' c d : sProp 𝕄)
      ⊢ iprop((At c d w -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store d (Rect.unit off s.size inb) w Finset.univ hx hm) >>= k) Q) := by
  iintro ⟨%f, H⟩ Hk
  have e := pointsTo_rep (Val := Elt F) (Ix := Unit) (Name := ℕ) (U := UU nD τ) (Lvl := ℕ) (c : Thread nD τ) d (d.view.writes (Elt F) f [⟨Rect.unit off s.size inb, w⟩]) fullShare
  rw [View.read_writes_full d.view f inb w, View.writes_cons, View.writes_nil] at e
  iapply (wp_store (Name := ℕ) (U := UU nD τ) (Γ := []) (defs := defs₀ (F := F)) 𝒱₀ (c : Thread nD τ) none Set.univ (m := d) (r := Rect.unit off s.size inb) (w := w) (Mk := Finset.univ) (hx := hx) (hm := hm) (k := k) (Q := Q) (f := f) (S := d.view.set)
    (by rw [View.setOn_univ]; exact View.set_slice_subset _ _)) $$ H
  iintro H
  iapply Hk
  iapply (Entails.of_eq e) $$ H

/-- The slot's contents after a store of `w` through its rectangle of the pair. -/
def unslot {β : Type} (w : S1x2x1x1024x1024.Idx → β) : S2x1x1024x1024.Idx → β :=
  shapeCast S2x1x1024x1024 w (Shape.Squeezes.numel_eq squeezes_S1x2x1x1024x1024_S2x1x1024x1024)

/-- A store of a whole slot of a pair, held at anything. -/
theorem wp_storeSlot {al : Memref sig .tc .vmem S2x2x1x1024x1024 .bf16} {n : ℕ} {off : Fin 5 → ℕ} {hb : ∀ a, off a + S1x2x1x1024x1024.size a ≤ S2x2x1x1024x1024.size a}
    (h : off = ![n % 2, 0, 0, 0, 0]) {w : S1x2x1x1024x1024.Idx → Elt F .bf16} {hx : (al.access (Rect.unit (s := S2x2x1x1024x1024) off S1x2x1x1024x1024.size hb)).Stores Finset.univ}
    {hm : Finset.univ = Finset.univ ∨ ∀ a, (Rect.unit (s := S2x2x1x1024x1024) off S1x2x1x1024x1024.size hb).stride a = 1}
    {k : PUnit → Prog (TpuEff nD τ sig (Elt F) (Λ₀ F) .tc) α} {Q : α → sProp 𝕄} :
    (Some' c (slotX al n) : sProp 𝕄)
      ⊢ iprop((At c (slotX al n) (unslot w) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store al (Rect.unit (s := S2x2x1x1024x1024) off S1x2x1x1024x1024.size hb) w Finset.univ hx hm) >>= k) Q) := by
  subst h
  iintro ⟨%f, H⟩ Hk
  have e := pointsTo_rep (Val := Elt F) (Ix := Unit) (Name := ℕ) (U := UU nD τ) (Lvl := ℕ) (c : Thread nD τ) (slotX al n) ((al.access (Rect.unit (s := S2x2x1x1024x1024) ![n % 2, 0, 0, 0, 0] S1x2x1x1024x1024.size hb)).write (Elt F) f w Finset.univ) fullShare
  have er : (slotX al n).view.read (Elt F) ((al.access (Rect.unit (s := S2x2x1x1024x1024) ![n % 2, 0, 0, 0, 0] S1x2x1x1024x1024.size hb)).write (Elt F) f w Finset.univ) = unslot w := by
    funext x
    exact View.read_write_of_mem (v := al.access (Rect.unit (s := S2x2x1x1024x1024) ![n % 2, 0, 0, 0, 0] S1x2x1x1024x1024.size hb)) f w (Finset.mem_univ _)
  rw [er] at e
  have hset : (slotX al n).view.set = (al.access (Rect.unit (s := S2x2x1x1024x1024) ![n % 2, 0, 0, 0, 0] S1x2x1x1024x1024.size hb)).set := View.set_reshape _ _
  iapply (wp_store (Name := ℕ) (U := UU nD τ) (Γ := []) (defs := defs₀ (F := F)) 𝒱₀ (c : Thread nD τ) none Set.univ (m := al) (r := Rect.unit (s := S2x2x1x1024x1024) ![n % 2, 0, 0, 0, 0] S1x2x1x1024x1024.size hb) (w := w) (Mk := Finset.univ) (hx := hx) (hm := hm) (k := k) (Q := Q) (f := f) (S := (slotX al n).view.set)
    (by rw [View.setOn_univ, hset])) $$ H
  iintro H
  iapply Hk
  iapply (Entails.of_eq e) $$ H

end Cert.Proof.Ffn

end
-- ==== Proof.Compute.lean ====
/-
  The arithmetic of one trip, run on the blocks that have landed.
-/
module

public import proofs.«01_k».proof.Proof.Mem

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What a trip does to the accumulator, as functions of the blocks -/

section Values

/-- The rows of the first batch entry of a token block, -/
abbrev rows0 (x : S2x1x1024x1024.Idx → Elt F .bf16) : S1x1x1024x1024.Idx → Elt F .bf16 :=
  VecWindow.window (s := S2x1x1024x1024) x ![0, 0, 0, 0] S1x1x1024x1024.size inb_S2x1x1024x1024_S1x1x1024x1024_0_0_0_0
/-- and of the second. -/
abbrev rows1 (x : S2x1x1024x1024.Idx → Elt F .bf16) : S1x1x1024x1024.Idx → Elt F .bf16 :=
  VecWindow.window (s := S2x1x1024x1024) x ![1, 0, 0, 0] S1x1x1024x1024.size inb_S2x1x1024x1024_S1x1x1024x1024_1_0_0_0
/-- The accumulator's rows for the first batch entry, -/
abbrev top (A : S2048x1024.Idx → Elt F .f32) : S1024x1024.Idx → Elt F .f32 :=
  VecWindow.window (s := S2048x1024) A ![0, 0] S1024x1024.size inb_S2048x1024_S1024x1024_0_0
/-- and for the second. -/
abbrev bot (A : S2048x1024.Idx → Elt F .f32) : S1024x1024.Idx → Elt F .f32 :=
  VecWindow.window (s := S2048x1024) A ![1024, 0] S1024x1024.size inb_S2048x1024_S1024x1024_1024_0
/-- The accumulator with those rows replaced. -/
abbrev setTop (A : S2048x1024.Idx → Elt F .f32) (w : S1024x1024.Idx → Elt F .f32) : S2048x1024.Idx → Elt F .f32 :=
  VecWindow.put (s := S2048x1024) A ![0, 0] S1024x1024.size w
abbrev setBot (A : S2048x1024.Idx → Elt F .f32) (w : S1024x1024.Idx → Elt F .f32) : S2048x1024.Idx → Elt F .f32 :=
  VecWindow.put (s := S2048x1024) A ![1024, 0] S1024x1024.size w

variable (w : BitVec 32) (X0 X1 X3 X4 X6 X7 X9 X10 : S1x1024x256.Idx → Elt F .f32) (X2 X5 X8 X11 : S1x256x1024.Idx → Elt F .f32)
  (Xx : S2x1x1024x1024.Idx → Elt F .bf16) (A : S2048x1024.Idx → Elt F .f32)

/-- Four blocks' contribution to the first batch entry's rows, then to the second's. -/
def midTop : S2048x1024.Idx → Elt F .f32 :=
  setTop A (k0_pay7 w (k0_pay1 X0 X3 X6 X9) (k0_pay3 (k0_pay2 X1) X4 X7 X10) (k0_pay4 X2) (k0_pay5 X5) X8 X11 (rows0 Xx) (top A))
def midAcc : S2048x1024.Idx → Elt F .f32 :=
  setBot (midTop w X0 X1 X3 X4 X6 X7 X9 X10 X2 X5 X8 X11 Xx A)
    (k0_pay17 w (k0_pay1 X0 X3 X6 X9) (k0_pay3 (k0_pay2 X1) X4 X7 X10) (k0_pay6 (k0_pay4 X2) (k0_pay5 X5) X8 X11) (rows1 Xx)
      (bot (midTop w X0 X1 X3 X4 X6 X7 X9 X10 X2 X5 X8 X11 Xx A)))
/-- Three blocks' contribution. -/
def endTop : S2048x1024.Idx → Elt F .f32 :=
  setTop A (k0_pay18 w (k0_pay12 X2 X5 X8) (k0_pay14 (k0_pay9 X1) (k0_pay10 X4) X7 (rows0 Xx)) (k0_pay15 (k0_pay8 X0 X3 X6) (rows0 Xx)) (top A))
def endAcc : S2048x1024.Idx → Elt F .f32 :=
  setBot (endTop w X0 X1 X3 X4 X6 X7 X2 X5 X8 Xx A)
    (k0_pay19 w (k0_pay8 X0 X3 X6) (k0_pay11 (k0_pay9 X1) (k0_pay10 X4) X7) (k0_pay12 X2 X5 X8) (rows1 Xx)
      (bot (endTop w X0 X1 X3 X4 X6 X7 X2 X5 X8 Xx A)))

end Values

/-! ## The parts that load and multiply -/

variable (c : Dev nD) (t : Fin k0_t1_loop.trips)

/-- The accumulator. -/
abbrev MA : Memref sig .tc .vmem S2048x1024 .f32 := Memref.whole cc0_scratch0

variable (X0 X1 X3 X4 X6 X7 X9 X10 : S1x1024x256.Idx → Elt F .f32) (X2 X5 X8 X11 : S1x256x1024.Idx → Elt F .f32)
  (Xx : S2x1x1024x1024.Idx → Elt F .bf16) (A : S2048x1024.Idx → Elt F .f32)

abbrev p1 (h : k0_cond31 (wF t.val) = 1#1) := atMems (k0_part1 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) h
theorem part1_wp (h : k0_cond31 (wF t.val) = 1#1) :
    iprop(At c (slotG (Memref.whole cc0_scoped4) t.val) X0 ∗ At c (slotG (Memref.whole cc0_scoped10) t.val) X3 ∗ At c (slotG (Memref.whole cc0_scoped16) t.val) X6 ∗ At c (slotG (Memref.whole cc0_scoped22) t.val) X9 ∗ At c (slotG (Memref.whole cc0_scoped6) t.val) X1)
      ⊢ (wp frame (wpE (defs₀ (F := F)) 𝒱₀ (c : Thread nD τ) none) Set.univ (p1 (F := F) t h) fun r =>
        iprop(⌜r = ⟨k0_pay1 X0 X3 X6 X9, k0_pay2 X1⟩⌝ ∗ At c (slotG (Memref.whole cc0_scoped4) t.val) X0 ∗ At c (slotG (Memref.whole cc0_scoped10) t.val) X3 ∗ At c (slotG (Memref.whole cc0_scoped16) t.val) X6 ∗ At c (slotG (Memref.whole cc0_scoped22) t.val) X9 ∗ At c (slotG (Memref.whole cc0_scoped6) t.val) X1) : sProp 𝕄) := by
  unfold p1
  rw [k0_part1_eq_skeleton]
  unfold k0_part1_skel
  dsimp only [atMems]
  iintro ⟨H0, H3, H6, H9, H1⟩
  iapply (wp_loadFull c (slotG_eq (slotT t))) $$ H0
  iintro H0
  iapply (wp_loadFull c (slotG_eq (slotT t))) $$ H3
  iintro H3
  iapply (wp_loadFull c (slotG_eq (slotT t))) $$ H6
  iintro H6
  iapply (wp_loadFull c (slotG_eq (slotT t))) $$ H9
  iintro H9
  iapply (wp_loadFull c (slotG_eq (slotT t))) $$ H1
  iintro H1
  sl_step
  isplitl []
  · ipureintro; rfl
  isplitl [H0]; · iexact H0
  isplitl [H3]; · iexact H3
  isplitl [H6]; · iexact H6
  isplitl [H9] <;> iassumption

abbrev p2 (h : k0_cond31 (wF t.val) = 1#1) (y : FVec F S1024x256 .bf16) := atMems (k0_part2 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) h y
theorem part2_wp (h : k0_cond31 (wF t.val) = 1#1) (y : FVec F S1024x256 .bf16) :
    iprop(At c (slotG (Memref.whole cc0_scoped12) t.val) X4 ∗ At c (slotG (Memref.whole cc0_scoped18) t.val) X7 ∗ At c (slotG (Memref.whole cc0_scoped24) t.val) X10 ∗ At c (slotD (Memref.whole cc0_scoped8) t.val) X2 ∗ At c (slotD (Memref.whole cc0_scoped14) t.val) X5)
      ⊢ (wp frame (wpE (defs₀ (F := F)) 𝒱₀ (c : Thread nD τ) none) Set.univ (p2 (F := F) t h y) fun r =>
        iprop(⌜r = ⟨k0_pay3 y X4 X7 X10, k0_pay4 X2, k0_pay5 X5⟩⌝ ∗ At c (slotG (Memref.whole cc0_scoped12) t.val) X4 ∗ At c (slotG (Memref.whole cc0_scoped18) t.val) X7 ∗ At c (slotG (Memref.whole cc0_scoped24) t.val) X10 ∗ At c (slotD (Memref.whole cc0_scoped8) t.val) X2 ∗ At c (slotD (Memref.whole cc0_scoped14) t.val) X5) : sProp 𝕄) := by
  unfold p2
  rw [k0_part2_eq_skeleton]
  unfold k0_part2_skel
  dsimp only [atMems]
  iintro ⟨H4, H7, H10, H2, H5⟩
  iapply (wp_loadFull c (slotG_eq (slotT t))) $$ H4
  iintro H4
  iapply (wp_loadFull c (slotG_eq (slotT t))) $$ H7
  iintro H7
  iapply (wp_loadFull c (slotG_eq (slotT t))) $$ H10
  iintro H10
  iapply (wp_loadFull c (slotD_eq (slotT t))) $$ H2
  iintro H2
  iapply (wp_loadFull c (slotD_eq (slotT t))) $$ H5
  iintro H5
  sl_step
  isplitl []
  · ipureintro; rfl
  isplitl [H4]; · iexact H4
  isplitl [H7]; · iexact H7
  isplitl [H10]; · iexact H10
  isplitl [H2] <;> iassumption

abbrev p3 (h : k0_cond31 (wF t.val) = 1#1) (y z : FVec F S1024x1024 .bf16) (v u : FVec F S256x1024 .bf16) := atMems (k0_part3 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) (wF t.val) h y z v u
theorem part3_wp (h : k0_cond31 (wF t.val) = 1#1) (y z : FVec F S1024x1024 .bf16) (v u : FVec F S256x1024 .bf16) :
    iprop(At c (slotD (Memref.whole cc0_scoped20) t.val) X8 ∗ At c (slotD (Memref.whole cc0_scoped26) t.val) X11 ∗ At c (slotX (Memref.whole cc0_scoped0) (t.val / 3)) Xx ∗ At c MA A)
      ⊢ (wp frame (wpE (defs₀ (F := F)) 𝒱₀ (c : Thread nD τ) none) Set.univ (p3 (F := F) t h y z v u) fun r =>
        iprop(⌜r = k0_pay6 v u X8 X11⌝ ∗ At c (slotD (Memref.whole cc0_scoped20) t.val) X8 ∗ At c (slotD (Memref.whole cc0_scoped26) t.val) X11 ∗ At c (slotX (Memref.whole cc0_scoped0) (t.val / 3)) Xx ∗ At c MA (setTop A (k0_pay7 (wF t.val) y z v u X8 X11 (rows0 Xx) (top A)))) : sProp 𝕄) := by
  unfold p3
  rw [k0_part3_eq_skeleton]
  unfold k0_part3_skel
  dsimp only [atMems]
  iintro ⟨H8, H11, Hx, Ha⟩
  iapply (wp_loadFull c (slotD_eq (slotT t))) $$ H8
  iintro H8
  iapply (wp_loadFull c (slotD_eq (slotT t))) $$ H11
  iintro H11
  iapply (wp_loadWin c (slotX_eq (slotE t))) $$ Hx
  iintro Hx
  iapply (wp_loadWin c rfl) $$ Ha
  iintro Ha
  iapply (wp_loadWin c rfl) $$ Ha
  iintro Ha
  iapply (wp_storeWin c) $$ Ha
  iintro Ha
  beta_reduce
  sl_step
  isplitl []
  · ipureintro; rfl
  isplitl [H8]; · iexact H8
  isplitl [H11]; · iexact H11
  isplitl [Hx] <;> iassumption

abbrev p4 (h : k0_cond32 (wF t.val) = 1#1) := atMems (k0_part4 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) h
theorem part4_wp (h : k0_cond32 (wF t.val) = 1#1) :
    iprop(At c (slotG (Memref.whole cc0_scoped4) t.val) X0 ∗ At c (slotG (Memref.whole cc0_scoped10) t.val) X3 ∗ At c (slotG (Memref.whole cc0_scoped16) t.val) X6 ∗ At c (slotG (Memref.whole cc0_scoped6) t.val) X1 ∗ At c (slotG (Memref.whole cc0_scoped12) t.val) X4)
      ⊢ (wp frame (wpE (defs₀ (F := F)) 𝒱₀ (c : Thread nD τ) none) Set.univ (p4 (F := F) t h) fun r =>
        iprop(⌜r = ⟨k0_pay8 X0 X3 X6, k0_pay9 X1, k0_pay10 X4⟩⌝ ∗ At c (slotG (Memref.whole cc0_scoped4) t.val) X0 ∗ At c (slotG (Memref.whole cc0_scoped10) t.val) X3 ∗ At c (slotG (Memref.whole cc0_scoped16) t.val) X6 ∗ At c (slotG (Memref.whole cc0_scoped6) t.val) X1 ∗ At c (slotG (Memref.whole cc0_scoped12) t.val) X4) : sProp 𝕄) := by
  unfold p4
  rw [k0_part4_eq_skeleton]
  unfold k0_part4_skel
  dsimp only [atMems]
  iintro ⟨H0, H3, H6, H1, H4⟩
  iapply (wp_loadFull c (slotG_eq (slotT t))) $$ H0
  iintro H0
  iapply (wp_loadFull c (slotG_eq (slotT t))) $$ H3
  iintro H3
  iapply (wp_loadFull c (slotG_eq (slotT t))) $$ H6
  iintro H6
  iapply (wp_loadFull c (slotG_eq (slotT t))) $$ H1
  iintro H1
  iapply (wp_loadFull c (slotG_eq (slotT t))) $$ H4
  iintro H4
  sl_step
  isplitl []
  · ipureintro; rfl
  isplitl [H0]; · iexact H0
  isplitl [H3]; · iexact H3
  isplitl [H6]; · iexact H6
  isplitl [H1] <;> iassumption

abbrev p5 (h : k0_cond32 (wF t.val) = 1#1) (v : FVec F S1024x768 .bf16) (y z : FVec F S1024x256 .bf16) := atMems (k0_part5 (F := F)) t (wE t.val) (wE t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wN t.val) (wT t.val) (wE t.val) (wO t.val) (wI t.val) (wF t.val) (chk5_at t) h v y z
theorem part5_wp (h : k0_cond32 (wF t.val) = 1#1) (v : FVec F S1024x768 .bf16) (y z : FVec F S1024x256 .bf16) :
    iprop(At c (slotG (Memref.whole cc0_scoped18) t.val) X7 ∗ At c (slotD (Memref.whole cc0_scoped8) t.val) X2 ∗ At c (slotD (Memref.whole cc0_scoped14) t.val) X5 ∗ At c (slotD (Memref.whole cc0_scoped20) t.val) X8 ∗ At c (slotX (Memref.whole cc0_scoped0) (t.val / 3)) Xx)
      ⊢ (wp frame (wpE (defs₀ (F := F)) 𝒱₀ (c : Thread nD τ) none) Set.univ (p5 (F := F) t h v y z) fun r =>
        iprop(⌜r = ⟨k0_pay11 y z X7, k0_pay12 X2 X5 X8, k0_pay14 y z X7 (rows0 Xx), k0_pay15 v (rows0 Xx)⟩⌝ ∗ At c (slotG (Memref.whole cc0_scoped18) t.val) X7 ∗ At c (slotD (Memref.whole cc0_scoped8) t.val) X2 ∗ At c (slotD (Memref.whole cc0_scoped14) t.val) X5 ∗ At c (slotD (Memref.whole cc0_scoped20) t.val) X8 ∗ At c (slotX (Memref.whole cc0_scoped0) (t.val / 3)) Xx) : sProp 𝕄) := by
  unfold p5
  rw [k0_part5_eq_skeleton]
  unfold k0_part5_skel
  dsimp only [atMems]
  iintro ⟨H7, H2, H5, H8, Hx⟩
  iapply (wp_loadFull c (slotG_eq (slotT t))) $$ H7
  iintro H7
  iapply (wp_loadFull c (slotD_eq (slotT t))) $$ H2
  iintro H2
  iapply (wp_loadFull c (slotD_eq (slotT t))) $$ H5
  iintro H5
  iapply (wp_loadFull c (slotD_eq (slotT t))) $$ H8
  iintro H8
  iapply (wp_loadWin c (slotX_eq (slotE t))) $$ Hx
  iintro Hx
  sl_step
  isplitl []
  · ipureintro; rfl
  isplitl [H7]; · iexact H7
  isplitl [H2]; · iexact H2
  isplitl [H5]; · iexact H5
  isplitl [H8] <;> iassumption

end Cert.Proof.Ffn

end
-- ==== Proof.Step.lean ====
/-
  The two parts of a trip that do its arithmetic: the first two steps of an expert's three, and the last.
-/
module

public import proofs.«01_k».proof.Proof.Compute

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {α : Type} (t : Fin k0_t1_loop.trips)

/-- A part whose result is known, run at the head of a program. -/
theorem wp_seq {β : Type} {P G : sProp 𝕄} {o : β} {e : Prog (TpuEff nD τ sig (Elt F) (Λ₀ F) .tc) β}
    (h : P ⊢ wp frame (wpE (defs₀ (F := F)) 𝒱₀ (c : Thread nD τ) none) Set.univ e fun r => iprop(⌜r = o⌝ ∗ G))
    {k : β → Prog (TpuEff nD τ sig (Elt F) (Λ₀ F) .tc) α} {Q : α → sProp 𝕄} :
    P ⊢ iprop((G -∗ wp frame (wpE (defs₀ (F := F)) 𝒱₀ (c : Thread nD τ) none) Set.univ (k o) Q)
        -∗ wp frame (wpE (defs₀ (F := F)) 𝒱₀ (c : Thread nD τ) none) Set.univ (e >>= k) Q) := by
  rw [wp_bind]
  iintro HP Hk
  ihave H := h $$ HP
  iapply (wp_wand _ _ _) $$ H
  iintro %r ⟨%hr, HG⟩
  subst hr
  iapply Hk
  iexact HG

/-- The accumulator cleared, where a guard says it is the first trip. -/
theorem wp_clear {s : Shape} {e : EltTy} {p q : Prop} [Decidable p] [Decidable q] (hp : p ↔ q) {d : Memref sig .tc .vmem s e} {off off' : Fin s.rank → ℕ} {inb : ∀ a, off a + s.size a ≤ s.size a} {inb' : ∀ a, off' a + s.size a ≤ s.size a}
    {hl : d.view.LoadsAt (Rect.unit off' s.size inb').toLoadRect}
    {w : (Rect.unit off s.size inb).shape.Idx → Elt F e} {hx : (d.access (Rect.unit off s.size inb)).Stores Finset.univ}
    {hm : Finset.univ = Finset.univ ∨ ∀ a, (Rect.unit off s.size inb).stride a = 1} {X : s.Idx → Elt F e}
    {k : PUnit → Prog (TpuEff nD τ sig (Elt F) (Λ₀ F) .tc) α} {Q : α → sProp 𝕄} :
    (At c d X : sProp 𝕄)
      ⊢ iprop((At c d (if q then w else X) -∗ wp frame (wpE (defs₀ (F := F)) 𝒱₀ (c : Thread nD τ) none) Set.univ (k ⟨⟩) Q)
        -∗ wp frame (wpE (defs₀ (F := F)) 𝒱₀ (c : Thread nD τ) none) Set.univ
          (if p then Prog.lift (.load d (Rect.unit off' s.size inb').toLoadRect hl) >>= fun _ => Prog.lift (.store d (Rect.unit off s.size inb) w Finset.univ hx hm) >>= k else k ⟨⟩) Q) := by
  by_cases h : p
  · rw [if_pos h, if_pos (hp.1 h)]
    iintro H Hk
    iapply (wp_loadFull c rfl) $$ H
    iintro H
    iapply (wp_storeFull c) $$ [H]
    · iexists _; iexact H
    iintro H
    iapply Hk
    iexact H
  · rw [if_neg h, if_neg (fun h' => h (hp.2 h'))]
    iintro H Hk
    iapply Hk
    iexact H

variable (X0 X1 X3 X4 X6 X7 X9 X10 : S1x1024x256.Idx → Elt F .f32) (X2 X5 X8 X11 : S1x256x1024.Idx → Elt F .f32)
  (Xx : S2x1x1024x1024.Idx → Elt F .bf16) (A : S2048x1024.Idx → Elt F .f32)

/-- A trip's twelve blocks and its tokens, landed. -/
abbrev Blocks : sProp 𝕄 :=
  iprop(At c (slotG (Memref.whole cc0_scoped4) t.val) X0 ∗ At c (slotG (Memref.whole cc0_scoped6) t.val) X1 ∗ At c (slotD (Memref.whole cc0_scoped8) t.val) X2 ∗ At c (slotG (Memref.whole cc0_scoped10) t.val) X3 ∗ At c (slotG (Memref.whole cc0_scoped12) t.val) X4 ∗ At c (slotD (Memref.whole cc0_scoped14) t.val) X5 ∗ At c (slotG (Memref.whole cc0_scoped16) t.val) X6 ∗ At c (slotG (Memref.whole cc0_scoped18) t.val) X7 ∗ At c (slotD (Memref.whole cc0_scoped20) t.val) X8 ∗ At c (slotG (Memref.whole cc0_scoped22) t.val) X9 ∗ At c (slotG (Memref.whole cc0_scoped24) t.val) X10 ∗ At c (slotD (Memref.whole cc0_scoped26) t.val) X11 ∗ At c (slotX (Memref.whole cc0_scoped0) (t.val / 3)) Xx)

/-- The accumulator after part 19 of trip `n`. -/
def acc19 (n : ℕ) : S2048x1024.Idx → Elt F .f32 :=
  if n % 3 < 2 then midAcc (wF n) X0 X1 X3 X4 X6 X7 X9 X10 X2 X5 X8 X11 Xx (if n = 0 then k0_pay16 else A) else if n = 0 then k0_pay16 else A

theorem part19_wp :
    iprop(OW c ∗ Nxt c t.val (slotD (Memref.whole cc0_scoped26) t.val) (semC cc0_scoped27 t.val) X11 ∗ At c (slotG (Memref.whole cc0_scoped4) t.val) X0 ∗ At c (slotG (Memref.whole cc0_scoped6) t.val) X1 ∗ At c (slotD (Memref.whole cc0_scoped8) t.val) X2 ∗ At c (slotG (Memref.whole cc0_scoped10) t.val) X3 ∗ At c (slotG (Memref.whole cc0_scoped12) t.val) X4 ∗ At c (slotD (Memref.whole cc0_scoped14) t.val) X5 ∗ At c (slotG (Memref.whole cc0_scoped16) t.val) X6 ∗ At c (slotG (Memref.whole cc0_scoped18) t.val) X7 ∗ At c (slotD (Memref.whole cc0_scoped20) t.val) X8 ∗ At c (slotG (Memref.whole cc0_scoped22) t.val) X9 ∗ At c (slotG (Memref.whole cc0_scoped24) t.val) X10 ∗ At c (slotX (Memref.whole cc0_scoped0) (t.val / 3)) Xx ∗ At c MA A)
      ⊢ (wp frame (wpE (defs₀ (F := F)) 𝒱₀ (c : Thread nD τ) none) Set.univ (p19 t) fun r =>
        iprop(⌜r = o19⌝ ∗ OW c ∗ Zero c (semC cc0_scoped27 t.val) ∗ Blocks c t X0 X1 X3 X4 X6 X7 X9 X10 X2 X5 X8 X11 Xx
          ∗ At c MA (acc19 X0 X1 X3 X4 X6 X7 X9 X10 X2 X5 X8 X11 Xx A t.val)) : sProp 𝕄) := by
  unfold p19
  rw [k0_part19_eq_skeleton]
  unfold k0_part19_skel
  dsimp only [atMems]
  iintro ⟨HO, H11, H0, H1, H2, H3, H4, H5, H6, H7, H8, H9, H10, Hx, Ha⟩
  iapply (wp_await_nxt c (n := t.val) (by revert t; decide +kernel) t.isLt (fun _ => slotD_eq (slotT t)) (fun _ => semC_eq (semT t))) $$ [HO H11]
  · isplitl [H11] <;> iassumption
  iintro ⟨H11, HO⟩
  beta_reduce
  rw [ite_self]
  iapply (wp_clear c (q := t.val = 0) (by revert t; decide +kernel)) $$ Ha
  iintro Ha
  beta_reduce
  unfold Land
  icases H11 with ⟨H11, Hz⟩
  unfold acc19
  by_cases h : t.val % 3 < 2
  · rw [dif_pos (by revert h; revert t; decide +kernel), if_pos h]
    iapply (wp_seq c (part1_wp c t X0 X1 X3 X6 X9 _)) $$ [H0 H1 H3 H6 H9]
    · iframe
    iintro ⟨H0, H3, H6, H9, H1⟩
    dsimp only
    iapply (wp_seq c (part2_wp c t X4 X7 X10 X2 X5 _ _)) $$ [H4 H7 H10 H2 H5]
    · iframe
    iintro ⟨H4, H7, H10, H2, H5⟩
    dsimp only
    iapply (wp_seq c (part3_wp c t X8 X11 Xx _ _ _ _ _ _)) $$ [H8 H11 Hx Ha]
    · iframe
    iintro ⟨H8, H11, Hx, Ha⟩
    iapply (wp_loadWin c (slotX_eq (slotE t))) $$ Hx
    iintro Hx
    iapply (wp_loadWin c rfl) $$ Ha
    iintro Ha
    iapply (wp_loadWin c rfl) $$ Ha
    iintro Ha
    iapply (wp_storeWin c) $$ Ha
    iintro Ha
    beta_reduce
    sl_step
    unfold Blocks
    isplitl []
    · ipureintro; rfl
    iframe
    iexact Ha
  · rw [dif_neg (by revert h; revert t; decide +kernel), if_neg h]
    sl_step
    isplitl []
    · ipureintro; rfl
    unfold Blocks
    iframe

/-- The accumulator after part 20 of trip `n`. -/
def acc20 (n : ℕ) : S2048x1024.Idx → Elt F .f32 :=
  if n % 3 = 2 then endAcc (wF n) X0 X1 X3 X4 X6 X7 X2 X5 X8 Xx A else A

/-- The result block made of routing weights and an accumulator. -/
def outBlk (Xs : S2x1x1024x128.Idx → Elt F .f32) (A : S2048x1024.Idx → Elt F .f32) : S2x1x1024x1024.Idx → Elt F .bf16 :=
  unslot (k0_pay20 (VecWindow.window (s := S2x1x1024x128) Xs ![0, 0, 0, 0] S2x1x1024x1.size inb_S2x1x1024x128_S2x1x1024x1_0_0_0_0) A)

/-- The pair of staging buffers for results. -/
abbrev OUT : Memref sig .tc .vmem S2x2x1x1024x1024 .bf16 := Memref.whole cc0_scoped28

/-- The result's staging slot: filled on an expert's last trip. -/
def Emit (n : ℕ) (Y : S2x1x1024x1024.Idx → Elt F .bf16) : sProp 𝕄 :=
  if n % 3 = 2 then At c (slotX OUT (n / 3)) Y else Some' c (slotX OUT (n / 3))

theorem part20_wp (Xs : S2x1x1024x128.Idx → Elt F .f32) :
    iprop(Blocks c t X0 X1 X3 X4 X6 X7 X9 X10 X2 X5 X8 X11 Xx ∗ At c (slotS (Memref.whole cc0_scoped2) (t.val / 3)) Xs ∗ At c MA A ∗ Some' c (slotX OUT (t.val / 3)))
      ⊢ (wp frame (wpE (defs₀ (F := F)) 𝒱₀ (c : Thread nD τ) none) Set.univ (p20 t) fun r =>
        iprop(⌜r = o20⌝ ∗ Blocks c t X0 X1 X3 X4 X6 X7 X9 X10 X2 X5 X8 X11 Xx ∗ At c (slotS (Memref.whole cc0_scoped2) (t.val / 3)) Xs
          ∗ At c MA (acc20 X0 X1 X3 X4 X6 X7 X2 X5 X8 Xx A t.val)
          ∗ Emit c t.val (outBlk Xs (acc20 X0 X1 X3 X4 X6 X7 X2 X5 X8 Xx A t.val))) : sProp 𝕄) := by
  unfold p20
  rw [k0_part20_eq_skeleton]
  unfold k0_part20_skel
  dsimp only [atMems]
  unfold Blocks acc20 Emit
  iintro ⟨⟨H0, H1, H2, H3, H4, H5, H6, H7, H8, H9, H10, H11, Hx⟩, Hs, Ha, Ho⟩
  by_cases h : t.val % 3 = 2
  · rw [dif_pos (by revert h; revert t; decide +kernel), if_pos h, if_pos h]
    iapply (wp_seq c (part4_wp c t X0 X1 X3 X4 X6 _)) $$ [H0 H1 H3 H4 H6]
    · iframe
    iintro ⟨H0, H3, H6, H1, H4⟩
    dsimp only
    iapply (wp_seq c (part5_wp c t X7 X2 X5 X8 Xx _ _ _ _)) $$ [H7 H2 H5 H8 Hx]
    · iframe
    iintro ⟨H7, H2, H5, H8, Hx⟩
    dsimp only
    iapply (wp_loadWin c rfl) $$ Ha
    iintro Ha
    iapply (wp_loadWin c rfl) $$ Ha
    iintro Ha
    iapply (wp_storeWin c) $$ Ha
    iintro Ha
    iapply (wp_loadWin c (slotX_eq (slotE t))) $$ Hx
    iintro Hx
    iapply (wp_loadWin c rfl) $$ Ha
    iintro Ha
    iapply (wp_loadWin c rfl) $$ Ha
    iintro Ha
    iapply (wp_storeWin c) $$ Ha
    iintro Ha
    beta_reduce
    rw [dif_pos (by revert h; revert t; decide +kernel)]
    iapply (wp_loadWin c (slotS_eq (slotE t))) $$ Hs
    iintro Hs
    iapply (wp_loadFull c rfl) $$ Ha
    iintro Ha
    iapply (wp_loadSome c (slotX_eq (slotE t)) (fun _ => rfl)) $$ Ho
    iintro Ho
    iapply (wp_storeSlot c (slotE t)) $$ Ho
    iintro Ho
    beta_reduce
    simp only [ite_self]
    sl_step
    isplitl []
    · ipureintro; revert t; decide +kernel
    isplitl [H0 H1 H2 H3 H4 H5 H6 H7 H8 H9 H10 H11 Hx]
    · iframe
    isplitl [Hs]; · iexact Hs
    isplitl [Ha]
    · iexact Ha
    iexact Ho
  · rw [dif_neg (by revert h; revert t; decide +kernel), if_neg h, if_neg h]
    rw [dif_neg (by revert h; revert t; decide +kernel)]
    simp only [ite_self]
    sl_step
    isplitl []
    · ipureintro; revert t; decide +kernel
    iframe

end Cert.Proof.Ffn

end
-- ==== Proof.Out.lean ====
/-
  The result array: written block by block, each block by a transfer out of a staging slot.
-/
module

public import proofs.«01_k».proof.Proof.Step

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {α : Type} (t : Fin k0_t1_loop.trips)

/-- The result array. -/
abbrev M6 : Memref sig .tc .hbm S2x16x1024x1024 .bf16 := Memref.whole main_v6

/-- The elements of the blocks before `n`, -/
def donS (n : ℕ) : Finset (Idx (M6.view.loc (c : Thread nD τ))) :=
  (Finset.univ : Finset S2x16x1024x1024.Idx).filter fun i => (i 1).val < n
/-- and of the others. -/
def rstS (n : ℕ) : Finset (Idx (M6.view.loc (c : Thread nD τ))) :=
  (Finset.univ : Finset S2x16x1024x1024.Idx).filter fun i => n ≤ (i 1).val

theorem mem_blk {n : ℕ} (i : S2x16x1024x1024.Idx) : i ∈ (blkX M6 n).view.set ↔ (i 1).val = n % 16 := by
  have e : (blkX M6 n).view.set = (Rect.unit (s := S2x16x1024x1024) ![0, n % 16, 0, 0] S2x1x1024x1024.size (inb_xB n)).set :=
    View.set_slice_whole main_v6 _
  rw [e, Rect.mem_set_unit]
  constructor
  · intro h
    have h1 : n % 16 ≤ (i 1).val ∧ (i 1).val < n % 16 + 1 := h 1
    omega
  · intro h a
    have h0 : (i 0).val < 2 := (i 0).isLt
    have h2 : (i 2).val < 1024 := (i 2).isLt
    have h3 : (i 3).val < 1024 := (i 3).isLt
    fin_cases a
    · show 0 ≤ (i 0).val ∧ (i 0).val < 0 + 2; omega
    · show n % 16 ≤ (i 1).val ∧ (i 1).val < n % 16 + 1; omega
    · show 0 ≤ (i 2).val ∧ (i 2).val < 0 + 1024; omega
    · show 0 ≤ (i 3).val ∧ (i 3).val < 0 + 1024; omega

/-- The array's blocks before `n`, finished: the array's final contents are `G`. -/
def Don (G : HB (F := F) c M6) (n : ℕ) : sProp 𝕄 := M6.view.loc (c : Thread nD τ) ↦[donS c n]{fullShare} G
/-- Its blocks from `n` on, at anything. -/
def Rst (n : ℕ) : sProp 𝕄 := iprop(∃ f, M6.view.loc (c : Thread nD τ) ↦[rstS c n]{fullShare} f)

/-- The next block to write, taken from those left. -/
theorem Rst_take {n : ℕ} (hn : n < 16) : (Rst c n : sProp 𝕄) ⊢ iprop(Some' c (blkX M6 n) ∗ Rst c (n + 1)) := by
  unfold Rst
  have hm : n % 16 = n := Nat.mod_eq_of_lt hn
  have hsub : (blkX M6 n).view.set ⊆ rstS c n := fun i hi => by
    have := (mem_blk i).1 hi
    exact Finset.mem_filter.2 ⟨Finset.mem_univ _, by omega⟩
  have hdiff : rstS c n \ (blkX M6 n).view.set = rstS c (n + 1) := by
    ext i
    rw [Finset.mem_sdiff, mem_blk]
    unfold rstS
    rw [Finset.mem_filter, Finset.mem_filter]
    constructor
    · rintro ⟨⟨_, h⟩, h'⟩; exact ⟨Finset.mem_univ _, by omega⟩
    · rintro ⟨_, h⟩; exact ⟨⟨Finset.mem_univ _, by omega⟩, by omega⟩
  iintro ⟨%f, H⟩
  ihave H := (pointsTo_split_subset hsub).1 $$ H
  rw [hdiff]
  icases H with ⟨H1, H2⟩
  isplitl [H1]
  · iexists f; iexact H1
  · iexists f; iexact H2

/-- A block written, put with those finished. -/
theorem Don_put {G : HB (F := F) c M6} {n : ℕ} (hn : n < 16) {Y : S2x1x1024x1024.Idx → Elt F .bf16} (hY : (blkX M6 n).view.read (Elt F) G = Y) :
    iprop(Don c G n ∗ At c (blkX M6 n) Y) ⊢ (Don c G (n + 1) : sProp 𝕄) := by
  subst hY
  unfold Don
  have hm : n % 16 = n := Nat.mod_eq_of_lt hn
  have hdis : Disjoint (donS c n) (blkX M6 n).view.set := by
    rw [Finset.disjoint_left]
    intro i hi hi'
    have h1 := (Finset.mem_filter.1 hi).2
    have h2 := (mem_blk i).1 hi'
    omega
  have hun : donS c n ∪ (blkX M6 n).view.set = donS c (n + 1) := by
    ext i
    rw [Finset.mem_union, mem_blk]
    unfold donS
    rw [Finset.mem_filter, Finset.mem_filter]
    constructor
    · rintro (⟨_, h⟩ | h)
      · exact ⟨Finset.mem_univ _, by omega⟩
      · exact ⟨Finset.mem_univ _, by omega⟩
    · rintro ⟨_, h⟩
      by_cases h' : (i 1).val < n
      · exact .inl ⟨Finset.mem_univ _, h'⟩
      · exact .inr (by omega)
  have e := pointsTo_rep (Val := Elt F) (Ix := Unit) (Name := ℕ) (U := UU nD τ) (Lvl := ℕ) (c : Thread nD τ) (blkX M6 n) G fullShare
  rw [← hun, show At c (blkX M6 n) ((blkX M6 n).view.read (Elt F) G) = _ from e.symm]
  exact (pointsTo_union hdis).2

/-- A result block on its way out of its staging slot. -/
def OutFl (n : ℕ) (Y : S2x1x1024x1024.Idx → Elt F .bf16) : sProp 𝕄 :=
  Transfers.Flight EC (c : Thread nD τ) (.dma (semC cc0_scoped29 n)) () (blkX M6 n).view.dmaCredit iprop(At c (blkX M6 n) Y ∗ Some' c (slotX OUT n))

/-- After an expert's last trip its block is on its way; before, the slot is free. -/
def Sent (n : ℕ) (Y : S2x1x1024x1024.Idx → Elt F .bf16) : sProp 𝕄 :=
  if n % 3 = 2 then OutFl c (n / 3) Y else Free c (slotX OUT (n / 3)) (semC cc0_scoped29 (n / 3))
/-- Before an expert's first trip the block of the expert before is on its way; on its other trips that slot is free. -/
def Prev (n : ℕ) (Y : S2x1x1024x1024.Idx → Elt F .bf16) : sProp 𝕄 :=
  if n % 3 = 0 ∧ 0 < n then OutFl c (n / 3 - 1) Y else Free c (slotX OUT (n / 3 + 1)) (semC cc0_scoped29 (n / 3 + 1))
/-- How many blocks are finished before trip `n`. -/
def dn (n : ℕ) : ℕ := if n % 3 = 0 ∧ 0 < n then n / 3 - 1 else n / 3

theorem slotX_congr {al : Memref sig .tc .vmem S2x2x1x1024x1024 .bf16} {m n : ℕ} (h : m % 2 = n % 2) : slotX al m = slotX al n :=
  slotX_eq (by rw [h])
theorem semC_congr {v : DmaSems sig S2} {m n : ℕ} (h : m % 2 = n % 2) : semC v m = semC v n :=
  semC_eq (by rw [h])

/-- A result block sent out of its staging slot. -/
theorem wp_send {n : ℕ} {src : Memref sig .tc .vmem S2x1x1024x1024 .bf16} {dst : Memref sig .tc .hbm S2x1x1024x1024 .bf16} {m : DmaSem sig}
    (hs : src = slotX OUT n) (hd : dst = blkX M6 n) (hm : m = semC cc0_scoped29 n)
    {hsrc : src.view.WordExact} {hdst : dst.view.WordExact} {hsem : DmaTarget.Typed (nD := nD) .vmem (.dma m) (.here (p := .tc) dst)}
    {Y : S2x1x1024x1024.Idx → Elt F .bf16} {k : PUnit → Prog (TpuEff nD τ sig (Elt F) (Λ₀ F) .tc) α} {Q : α → sProp 𝕄} :
    iprop(At c (slotX OUT n) Y ∗ Zero c (semC cc0_scoped29 n) ∗ Some' c (blkX M6 n))
      ⊢ iprop((OutFl c n Y -∗ wp frame (wpE (defs₀ (F := F)) 𝒱₀ (c : Thread nD τ) none) Set.univ (k ⟨⟩) Q)
        -∗ wp frame (wpE (defs₀ (F := F)) 𝒱₀ (c : Thread nD τ) none) Set.univ (Prog.lift (.enqueueDma (p := .tc) src (.here dst) (.dma m) hsrc hdst hsem) >>= k) Q) := by
  subst hs hd hm
  iintro ⟨HY, Hz, ⟨%fd, Hd⟩⟩ Hk
  iapply (Transfers.wp_dmaLocal EC 𝒱₀ (c : Thread nD τ) none () (blkX M6 n).view.dmaCredit rfl ((blkX M6 n).view.dmaCredit_pos (by decide)) (Finset.Subset.refl _)) $$ [HY Hd Hz]
  · isplitl [HY]; · iexact HY
    isplitl [Hd] <;> iassumption
  iintro HFl
  iapply Hk
  unfold OutFl
  have h := at_of_written c (blkX M6 n) fd ((slotX OUT n).view.read (Elt F) ((slotX OUT n).view.rep Y))
  have h := h.trans (Entails.of_eq (congrArg (At c (blkX M6 n)) (View.read_rep (slotX OUT n).view Y)))
  iapply (Transfers.Flight_mono EC (c : Thread nD τ) (BI.sep_mono h (exists_intro (Φ := fun f => iprop((slotX OUT n).view.loc (c : Thread nD τ) ↦[(slotX OUT n).view.set]{fullShare} f)) _))) $$ HFl

theorem part22_wp (Y : S2x1x1024x1024.Idx → Elt F .bf16) :
    iprop(Emit c t.val Y ∗ Zero c (semC cc0_scoped29 (t.val / 3)) ∗ Rst c (t.val / 3))
      ⊢ (wp frame (wpE (defs₀ (F := F)) 𝒱₀ (c : Thread nD τ) none) Set.univ (p22 t) fun r =>
        iprop(⌜r = o22 t⌝ ∗ Sent c t.val Y ∗ Rst c ((t.val + 1) / 3)) : sProp 𝕄) := by
  unfold p22
  rw [k0_part22_eq_skeleton]
  unfold k0_part22_skel
  dsimp only [atMems]
  unfold Emit Sent
  have ht : t.val < 48 := t.isLt
  simp only [ite_self]
  by_cases h : t.val % 3 = 2
  · rw [dif_pos (by revert h; revert t; decide +kernel), if_pos h, if_pos h, show (t.val + 1) / 3 = t.val / 3 + 1 by omega]
    iintro ⟨HE, Hz, HR⟩
    ihave HR := (Rst_take c (n := t.val / 3) (by omega)) $$ HR
    icases HR with ⟨HB, HR⟩
    iapply (wp_send c (slotX_eq (slotE t)) (blkX_eq (atY t)) (semC_eq (semE t))) $$ [HE Hz HB]
    · iframe
    iintro HE
    sl_step
    isplitl []
    · ipureintro; revert t; decide +kernel
    iframe
  · rw [dif_neg (by revert h; revert t; decide +kernel), if_neg h, if_neg h, show (t.val + 1) / 3 = t.val / 3 by omega]
    iintro ⟨HE, Hz, HR⟩
    sl_step
    isplitl []
    · ipureintro; revert t; decide +kernel
    unfold Free
    iframe

/-- A step that does nothing. -/
theorem wp_skip {k : PUnit → Prog (TpuEff nD τ sig (Elt F) (Λ₀ F) .tc) α} {Q : α → sProp 𝕄} :
    wp frame (wpE (defs₀ (F := F)) 𝒱₀ (c : Thread nD τ) none) Set.univ (k ⟨⟩) Q
      ⊢ wp frame (wpE (defs₀ (F := F)) 𝒱₀ (c : Thread nD τ) none) Set.univ ((Prog.ret PUnit.unit).bind k) Q :=
  BIBase.Entails.rfl

theorem part25_wp {G : HB (F := F) c M6} {Y : S2x1x1024x1024.Idx → Elt F .bf16} (hY : t.val % 3 = 0 → 0 < t.val → (blkX M6 (t.val / 3 - 1)).view.read (Elt F) G = Y) :
    iprop(OW c ∗ Prev c t.val Y ∗ Don c G (dn t.val))
      ⊢ (wp frame (wpE (defs₀ (F := F)) 𝒱₀ (c : Thread nD τ) none) Set.univ (p25 t) fun r =>
        iprop(⌜r = o25 t⌝ ∗ OW c ∗ Free c (slotX OUT (t.val / 3 + 1)) (semC cc0_scoped29 (t.val / 3 + 1)) ∗ Don c G (t.val / 3)) : sProp 𝕄) := by
  unfold p25
  rw [k0_part25_eq_skeleton]
  unfold k0_part25_skel
  dsimp only [atMems]
  unfold Prev dn
  have ht : t.val < 48 := t.isLt
  simp only [ite_self]
  by_cases h : t.val % 3 = 0 ∧ 0 < t.val
  · obtain ⟨h, h'⟩ := h
    rw [dif_pos (by clear hY; revert h' h; revert t; decide +kernel), if_pos ⟨h, h'⟩, if_pos ⟨h, h'⟩]
    unfold OutFl OW
    iintro ⟨HO, HE, HD⟩
    icases HO with ⟨%W, HO⟩
    rw [semC_eq (semO t h h')]
    iapply (Transfers.wp_waitLocal EC 𝒱₀ (c : Thread nD τ) none () rfl) $$ [HE HO]
    · isplitl [HE] <;> iassumption
    iintro ⟨⟨HB, HS⟩, Hz, HO⟩
    ihave HD := (Don_put c (by omega) (hY h h')) $$ [HD HB]
    · iframe
    iapply (wp_skip c)
    sl_step
    isplitl []
    · ipureintro; clear hY; revert t; decide +kernel
    isplitl [HO]
    · iexists _; iexact HO
    rw [show t.val / 3 - 1 + 1 = t.val / 3 by omega]
    isplitl [HS Hz]
    · unfold Free
      rw [slotX_congr (show (t.val / 3 + 1) % 2 = (t.val / 3 - 1) % 2 by omega), semC_congr (show (t.val / 3 + 1) % 2 = (t.val / 3 - 1) % 2 by omega)]
      iframe
    iexact HD
  · rw [dif_neg (by clear hY; revert h; revert t; decide +kernel), if_neg h, if_neg h]
    iintro ⟨HO, HE, HD⟩
    sl_step
    isplitl []
    · ipureintro; clear hY; revert t; decide +kernel
    iframe

end Cert.Proof.Ffn

end
-- ==== Proof.Fetch.lean ====
/-
  The two look-ahead loops: each asks, once per expert, for the next expert's tokens and routing weights.
-/
module

public import proofs.«01_k».proof.Proof.Out

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {α : Type} (t : Fin k0_t1_loop.trips)

/-! ## The words of the look-ahead -/

/-- Whether it goes round once more. -/
abbrev lkGo (lim a d n : BitVec 32) : BitVec 1 := Scalar.andi (Scalar.andi 1#1 (Scalar.cmpi .ult n lim)) (Scalar.andi (Scalar.andi 1#1 (Scalar.cmpi .slt a 16#32)) (Scalar.cmpi .slt d 3#32))
/-- The step after step `d` ends an expert. -/
abbrev lkWrap (d : BitVec 32) : BitVec 1 := Scalar.cmpi .eq (Scalar.select 1#1 (Scalar.addi d 1#32) d) 3#32
/-- The step after step `d`, -/
abbrev lkF (d : BitVec 32) : BitVec 32 := Scalar.select (lkWrap d) 0#32 (Scalar.select 1#1 (Scalar.addi d 1#32) d)
/-- and its expert. -/
abbrev lkE (a d : BitVec 32) : BitVec 32 := Scalar.select 0#1 0#32 (Scalar.select (lkWrap d) (Scalar.addi a 1#32) a)
/-- How many blocks have been asked for then. -/
abbrev lkN (p a n : BitVec 32) : BitVec 32 := Scalar.addi n (Scalar.extui (Scalar.cmpi .ne (Scalar.addi p 0#32) (Scalar.addi a 0#32)))
/-- Whether the look-ahead stands at a new expert. -/
theorem lk_ne (p a : BitVec 32) : k0_cond1 p a = k0_cond2 p a := rfl

/-- A side condition that holds. -/
theorem wp_check {bd : Option 𝒱₀.V} {p : Prop} {dp : Decidable p} (h : p) {k : PLift p → Prog (TpuEff nD τ sig (Elt F) (Λ₀ F) .tc) α} {Q : α → sProp 𝕄} :
    wp frame (wpE (defs₀ (F := F)) 𝒱₀ (c : Thread nD τ) bd) Set.univ (k ⟨h⟩) Q
      ⊢ wp frame (wpE (defs₀ (F := F)) 𝒱₀ (c : Thread nD τ) bd) Set.univ (Prog.lift (.assume p dp) >>= k) Q :=
  wp_assume 𝒱₀ (c : Thread nD τ) bd _ h

theorem lk_exit {a b x y n a' b' n' : BitVec 32} (ha : a = a') (hb : b = b') (hn : n = n') {P : sProp 𝕄}
    {k : BitVec 32 × BitVec 32 × BitVec 32 × BitVec 32 × BitVec 32 → Prog (TpuEff nD τ sig (Elt F) (Λ₀ F) .tc) α} {Q : α → sProp 𝕄} :
    P ⊢ iprop((∀ x y, P -∗ wp frame (wpE (defs₀ (F := F)) 𝒱₀ (c : Thread nD τ) none) Set.univ (k (a', b', x, y, n')) Q)
      -∗ wp frame (wpE (defs₀ (F := F)) 𝒱₀ (c : Thread nD τ) none) Set.univ (k (a, b, x, y, n)) Q) := by
  subst ha hb hn
  iintro H Hk
  iapply Hk $$ %_ %_ H

variable {sp : Space} {s : Shape} {e : EltTy}
/-- The slot for the expert after trip `n`'s, before trip `n`, -/
def Look (n : ℕ) (d : Memref sig .tc sp s e) (m : DmaSem sig) (X : s.Idx → Elt F e) : sProp 𝕄 :=
  if n % 3 ≠ 0 ∧ n < 45 then InFl c d m X else Free c d m
/-- and after its look-ahead. -/
def Looked (n : ℕ) (d : Memref sig .tc sp s e) (m : DmaSem sig) (X : s.Idx → Elt F e) : sProp 𝕄 :=
  if n < 45 then InFl c d m X else Free c d m

/-! ## The look-ahead over the tokens -/

/-- A block of the tokens asked for. -/
theorem wp_fetchX {bd : Option 𝒱₀.V} {n : ℕ} {a : Memref sig .tc .hbm S2x16x1024x1024 .bf16} {al : Memref sig .tc .vmem S2x2x1x1024x1024 .bf16} {v : DmaSems sig S2}
    {src : Memref sig .tc .hbm S2x1x1024x1024 .bf16} {dst : Memref sig .tc .vmem S2x1x1024x1024 .bf16} {m : DmaSem sig}
    (hs : src = blkX a n) (hd : dst = slotX al n) (hm : m = semC v n)
    {hsrc : src.view.WordExact} {hdst : dst.view.WordExact} {hsem : DmaTarget.Typed (nD := nD) .hbm (.dma m) (.here (p := .tc) dst)}
    {f : HB (F := F) c a} {K : PUnit → Prog (TpuEff nD τ sig (Elt F) (Λ₀ F) .tc) α} {Q : α → sProp 𝕄} :
    iprop(RO f ∗ Free c (slotX al n) (semC v n))
      ⊢ iprop((iprop(RO f ∗ InFl c (slotX al n) (semC v n) ((blkX a n).view.read (Elt F) f)) -∗ wp frame (wpE (defs₀ (F := F)) 𝒱₀ (c : Thread nD τ) bd) Set.univ (K ⟨⟩) Q)
        -∗ wp frame (wpE (defs₀ (F := F)) 𝒱₀ (c : Thread nD τ) bd) Set.univ (Prog.lift (.enqueueDma (p := .tc) src (.here dst) (.dma m) hsrc hdst hsem) >>= K) Q) :=
  wp_issue (src' := blkX a n) c hs hd hm (by decide) (f := id f)

/-- The loop at its carried words. -/
abbrev W1 (lim p f a d n : BitVec 32) : Prog (TpuEff nD τ sig (Elt F) (Λ₀ F) .tc) (BitVec 32 × BitVec 32 × BitVec 32 × BitVec 32 × BitVec 32) :=
  cc0_while1 t lim cc0_scoped1 (Memref.whole cc0_scoped0) (Memref.isWhole_whole _) M5 (Memref.isWhole_whole _) p f a d n

theorem stop1 {bd : Option 𝒱₀.V} {lim p f a d n : BitVec 32} (h : lkGo lim a d n ≠ 1#1) {Q : BitVec 32 × BitVec 32 × BitVec 32 × BitVec 32 × BitVec 32 → sProp 𝕄} :
    Q (p, f, a, d, n) ⊢ wp frame (wpE (defs₀ (F := F)) 𝒱₀ (c : Thread nD τ) bd) Set.univ (W1 t lim p f a d n) Q := by
  unfold W1
  rw [cc0_while1_eq_skeleton]
  unfold cc0_while1_skel
  dsimp only
  rw [if_neg h]
  iintro H
  sl_step
  iexact H

theorem skip1 {v : ℕ} {lim p f a d n : BitVec 32} (h : lkGo lim a d n = 1#1) (hc : k0_cond1 p a ≠ 1#1) {Q : BitVec 32 × BitVec 32 × BitVec 32 × BitVec 32 × BitVec 32 → sProp 𝕄} :
    wp frame (wpE (defs₀ (F := F)) 𝒱₀ (c : Thread nD τ) (some v)) Set.univ (W1 t lim a d (lkE a d) (lkF d) (lkN p a n)) Q
      ⊢ wp frame (wpE (defs₀ (F := F)) 𝒱₀ (c : Thread nD τ) (some (v + 1))) Set.univ (W1 t lim p f a d n) Q := by
  conv => rhs; unfold W1; rw [cc0_while1_eq_skeleton]; unfold cc0_while1_skel; dsimp only; rw [if_pos h]
  iintro H
  iapply (wp_check c ⟨fun h => absurd h hc, fun h => absurd h hc⟩)
  iapply (wp_check c ⟨fun h => absurd h hc, fun h => absurd h hc, fun h => absurd h hc⟩)
  beta_reduce
  rw [dif_neg hc]
  iapply (wp_call 𝒱₀ (c : Thread nD τ) _ _ v (by intro u hu; cases hu; exact Nat.lt_succ_self v))
  iapply (wp_wand _ _ _) $$ H
  iintro %r H
  sl_step
  iexact H

theorem issue1 {v m : ℕ} {lim p f a d n : BitVec 32} (h : lkGo lim a d n = 1#1) (hA : k0_chk2 p a) (hB : k0_chk1 p a n) (hc : k0_cond1 p a = 1#1)
    (hm : k0_off10 n = ![m % 2]) (hd : k0_off11 n = ![m % 2, 0, 0, 0, 0]) (hs : k0_off12 a = ![0, m % 16, 0, 0])
    {g : HB (F := F) c M5} {Q : BitVec 32 × BitVec 32 × BitVec 32 × BitVec 32 × BitVec 32 → sProp 𝕄} :
    iprop(RO g ∗ Free c (slotX (Memref.whole cc0_scoped0) m) (semC cc0_scoped1 m))
      ⊢ iprop((iprop(RO g ∗ InFl c (slotX (Memref.whole cc0_scoped0) m) (semC cc0_scoped1 m) ((blkX M5 m).view.read (Elt F) g))
          -∗ wp frame (wpE (defs₀ (F := F)) 𝒱₀ (c : Thread nD τ) (some v)) Set.univ (W1 t lim a d (lkE a d) (lkF d) (lkN p a n)) Q)
        -∗ wp frame (wpE (defs₀ (F := F)) 𝒱₀ (c : Thread nD τ) (some (v + 1))) Set.univ (W1 t lim p f a d n) Q) := by
  conv => rhs; rhs; unfold W1; rw [cc0_while1_eq_skeleton]; unfold cc0_while1_skel; dsimp only; rw [if_pos h]
  iintro H Hk
  iapply (wp_check c hA)
  iapply (wp_check c hB)
  beta_reduce
  rw [dif_pos hc]
  iapply (wp_fetchX c (blkX_eq hs) (slotX_eq hd) (semC_eq hm)) $$ H
  iintro H
  iapply (wp_call 𝒱₀ (c : Thread nD τ) _ _ v (by intro u hu; cases hu; exact Nat.lt_succ_self v))
  ihave H := Hk $$ H
  iapply (wp_wand _ _ _) $$ H
  iintro %r H
  sl_step
  iexact H

/-- The look-ahead of one trip. -/
theorem look1 {g : HB (F := F) c M5} {k : BitVec 32 × BitVec 32 × BitVec 32 × BitVec 32 × BitVec 32 → Prog (TpuEff nD τ sig (Elt F) (Λ₀ F) .tc) α} {Q : α → sProp 𝕄} :
    iprop(RO g ∗ Look c t.val (slotX (Memref.whole cc0_scoped0) (t.val / 3 + 1)) (semC cc0_scoped1 (t.val / 3 + 1)) ((blkX M5 (t.val / 3 + 1)).view.read (Elt F) g))
      ⊢ iprop((∀ x y, iprop(RO g ∗ Looked c t.val (slotX (Memref.whole cc0_scoped0) (t.val / 3 + 1)) (semC cc0_scoped1 (t.val / 3 + 1)) ((blkX M5 (t.val / 3 + 1)).view.read (Elt F) g))
          -∗ wp frame (wpE (defs₀ (F := F)) 𝒱₀ (c : Thread nD τ) none) Set.univ (k (wPe (t.val + 1), wPf (t.val + 1), x, y, wX (t.val + 1))) Q)
        -∗ wp frame (wpE (defs₀ (F := F)) 𝒱₀ (c : Thread nD τ) none) Set.univ
          (Prog.lift (.call (1 : (Λ₀ F).Label) ⟨t, Scalar.addi (wE t.val) 2#32, cc0_scoped1, Memref.whole cc0_scoped0, Memref.isWhole_whole _, M5, Memref.isWhole_whole _, wPe t.val, wPf t.val, lkE (wPe t.val) (wPf t.val), lkF (wPf t.val), wX t.val⟩) >>= k) Q) := by
  iintro H Hk
  iapply (wp_call 𝒱₀ (c : Thread nD τ) _ _ (3 : ℕ) (by intro u hu; cases hu))
  iapply (BIBase.Entails.of_eq (show wp frame (wpE (defs₀ (F := F)) 𝒱₀ (c : Thread nD τ) (some (3 : ℕ))) Set.univ (W1 t (Scalar.addi (wE t.val) 2#32) (wPe t.val) (wPf t.val) (lkE (wPe t.val) (wPf t.val)) (lkF (wPf t.val)) (wX t.val)) (fun x => wp frame (wpE (defs₀ (F := F)) 𝒱₀ (c : Thread nD τ) none) Set.univ (k x) Q) = _ from rfl))
  by_cases h0 : t.val % 3 = 0
  · by_cases h1 : t.val < 45
    · unfold Look Looked
      rw [if_neg (by omega), if_pos h1]
      iapply (skip1 c t (v := 2) (by revert h1 h0; revert t; decide +kernel) (by revert h1 h0; revert t; decide +kernel))
      iapply (skip1 c t (v := 1) (by revert h1 h0; revert t; decide +kernel) (by revert h1 h0; revert t; decide +kernel))
      iapply (issue1 c t (v := 0) (m := t.val / 3 + 1) (by revert h1 h0; revert t; decide +kernel) (by revert h1 h0; revert t; decide +kernel) (by revert h1 h0; revert t; decide +kernel) (by revert h1 h0; revert t; decide +kernel)
        (by revert h1 h0; revert t; decide +kernel) (by revert h1 h0; revert t; decide +kernel) (by revert h1 h0; revert t; decide +kernel)) $$ H
      iintro H
      iapply (stop1 c t (by revert h1 h0; revert t; decide +kernel))
      iapply (lk_exit c (by revert h1 h0; revert t; decide +kernel) (by revert h1 h0; revert t; decide +kernel) (by revert h1 h0; revert t; decide +kernel)) $$ H Hk
    · unfold Look Looked
      rw [if_neg (by omega), if_neg h1]
      iapply (skip1 c t (v := 2) (by revert h1 h0; revert t; decide +kernel) (by revert h1 h0; revert t; decide +kernel))
      iapply (skip1 c t (v := 1) (by revert h1 h0; revert t; decide +kernel) (by revert h1 h0; revert t; decide +kernel))
      iapply (stop1 c t (by revert h1 h0; revert t; decide +kernel))
      iapply (lk_exit c (by revert h1 h0; revert t; decide +kernel) (by revert h1 h0; revert t; decide +kernel) (by revert h1 h0; revert t; decide +kernel)) $$ H Hk
  · unfold Look Looked
    by_cases h1 : t.val < 45
    · rw [if_pos ⟨h0, h1⟩, if_pos h1]
      iapply (stop1 c t (by revert h1 h0; revert t; decide +kernel))
      iapply (lk_exit c (by revert h1 h0; revert t; decide +kernel) (by revert h1 h0; revert t; decide +kernel) (by revert h1 h0; revert t; decide +kernel)) $$ H Hk
    · rw [if_neg (by omega), if_neg h1]
      iapply (stop1 c t (by revert h1 h0; revert t; decide +kernel))
      iapply (lk_exit c (by revert h1 h0; revert t; decide +kernel) (by revert h1 h0; revert t; decide +kernel) (by revert h1 h0; revert t; decide +kernel)) $$ H Hk

/-! ## The look-ahead over the routing weights -/

/-- A block of the routing weights asked for. -/
theorem wp_fetchS {bd : Option 𝒱₀.V} {n : ℕ} {a : Memref sig .tc .hbm S2x16x1024x128 .f32} {al : Memref sig .tc .vmem S2x2x1x1024x128 .f32} {v : DmaSems sig S2}
    {src : Memref sig .tc .hbm S2x1x1024x128 .f32} {dst : Memref sig .tc .vmem S2x1x1024x128 .f32} {m : DmaSem sig}
    (hs : src = blkS a n) (hd : dst = slotS al n) (hm : m = semC v n)
    {hsrc : src.view.WordExact} {hdst : dst.view.WordExact} {hsem : DmaTarget.Typed (nD := nD) .hbm (.dma m) (.here (p := .tc) dst)}
    {f : HB (F := F) c a} {K : PUnit → Prog (TpuEff nD τ sig (Elt F) (Λ₀ F) .tc) α} {Q : α → sProp 𝕄} :
    iprop(RO f ∗ Free c (slotS al n) (semC v n))
      ⊢ iprop((iprop(RO f ∗ InFl c (slotS al n) (semC v n) ((blkS a n).view.read (Elt F) f)) -∗ wp frame (wpE (defs₀ (F := F)) 𝒱₀ (c : Thread nD τ) bd) Set.univ (K ⟨⟩) Q)
        -∗ wp frame (wpE (defs₀ (F := F)) 𝒱₀ (c : Thread nD τ) bd) Set.univ (Prog.lift (.enqueueDma (p := .tc) src (.here dst) (.dma m) hsrc hdst hsem) >>= K) Q) :=
  wp_issue (src' := blkS a n) c hs hd hm (by decide) (f := id f)

/-- The loop at its carried words. -/
abbrev W2 (lim p f a d n : BitVec 32) : Prog (TpuEff nD τ sig (Elt F) (Λ₀ F) .tc) (BitVec 32 × BitVec 32 × BitVec 32 × BitVec 32 × BitVec 32) :=
  cc0_while2 t lim cc0_scoped3 (Memref.whole cc0_scoped2) (Memref.isWhole_whole _) M4 (Memref.isWhole_whole _) p f a d n

theorem stop2 {bd : Option 𝒱₀.V} {lim p f a d n : BitVec 32} (h : lkGo lim a d n ≠ 1#1) {Q : BitVec 32 × BitVec 32 × BitVec 32 × BitVec 32 × BitVec 32 → sProp 𝕄} :
    Q (p, f, a, d, n) ⊢ wp frame (wpE (defs₀ (F := F)) 𝒱₀ (c : Thread nD τ) bd) Set.univ (W2 t lim p f a d n) Q := by
  unfold W2
  rw [cc0_while2_eq_skeleton]
  unfold cc0_while2_skel
  dsimp only
  rw [if_neg h]
  iintro H
  sl_step
  iexact H

theorem skip2 {v : ℕ} {lim p f a d n : BitVec 32} (h : lkGo lim a d n = 1#1) (hc : k0_cond2 p a ≠ 1#1) {Q : BitVec 32 × BitVec 32 × BitVec 32 × BitVec 32 × BitVec 32 → sProp 𝕄} :
    wp frame (wpE (defs₀ (F := F)) 𝒱₀ (c : Thread nD τ) (some v)) Set.univ (W2 t lim a d (lkE a d) (lkF d) (lkN p a n)) Q
      ⊢ wp frame (wpE (defs₀ (F := F)) 𝒱₀ (c : Thread nD τ) (some (v + 1))) Set.univ (W2 t lim p f a d n) Q := by
  conv => rhs; unfold W2; rw [cc0_while2_eq_skeleton]; unfold cc0_while2_skel; dsimp only; rw [if_pos h]
  iintro H
  iapply (wp_check c (fun h => absurd h hc))
  iapply (wp_check c ⟨fun h => absurd h hc, fun h => absurd h hc⟩)
  beta_reduce
  rw [dif_neg hc]
  iapply (wp_call 𝒱₀ (c : Thread nD τ) _ _ v (by intro u hu; cases hu; exact Nat.lt_succ_self v))
  iapply (wp_wand _ _ _) $$ H
  iintro %r H
  sl_step
  iexact H

theorem issue2 {v m : ℕ} {lim p f a d n : BitVec 32} (h : lkGo lim a d n = 1#1) (hA : k0_chk4 p a) (hB : k0_chk3 p a n) (hc : k0_cond2 p a = 1#1)
    (hm : k0_off13 n = ![m % 2]) (hd : k0_off14 n = ![m % 2, 0, 0, 0, 0]) (hs : k0_off15 a = ![0, m % 16, 0, 0])
    {g : HB (F := F) c M4} {Q : BitVec 32 × BitVec 32 × BitVec 32 × BitVec 32 × BitVec 32 → sProp 𝕄} :
    iprop(RO g ∗ Free c (slotS (Memref.whole cc0_scoped2) m) (semC cc0_scoped3 m))
      ⊢ iprop((iprop(RO g ∗ InFl c (slotS (Memref.whole cc0_scoped2) m) (semC cc0_scoped3 m) ((blkS M4 m).view.read (Elt F) g))
          -∗ wp frame (wpE (defs₀ (F := F)) 𝒱₀ (c : Thread nD τ) (some v)) Set.univ (W2 t lim a d (lkE a d) (lkF d) (lkN p a n)) Q)
        -∗ wp frame (wpE (defs₀ (F := F)) 𝒱₀ (c : Thread nD τ) (some (v + 1))) Set.univ (W2 t lim p f a d n) Q) := by
  conv => rhs; rhs; unfold W2; rw [cc0_while2_eq_skeleton]; unfold cc0_while2_skel; dsimp only; rw [if_pos h]
  iintro H Hk
  iapply (wp_check c hA)
  iapply (wp_check c hB)
  beta_reduce
  rw [dif_pos hc]
  iapply (wp_fetchS c (blkS_eq hs) (slotS_eq hd) (semC_eq hm)) $$ H
  iintro H
  iapply (wp_call 𝒱₀ (c : Thread nD τ) _ _ v (by intro u hu; cases hu; exact Nat.lt_succ_self v))
  ihave H := Hk $$ H
  iapply (wp_wand _ _ _) $$ H
  iintro %r H
  sl_step
  iexact H

/-- The look-ahead of one trip. -/
theorem look2 {g : HB (F := F) c M4} {k : BitVec 32 × BitVec 32 × BitVec 32 × BitVec 32 × BitVec 32 → Prog (TpuEff nD τ sig (Elt F) (Λ₀ F) .tc) α} {Q : α → sProp 𝕄} :
    iprop(RO g ∗ Look c t.val (slotS (Memref.whole cc0_scoped2) (t.val / 3 + 1)) (semC cc0_scoped3 (t.val / 3 + 1)) ((blkS M4 (t.val / 3 + 1)).view.read (Elt F) g))
      ⊢ iprop((∀ x y, iprop(RO g ∗ Looked c t.val (slotS (Memref.whole cc0_scoped2) (t.val / 3 + 1)) (semC cc0_scoped3 (t.val / 3 + 1)) ((blkS M4 (t.val / 3 + 1)).view.read (Elt F) g))
          -∗ wp frame (wpE (defs₀ (F := F)) 𝒱₀ (c : Thread nD τ) none) Set.univ (k (wPe (t.val + 1), wPf (t.val + 1), x, y, wX (t.val + 1))) Q)
        -∗ wp frame (wpE (defs₀ (F := F)) 𝒱₀ (c : Thread nD τ) none) Set.univ
          (Prog.lift (.call (2 : (Λ₀ F).Label) ⟨t, Scalar.addi (wE t.val) 2#32, cc0_scoped3, Memref.whole cc0_scoped2, Memref.isWhole_whole _, M4, Memref.isWhole_whole _, wPe t.val, wPf t.val, lkE (wPe t.val) (wPf t.val), lkF (wPf t.val), wX t.val⟩) >>= k) Q) := by
  iintro H Hk
  iapply (wp_call 𝒱₀ (c : Thread nD τ) _ _ (3 : ℕ) (by intro u hu; cases hu))
  iapply (BIBase.Entails.of_eq (show wp frame (wpE (defs₀ (F := F)) 𝒱₀ (c : Thread nD τ) (some (3 : ℕ))) Set.univ (W2 t (Scalar.addi (wE t.val) 2#32) (wPe t.val) (wPf t.val) (lkE (wPe t.val) (wPf t.val)) (lkF (wPf t.val)) (wX t.val)) (fun x => wp frame (wpE (defs₀ (F := F)) 𝒱₀ (c : Thread nD τ) none) Set.univ (k x) Q) = _ from rfl))
  by_cases h0 : t.val % 3 = 0
  · by_cases h1 : t.val < 45
    · unfold Look Looked
      rw [if_neg (by omega), if_pos h1]
      iapply (skip2 c t (v := 2) (by revert h1 h0; revert t; decide +kernel) (by revert h1 h0; revert t; decide +kernel))
      iapply (skip2 c t (v := 1) (by revert h1 h0; revert t; decide +kernel) (by revert h1 h0; revert t; decide +kernel))
      iapply (issue2 c t (v := 0) (m := t.val / 3 + 1) (by revert h1 h0; revert t; decide +kernel) (by revert h1 h0; revert t; decide +kernel) (by revert h1 h0; revert t; decide +kernel) (by revert h1 h0; revert t; decide +kernel)
        (by revert h1 h0; revert t; decide +kernel) (by revert h1 h0; revert t; decide +kernel) (by revert h1 h0; revert t; decide +kernel)) $$ H
      iintro H
      iapply (stop2 c t (by revert h1 h0; revert t; decide +kernel))
      iapply (lk_exit c (by revert h1 h0; revert t; decide +kernel) (by revert h1 h0; revert t; decide +kernel) (by revert h1 h0; revert t; decide +kernel)) $$ H Hk
    · unfold Look Looked
      rw [if_neg (by omega), if_neg h1]
      iapply (skip2 c t (v := 2) (by revert h1 h0; revert t; decide +kernel) (by revert h1 h0; revert t; decide +kernel))
      iapply (skip2 c t (v := 1) (by revert h1 h0; revert t; decide +kernel) (by revert h1 h0; revert t; decide +kernel))
      iapply (stop2 c t (by revert h1 h0; revert t; decide +kernel))
      iapply (lk_exit c (by revert h1 h0; revert t; decide +kernel) (by revert h1 h0; revert t; decide +kernel) (by revert h1 h0; revert t; decide +kernel)) $$ H Hk
  · unfold Look Looked
    by_cases h1 : t.val < 45
    · rw [if_pos ⟨h0, h1⟩, if_pos h1]
      iapply (stop2 c t (by revert h1 h0; revert t; decide +kernel))
      iapply (lk_exit c (by revert h1 h0; revert t; decide +kernel) (by revert h1 h0; revert t; decide +kernel) (by revert h1 h0; revert t; decide +kernel)) $$ H Hk
    · rw [if_neg (by omega), if_neg h1]
      iapply (stop2 c t (by revert h1 h0; revert t; decide +kernel))
      iapply (lk_exit c (by revert h1 h0; revert t; decide +kernel) (by revert h1 h0; revert t; decide +kernel) (by revert h1 h0; revert t; decide +kernel)) $$ H Hk

end Cert.Proof.Ffn

end
-- ==== Proof.Trip.lean ====
/-
  One trip of the grid, from the state before it to the state before the next.
-/
module

public import proofs.«01_k».proof.Proof.Fetch

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {α : Type} (t : Fin k0_t1_loop.trips)

/-! ## The parts that only compute words -/

/-- A part that touches no memory, run at the head of a program. -/
theorem wp_pure {β : Type} {o : β} {e : Prog (TpuEff nD τ sig (Elt F) (Λ₀ F) .tc) β}
    (h : (emp : sProp 𝕄) ⊢ wp frame (wpE (defs₀ (F := F)) 𝒱₀ (c : Thread nD τ) none) Set.univ e fun r => iprop(⌜r = o⌝ ∗ emp))
    {k : β → Prog (TpuEff nD τ sig (Elt F) (Λ₀ F) .tc) α} {Q : α → sProp 𝕄} :
    wp frame (wpE (defs₀ (F := F)) 𝒱₀ (c : Thread nD τ) none) Set.univ (k o) Q
      ⊢ wp frame (wpE (defs₀ (F := F)) 𝒱₀ (c : Thread nD τ) none) Set.univ (e >>= k) Q := by
  iintro H
  iapply (wp_seq c h) $$ []
  · iempintro
  iintro -
  iexact H

theorem part6_wp : (emp : sProp 𝕄) ⊢ wp frame (wpE (defs₀ (F := F)) 𝒱₀ (c : Thread nD τ) none) Set.univ (p6 t) fun r => iprop(⌜r = o6 t⌝ ∗ emp) := by
  unfold p6
  rw [k0_part6_eq_skeleton]
  unfold k0_part6_skel
  dsimp only [atMems]
  skip
  iintro -
  iapply (wp_check c (chk5_at t))
  sl_step
  isplitl []
  · ipureintro; revert t; decide +kernel
  iempintro

theorem part21_wp : (emp : sProp 𝕄) ⊢ wp frame (wpE (defs₀ (F := F)) 𝒱₀ (c : Thread nD τ) none) Set.univ (p21 t) fun r => iprop(⌜r = o21⌝ ∗ emp) := by
  unfold p21
  rw [k0_part21_eq_skeleton]
  unfold k0_part21_skel
  dsimp only [atMems]
  simp only [ite_self]
  iintro -
  skip
  sl_step
  isplitl []
  · ipureintro; revert t; decide +kernel
  iempintro

theorem part23_wp : (emp : sProp 𝕄) ⊢ wp frame (wpE (defs₀ (F := F)) 𝒱₀ (c : Thread nD τ) none) Set.univ (p23 t) fun r => iprop(⌜r = o23 t⌝ ∗ emp) := by
  unfold p23
  rw [k0_part23_eq_skeleton]
  unfold k0_part23_skel
  dsimp only [atMems]
  simp only [ite_self]
  iintro -
  skip
  sl_step
  isplitl []
  · ipureintro; revert t; decide +kernel
  iempintro

theorem part24_wp : (emp : sProp 𝕄) ⊢ wp frame (wpE (defs₀ (F := F)) 𝒱₀ (c : Thread nD τ) none) Set.univ (p24 t) fun r => iprop(⌜r = o24 t⌝ ∗ emp) := by
  unfold p24
  rw [k0_part24_eq_skeleton]
  unfold k0_part24_skel
  dsimp only [atMems]
  simp only [ite_self]
  iintro -
  skip
  sl_step
  isplitl []
  · ipureintro; revert t; decide +kernel
  iempintro

theorem part26_wp : (emp : sProp 𝕄) ⊢ wp frame (wpE (defs₀ (F := F)) 𝒱₀ (c : Thread nD τ) none) Set.univ (p26 t) fun r => iprop(⌜r = o26 t⌝ ∗ emp) := by
  unfold p26
  rw [k0_part26_eq_skeleton]
  unfold k0_part26_skel
  dsimp only [atMems]
  skip
  iintro -
  skip
  sl_step
  isplitl []
  · ipureintro; revert t; decide +kernel
  iempintro

theorem part7_wp {fx : HB (F := F) c M5} {fs : HB (F := F) c M4} :
    iprop((RO fx ∗ Look c t.val (slotX (Memref.whole cc0_scoped0) (t.val / 3 + 1)) (semC cc0_scoped1 (t.val / 3 + 1)) ((blkX M5 (t.val / 3 + 1)).view.read (Elt F) fx))
        ∗ (RO fs ∗ Look c t.val (slotS (Memref.whole cc0_scoped2) (t.val / 3 + 1)) (semC cc0_scoped3 (t.val / 3 + 1)) ((blkS M4 (t.val / 3 + 1)).view.read (Elt F) fs)))
      ⊢ (wp frame (wpE (defs₀ (F := F)) 𝒱₀ (c : Thread nD τ) none) Set.univ (p7 t) fun r =>
        iprop(⌜r = o7 t⌝ ∗ (RO fx ∗ Looked c t.val (slotX (Memref.whole cc0_scoped0) (t.val / 3 + 1)) (semC cc0_scoped1 (t.val / 3 + 1)) ((blkX M5 (t.val / 3 + 1)).view.read (Elt F) fx))
        ∗ (RO fs ∗ Looked c t.val (slotS (Memref.whole cc0_scoped2) (t.val / 3 + 1)) (semC cc0_scoped3 (t.val / 3 + 1)) ((blkS M4 (t.val / 3 + 1)).view.read (Elt F) fs))) : sProp 𝕄) := by
  unfold p7
  rw [k0_part7_eq_skeleton]
  unfold k0_part7_skel
  dsimp only [atMems]
  iintro ⟨Hx, Hs⟩
  iapply (look1 c t) $$ Hx
  iintro %x %y Hx
  dsimp only
  iapply (look2 c t) $$ Hs
  iintro %x' %y' Hs
  dsimp only
  sl_step
  isplitl []
  · ipureintro; clear x y x' y'; revert t; decide +kernel
  isplitl [Hx] <;> iassumption

/-! ## The state before a trip -/

section State
variable {sp : Space} {s : Shape} {e : EltTy}

/-- The block of the expert trip `n` works on, held or on its way. -/
def Held (n : ℕ) (d : Memref sig .tc sp s e) (m : DmaSem sig) (X : s.Idx → Elt F e) : sProp 𝕄 :=
  if n < 48 then Cur c (n % 3 = 0) d m X else Free c d m

/-- At the end of a trip the expert's block stays, or gives way to the next expert's. -/
theorem held_next {d : ℕ → Memref sig .tc sp s e} {m : ℕ → DmaSem sig} {X : ℕ → s.Idx → Elt F e}
    (hd : ∀ i j, i % 2 = j % 2 → d i = d j) (hm : ∀ i j, i % 2 = j % 2 → m i = m j) {n : ℕ} (hn : n < 48) :
    iprop(Land c (d (n / 3)) (m (n / 3)) (X (n / 3)) ∗ Looked c n (d (n / 3 + 1)) (m (n / 3 + 1)) (X (n / 3 + 1)))
      ⊢ iprop(Held c (n + 1) (d ((n + 1) / 3)) (m ((n + 1) / 3)) (X ((n + 1) / 3)) ∗ Look c (n + 1) (d ((n + 1) / 3 + 1)) (m ((n + 1) / 3 + 1)) (X ((n + 1) / 3 + 1))) := by
  unfold Held Look Looked Cur
  by_cases h : n % 3 = 2
  · rw [hd ((n + 1) / 3 + 1) (n / 3) (by omega), hm ((n + 1) / 3 + 1) (n / 3) (by omega), show (n + 1) / 3 = n / 3 + 1 by omega, if_pos (show (n + 1) % 3 = 0 by omega), if_neg (show ¬ ((n + 1) % 3 ≠ 0 ∧ n + 1 < 45) by omega)]
    by_cases h' : n < 45
    · rw [if_pos (show n + 1 < 48 by omega), if_pos h']
      exact BI.sep_comm.trans (BI.sep_mono (fun _ h => h) (Land_free c _ _ _))
    · rw [if_neg (show ¬ n + 1 < 48 by omega), if_neg h']
      exact BI.sep_comm.trans (BI.sep_mono (fun _ h => h) (Land_free c _ _ _))
  · rw [show (n + 1) / 3 = n / 3 by omega, if_neg (show ¬ (n + 1) % 3 = 0 by omega), if_pos (show n + 1 < 48 by omega)]
    by_cases h' : n < 45
    · rw [if_pos h', if_pos (show (n + 1) % 3 ≠ 0 ∧ n + 1 < 45 by omega)]
    · rw [if_neg h', if_neg (show ¬ ((n + 1) % 3 ≠ 0 ∧ n + 1 < 45) by omega)]
end State

theorem slotS_congr {al : Memref sig .tc .vmem S2x2x1x1024x128 .f32} (m n : ℕ) (h : m % 2 = n % 2) : slotS al m = slotS al n :=
  slotS_eq (by rw [h])
theorem slotG_congr {al : Memref sig .tc .vmem S2x1x1024x256 .f32} (m n : ℕ) (h : m % 2 = n % 2) : slotG al m = slotG al n :=
  slotG_eq (by rw [h])
theorem slotD_congr {al : Memref sig .tc .vmem S2x1x256x1024 .f32} (m n : ℕ) (h : m % 2 = n % 2) : slotD al m = slotD al n :=
  slotD_eq (by rw [h])

variable (f0 : HB (F := F) c M0) (f1 : HB (F := F) c M1) (f2 : HB (F := F) c M2) (fx : HB (F := F) c M5) (fs : HB (F := F) c M4)

/-- The accumulator after trip `n`'s first pair of parts, -/
abbrev mid (n : ℕ) (A : S2048x1024.Idx → Elt F .f32) : S2048x1024.Idx → Elt F .f32 :=
  acc19 (XG c M0 f0 0 n) (XG c M1 f1 0 n) (XG c M0 f0 1 n) (XG c M1 f1 1 n) (XG c M0 f0 2 n) (XG c M1 f1 2 n) (XG c M0 f0 3 n) (XG c M1 f1 3 n) (XD c M2 f2 0 n) (XD c M2 f2 1 n) (XD c M2 f2 2 n) (XD c M2 f2 3 n) (XX c fx n) A n
/-- after the trip, -/
abbrev fin (n : ℕ) (A : S2048x1024.Idx → Elt F .f32) : S2048x1024.Idx → Elt F .f32 :=
  acc20 (XG c M0 f0 0 n) (XG c M1 f1 0 n) (XG c M0 f0 1 n) (XG c M1 f1 1 n) (XG c M0 f0 2 n) (XG c M1 f1 2 n) (XD c M2 f2 0 n) (XD c M2 f2 1 n) (XD c M2 f2 2 n) (XX c fx n) (mid c f0 f1 f2 fx n A) n
/-- and before it. -/
def accN : ℕ → S2048x1024.Idx → Elt F .f32
  | 0 => k0_pay16
  | n + 1 => fin c f0 f1 f2 fx n (accN n)
/-- Expert `e`'s block of the result. -/
def resE (e : ℕ) : S2x1x1024x1024.Idx → Elt F .bf16 :=
  outBlk (XS c fs (3 * e + 2)) (accN c f0 f1 f2 fx (3 * e + 3))

theorem fin_eq {n : ℕ} {A : S2048x1024.Idx → Elt F .f32} (h : 0 < n → A = accN c f0 f1 f2 fx n) : fin c f0 f1 f2 fx n A = accN c f0 f1 f2 fx (n + 1) := by
  rcases Nat.eq_zero_or_pos n with rfl | hn
  · simp only [accN, fin, mid, acc19, if_true]
  · rw [h hn]; rfl

theorem resE_eq {n : ℕ} {A : S2048x1024.Idx → Elt F .f32} (h : 0 < n → A = accN c f0 f1 f2 fx n) (hn : n % 3 = 2) :
    outBlk (XS c fs n) (fin c f0 f1 f2 fx n A) = resE c f0 f1 f2 fx fs (n / 3) := by
  rw [fin_eq c f0 f1 f2 fx h]
  obtain ⟨e, rfl⟩ : ∃ e, n = 3 * e + 2 := ⟨n / 3, by omega⟩
  rw [show (3 * e + 2) / 3 = e by omega]
  rfl

theorem Emit_eq {n : ℕ} {Y Y' : S2x1x1024x1024.Idx → Elt F .bf16} (h : n % 3 = 2 → Y = Y') : (Emit c n Y : sProp 𝕄) ⊢ Emit c n Y' := by
  unfold Emit
  by_cases hn : n % 3 = 2
  · rw [h hn]
  · rw [if_neg hn, if_neg hn]

/-- The operands, readable. -/
abbrev Ops : sProp 𝕄 := iprop(RO f0 ∗ RO f1 ∗ RO f2 ∗ RO fx ∗ RO fs)
/-- The twelve pairs of weight buffers before trip `n`. -/
def Wts (n : ℕ) : sProp 𝕄 :=
  iprop((NG c (Memref.whole cc0_scoped4) cc0_scoped5 M0 f0 0 n ∗ FG c (Memref.whole cc0_scoped4) cc0_scoped5 (n + 1)) ∗ (NG c (Memref.whole cc0_scoped6) cc0_scoped7 M1 f1 0 n ∗ FG c (Memref.whole cc0_scoped6) cc0_scoped7 (n + 1)) ∗ (ND c (Memref.whole cc0_scoped8) cc0_scoped9 M2 f2 0 n ∗ FD c (Memref.whole cc0_scoped8) cc0_scoped9 (n + 1)) ∗ (NG c (Memref.whole cc0_scoped10) cc0_scoped11 M0 f0 1 n ∗ FG c (Memref.whole cc0_scoped10) cc0_scoped11 (n + 1)) ∗ (NG c (Memref.whole cc0_scoped12) cc0_scoped13 M1 f1 1 n ∗ FG c (Memref.whole cc0_scoped12) cc0_scoped13 (n + 1)) ∗ (ND c (Memref.whole cc0_scoped14) cc0_scoped15 M2 f2 1 n ∗ FD c (Memref.whole cc0_scoped14) cc0_scoped15 (n + 1)) ∗ (NG c (Memref.whole cc0_scoped16) cc0_scoped17 M0 f0 2 n ∗ FG c (Memref.whole cc0_scoped16) cc0_scoped17 (n + 1)) ∗ (NG c (Memref.whole cc0_scoped18) cc0_scoped19 M1 f1 2 n ∗ FG c (Memref.whole cc0_scoped18) cc0_scoped19 (n + 1)) ∗ (ND c (Memref.whole cc0_scoped20) cc0_scoped21 M2 f2 2 n ∗ FD c (Memref.whole cc0_scoped20) cc0_scoped21 (n + 1)) ∗ (NG c (Memref.whole cc0_scoped22) cc0_scoped23 M0 f0 3 n ∗ FG c (Memref.whole cc0_scoped22) cc0_scoped23 (n + 1)) ∗ (NG c (Memref.whole cc0_scoped24) cc0_scoped25 M1 f1 3 n ∗ FG c (Memref.whole cc0_scoped24) cc0_scoped25 (n + 1)) ∗ (ND c (Memref.whole cc0_scoped26) cc0_scoped27 M2 f2 3 n ∗ FD c (Memref.whole cc0_scoped26) cc0_scoped27 (n + 1)))
/-- The tokens' and routing weights' buffers. -/
def Toks (n : ℕ) : sProp 𝕄 :=
  iprop((Held c n (slotX (Memref.whole cc0_scoped0) (n / 3)) (semC cc0_scoped1 (n / 3)) (XX c fx n) ∗ Look c n (slotX (Memref.whole cc0_scoped0) (n / 3 + 1)) (semC cc0_scoped1 (n / 3 + 1)) ((blkX M5 (n / 3 + 1)).view.read (Elt F) fx))
    ∗ (Held c n (slotS (Memref.whole cc0_scoped2) (n / 3)) (semC cc0_scoped3 (n / 3)) (XS c fs n) ∗ Look c n (slotS (Memref.whole cc0_scoped2) (n / 3 + 1)) (semC cc0_scoped3 (n / 3 + 1)) ((blkS M4 (n / 3 + 1)).view.read (Elt F) fs)))
/-- The accumulator. -/
def Acc (n : ℕ) : sProp 𝕄 := iprop(∃ A, ⌜0 < n → A = accN c f0 f1 f2 fx n⌝ ∗ At c MA A)
/-- The result's array and its staging buffers. -/
def Outs (G : HB (F := F) c M6) (n : ℕ) : sProp 𝕄 :=
  iprop(Free c (slotX OUT (n / 3)) (semC cc0_scoped29 (n / 3)) ∗ Prev c n (resE c f0 f1 f2 fx fs (n / 3 - 1)) ∗ Don c G (dn n) ∗ Rst c (n / 3))
/-- The state before trip `n`. -/
def Inv (G : HB (F := F) c M6) (n : ℕ) : sProp 𝕄 :=
  iprop(OW c ∗ Ops c f0 f1 f2 fx fs ∗ Wts c f0 f1 f2 n ∗ Toks c fx fs n ∗ Acc c f0 f1 f2 fx n ∗ Outs c f0 f1 f2 fx fs G n)

theorem outs_next {G : HB (F := F) c M6} {n : ℕ} :
    iprop(Sent c n (resE c f0 f1 f2 fx fs (n / 3)) ∗ Rst c ((n + 1) / 3) ∗ Free c (slotX OUT (n / 3 + 1)) (semC cc0_scoped29 (n / 3 + 1)) ∗ Don c G (n / 3))
      ⊢ Outs c f0 f1 f2 fx fs G (n + 1) := by
  unfold Outs Sent Prev dn
  by_cases h : n % 3 = 2
  · rw [if_pos h, if_pos (show (n + 1) % 3 = 0 ∧ 0 < n + 1 by omega), if_pos (show (n + 1) % 3 = 0 ∧ 0 < n + 1 by omega), show (n + 1) / 3 = n / 3 + 1 by omega, Nat.add_sub_cancel]
    iintro ⟨HE, HR, HF, HD⟩
    iframe
  · rw [if_neg h, if_neg (show ¬ ((n + 1) % 3 = 0 ∧ 0 < n + 1) by omega), if_neg (show ¬ ((n + 1) % 3 = 0 ∧ 0 < n + 1) by omega), show (n + 1) / 3 = n / 3 by omega]
    iintro ⟨HE, HR, HF, HD⟩
    iframe

/-- What the trip hands on is what the next finds carried. -/
theorem carry_next : (wX (t.val + 1), wE (t.val + 1), wPe (t.val + 1), wPf (t.val + 1), wX (t.val + 1), wE (t.val + 1), wPe (t.val + 1), wPf (t.val + 1), wN (t.val + 1), wN t.val, wN (t.val + 1), wN t.val, wN (t.val + 1), wN t.val, wN (t.val + 1), wN t.val, wN (t.val + 1), wN t.val, wN (t.val + 1), wN t.val, wN (t.val + 1), wN t.val, wN (t.val + 1), wN t.val, wN (t.val + 1), wN t.val, wN (t.val + 1), wN t.val, wN (t.val + 1), Scalar.select 1#1 (Scalar.addi (wT t.val) 1#32) (wT t.val), wN (t.val + 1), Scalar.select (Scalar.ori (Scalar.ori (Scalar.cmpi .ne (wI t.val) (wI (t.val + 1))) (Scalar.cmpi .ne (wC 3 t.val) (wC 3 (t.val + 1)))) (b1 (t.val = 47))) (Scalar.addi (wT t.val) 1#32) (wT t.val), wE (t.val + 1), wI t.val, Scalar.select (Scalar.cmpi .eq (Scalar.select (Scalar.cmpi .eq (Scalar.select 1#1 (Scalar.addi (wF t.val) 1#32) (wF t.val)) 3#32) (Scalar.addi (wI t.val) 1#32) (wI t.val)) 16#32) 0#32 (Scalar.select (Scalar.cmpi .eq (Scalar.select 1#1 (Scalar.addi (wF t.val) 1#32) (wF t.val)) 3#32) (Scalar.addi (wI t.val) 1#32) (wI t.val)), Scalar.select (Scalar.cmpi .eq (Scalar.select 1#1 (Scalar.addi (wF t.val) 1#32) (wF t.val)) 3#32) 0#32 (Scalar.select 1#1 (Scalar.addi (wF t.val) 1#32) (wF t.val))) = carry (t.val + 1) := by
  simp only [carry, Prod.mk.injEq]
  repeat' apply And.intro
  all_goals first | exact True.intro | (revert t; decide +kernel)

/-- A landed block, opened. -/
theorem Land_open {sp : Space} {s : Shape} {e : EltTy} {d : Memref sig .tc sp s e} {m : DmaSem sig} {X : s.Idx → Elt F e} :
    (Land c d m X : sProp 𝕄) ⊢ iprop(At c d X ∗ Zero c m) := fun _ h => h

/-- A landed block's slot is free for the trip after next. -/
theorem land_next {sp : Space} {s : Shape} {e : EltTy} {d d' : Memref sig .tc sp s e} {m m' : DmaSem sig} {X : s.Idx → Elt F e} (hd : d' = d) (hm : m' = m) :
    iprop(At c d X ∗ Zero c m) ⊢ (Free c d' m' : sProp 𝕄) := by
  subst hd hm
  exact Land_free c _ _ _

/-- The body of the grid, on the launch's arrays. -/
abbrev bodyAt := atMems (k0_t1_body (F := F))

theorem trip_wp {u0 u1 u2 u3 u4 u5 u6 u7 u8 u9 u10 u11 u12 u13 u14 : BitVec 32} {G : HB (F := F) c M6} (hG : ∀ e, e < 16 → (blkX M6 e).view.read (Elt F) G = resE c f0 f1 f2 fx fs e) :
    Inv c f0 f1 f2 fx fs G t.val
      ⊢ (wp frame (wpE (defs₀ (F := F)) 𝒱₀ (c : Thread nD τ) none) Set.univ (bodyAt u0 u1 u2 u3 u4 u5 u6 u7 u8 u9 u10 u11 u12 u13 u14 t (carry t.val)) fun r =>
        iprop(⌜r = carry (t.val + 1)⌝ ∗ Inv c f0 f1 f2 fx fs G (t.val + 1)) : sProp 𝕄) := by
  have ht : t.val < 48 := t.isLt
  unfold bodyAt
  dsimp only [atMems, carry]
  unfold k0_t1_body
  dsimp only
  conv => lhs; unfold Inv Wts Toks Acc Outs Held; rw [if_pos ht, if_pos ht]
  iintro ⟨HO, ⟨R0, R1, R2, Rx, Rs⟩, ⟨⟨N0, F0⟩, ⟨N1, F1⟩, ⟨N2, F2⟩, ⟨N3, F3⟩, ⟨N4, F4⟩, ⟨N5, F5⟩, ⟨N6, F6⟩, ⟨N7, F7⟩, ⟨N8, F8⟩, ⟨N9, F9⟩, ⟨N10, F10⟩, ⟨N11, F11⟩⟩, ⟨⟨Hx, Lx⟩, Hs, Ls⟩, ⟨%A, %hA, HA⟩, Fo, Po, Do, Ro⟩
  ihave Fo := (show (Free c (slotX OUT (t.val / 3)) (semC cc0_scoped29 (t.val / 3)) : sProp 𝕄) ⊢ iprop(Some' c (slotX OUT (t.val / 3)) ∗ Zero c (semC cc0_scoped29 (t.val / 3))) from .rfl) $$ Fo
  icases Fo with ⟨Fo, Zo⟩
  iapply (wp_pure c (part6_wp c t))
  dsimp only
  iapply (wp_seq c (part7_wp c t)) $$ [Rx Lx Rs Ls]
  · isplitl [Rx Lx]
    · isplitl [Rx] <;> iassumption
    isplitl [Rs] <;> iassumption
  iintro ⟨⟨Rx, Lx⟩, Rs, Ls⟩
  dsimp only
  iapply (wp_seq c (part8_wp c f0 f1 t)) $$ [R0 R1 F0 F1]
  · isplitl [R0]; · iexact R0
    isplitl [R1]; · iexact R1
    isplitl [F0]; · iexact F0
    iexact F1
  iintro ⟨R0, R1, M0, M1⟩
  dsimp only
  iapply (wp_seq c (part9_wp c f2 t)) $$ [R2 F2]
  · isplitl [R2]; · iexact R2
    iexact F2
  iintro ⟨R2, M2⟩
  dsimp only
  iapply (wp_seq c (part10_wp c f0 f1 t)) $$ [R0 R1 F3 F4]
  · isplitl [R0]; · iexact R0
    isplitl [R1]; · iexact R1
    isplitl [F3]; · iexact F3
    iexact F4
  iintro ⟨R0, R1, M3, M4⟩
  dsimp only
  iapply (wp_seq c (part11_wp c f0 f2 t)) $$ [R0 R2 F5 F6]
  · isplitl [R0]; · iexact R0
    isplitl [R2]; · iexact R2
    isplitl [F5]; · iexact F5
    iexact F6
  iintro ⟨R0, R2, M5, M6⟩
  dsimp only
  iapply (wp_seq c (part12_wp c f1 t)) $$ [R1 F7]
  · isplitl [R1]; · iexact R1
    iexact F7
  iintro ⟨R1, M7⟩
  dsimp only
  iapply (wp_seq c (part13_wp c f0 f2 t)) $$ [R0 R2 F8 F9]
  · isplitl [R0]; · iexact R0
    isplitl [R2]; · iexact R2
    isplitl [F8]; · iexact F8
    iexact F9
  iintro ⟨R0, R2, M8, M9⟩
  dsimp only
  iapply (wp_seq c (part14_wp c f1 f2 t)) $$ [R1 R2 F10 F11]
  · isplitl [R1]; · iexact R1
    isplitl [R2]; · iexact R2
    isplitl [F10]; · iexact F10
    iexact F11
  iintro ⟨R1, R2, M10, M11⟩
  dsimp only
  iapply (wp_seq c (part15_wp c f0 f1 t fx fs)) $$ [HO Hx Hs N0 N1]
  · isplitl [HO]; · iexact HO
    isplitl [Hx]; · iexact Hx
    isplitl [Hs]; · iexact Hs
    isplitl [N0]; · iexact N0
    iexact N1
  iintro ⟨HO, Hx, Hs, N0, N1⟩
  dsimp only
  ihave Hx := (Land_open c) $$ Hx
  icases Hx with ⟨Ax, Zx⟩
  ihave Hs := (Land_open c) $$ Hs
  icases Hs with ⟨As, Zs⟩
  ihave N0 := (Land_open c) $$ N0
  icases N0 with ⟨A0, Z0⟩
  ihave N1 := (Land_open c) $$ N1
  icases N1 with ⟨A1, Z1⟩
  iapply (wp_seq c (part16_wp c f0 f1 f2 t)) $$ [HO N2 N3 N4]
  · isplitl [HO]; · iexact HO
    isplitl [N2]; · iexact N2
    isplitl [N3]; · iexact N3
    iexact N4
  iintro ⟨HO, N2, N3, N4⟩
  dsimp only
  ihave N2 := (Land_open c) $$ N2
  icases N2 with ⟨A2, Z2⟩
  ihave N3 := (Land_open c) $$ N3
  icases N3 with ⟨A3, Z3⟩
  ihave N4 := (Land_open c) $$ N4
  icases N4 with ⟨A4, Z4⟩
  iapply (wp_seq c (part17_wp c f0 f1 f2 t)) $$ [HO N5 N6 N7]
  · isplitl [HO]; · iexact HO
    isplitl [N5]; · iexact N5
    isplitl [N6]; · iexact N6
    iexact N7
  iintro ⟨HO, N5, N6, N7⟩
  dsimp only
  ihave N5 := (Land_open c) $$ N5
  icases N5 with ⟨A5, Z5⟩
  ihave N6 := (Land_open c) $$ N6
  icases N6 with ⟨A6, Z6⟩
  ihave N7 := (Land_open c) $$ N7
  icases N7 with ⟨A7, Z7⟩
  iapply (wp_seq c (part18_wp c f0 f1 f2 t)) $$ [HO N8 N9 N10]
  · isplitl [HO]; · iexact HO
    isplitl [N8]; · iexact N8
    isplitl [N9]; · iexact N9
    iexact N10
  iintro ⟨HO, N8, N9, N10⟩
  dsimp only
  ihave N8 := (Land_open c) $$ N8
  icases N8 with ⟨A8, Z8⟩
  ihave N9 := (Land_open c) $$ N9
  icases N9 with ⟨A9, Z9⟩
  ihave N10 := (Land_open c) $$ N10
  icases N10 with ⟨A10, Z10⟩
  iapply (wp_seq c (part19_wp c t _ _ _ _ _ _ _ _ _ _ _ _ _ _ )) $$ [HO N11 A0 A1 A2 A3 A4 A5 A6 A7 A8 A9 A10 Ax HA]
  · isplitl [HO]; · iexact HO
    isplitl [N11]; · iexact N11
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [Ax]; · iexact Ax
    iexact HA
  iintro ⟨HO, Z11, HB, HA⟩
  dsimp only
  iapply (wp_seq c (part20_wp c t _ _ _ _ _ _ _ _ _ _ _ _ _ _  _)) $$ [HB As HA Fo]
  · isplitl [HB]; · iexact HB
    isplitl [As]; · iexact As
    isplitl [HA]; · iexact HA
    iexact Fo
  iintro ⟨HB, As, HA, HE⟩
  dsimp only
  ihave HE := (Emit_eq c (fun h => resE_eq c f0 f1 f2 fx fs hA h)) $$ HE
  iapply (wp_pure c (part21_wp c t))
  dsimp only
  iapply (wp_seq c (part22_wp c t _)) $$ [HE Zo Ro]
  · isplitl [HE]; · iexact HE
    isplitl [Zo]; · iexact Zo
    iexact Ro
  iintro ⟨HE, Ro⟩
  dsimp only
  iapply (wp_pure c (part23_wp c t))
  dsimp only
  iapply (wp_pure c (part24_wp c t))
  dsimp only
  iapply (wp_seq c (part25_wp c t (G := G) (fun _ _ => hG _ (by omega)))) $$ [HO Po Do]
  · isplitl [HO]; · iexact HO
    isplitl [Po]; · iexact Po
    iexact Do
  iintro ⟨HO, Fo, Do⟩
  dsimp only
  iapply (wp_pure c (part26_wp c t))
  dsimp only
  sl_step
  isplitl []
  · ipureintro; exact carry_next t
  icases HB with ⟨A0, A1, A2, A3, A4, A5, A6, A7, A8, A9, A10, A11, Ax⟩
  ihave Kx := (held_next c (d := slotX (Memref.whole cc0_scoped0)) (m := semC cc0_scoped1) (X := fun e => (blkX M5 e).view.read (Elt F) fx) (fun _ _ h => slotX_congr h) (fun _ _ h => semC_congr h) ht) $$ [Ax Zx Lx]
  · isplitl [Ax Zx]
    · unfold Land
      isplitl [Ax] <;> iassumption
    iexact Lx
  ihave Ks := (held_next c (d := slotS (Memref.whole cc0_scoped2)) (m := semC cc0_scoped3) (X := fun e => (blkS M4 e).view.read (Elt F) fs) slotS_congr (fun _ _ h => semC_congr h) ht) $$ [As Zs Ls]
  · isplitl [As Zs]
    · unfold Land
      isplitl [As] <;> iassumption
    iexact Ls
  ihave HOs := (outs_next c f0 f1 f2 fx fs) $$ [HE Ro Fo Do]
  · isplitl [HE]; · iexact HE
    isplitl [Ro]; · iexact Ro
    isplitl [Fo] <;> iassumption
  ihave F0 := (land_next c (slotG_congr (t.val + 1 + 1) t.val (by omega)) (semC_congr (m := t.val + 1 + 1) (n := t.val) (by omega))) $$ [A0 Z0]
  · isplitl [A0] <;> iassumption
  ihave F1 := (land_next c (slotG_congr (t.val + 1 + 1) t.val (by omega)) (semC_congr (m := t.val + 1 + 1) (n := t.val) (by omega))) $$ [A1 Z1]
  · isplitl [A1] <;> iassumption
  ihave F2 := (land_next c (slotD_congr (t.val + 1 + 1) t.val (by omega)) (semC_congr (m := t.val + 1 + 1) (n := t.val) (by omega))) $$ [A2 Z2]
  · isplitl [A2] <;> iassumption
  ihave F3 := (land_next c (slotG_congr (t.val + 1 + 1) t.val (by omega)) (semC_congr (m := t.val + 1 + 1) (n := t.val) (by omega))) $$ [A3 Z3]
  · isplitl [A3] <;> iassumption
  ihave F4 := (land_next c (slotG_congr (t.val + 1 + 1) t.val (by omega)) (semC_congr (m := t.val + 1 + 1) (n := t.val) (by omega))) $$ [A4 Z4]
  · isplitl [A4] <;> iassumption
  ihave F5 := (land_next c (slotD_congr (t.val + 1 + 1) t.val (by omega)) (semC_congr (m := t.val + 1 + 1) (n := t.val) (by omega))) $$ [A5 Z5]
  · isplitl [A5] <;> iassumption
  ihave F6 := (land_next c (slotG_congr (t.val + 1 + 1) t.val (by omega)) (semC_congr (m := t.val + 1 + 1) (n := t.val) (by omega))) $$ [A6 Z6]
  · isplitl [A6] <;> iassumption
  ihave F7 := (land_next c (slotG_congr (t.val + 1 + 1) t.val (by omega)) (semC_congr (m := t.val + 1 + 1) (n := t.val) (by omega))) $$ [A7 Z7]
  · isplitl [A7] <;> iassumption
  ihave F8 := (land_next c (slotD_congr (t.val + 1 + 1) t.val (by omega)) (semC_congr (m := t.val + 1 + 1) (n := t.val) (by omega))) $$ [A8 Z8]
  · isplitl [A8] <;> iassumption
  ihave F9 := (land_next c (slotG_congr (t.val + 1 + 1) t.val (by omega)) (semC_congr (m := t.val + 1 + 1) (n := t.val) (by omega))) $$ [A9 Z9]
  · isplitl [A9] <;> iassumption
  ihave F10 := (land_next c (slotG_congr (t.val + 1 + 1) t.val (by omega)) (semC_congr (m := t.val + 1 + 1) (n := t.val) (by omega))) $$ [A10 Z10]
  · isplitl [A10] <;> iassumption
  ihave F11 := (land_next c (slotD_congr (t.val + 1 + 1) t.val (by omega)) (semC_congr (m := t.val + 1 + 1) (n := t.val) (by omega))) $$ [A11 Z11]
  · isplitl [A11] <;> iassumption
  unfold Inv Wts Toks Acc
  isplitl [HO]; · iexact HO
  isplitl [R0 R1 R2 Rx Rs]; · unfold Ops; iframe
  isplitl [M0 F0 M1 F1 M2 F2 M3 F3 M4 F4 M5 F5 M6 F6 M7 F7 M8 F8 M9 F9 M10 F10 M11 F11]
  · isplitl [M0 F0]; · isplitl [M0] <;> iassumption
    isplitl [M1 F1]; · isplitl [M1] <;> iassumption
    isplitl [M2 F2]; · isplitl [M2] <;> iassumption
    isplitl [M3 F3]; · isplitl [M3] <;> iassumption
    isplitl [M4 F4]; · isplitl [M4] <;> iassumption
    isplitl [M5 F5]; · isplitl [M5] <;> iassumption
    isplitl [M6 F6]; · isplitl [M6] <;> iassumption
    isplitl [M7 F7]; · isplitl [M7] <;> iassumption
    isplitl [M8 F8]; · isplitl [M8] <;> iassumption
    isplitl [M9 F9]; · isplitl [M9] <;> iassumption
    isplitl [M10 F10]; · isplitl [M10] <;> iassumption
    isplitl [M11] <;> iassumption
  isplitl [Kx Ks]
  · isplitl [Kx] <;> iassumption
  isplitl [HA]
  · iexists _
    isplitl []
    · ipureintro
      exact fun _ => fin_eq c f0 f1 f2 fx hA
    iexact HA
  iexact HOs

end Cert.Proof.Ffn

end
-- ==== Proof.Slots.lean ====
/-
  A pair of slots taken apart and put together again.
-/
module

public import proofs.«01_k».proof.Proof.Trip

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- In a block one element wide along an axis and as long as its array along the others, membership is that coordinate. -/
theorem mem_half {s : Shape} {off size : Fin s.rank → ℕ} {hb : ∀ a, off a + size a ≤ s.size a} (z : Fin s.rank) {m : ℕ}
    (hz : off z = m ∧ size z = 1) (ho : ∀ a, a ≠ z → off a = 0 ∧ size a = s.size a) (i : s.Idx) :
    i ∈ (Rect.unit (s := s) off size hb).set ↔ (i z).val = m := by
  rw [Rect.mem_set_unit]
  constructor
  · intro h
    have := h z
    omega
  · intro h a
    by_cases ha : a = z
    · subst ha; omega
    · have := ho a ha
      have := (i a).isLt
      omega

variable (c : Dev nD) {sp : Space} {s : Shape} {e : EltTy}

/-- A whole array at something. -/
def Whole (al : Memref sig .tc sp s e) : sProp 𝕄 := iprop(∃ f, al.view.loc (c : Thread nD τ) ↦{fullShare} f)

/-- Two parts that make up an array. -/
theorem whole_parts {al : Memref sig .tc sp s e} {S0 S1 : Finset (Idx (al.view.loc (c : Thread nD τ)))}
    (hd : Disjoint S0 S1) (hu : S0 ∪ S1 = Finset.univ) :
    (Whole c al ⊢ (iprop((∃ f, al.view.loc (c : Thread nD τ) ↦[S0]{fullShare} f) ∗ ∃ f, al.view.loc (c : Thread nD τ) ↦[S1]{fullShare} f) : sProp 𝕄))
      ∧ (iprop((∃ f, al.view.loc (c : Thread nD τ) ↦[S0]{fullShare} f) ∗ ∃ f, al.view.loc (c : Thread nD τ) ↦[S1]{fullShare} f) ⊢ (Whole c al : sProp 𝕄)) := by
  unfold Whole
  rw [← hu]
  constructor
  · iintro ⟨%f, H⟩
    ihave H := (pointsTo_union hd).1 $$ H
    icases H with ⟨H, H'⟩
    isplitl [H]
    · iexists f; iexact H
    · iexists f; iexact H'
  · iintro ⟨⟨%f, H⟩, ⟨%g, H'⟩⟩
    iexists _
    iapply (pointsTo_join hd)
    isplitl [H] <;> iassumption

/-- Two blocks, of the coordinates 0 and 1 of an axis of length two, make up their array. -/
theorem halves {al : Memref sig .tc sp s e} (hal : al.IsWhole) {r0 r1 : Rect s} (z : Fin s.rank) (hs : s.size z = 2)
    (h0 : ∀ i, i ∈ r0.set ↔ (i z).val = 0) (h1 : ∀ i, i ∈ r1.set ↔ (i z).val = 1) :
    Disjoint (r0.set.map al.view.emb) (r1.set.map al.view.emb) ∧ r0.set.map al.view.emb ∪ r1.set.map al.view.emb = Finset.univ := by
  constructor
  · rw [Finset.disjoint_map, Finset.disjoint_left]
    intro i hi hi'
    have := (h0 i).1 hi
    have := (h1 i).1 hi'
    omega
  · rw [← Finset.map_union, ← hal.set_eq_univ]
    unfold View.set
    congr 1
    ext i
    simp only [Finset.mem_union, Finset.mem_univ, iff_true, h0, h1]
    have := (i z).isLt
    omega

theorem pairG {al : Memref sig .tc .vmem S2x1x1024x256 .f32} (hal : al.IsWhole) :
    (Whole c al ⊢ (iprop(Some' c (slotG al 0) ∗ Some' c (slotG al 1)) : sProp 𝕄)) ∧ (iprop(Some' c (slotG al 0) ∗ Some' c (slotG al 1)) ⊢ (Whole c al : sProp 𝕄)) := by
  have hm : ∀ n (i : S2x1x1024x256.Idx), i ∈ (Rect.unit (s := S2x1x1024x256) ![n % 2, 0, 0, 0] S1x1x1024x256.size (inb_g n)).set ↔ (i 0).val = n % 2 := fun n i =>
    mem_half 0 ⟨rfl, rfl⟩ (fun a ha => by fin_cases a <;> first | exact absurd rfl ha | exact ⟨rfl, rfl⟩) i
  have hs : ∀ n, (slotG al n).view.set = (Rect.unit (s := S2x1x1024x256) ![n % 2, 0, 0, 0] S1x1x1024x256.size (inb_g n)).set.map al.view.emb := fun n =>
    (View.set_reshape _ _).trans (View.set_slice _ _)
  obtain ⟨hd, hu⟩ := halves hal 0 rfl (hm 0) (hm 1)
  rw [← hs 0, ← hs 1] at hd hu
  exact whole_parts c hd hu

/-- Such a buffer with both its semaphores at rest, -/
def BufG (al : Memref sig .tc .vmem S2x1x1024x256 .f32) (v : DmaSems sig S2) : sProp 𝕄 := iprop(Whole c al ∗ Zero c (semC v 0) ∗ Zero c (semC v 1))
/-- as its two slots, -/
theorem openG {al : Memref sig .tc .vmem S2x1x1024x256 .f32} (hal : al.IsWhole) {v : DmaSems sig S2} :
    (BufG c al v : sProp 𝕄) ⊢ iprop(Free c (slotG al 0) (semC v 0) ∗ Free c (slotG al 1) (semC v 1)) := by
  unfold BufG Free
  iintro ⟨H, Z0, Z1⟩
  ihave H := (pairG c hal).1 $$ H
  icases H with ⟨H0, H1⟩
  isplitl [H0 Z0]
  · isplitl [H0] <;> iassumption
  · isplitl [H1] <;> iassumption
/-- and back. -/
theorem closeG {al : Memref sig .tc .vmem S2x1x1024x256 .f32} (hal : al.IsWhole) {v : DmaSems sig S2} {m n : ℕ} (hm : m % 2 = 0) (hn : n % 2 = 1) :
    iprop(Free c (slotG al m) (semC v m) ∗ Free c (slotG al n) (semC v n)) ⊢ (BufG c al v : sProp 𝕄) := by
  rw [show slotG al m = slotG al 0 from slotG_eq (by rw [hm]), show slotG al n = slotG al 1 from slotG_eq (by rw [hn]),
    show semC v m = semC v 0 from semC_eq (by rw [hm]), show semC v n = semC v 1 from semC_eq (by rw [hn])]
  unfold BufG Free
  iintro ⟨⟨H0, Z0⟩, ⟨H1, Z1⟩⟩
  isplitl [H0 H1]
  · iapply (pairG c hal).2
    isplitl [H0] <;> iassumption
  isplitl [Z0] <;> iassumption

theorem pairD {al : Memref sig .tc .vmem S2x1x256x1024 .f32} (hal : al.IsWhole) :
    (Whole c al ⊢ (iprop(Some' c (slotD al 0) ∗ Some' c (slotD al 1)) : sProp 𝕄)) ∧ (iprop(Some' c (slotD al 0) ∗ Some' c (slotD al 1)) ⊢ (Whole c al : sProp 𝕄)) := by
  have hm : ∀ n (i : S2x1x256x1024.Idx), i ∈ (Rect.unit (s := S2x1x256x1024) ![n % 2, 0, 0, 0] S1x1x256x1024.size (inb_d n)).set ↔ (i 0).val = n % 2 := fun n i =>
    mem_half 0 ⟨rfl, rfl⟩ (fun a ha => by fin_cases a <;> first | exact absurd rfl ha | exact ⟨rfl, rfl⟩) i
  have hs : ∀ n, (slotD al n).view.set = (Rect.unit (s := S2x1x256x1024) ![n % 2, 0, 0, 0] S1x1x256x1024.size (inb_d n)).set.map al.view.emb := fun n =>
    (View.set_reshape _ _).trans (View.set_slice _ _)
  obtain ⟨hd, hu⟩ := halves hal 0 rfl (hm 0) (hm 1)
  rw [← hs 0, ← hs 1] at hd hu
  exact whole_parts c hd hu

/-- Such a buffer with both its semaphores at rest, -/
def BufD (al : Memref sig .tc .vmem S2x1x256x1024 .f32) (v : DmaSems sig S2) : sProp 𝕄 := iprop(Whole c al ∗ Zero c (semC v 0) ∗ Zero c (semC v 1))
/-- as its two slots, -/
theorem openD {al : Memref sig .tc .vmem S2x1x256x1024 .f32} (hal : al.IsWhole) {v : DmaSems sig S2} :
    (BufD c al v : sProp 𝕄) ⊢ iprop(Free c (slotD al 0) (semC v 0) ∗ Free c (slotD al 1) (semC v 1)) := by
  unfold BufD Free
  iintro ⟨H, Z0, Z1⟩
  ihave H := (pairD c hal).1 $$ H
  icases H with ⟨H0, H1⟩
  isplitl [H0 Z0]
  · isplitl [H0] <;> iassumption
  · isplitl [H1] <;> iassumption
/-- and back. -/
theorem closeD {al : Memref sig .tc .vmem S2x1x256x1024 .f32} (hal : al.IsWhole) {v : DmaSems sig S2} {m n : ℕ} (hm : m % 2 = 0) (hn : n % 2 = 1) :
    iprop(Free c (slotD al m) (semC v m) ∗ Free c (slotD al n) (semC v n)) ⊢ (BufD c al v : sProp 𝕄) := by
  rw [show slotD al m = slotD al 0 from slotD_eq (by rw [hm]), show slotD al n = slotD al 1 from slotD_eq (by rw [hn]),
    show semC v m = semC v 0 from semC_eq (by rw [hm]), show semC v n = semC v 1 from semC_eq (by rw [hn])]
  unfold BufD Free
  iintro ⟨⟨H0, Z0⟩, ⟨H1, Z1⟩⟩
  isplitl [H0 H1]
  · iapply (pairD c hal).2
    isplitl [H0] <;> iassumption
  isplitl [Z0] <;> iassumption

theorem pairX {al : Memref sig .tc .vmem S2x2x1x1024x1024 .bf16} (hal : al.IsWhole) :
    (Whole c al ⊢ (iprop(Some' c (slotX al 0) ∗ Some' c (slotX al 1)) : sProp 𝕄)) ∧ (iprop(Some' c (slotX al 0) ∗ Some' c (slotX al 1)) ⊢ (Whole c al : sProp 𝕄)) := by
  have hm : ∀ n (i : S2x2x1x1024x1024.Idx), i ∈ (Rect.unit (s := S2x2x1x1024x1024) ![n % 2, 0, 0, 0, 0] S1x2x1x1024x1024.size (inb_x n)).set ↔ (i 0).val = n % 2 := fun n i =>
    mem_half 0 ⟨rfl, rfl⟩ (fun a ha => by fin_cases a <;> first | exact absurd rfl ha | exact ⟨rfl, rfl⟩) i
  have hs : ∀ n, (slotX al n).view.set = (Rect.unit (s := S2x2x1x1024x1024) ![n % 2, 0, 0, 0, 0] S1x2x1x1024x1024.size (inb_x n)).set.map al.view.emb := fun n =>
    (View.set_reshape _ _).trans (View.set_slice _ _)
  obtain ⟨hd, hu⟩ := halves hal 0 rfl (hm 0) (hm 1)
  rw [← hs 0, ← hs 1] at hd hu
  exact whole_parts c hd hu

/-- Such a buffer with both its semaphores at rest, -/
def BufX (al : Memref sig .tc .vmem S2x2x1x1024x1024 .bf16) (v : DmaSems sig S2) : sProp 𝕄 := iprop(Whole c al ∗ Zero c (semC v 0) ∗ Zero c (semC v 1))
/-- as its two slots, -/
theorem openX {al : Memref sig .tc .vmem S2x2x1x1024x1024 .bf16} (hal : al.IsWhole) {v : DmaSems sig S2} :
    (BufX c al v : sProp 𝕄) ⊢ iprop(Free c (slotX al 0) (semC v 0) ∗ Free c (slotX al 1) (semC v 1)) := by
  unfold BufX Free
  iintro ⟨H, Z0, Z1⟩
  ihave H := (pairX c hal).1 $$ H
  icases H with ⟨H0, H1⟩
  isplitl [H0 Z0]
  · isplitl [H0] <;> iassumption
  · isplitl [H1] <;> iassumption
/-- and back. -/
theorem closeX {al : Memref sig .tc .vmem S2x2x1x1024x1024 .bf16} (hal : al.IsWhole) {v : DmaSems sig S2} {m n : ℕ} (hm : m % 2 = 0) (hn : n % 2 = 1) :
    iprop(Free c (slotX al m) (semC v m) ∗ Free c (slotX al n) (semC v n)) ⊢ (BufX c al v : sProp 𝕄) := by
  rw [show slotX al m = slotX al 0 from slotX_eq (by rw [hm]), show slotX al n = slotX al 1 from slotX_eq (by rw [hn]),
    show semC v m = semC v 0 from semC_eq (by rw [hm]), show semC v n = semC v 1 from semC_eq (by rw [hn])]
  unfold BufX Free
  iintro ⟨⟨H0, Z0⟩, ⟨H1, Z1⟩⟩
  isplitl [H0 H1]
  · iapply (pairX c hal).2
    isplitl [H0] <;> iassumption
  isplitl [Z0] <;> iassumption

theorem pairS {al : Memref sig .tc .vmem S2x2x1x1024x128 .f32} (hal : al.IsWhole) :
    (Whole c al ⊢ (iprop(Some' c (slotS al 0) ∗ Some' c (slotS al 1)) : sProp 𝕄)) ∧ (iprop(Some' c (slotS al 0) ∗ Some' c (slotS al 1)) ⊢ (Whole c al : sProp 𝕄)) := by
  have hm : ∀ n (i : S2x2x1x1024x128.Idx), i ∈ (Rect.unit (s := S2x2x1x1024x128) ![n % 2, 0, 0, 0, 0] S1x2x1x1024x128.size (inb_s n)).set ↔ (i 0).val = n % 2 := fun n i =>
    mem_half 0 ⟨rfl, rfl⟩ (fun a ha => by fin_cases a <;> first | exact absurd rfl ha | exact ⟨rfl, rfl⟩) i
  have hs : ∀ n, (slotS al n).view.set = (Rect.unit (s := S2x2x1x1024x128) ![n % 2, 0, 0, 0, 0] S1x2x1x1024x128.size (inb_s n)).set.map al.view.emb := fun n =>
    (View.set_reshape _ _).trans (View.set_slice _ _)
  obtain ⟨hd, hu⟩ := halves hal 0 rfl (hm 0) (hm 1)
  rw [← hs 0, ← hs 1] at hd hu
  exact whole_parts c hd hu

/-- Such a buffer with both its semaphores at rest, -/
def BufS (al : Memref sig .tc .vmem S2x2x1x1024x128 .f32) (v : DmaSems sig S2) : sProp 𝕄 := iprop(Whole c al ∗ Zero c (semC v 0) ∗ Zero c (semC v 1))
/-- as its two slots, -/
theorem openS {al : Memref sig .tc .vmem S2x2x1x1024x128 .f32} (hal : al.IsWhole) {v : DmaSems sig S2} :
    (BufS c al v : sProp 𝕄) ⊢ iprop(Free c (slotS al 0) (semC v 0) ∗ Free c (slotS al 1) (semC v 1)) := by
  unfold BufS Free
  iintro ⟨H, Z0, Z1⟩
  ihave H := (pairS c hal).1 $$ H
  icases H with ⟨H0, H1⟩
  isplitl [H0 Z0]
  · isplitl [H0] <;> iassumption
  · isplitl [H1] <;> iassumption
/-- and back. -/
theorem closeS {al : Memref sig .tc .vmem S2x2x1x1024x128 .f32} (hal : al.IsWhole) {v : DmaSems sig S2} {m n : ℕ} (hm : m % 2 = 0) (hn : n % 2 = 1) :
    iprop(Free c (slotS al m) (semC v m) ∗ Free c (slotS al n) (semC v n)) ⊢ (BufS c al v : sProp 𝕄) := by
  rw [show slotS al m = slotS al 0 from slotS_eq (by rw [hm]), show slotS al n = slotS al 1 from slotS_eq (by rw [hn]),
    show semC v m = semC v 0 from semC_eq (by rw [hm]), show semC v n = semC v 1 from semC_eq (by rw [hn])]
  unfold BufS Free
  iintro ⟨⟨H0, Z0⟩, ⟨H1, Z1⟩⟩
  isplitl [H0 H1]
  · iapply (pairS c hal).2
    isplitl [H0] <;> iassumption
  isplitl [Z0] <;> iassumption

end Cert.Proof.Ffn

end
-- ==== Proof.Run.lean ====
/-
  The kernel's run: the first trip's blocks fetched, forty-eight trips, the last block's departure awaited.
-/
module

public import proofs.«01_k».proof.Proof.Slots

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) {α : Type}
variable {f0 : HB (F := F) c M0} {f1 : HB (F := F) c M1} {f2 : HB (F := F) c M2} {fx : HB (F := F) c M5} {fs : HB (F := F) c M4}

/-! ## Before the first trip -/

section
variable {sp : Space} {s : Shape} {e : EltTy} {d : Memref sig .tc sp s e} {m : DmaSem sig} {X : s.Idx → Elt F e}
theorem nxt_zero : (InFl c d m X : sProp 𝕄) ⊢ Nxt c 0 d m X := by
  unfold Nxt; rw [if_pos (by decide)]
theorem nxt_end : (Nxt c 48 d m X : sProp 𝕄) ⊢ Free c d m := by
  unfold Nxt; rw [if_neg (by decide)]
theorem held_zero : (InFl c d m X : sProp 𝕄) ⊢ Held c 0 d m X := by
  unfold Held Cur; rw [if_pos (by decide), if_pos (by decide)]
theorem held_end : (Held c 48 d m X : sProp 𝕄) ⊢ Free c d m := by
  unfold Held; rw [if_neg (by decide)]
theorem look_zero : (Free c d m : sProp 𝕄) ⊢ Look c 0 d m X := by
  unfold Look; rw [if_neg (by decide)]
theorem look_end : (Look c 48 d m X : sProp 𝕄) ⊢ Free c d m := by
  unfold Look; rw [if_neg (by decide)]
end

/-- A first block fetched. -/
theorem firstG {n : ℕ} {k : ℕ} {a : Memref sig .tc .hbm S16x1024x2816 .f32} {al : Memref sig .tc .vmem S2x1x1024x256 .f32} {v : DmaSems sig S2}
    {src : Memref sig .tc .hbm S1x1024x256 .f32} {dst : Memref sig .tc .vmem S1x1024x256 .f32} {m : DmaSem sig}
    (hs : src = blkG a 0 k) (hd : dst = slotG al n) (hm : m = semC v n)
    {hsrc : src.view.WordExact} {hdst : dst.view.WordExact} {hsem : DmaTarget.Typed (nD := nD) .hbm (.dma m) (.here (p := .tc) dst)}
    {f : HB (F := F) c a} {k' : PUnit → Prog (TpuEff nD τ sig (Elt F) (Λ₀ F) .tc) α} {Q : α → sProp 𝕄} :
    iprop(RO f ∗ Free c (slotG al n) (semC v n))
      ⊢ iprop((iprop(RO f ∗ InFl c (slotG al n) (semC v n) ((blkG a 0 k).view.read (Elt F) f)) -∗ wp frame (wpE (defs₀ (F := F)) 𝒱₀ (c : Thread nD τ) none) Set.univ (k' ⟨⟩) Q)
        -∗ wp frame (wpE (defs₀ (F := F)) 𝒱₀ (c : Thread nD τ) none) Set.univ (Prog.lift (.enqueueDma (p := .tc) src (.here dst) (.dma m) hsrc hdst hsem) >>= k') Q) :=
  wp_issue (s := S1x1024x256) (src' := blkG a 0 k) c hs hd hm (by decide) (f := id f)

/-- A first block fetched. -/
theorem firstD {n : ℕ} {k : ℕ} {a : Memref sig .tc .hbm S16x2816x1024 .f32} {al : Memref sig .tc .vmem S2x1x256x1024 .f32} {v : DmaSems sig S2}
    {src : Memref sig .tc .hbm S1x256x1024 .f32} {dst : Memref sig .tc .vmem S1x256x1024 .f32} {m : DmaSem sig}
    (hs : src = blkD a 0 k) (hd : dst = slotD al n) (hm : m = semC v n)
    {hsrc : src.view.WordExact} {hdst : dst.view.WordExact} {hsem : DmaTarget.Typed (nD := nD) .hbm (.dma m) (.here (p := .tc) dst)}
    {f : HB (F := F) c a} {k' : PUnit → Prog (TpuEff nD τ sig (Elt F) (Λ₀ F) .tc) α} {Q : α → sProp 𝕄} :
    iprop(RO f ∗ Free c (slotD al n) (semC v n))
      ⊢ iprop((iprop(RO f ∗ InFl c (slotD al n) (semC v n) ((blkD a 0 k).view.read (Elt F) f)) -∗ wp frame (wpE (defs₀ (F := F)) 𝒱₀ (c : Thread nD τ) none) Set.univ (k' ⟨⟩) Q)
        -∗ wp frame (wpE (defs₀ (F := F)) 𝒱₀ (c : Thread nD τ) none) Set.univ (Prog.lift (.enqueueDma (p := .tc) src (.here dst) (.dma m) hsrc hdst hsem) >>= k') Q) :=
  wp_issue (s := S1x256x1024) (src' := blkD a 0 k) c hs hd hm (by decide) (f := id f)

/-- A first block fetched. -/
theorem firstX {n : ℕ}  {a : Memref sig .tc .hbm S2x16x1024x1024 .bf16} {al : Memref sig .tc .vmem S2x2x1x1024x1024 .bf16} {v : DmaSems sig S2}
    {src : Memref sig .tc .hbm S2x1x1024x1024 .bf16} {dst : Memref sig .tc .vmem S2x1x1024x1024 .bf16} {m : DmaSem sig}
    (hs : src = blkX a 0) (hd : dst = slotX al n) (hm : m = semC v n)
    {hsrc : src.view.WordExact} {hdst : dst.view.WordExact} {hsem : DmaTarget.Typed (nD := nD) .hbm (.dma m) (.here (p := .tc) dst)}
    {f : HB (F := F) c a} {k' : PUnit → Prog (TpuEff nD τ sig (Elt F) (Λ₀ F) .tc) α} {Q : α → sProp 𝕄} :
    iprop(RO f ∗ Free c (slotX al n) (semC v n))
      ⊢ iprop((iprop(RO f ∗ InFl c (slotX al n) (semC v n) ((blkX a 0).view.read (Elt F) f)) -∗ wp frame (wpE (defs₀ (F := F)) 𝒱₀ (c : Thread nD τ) none) Set.univ (k' ⟨⟩) Q)
        -∗ wp frame (wpE (defs₀ (F := F)) 𝒱₀ (c : Thread nD τ) none) Set.univ (Prog.lift (.enqueueDma (p := .tc) src (.here dst) (.dma m) hsrc hdst hsem) >>= k') Q) :=
  wp_issue (s := S2x1x1024x1024) (src' := blkX a 0) c hs hd hm (by decide) (f := id f)

/-- A first block fetched. -/
theorem firstS {n : ℕ}  {a : Memref sig .tc .hbm S2x16x1024x128 .f32} {al : Memref sig .tc .vmem S2x2x1x1024x128 .f32} {v : DmaSems sig S2}
    {src : Memref sig .tc .hbm S2x1x1024x128 .f32} {dst : Memref sig .tc .vmem S2x1x1024x128 .f32} {m : DmaSem sig}
    (hs : src = blkS a 0) (hd : dst = slotS al n) (hm : m = semC v n)
    {hsrc : src.view.WordExact} {hdst : dst.view.WordExact} {hsem : DmaTarget.Typed (nD := nD) .hbm (.dma m) (.here (p := .tc) dst)}
    {f : HB (F := F) c a} {k' : PUnit → Prog (TpuEff nD τ sig (Elt F) (Λ₀ F) .tc) α} {Q : α → sProp 𝕄} :
    iprop(RO f ∗ Free c (slotS al n) (semC v n))
      ⊢ iprop((iprop(RO f ∗ InFl c (slotS al n) (semC v n) ((blkS a 0).view.read (Elt F) f)) -∗ wp frame (wpE (defs₀ (F := F)) 𝒱₀ (c : Thread nD τ) none) Set.univ (k' ⟨⟩) Q)
        -∗ wp frame (wpE (defs₀ (F := F)) 𝒱₀ (c : Thread nD τ) none) Set.univ (Prog.lift (.enqueueDma (p := .tc) src (.here dst) (.dma m) hsrc hdst hsem) >>= k') Q) :=
  wp_issue (s := S2x1x1024x128) (src' := blkS a 0) c hs hd hm (by decide) (f := id f)

theorem part27_wp : (emp : sProp 𝕄) ⊢ wp frame (wpE (defs₀ (F := F)) 𝒱₀ (c : Thread nD τ) none) Set.univ (atMems (k0_part27 (F := F))) fun r => iprop(⌜r = 0#32⌝ ∗ emp) := by
  rw [k0_part27_eq_skeleton]
  dsimp only [atMems]
  unfold k0_part27_skel
  dsimp only
  iintro -
  sl_step
  isplitl []
  · ipureintro; rfl
  iempintro

theorem part28_wp :
    iprop(RO fx ∗ RO fs ∗ Free c (slotX (Memref.whole cc0_scoped0) 0) (semC cc0_scoped1 0) ∗ Free c (slotS (Memref.whole cc0_scoped2) 0) (semC cc0_scoped3 0))
      ⊢ (wp frame (wpE (defs₀ (F := F)) 𝒱₀ (c : Thread nD τ) none) Set.univ (atMems (k0_part28 (F := F)) 0#32) fun r => iprop(⌜r = ⟨1#32, 1#32⟩⌝ ∗ RO fx ∗ RO fs ∗ InFl c (slotX (Memref.whole cc0_scoped0) 0) (semC cc0_scoped1 0) ((blkX M5 0 ).view.read (Elt F) fx) ∗ InFl c (slotS (Memref.whole cc0_scoped2) 0) (semC cc0_scoped3 0) ((blkS M4 0 ).view.read (Elt F) fs)) : sProp 𝕄) := by
  rw [k0_part28_eq_skeleton]
  dsimp only [atMems]
  unfold k0_part28_skel
  dsimp only
  iintro ⟨Rx, Rs, Hx, Hs⟩
  iapply (firstX c (n := 0) (blkX_eq (e := 0) (by decide)) (slotX_eq (n := 0) (by decide)) (semC_eq (n := 0) (by decide)) (f := fx)) $$ [Rx Hx]
  · isplitl [Rx] <;> iassumption
  iintro ⟨Rx, Hx⟩
  beta_reduce
  iapply (firstS c (n := 0) (blkS_eq (e := 0) (by decide)) (slotS_eq (n := 0) (by decide)) (semC_eq (n := 0) (by decide)) (f := fs)) $$ [Rs Hs]
  · isplitl [Rs] <;> iassumption
  iintro ⟨Rs, Hs⟩
  beta_reduce
  sl_step
  isplitl []
  · ipureintro; rfl
  isplitl [Rx]; · iexact Rx
  isplitl [Rs]; · iexact Rs
  isplitl [Hx] <;> iassumption

theorem part29_wp :
    iprop(RO f0 ∗ RO f1 ∗ RO f2 ∗ Free c (slotG (Memref.whole cc0_scoped4) 0) (semC cc0_scoped5 0) ∗ Free c (slotG (Memref.whole cc0_scoped6) 0) (semC cc0_scoped7 0) ∗ Free c (slotD (Memref.whole cc0_scoped8) 0) (semC cc0_scoped9 0))
      ⊢ (wp frame (wpE (defs₀ (F := F)) 𝒱₀ (c : Thread nD τ) none) Set.univ (atMems (k0_part29 (F := F)) ) fun r => iprop(⌜r = ⟨1#32, 1#32, 1#32⟩⌝ ∗ RO f0 ∗ RO f1 ∗ RO f2 ∗ InFl c (slotG (Memref.whole cc0_scoped4) 0) (semC cc0_scoped5 0) ((blkG M0 0 0).view.read (Elt F) f0) ∗ InFl c (slotG (Memref.whole cc0_scoped6) 0) (semC cc0_scoped7 0) ((blkG M1 0 0).view.read (Elt F) f1) ∗ InFl c (slotD (Memref.whole cc0_scoped8) 0) (semC cc0_scoped9 0) ((blkD M2 0 0).view.read (Elt F) f2)) : sProp 𝕄) := by
  rw [k0_part29_eq_skeleton]
  dsimp only [atMems]
  unfold k0_part29_skel
  dsimp only
  iintro ⟨R0, R1, R2, H0, H1, H2⟩
  iapply (firstG c (n := 0) (blkG_eq (e := 0) (k := 0) (by decide)) (slotG_eq (n := 0) (by decide)) (semC_eq (n := 0) (by decide)) (f := f0)) $$ [R0 H0]
  · isplitl [R0] <;> iassumption
  iintro ⟨R0, H0⟩
  beta_reduce
  iapply (firstG c (n := 0) (blkG_eq (e := 0) (k := 0) (by decide)) (slotG_eq (n := 0) (by decide)) (semC_eq (n := 0) (by decide)) (f := f1)) $$ [R1 H1]
  · isplitl [R1] <;> iassumption
  iintro ⟨R1, H1⟩
  beta_reduce
  iapply (firstD c (n := 0) (blkD_eq (e := 0) (k := 0) (by decide)) (slotD_eq (n := 0) (by decide)) (semC_eq (n := 0) (by decide)) (f := f2)) $$ [R2 H2]
  · isplitl [R2] <;> iassumption
  iintro ⟨R2, H2⟩
  beta_reduce
  sl_step
  isplitl []
  · ipureintro; rfl
  isplitl [R0]; · iexact R0
  isplitl [R1]; · iexact R1
  isplitl [R2]; · iexact R2
  isplitl [H0]; · iexact H0
  isplitl [H1] <;> iassumption

theorem part30_wp :
    iprop(RO f0 ∗ RO f1 ∗ RO f2 ∗ Free c (slotG (Memref.whole cc0_scoped10) 0) (semC cc0_scoped11 0) ∗ Free c (slotG (Memref.whole cc0_scoped12) 0) (semC cc0_scoped13 0) ∗ Free c (slotD (Memref.whole cc0_scoped14) 0) (semC cc0_scoped15 0))
      ⊢ (wp frame (wpE (defs₀ (F := F)) 𝒱₀ (c : Thread nD τ) none) Set.univ (atMems (k0_part30 (F := F)) ) fun r => iprop(⌜r = ⟨1#32, 1#32⟩⌝ ∗ RO f0 ∗ RO f1 ∗ RO f2 ∗ InFl c (slotG (Memref.whole cc0_scoped10) 0) (semC cc0_scoped11 0) ((blkG M0 0 1).view.read (Elt F) f0) ∗ InFl c (slotG (Memref.whole cc0_scoped12) 0) (semC cc0_scoped13 0) ((blkG M1 0 1).view.read (Elt F) f1) ∗ InFl c (slotD (Memref.whole cc0_scoped14) 0) (semC cc0_scoped15 0) ((blkD M2 0 1).view.read (Elt F) f2)) : sProp 𝕄) := by
  rw [k0_part30_eq_skeleton]
  dsimp only [atMems]
  unfold k0_part30_skel
  dsimp only
  iintro ⟨R0, R1, R2, H3, H4, H5⟩
  iapply (firstG c (n := 0) (blkG_eq (e := 0) (k := 1) (by decide)) (slotG_eq (n := 0) (by decide)) (semC_eq (n := 0) (by decide)) (f := f0)) $$ [R0 H3]
  · isplitl [R0] <;> iassumption
  iintro ⟨R0, H3⟩
  beta_reduce
  iapply (firstG c (n := 0) (blkG_eq (e := 0) (k := 1) (by decide)) (slotG_eq (n := 0) (by decide)) (semC_eq (n := 0) (by decide)) (f := f1)) $$ [R1 H4]
  · isplitl [R1] <;> iassumption
  iintro ⟨R1, H4⟩
  beta_reduce
  iapply (firstD c (n := 0) (blkD_eq (e := 0) (k := 1) (by decide)) (slotD_eq (n := 0) (by decide)) (semC_eq (n := 0) (by decide)) (f := f2)) $$ [R2 H5]
  · isplitl [R2] <;> iassumption
  iintro ⟨R2, H5⟩
  beta_reduce
  sl_step
  isplitl []
  · ipureintro; rfl
  isplitl [R0]; · iexact R0
  isplitl [R1]; · iexact R1
  isplitl [R2]; · iexact R2
  isplitl [H3]; · iexact H3
  isplitl [H4] <;> iassumption

theorem part31_wp :
    iprop(RO f0 ∗ RO f1 ∗ Free c (slotG (Memref.whole cc0_scoped16) 0) (semC cc0_scoped17 0) ∗ Free c (slotG (Memref.whole cc0_scoped18) 0) (semC cc0_scoped19 0))
      ⊢ (wp frame (wpE (defs₀ (F := F)) 𝒱₀ (c : Thread nD τ) none) Set.univ (atMems (k0_part31 (F := F)) ) fun r => iprop(⌜r = ⟨1#32, 1#32, 1#32⟩⌝ ∗ RO f0 ∗ RO f1 ∗ InFl c (slotG (Memref.whole cc0_scoped16) 0) (semC cc0_scoped17 0) ((blkG M0 0 2).view.read (Elt F) f0) ∗ InFl c (slotG (Memref.whole cc0_scoped18) 0) (semC cc0_scoped19 0) ((blkG M1 0 2).view.read (Elt F) f1)) : sProp 𝕄) := by
  rw [k0_part31_eq_skeleton]
  dsimp only [atMems]
  unfold k0_part31_skel
  dsimp only
  iintro ⟨R0, R1, H6, H7⟩
  iapply (firstG c (n := 0) (blkG_eq (e := 0) (k := 2) (by decide)) (slotG_eq (n := 0) (by decide)) (semC_eq (n := 0) (by decide)) (f := f0)) $$ [R0 H6]
  · isplitl [R0] <;> iassumption
  iintro ⟨R0, H6⟩
  beta_reduce
  iapply (firstG c (n := 0) (blkG_eq (e := 0) (k := 2) (by decide)) (slotG_eq (n := 0) (by decide)) (semC_eq (n := 0) (by decide)) (f := f1)) $$ [R1 H7]
  · isplitl [R1] <;> iassumption
  iintro ⟨R1, H7⟩
  beta_reduce
  sl_step
  isplitl []
  · ipureintro; rfl
  isplitl [R0]; · iexact R0
  isplitl [R1]; · iexact R1
  isplitl [H6] <;> iassumption

theorem part32_wp :
    iprop(RO f0 ∗ RO f1 ∗ RO f2 ∗ Free c (slotD (Memref.whole cc0_scoped20) 0) (semC cc0_scoped21 0) ∗ Free c (slotG (Memref.whole cc0_scoped22) 0) (semC cc0_scoped23 0) ∗ Free c (slotG (Memref.whole cc0_scoped24) 0) (semC cc0_scoped25 0))
      ⊢ (wp frame (wpE (defs₀ (F := F)) 𝒱₀ (c : Thread nD τ) none) Set.univ (atMems (k0_part32 (F := F)) ) fun r => iprop(⌜r = ⟨1#32, 1#32, 1#32, 3#32, 256#32⟩⌝ ∗ RO f0 ∗ RO f1 ∗ RO f2 ∗ InFl c (slotD (Memref.whole cc0_scoped20) 0) (semC cc0_scoped21 0) ((blkD M2 0 2).view.read (Elt F) f2) ∗ InFl c (slotG (Memref.whole cc0_scoped22) 0) (semC cc0_scoped23 0) ((blkG M0 0 3).view.read (Elt F) f0) ∗ InFl c (slotG (Memref.whole cc0_scoped24) 0) (semC cc0_scoped25 0) ((blkG M1 0 3).view.read (Elt F) f1)) : sProp 𝕄) := by
  rw [k0_part32_eq_skeleton]
  dsimp only [atMems]
  unfold k0_part32_skel
  dsimp only
  iintro ⟨R0, R1, R2, H8, H9, H10⟩
  iapply (firstD c (n := 0) (blkD_eq (e := 0) (k := 2) (by decide)) (slotD_eq (n := 0) (by decide)) (semC_eq (n := 0) (by decide)) (f := f2)) $$ [R2 H8]
  · isplitl [R2] <;> iassumption
  iintro ⟨R2, H8⟩
  beta_reduce
  iapply (firstG c (n := 0) (blkG_eq (e := 0) (k := 3) (by decide)) (slotG_eq (n := 0) (by decide)) (semC_eq (n := 0) (by decide)) (f := f0)) $$ [R0 H9]
  · isplitl [R0] <;> iassumption
  iintro ⟨R0, H9⟩
  beta_reduce
  iapply (firstG c (n := 0) (blkG_eq (e := 0) (k := 3) (by decide)) (slotG_eq (n := 0) (by decide)) (semC_eq (n := 0) (by decide)) (f := f1)) $$ [R1 H10]
  · isplitl [R1] <;> iassumption
  iintro ⟨R1, H10⟩
  beta_reduce
  sl_step
  isplitl []
  · ipureintro; rfl
  isplitl [R0]; · iexact R0
  isplitl [R1]; · iexact R1
  isplitl [R2]; · iexact R2
  isplitl [H8]; · iexact H8
  isplitl [H9] <;> iassumption

/-- The launch's slices at the end are inside their arrays. -/
theorem chk7_end : k0_chk7 (wF 48) (wI 48) := by decide +kernel
theorem chk6_end : k0_chk6 (wO 48) := by decide +kernel

theorem part33_wp {G : HB (F := F) c M6} (hG : ∀ e, e < 16 → (blkX M6 e).view.read (Elt F) G = resE c f0 f1 f2 fx fs e) :
    iprop((RO f2 ∗ Free c (slotD (Memref.whole cc0_scoped26) 0) (semC cc0_scoped27 0)) ∗ (iprop(RO f2 ∗ InFl c (slotD (Memref.whole cc0_scoped26) 0) (semC cc0_scoped27 0) ((blkD M2 0 3).view.read (Elt F) f2)) -∗ Inv c f0 f1 f2 fx fs G 0))
      ⊢ (wp frame (wpE (defs₀ (F := F)) 𝒱₀ (c : Thread nD τ) none) Set.univ (atMems (k0_part33 (F := F)) 1#32 1#32 1#32 1#32 1#32 1#32 1#32 1#32 1#32 1#32 1#32 1#32 1#32 3#32 256#32) fun r =>
        iprop(⌜r = ⟨wO 48, wI 48, wF 48, chk7_end, chk6_end, 2#32, 15#32⟩⌝ ∗ Inv c f0 f1 f2 fx fs G 48) : sProp 𝕄) := by
  rw [k0_part33_eq_skeleton]
  dsimp only [atMems]
  unfold k0_part33_skel
  dsimp only
  iintro ⟨⟨R2, H11⟩, HI⟩
  iapply (firstD c (n := 0) (blkD_eq (e := 0) (k := 3) (by decide)) (slotD_eq (n := 0) (by decide)) (semC_eq (n := 0) (by decide)) (f := f2)) $$ [R2 H11]
  · isplitl [R2] <;> iassumption
  iintro ⟨R2, H11⟩
  beta_reduce
  ihave HI := HI $$ [R2 H11]
  · isplitl [R2] <;> iassumption
  iapply (Scf.wp_for_bind frame (wpE (defs₀ (F := F)) 𝒱₀ (c : Thread nD τ) none) Set.univ k0_t1_loop.lb k0_t1_loop.ub k0_t1_loop.st k0_t1_ok _ _
    (fun n a => iprop(⌜a = carry n⌝ ∗ Inv c f0 f1 f2 fx fs G n))
    (fun t a => by
      iintro ⟨%h, H⟩
      subst h
      iapply (trip_wp c t f0 f1 f2 fx fs hG) $$ H)) $$ [HI]
  · isplitl []
    · ipureintro; rfl
    iexact HI
  iintro %a ⟨%ha, HI⟩
  subst ha
  dsimp only
  iapply (wp_check c chk7_end)
  beta_reduce
  iapply (wp_check c chk6_end)
  beta_reduce
  sl_step
  isplitl []
  · ipureintro; rfl
  iexact HI

theorem part34_wp : (emp : sProp 𝕄) ⊢ wp frame (wpE (defs₀ (F := F)) 𝒱₀ (c : Thread nD τ) none) Set.univ (atMems (k0_part34 (F := F)) 2#32 15#32) fun r => iprop(⌜r = ⟨15#32, 1#32, 0#32⟩⌝ ∗ emp) := by
  rw [k0_part34_eq_skeleton]
  dsimp only [atMems]
  unfold k0_part34_skel
  dsimp only
  iintro -
  sl_step
  isplitl []
  · ipureintro; rfl
  iempintro

/-- The result's array whole, at `G`, once all sixteen blocks are in. -/
theorem Don_all {G : HB (F := F) c M6} : (Don c G 16 : sProp 𝕄) = iprop(M6.view.loc (c : Thread nD τ) ↦{fullShare} G) := by
  unfold Don donS
  rw [Finset.filter_true_of_mem fun i _ => (i 1).isLt]

/-- Nothing is in, and all is left, at the start. -/
theorem Rst_all {G : HB (F := F) c M6} : Whole c M6 ⊢ (iprop(Don c G 0 ∗ Rst c 0) : sProp 𝕄) := by
  unfold Whole Rst Don donS rstS
  rw [Finset.filter_true_of_mem fun i _ => Nat.zero_le _, Finset.filter_false_of_mem fun i _ => Nat.not_lt_zero _]
  iintro ⟨%f, H⟩
  isplitl []
  · rw [pointsTo_empty]
    iempintro
  iexists f
  iexact H

/-- Everything the kernel stages through, at rest. -/
def Rest : sProp 𝕄 := iprop(Whole c MA ∗ BufX c (Memref.whole cc0_scoped0) cc0_scoped1 ∗ BufS c (Memref.whole cc0_scoped2) cc0_scoped3 ∗ BufG c (Memref.whole cc0_scoped4) cc0_scoped5 ∗ BufG c (Memref.whole cc0_scoped6) cc0_scoped7 ∗ BufD c (Memref.whole cc0_scoped8) cc0_scoped9 ∗ BufG c (Memref.whole cc0_scoped10) cc0_scoped11 ∗ BufG c (Memref.whole cc0_scoped12) cc0_scoped13 ∗ BufD c (Memref.whole cc0_scoped14) cc0_scoped15 ∗ BufG c (Memref.whole cc0_scoped16) cc0_scoped17 ∗ BufG c (Memref.whole cc0_scoped18) cc0_scoped19 ∗ BufD c (Memref.whole cc0_scoped20) cc0_scoped21 ∗ BufG c (Memref.whole cc0_scoped22) cc0_scoped23 ∗ BufG c (Memref.whole cc0_scoped24) cc0_scoped25 ∗ BufD c (Memref.whole cc0_scoped26) cc0_scoped27 ∗ BufX c (Memref.whole cc0_scoped28) cc0_scoped29)

theorem acc_zero : (Whole c MA : sProp 𝕄) ⊢ Acc c f0 f1 f2 fx 0 := by
  unfold Whole Acc
  iintro ⟨%f, H⟩
  iexists (MA.view.read (Elt F) f)
  isplitl []
  · ipureintro; exact fun h => absurd h (by decide)
  have e := pointsTo_rep (Val := Elt F) (Ix := Unit) (Name := ℕ) (U := UU nD τ) (Lvl := ℕ) (c : Thread nD τ) MA f fullShare
  rw [show At c MA (MA.view.read (Elt F) f) = _ from e.symm, show MA.view.set = Finset.univ from View.set_whole _]
  iexact H

theorem acc_end {n : ℕ} : (Acc c f0 f1 f2 fx n : sProp 𝕄) ⊢ Whole c MA := by
  unfold Whole Acc At
  rw [show MA.view.set = Finset.univ from View.set_whole _]
  iintro ⟨%A, -, H⟩
  iexists _
  iexact H

theorem prev_zero {Y : S2x1x1024x1024.Idx → Elt F .bf16} : (Free c (slotX OUT 1) (semC cc0_scoped29 1) : sProp 𝕄) ⊢ Prev c 0 Y := by
  unfold Prev; rw [if_neg (by decide)]

/-- What the last trip leaves: all at rest but the last block's staging slot, which the block's departure gives back. -/
theorem inv_end {G : HB (F := F) c M6} :
    Inv c f0 f1 f2 fx fs G 48 ⊢ (iprop(OW c ∗ (Free c (slotX OUT 15) (semC cc0_scoped29 15) -∗ Rest c) ∗ OutFl c 15 (resE c f0 f1 f2 fx fs 15) ∗ Don c G 15) : sProp 𝕄) := by
  unfold Inv Wts Toks Outs Prev dn Rest
  rw [if_pos (by decide), if_pos (by decide)]
  iintro ⟨HO, -, ⟨⟨H0, F0⟩, ⟨H1, F1⟩, ⟨H2, F2⟩, ⟨H3, F3⟩, ⟨H4, F4⟩, ⟨H5, F5⟩, ⟨H6, F6⟩, ⟨H7, F7⟩, ⟨H8, F8⟩, ⟨H9, F9⟩, ⟨H10, F10⟩, ⟨H11, F11⟩⟩, ⟨⟨Hx, Fx⟩, Hs, Fs⟩, HA, Ho, HE, HD, -⟩
  ihave H0 := (nxt_end c) $$ H0
  ihave H1 := (nxt_end c) $$ H1
  ihave H2 := (nxt_end c) $$ H2
  ihave H3 := (nxt_end c) $$ H3
  ihave H4 := (nxt_end c) $$ H4
  ihave H5 := (nxt_end c) $$ H5
  ihave H6 := (nxt_end c) $$ H6
  ihave H7 := (nxt_end c) $$ H7
  ihave H8 := (nxt_end c) $$ H8
  ihave H9 := (nxt_end c) $$ H9
  ihave H10 := (nxt_end c) $$ H10
  ihave H11 := (nxt_end c) $$ H11
  ihave Hx := (held_end c) $$ Hx
  ihave Fx := (look_end c) $$ Fx
  ihave Hs := (held_end c) $$ Hs
  ihave Fs := (look_end c) $$ Fs
  isplitl [HO]; · iexact HO
  isplitr [HE HD]
  · iintro HF
    isplitl [HA]; · iapply (acc_end c); iexact HA
    isplitl [Hx Fx]
    · iapply (closeX c (Memref.isWhole_whole _) (m := 16) (n := 17) (by decide) (by decide))
      isplitl [Hx]; · iexact Hx
      iexact Fx
    isplitl [Hs Fs]
    · iapply (closeS c (Memref.isWhole_whole _) (m := 16) (n := 17) (by decide) (by decide))
      isplitl [Hs]; · iexact Hs
      iexact Fs
    isplitl [H0 F0]
    · iapply (closeG c (Memref.isWhole_whole _) (m := 48) (n := 49) (by decide) (by decide))
      isplitl [H0]; · iexact H0
      iexact F0
    isplitl [H1 F1]
    · iapply (closeG c (Memref.isWhole_whole _) (m := 48) (n := 49) (by decide) (by decide))
      isplitl [H1]; · iexact H1
      iexact F1
    isplitl [H2 F2]
    · iapply (closeD c (Memref.isWhole_whole _) (m := 48) (n := 49) (by decide) (by decide))
      isplitl [H2]; · iexact H2
      iexact F2
    isplitl [H3 F3]
    · iapply (closeG c (Memref.isWhole_whole _) (m := 48) (n := 49) (by decide) (by decide))
      isplitl [H3]; · iexact H3
      iexact F3
    isplitl [H4 F4]
    · iapply (closeG c (Memref.isWhole_whole _) (m := 48) (n := 49) (by decide) (by decide))
      isplitl [H4]; · iexact H4
      iexact F4
    isplitl [H5 F5]
    · iapply (closeD c (Memref.isWhole_whole _) (m := 48) (n := 49) (by decide) (by decide))
      isplitl [H5]; · iexact H5
      iexact F5
    isplitl [H6 F6]
    · iapply (closeG c (Memref.isWhole_whole _) (m := 48) (n := 49) (by decide) (by decide))
      isplitl [H6]; · iexact H6
      iexact F6
    isplitl [H7 F7]
    · iapply (closeG c (Memref.isWhole_whole _) (m := 48) (n := 49) (by decide) (by decide))
      isplitl [H7]; · iexact H7
      iexact F7
    isplitl [H8 F8]
    · iapply (closeD c (Memref.isWhole_whole _) (m := 48) (n := 49) (by decide) (by decide))
      isplitl [H8]; · iexact H8
      iexact F8
    isplitl [H9 F9]
    · iapply (closeG c (Memref.isWhole_whole _) (m := 48) (n := 49) (by decide) (by decide))
      isplitl [H9]; · iexact H9
      iexact F9
    isplitl [H10 F10]
    · iapply (closeG c (Memref.isWhole_whole _) (m := 48) (n := 49) (by decide) (by decide))
      isplitl [H10]; · iexact H10
      iexact F10
    isplitl [H11 F11]
    · iapply (closeD c (Memref.isWhole_whole _) (m := 48) (n := 49) (by decide) (by decide))
      isplitl [H11]; · iexact H11
      iexact F11
    iapply (closeX c (Memref.isWhole_whole _) (m := 16) (n := 15) (by decide) (by decide))
    isplitl [Ho]; · iexact Ho
    iexact HF
  isplitl [HE]; · iexact HE
  iexact HD

theorem kernel_wp {G : HB (F := F) c M6} (hG : ∀ e, e < 16 → (blkX M6 e).view.read (Elt F) G = resE c f0 f1 f2 fx fs e) :
    iprop(OW c ∗ Ops c f0 f1 f2 fx fs ∗ Rest c ∗ Whole c M6)
      ⊢ (wp frame (wpE (defs₀ (F := F)) 𝒱₀ (c : Thread nD τ) none) Set.univ (atMems (cc0_ffn (F := F))) fun _ => iprop(OW c ∗ Rest c ∗ (M6.view.loc (c : Thread nD τ) ↦{fullShare} G)) : sProp 𝕄) := by
  rw [cc0_ffn_eq_skeleton]
  dsimp only [atMems]
  unfold cc0_ffn_skel Rest Ops
  iintro ⟨HO, ⟨R0, R1, R2, Rx, Rs⟩, ⟨HA, Bx, Bs, B0, B1, B2, B3, B4, B5, B6, B7, B8, B9, B10, B11, Bo⟩, HW⟩
  ihave Bx := (openX c (Memref.isWhole_whole _)) $$ Bx
  icases Bx with ⟨Hx, Fx⟩
  ihave Bs := (openS c (Memref.isWhole_whole _)) $$ Bs
  icases Bs with ⟨Hs, Fs⟩
  ihave B0 := (openG c (Memref.isWhole_whole _)) $$ B0
  icases B0 with ⟨H0, F0⟩
  ihave B1 := (openG c (Memref.isWhole_whole _)) $$ B1
  icases B1 with ⟨H1, F1⟩
  ihave B2 := (openD c (Memref.isWhole_whole _)) $$ B2
  icases B2 with ⟨H2, F2⟩
  ihave B3 := (openG c (Memref.isWhole_whole _)) $$ B3
  icases B3 with ⟨H3, F3⟩
  ihave B4 := (openG c (Memref.isWhole_whole _)) $$ B4
  icases B4 with ⟨H4, F4⟩
  ihave B5 := (openD c (Memref.isWhole_whole _)) $$ B5
  icases B5 with ⟨H5, F5⟩
  ihave B6 := (openG c (Memref.isWhole_whole _)) $$ B6
  icases B6 with ⟨H6, F6⟩
  ihave B7 := (openG c (Memref.isWhole_whole _)) $$ B7
  icases B7 with ⟨H7, F7⟩
  ihave B8 := (openD c (Memref.isWhole_whole _)) $$ B8
  icases B8 with ⟨H8, F8⟩
  ihave B9 := (openG c (Memref.isWhole_whole _)) $$ B9
  icases B9 with ⟨H9, F9⟩
  ihave B10 := (openG c (Memref.isWhole_whole _)) $$ B10
  icases B10 with ⟨H10, F10⟩
  ihave B11 := (openD c (Memref.isWhole_whole _)) $$ B11
  icases B11 with ⟨H11, F11⟩
  ihave Bo := (openX c (Memref.isWhole_whole _)) $$ Bo
  icases Bo with ⟨Ho, Fo⟩
  ihave HW := (Rst_all c (G := G)) $$ HW
  icases HW with ⟨HD, HR⟩
  iapply (wp_pure c (part27_wp c))
  dsimp only
  iapply (wp_seq c (part28_wp c)) $$ [Rx Rs Hx Hs]
  · isplitl [Rx]; · iexact Rx
    isplitl [Rs]; · iexact Rs
    isplitl [Hx]; · iexact Hx
    iexact Hs
  iintro ⟨Rx, Rs, Hx, Hs⟩
  dsimp only
  iapply (wp_seq c (part29_wp c)) $$ [R0 R1 R2 H0 H1 H2]
  · isplitl [R0]; · iexact R0
    isplitl [R1]; · iexact R1
    isplitl [R2]; · iexact R2
    isplitl [H0]; · iexact H0
    isplitl [H1]; · iexact H1
    iexact H2
  iintro ⟨R0, R1, R2, H0, H1, H2⟩
  dsimp only
  iapply (wp_seq c (part30_wp c)) $$ [R0 R1 R2 H3 H4 H5]
  · isplitl [R0]; · iexact R0
    isplitl [R1]; · iexact R1
    isplitl [R2]; · iexact R2
    isplitl [H3]; · iexact H3
    isplitl [H4]; · iexact H4
    iexact H5
  iintro ⟨R0, R1, R2, H3, H4, H5⟩
  dsimp only
  iapply (wp_seq c (part31_wp c)) $$ [R0 R1 H6 H7]
  · isplitl [R0]; · iexact R0
    isplitl [R1]; · iexact R1
    isplitl [H6]; · iexact H6
    iexact H7
  iintro ⟨R0, R1, H6, H7⟩
  dsimp only
  iapply (wp_seq c (part32_wp c)) $$ [R0 R1 R2 H8 H9 H10]
  · isplitl [R0]; · iexact R0
    isplitl [R1]; · iexact R1
    isplitl [R2]; · iexact R2
    isplitl [H8]; · iexact H8
    isplitl [H9]; · iexact H9
    iexact H10
  iintro ⟨R0, R1, R2, H8, H9, H10⟩
  dsimp only
  iapply (wp_seq c (part33_wp c hG)) $$ [R2 H11 HO R0 R1 Rx Rs HA HD HR Hx Fx Hs Fs H0 F0 H1 F1 H2 F2 H3 F3 H4 F4 H5 F5 H6 F6 H7 F7 H8 F8 H9 F9 H10 F10 F11 Ho Fo]
  · isplitl [R2 H11]
    · isplitl [R2] <;> iassumption
    iintro ⟨R2, H11⟩
    ihave H0 := (nxt_zero c) $$ H0
    ihave H1 := (nxt_zero c) $$ H1
    ihave H2 := (nxt_zero c) $$ H2
    ihave H3 := (nxt_zero c) $$ H3
    ihave H4 := (nxt_zero c) $$ H4
    ihave H5 := (nxt_zero c) $$ H5
    ihave H6 := (nxt_zero c) $$ H6
    ihave H7 := (nxt_zero c) $$ H7
    ihave H8 := (nxt_zero c) $$ H8
    ihave H9 := (nxt_zero c) $$ H9
    ihave H10 := (nxt_zero c) $$ H10
    ihave H11 := (nxt_zero c) $$ H11
    ihave Hx := (held_zero c) $$ Hx
    ihave Fx := (look_zero c (X := (blkX M5 1).view.read (Elt F) fx)) $$ Fx
    ihave Hs := (held_zero c) $$ Hs
    ihave Fs := (look_zero c (X := (blkS M4 1).view.read (Elt F) fs)) $$ Fs
    unfold Inv
    isplitl [HO]; · iexact HO
    isplitl [R0 R1 R2 Rx Rs]; · unfold Ops; iframe
    isplitl [H0 F0 H1 F1 H2 F2 H3 F3 H4 F4 H5 F5 H6 F6 H7 F7 H8 F8 H9 F9 H10 F10 H11 F11]
    · unfold Wts
      isplitl [H0 F0]
      · isplitl [H0]; · iexact H0
        iexact F0
      isplitl [H1 F1]
      · isplitl [H1]; · iexact H1
        iexact F1
      isplitl [H2 F2]
      · isplitl [H2]; · iexact H2
        iexact F2
      isplitl [H3 F3]
      · isplitl [H3]; · iexact H3
        iexact F3
      isplitl [H4 F4]
      · isplitl [H4]; · iexact H4
        iexact F4
      isplitl [H5 F5]
      · isplitl [H5]; · iexact H5
        iexact F5
      isplitl [H6 F6]
      · isplitl [H6]; · iexact H6
        iexact F6
      isplitl [H7 F7]
      · isplitl [H7]; · iexact H7
        iexact F7
      isplitl [H8 F8]
      · isplitl [H8]; · iexact H8
        iexact F8
      isplitl [H9 F9]
      · isplitl [H9]; · iexact H9
        iexact F9
      isplitl [H10 F10]
      · isplitl [H10]; · iexact H10
        iexact F10
      isplitl [H11]; · iexact H11
      iexact F11
    isplitl [Hx Fx Hs Fs]
    · unfold Toks
      isplitl [Hx Fx]
      · isplitl [Hx]; · iexact Hx
        iexact Fx
      isplitl [Hs]; · iexact Hs
      iexact Fs
    isplitl [HA]
    · iapply (acc_zero c)
      iexact HA
    unfold Outs
    isplitl [Ho]; · iexact Ho
    isplitl [Fo]; · iapply (prev_zero c); iexact Fo
    isplitl [HD]; · iexact HD
    iexact HR
  iintro HI
  dsimp only
  iapply (wp_pure c (part34_wp c))
  dsimp only
  ihave HI := (inv_end c) $$ HI
  icases HI with ⟨HO, HB, HE, HD⟩
  unfold OutFl OW
  icases HO with ⟨%W, HO⟩
  rw [semC_eq (n := 15) (by decide)]
  iapply (Transfers.wp_waitLocal EC 𝒱₀ (c : Thread nD τ) none () rfl) $$ [HE HO]
  · isplitl [HE] <;> iassumption
  iintro ⟨⟨HY, HS⟩, Hz, HO⟩
  ihave HD := (Don_put c (n := 15) (by decide) (hG 15 (by decide))) $$ [HD HY]
  · isplitl [HD] <;> iassumption
  iapply (wp_skip c)
  sl_step
  isplitl [HO]
  · iexists _; iexact HO
  ihave HD := (show (Don c G 16 : sProp 𝕄) ⊢ iprop(M6.view.loc (c : Thread nD τ) ↦{fullShare} G) from by rw [Don_all]) $$ HD
  isplitr [HD]
  · ihave HB := HB $$ [HS Hz]
    · unfold Free
      isplitl [HS] <;> iassumption
    unfold Rest
    iexact HB
  iexact HD

end Cert.Proof.Ffn

end
-- ==== Proof.Frame.lean ====
/-
  The launch: the host operations, the one region with no window, and what every final state holds.
-/
module

public import proofs.«01_k».proof.Proof.Run
public import proofs.«01_k».proof.Proof.Gen.KernelIdeal.Launch
public import Idealize.ShloMosaic.Lib.Pipeline.Regions

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation cellOf)

/-- The pipeline library's part of the resource algebra. -/
abbrev EP : Emb (UR sig nD τ) 𝕄 := embL

/-! ## The result's contents -/

/-- The place of an index of the result within its expert's block. -/
def inBlk (i : S2x16x1024x1024.Idx) : S2x1x1024x1024.Idx := fun a =>
  ⟨if a = 1 then 0 else (i a).val, by
    revert a; intro a
    match a with
    | 0 => exact (i 0).isLt
    | 1 => exact Nat.zero_lt_one
    | 2 => exact (i 2).isLt
    | 3 => exact (i 3).isLt⟩

section Result
variable (c : Dev nD) (f0 : HB (F := F) c M0) (f1 : HB (F := F) c M1) (f2 : HB (F := F) c M2)
  (fx : HB (F := F) c M5) (fs : HB (F := F) c M4)

/-- The result: expert by expert, the block the kernel computes. -/
def outG : HB (F := F) c M6 := fun i : S2x16x1024x1024.Idx => resE c f0 f1 f2 fx fs (i 1).val (inBlk i)

theorem outG_block (e : ℕ) (he : e < 16) :
    (blkX M6 e).view.read (Elt F) (outG c f0 f1 f2 fx fs) = resE c f0 f1 f2 fx fs e := by
  funext j
  have h1 : ((j 1).val : ℕ) = 0 := Nat.lt_one_iff.mp (j 1).isLt
  have key : ∀ i : S2x16x1024x1024.Idx, (i 0).val = (j 0).val → (i 1).val = e → (i 2).val = (j 2).val →
      (i 3).val = (j 3).val → outG c f0 f1 f2 fx fs i = resE c f0 f1 f2 fx fs e j := by
    intro i k0 k1 k2 k3
    unfold outG
    rw [show (i 1).val = e from k1]
    congr 1
    funext a
    apply Fin.ext
    match a with
    | 0 => exact k0
    | 1 => exact h1.symm
    | 2 => exact k2
    | 3 => exact k3
  refine key (fun a => ⟨![0, e % 16, 0, 0] a + 1 * (j a).val, _⟩) ?_ ?_ ?_ ?_
  · show 0 + 1 * (j 0).val = _; omega
  · show e % 16 + 1 * (j 1).val = _; omega
  · show 0 + 1 * (j 2).val = _; omega
  · show 0 + 1 * (j 3).val = _; omega
end Result

/-! ## The scratch buffers and their semaphores -/

section Scratch
variable (c : Dev nD)

theorem weave {A Z Z' B C : sProp 𝕄} : iprop((A ∗ B) ∗ (Z ∗ Z' ∗ C)) ⊢ iprop((A ∗ Z ∗ Z') ∗ (B ∗ C)) := by
  iintro ⟨⟨HA, HB⟩, HZ, HZ', HC⟩
  isplitl [HA HZ HZ']
  · isplitl [HA]; · iexact HA
    isplitl [HZ] <;> iassumption
  · isplitl [HB] <;> iassumption

theorem unweave {A Z Z' B C : sProp 𝕄} : iprop((A ∗ Z ∗ Z') ∗ (B ∗ C)) ⊢ iprop((A ∗ B) ∗ (Z ∗ Z' ∗ C)) := by
  iintro ⟨⟨HA, HZ, HZ'⟩, HB, HC⟩
  isplitl [HA HB]
  · isplitl [HA] <;> iassumption
  · isplitl [HZ]; · iexact HZ
    isplitl [HZ'] <;> iassumption

/-- The semaphores, two an array. -/
abbrev osem : Fin 30 → SemLoc sig := fun i => .dma i

/-- All of them at zero. -/
abbrev sems0 : sProp 𝕄 := iprop(Zero c (semC cc0_scoped1 0) ∗ Zero c (semC cc0_scoped1 1) ∗ Zero c (semC cc0_scoped3 0) ∗ Zero c (semC cc0_scoped3 1) ∗ Zero c (semC cc0_scoped5 0) ∗ Zero c (semC cc0_scoped5 1) ∗ Zero c (semC cc0_scoped7 0) ∗ Zero c (semC cc0_scoped7 1) ∗ Zero c (semC cc0_scoped9 0) ∗ Zero c (semC cc0_scoped9 1) ∗ Zero c (semC cc0_scoped11 0) ∗ Zero c (semC cc0_scoped11 1) ∗ Zero c (semC cc0_scoped13 0) ∗ Zero c (semC cc0_scoped13 1) ∗ Zero c (semC cc0_scoped15 0) ∗ Zero c (semC cc0_scoped15 1) ∗ Zero c (semC cc0_scoped17 0) ∗ Zero c (semC cc0_scoped17 1) ∗ Zero c (semC cc0_scoped19 0) ∗ Zero c (semC cc0_scoped19 1) ∗ Zero c (semC cc0_scoped21 0) ∗ Zero c (semC cc0_scoped21 1) ∗ Zero c (semC cc0_scoped23 0) ∗ Zero c (semC cc0_scoped23 1) ∗ Zero c (semC cc0_scoped25 0) ∗ Zero c (semC cc0_scoped25 1) ∗ Zero c (semC cc0_scoped27 0) ∗ Zero c (semC cc0_scoped27 1) ∗ Zero c (semC cc0_scoped29 0) ∗ Zero c (semC cc0_scoped29 1))

theorem ownSems0_eq :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26, 27, 28, 29] (by decide +kernel) (by decide +kernel)

/-- The scoped buffers. -/
abbrev scr0 : sProp 𝕄 := Pipeline.scopedRest (Ix := Unit) (Name := ℕ) (U := UU nD τ) (Lvl := ℕ) (Val := Elt F) ((cfg0 (F := F)).spec) c

theorem rest_of : iprop(scr0 c ∗ sems0 c : sProp 𝕄) ⊢ Rest c := by
  rw [show (scr0 c : sProp 𝕄) = _ from scopedRest0_eq (F := F) c]
  unfold Rest BufX BufS BufG BufD Whole
  refine BI.sep_assoc.trans (BI.sep_mono (fun _ h => h) ?_)
  iterate 14 refine weave.trans (BI.sep_mono (fun _ h => h) ?_)
  exact fun _ h => h

theorem of_rest : (Rest c : sProp 𝕄) ⊢ iprop(scr0 c ∗ sems0 c) := by
  rw [show (scr0 c : sProp 𝕄) = _ from scopedRest0_eq (F := F) c]
  unfold Rest BufX BufS BufG BufD Whole
  refine BI.Entails.trans ?_ BI.sep_assoc'
  refine BI.sep_mono (fun _ h => h) ?_
  iterate 14
    refine BI.Entails.trans ?_ unweave
    refine BI.sep_mono (fun _ h => h) ?_
  exact fun _ h => h
end Scratch

variable (m : (ℓ : Loc nD τ sig) → Buf (Elt F) ℓ) (ρ : Dev nD → PrngReg)

/-! ## The host operations before the region -/

/-- A core's buffers at launch, -/
abbrev V₀ (c : Dev nD) : Valuation τ sig (Elt F) := fun b => (s₀ m ρ).mem ((c : Dev nD), b)
/-- and when the region is entered. -/
abbrev V (c : Dev nD) (b : Ref sig .tc) : Buf (Elt F) ((c : Thread nD τ).loc b) := StableHlo.after hostOps0 (V₀ m ρ c) b

/-- What no host operation writes the region finds as launched. -/
theorem V_unwritten (c : Dev nD) (b : Ref sig .tc)
    (hb : b ≠ main_v0 ∧ b ≠ main_v1 ∧ b ≠ main_v2 ∧ b ≠ main_v3 ∧ b ≠ main_v4 ∧ b ≠ main_v5) :
    V m ρ c b = m ((c : Thread nD τ).loc b) := by
  refine StableHlo.after_of_forall_not_mem (b := Proc.devRef .tc b) hostOps0 (V₀ m ρ c) ?_
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

/-- The buffers the host operations run within. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The result from the launch memory. -/
def resV (c : Dev nD) : HB (F := F) c M6 :=
  outG c (V m ρ c main_v0) (V m ρ c main_v1) (V m ρ c main_v2) (V m ρ c main_v5) (V m ρ c main_v4)

/-! ## The region -/

/-- What the body is given: the operands, the scratch, the result's buffer at anything; -/
def Before (c : Dev nD) : sProp 𝕄 :=
  iprop(Ops c (V m ρ c main_v0) (V m ρ c main_v1) (V m ρ c main_v2) (V m ρ c main_v5) (V m ρ c main_v4) ∗ Rest c ∗ Whole c M6)
/-- and what it leaves. -/
def After (c : Dev nD) : sProp 𝕄 :=
  iprop(Rest c ∗ (((c : Thread nD τ).loc main_v6) ↦{fullShare} (resV m ρ c : Buf (Elt F) ((c : Thread nD τ).loc main_v6))))

/-- The proof data: no window; the invariant what is held before and after the one point. -/
def dats (_ : Fin 1) (c : Dev nD) : Dat τ (Elt F) Unit ℕ (UU nD τ) ℕ (cfg0 (F := F)) c where
  A w := Fin.elim0 w
  after w _ := Fin.elim0 w
  Φ t := if t.val = 0 then Before m ρ c else After m ρ c
  q _ := fullShare
  owed _ := 0

theorem before_in (c : Dev nD) (P : Waits sig Unit → Prop) :
    iprop(Before m ρ c ∗ (∃ W : Waits sig Unit, ⌜P W⌝ ∗ owes (c : Thread nD τ) (0 : CellTallies nD τ sig Unit) W) ∗ emp : sProp 𝕄)
      ⊢ iprop(OW c ∗ Ops c (V m ρ c main_v0) (V m ρ c main_v1) (V m ρ c main_v2) (V m ρ c main_v5) (V m ρ c main_v4) ∗ Rest c ∗ Whole c M6) := by
  unfold Before OW
  iintro ⟨⟨HA, HR, H6⟩, ⟨%W, %hW, HO⟩, -⟩
  isplitl [HO]
  · iexists W; iexact HO
  isplitl [HA]; · iexact HA
  isplitl [HR] <;> iassumption

theorem after_out (c : Dev nD) (P : Waits sig Unit → Prop) (hP : ∀ W, P W) :
    iprop(OW c ∗ Rest c ∗ (M6.view.loc (c : Thread nD τ) ↦{fullShare} resV m ρ c) : sProp 𝕄)
      ⊢ iprop(After m ρ c ∗ (∃ W : Waits sig Unit, ⌜P W⌝ ∗ owes (c : Thread nD τ) (0 : CellTallies nD τ sig Unit) W) ∗ emp) := by
  unfold After OW
  iintro ⟨⟨%W', HO⟩, HR, H6⟩
  isplitl [HR H6]
  · isplitl [HR] <;> iassumption
  isplitl [HO]
  · iexists W'; isplitr; · ipureintro; exact hP W'
    iexact HO
  iempintro

theorem body_obligation (c : Dev nD) : BodyObligation (dats m ρ 0 c) (defs₀ (F := F)) 𝒱₀ () Set.univ := fun t => by
  obtain rfl := fin_N0 t
  have hk := kernel_wp c (f0 := V m ρ c main_v0) (f1 := V m ρ c main_v1) (f2 := V m ρ c main_v2) (fx := V m ρ c main_v5)
    (fs := V m ρ c main_v4) (G := resV m ρ c) (fun e he => outG_block c _ _ _ _ _ e he)
  rw [show (Finset.univ : Finset (Fin (cfg0 (F := F)).W)) = ∅ from rfl, BI.bigSep_empty, BI.bigSep_empty]
  rw [show (dats m ρ 0 c).Φ t0_0.castSucc = Before m ρ c from rfl, show (dats m ρ 0 c).Φ t0_0.succ = After m ρ c from rfl]
  unfold Dat.owesAt Pipeline.owesWithin
  rw [show (dats m ρ 0 c).owed t0_0.castSucc = 0 from rfl, show (dats m ρ 0 c).owed t0_0.succ = 0 from rfl]
  exact (before_in m ρ c _).trans (hk.trans (wp_mono _ _ _ fun _ => after_out m ρ c _ fun W a _ => Or.inl trivial))
/-! ## The launch -/

theorem ownSemFacts : Pipeline.OwnSemFacts ((cfg0 (F := F)).spec) osem := of_decide_eq_true (by rfl)

def u₀ : UU nD τ := (initOf (Pipeline.cells (cfgs (F := F)) cellOf_inj) (Pipeline.launchToks (cfgs (F := F)) cellOf_inj), 1)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The host operations, over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) (fun c => OW c)

/-- The arguments, as the host operations left them. -/
def Args (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2) ∗ (((c : Thread nD τ).loc main_arg3) ↦{fullShare} V m ρ c main_arg3)
    ∗ (((c : Thread nD τ).loc main_arg4) ↦{fullShare} V m ρ c main_arg4))

/-- The result, as the region leaves it. -/
def Res (c : Dev nD) : sProp 𝕄 :=
  ((c : Thread nD τ).loc main_v6) ↦{fullShare} (resV m ρ c : Buf (Elt F) ((c : Thread nD τ).loc main_v6))

/-- What the region takes of the unscoped buffers beside the arguments. -/
def Took (c : Dev nD) : sProp 𝕄 :=
  iprop(Ops c (V m ρ c main_v0) (V m ρ c main_v1) (V m ρ c main_v2) (V m ρ c main_v5) (V m ρ c main_v4) ∗ Whole c M6)

theorem split_unscoped (c : Dev nD) :
    (Pipeline.unscopedRest (Ix := Unit) (Name := ℕ) (U := UU nD τ) (Lvl := ℕ) ((cfg0 (F := F)).spec) c (V m ρ c) : sProp 𝕄)
      ⊢ iprop(Args m ρ c ∗ Took m ρ c) := by
  rw [unscopedRest0_eq (F := F) c (V m ρ c)]
  unfold Args Took Ops RO Whole
  iintro ⟨H0, H1, H2, H3, H4, W0, W1, W2, -, W4, W5, W6⟩
  isplitl [H0 H1 H2 H3 H4]
  · isplitl [H0]; · iexact H0
    isplitl [H1]; · iexact H1
    isplitl [H2]; · iexact H2
    isplitl [H3] <;> iassumption
  isplitr [W6]
  · isplitl [W0]; · iexists _; iexact W0
    isplitl [W1]; · iexists _; iexact W1
    isplitl [W2]; · iexists _; iexact W2
    isplitl [W5]; · iexists _; iexact W5
    iexists _; iexact W4
  · iexists _; iexact W6

abbrev Tₙ (c : Dev nD) : sProp 𝕄 := iprop(Args m ρ c ∗ Res m ρ c)

set_option backward.isDefEq.respectTransparency.types false in
/-- The region. -/
def reg0 : Pipeline.RegionSeg (pcfgs (F := F)) adm (dats m ρ) () defs₀ 𝒱₀ L lv 0 where
  win := launch0.win.to₀
  block_pos := launch0.block_pos
  stage_whole := launch0.stage_whole
  K := Fin 30
  osem := osem
  ho := ownSemFacts
  hbody c := (body_obligation m ρ c).loose
  hwaits := Pipeline.hwaits_of_owed_zero _ _ _ _ L lv 0 fun _ _ => rfl
  pre c := iprop(StableHlo.held (c : Thread nD τ) ucRefs (StableHlo.after hostOps0 (V₀ m ρ c)) ∗ OW c)
  post c := iprop(Tₙ m ρ c ∗ OW c)
  X c := iprop(Took m ρ c ∗ sems0 c)
  Y c := Res m ρ c
  Z c := Args m ρ c
  hentry c := by
    rw [show StableHlo.held (c : Thread nD τ) ucRefs (StableHlo.after hostOps0 (V₀ m ρ c)) = unscopedBufs c (V m ρ c) from (unscopedBufs_held c _).symm,
      ownSems0_eq]
    have hsplit : (unscopedBufs c (V m ρ c) : sProp 𝕄) ⊢ iprop((dats m ρ 0 c).arrays (fun w => (dats m ρ 0 c).arrAt w 0) ∗ Args m ρ c ∗ Took m ρ c) := (Pipeline.arrays_of_unscopedBufs (pcfgs (F := F)) adm (dats m ρ) launch0.win launch0.arr_whole c
      ((dats m ρ 0 c).share_full fun _ => rfl) (V m ρ c) (fun w => Fin.elim0 w)).trans (BI.sep_mono (fun _ h => h) (split_unscoped m ρ c))
    unfold OW
    iintro ⟨⟨Hub, HO⟩, Hos, -⟩
    ihave H := hsplit $$ Hub
    icases H with ⟨Ha, H1, H7⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H7 Hos]
    · isplitl [H7]; · iexact H7
      iexact Hos
    iexact H1
  hin c := by
    rw [show (dats m ρ 0 c).Φ 0 = Before m ρ c from rfl]; unfold Before Took
    iintro ⟨⟨⟨HA, H6⟩, Hos⟩, -, Hr⟩
    ihave HR := (rest_of c) $$ [Hr Hos]
    · isplitl [Hr] <;> iassumption
    isplitl [HA]; · iexact HA
    isplitl [HR] <;> iassumption
  hout c := by
    rw [ownSems0_eq, show (dats m ρ 0 c).Φ (Fin.last (cfg0 (F := F)).N) = After m ρ c from rfl]; unfold After Res
    iintro ⟨HR, H6⟩
    ihave H := (of_rest c) $$ HR
    icases H with ⟨Hr, Hos⟩
    isplitl [H6]; · iexact H6
    isplitl [Hos] <;> iassumption
  hexit c := by
    iintro ⟨-, HO, HY, HZ⟩
    imodintro
    isplitr [HO]
    · isplitl [HZ] <;> iassumption
    · unfold Pipeline.Dat.owesAt Pipeline.owesWithin OW
      icases HO with ⟨%W, -, HO⟩; iexists W; iexact HO

/-- The body of the program: the two segments. -/
abbrev segs : List (Pipeline.Seg (pcfgs (F := F)) adm (dats m ρ) () defs₀ 𝒱₀ L lv) := [.host (seg0 m ρ), .region (reg0 m ρ)]

/-- What a core's memory holds at the end. -/
def QC (c : Dev nD) (s : MemSt nD τ sig (Elt F)) : Prop :=
  (s.mem ((c : Thread nD τ).loc main_v6) = (resV m ρ c : Buf (Elt F) ((c : Thread nD τ).loc main_v6)))
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option backward.isDefEq.respectTransparency.types false in
/-- The run: at the compiled mesh, from any memory and counters at zero, every weakly fair execution ends, the result at
    the experts' blocks, the arguments as launched, every counter at zero. -/
theorem run_main : θ_run defs (onTc (τ := τ) (main (F := F))) (s₀ m ρ) (fun r => (∀ c, QC m ρ c r.2) ∧ r.2.sem = fun _ => 0) :=
  Pipeline.θ_run_regions_kit_sems (pcfgs (F := F)) adm (dats m ρ) () cellOf_inj EP defs₀ 𝒱₀ L lv m ρ main (segs m ρ)
    (fun c Q => by rw [main_segs adm (dats m ρ) () 𝒱₀ L lv (seg0 m ρ) (reg0 m ρ) rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ OW c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      unfold OW
      iintro ⟨⟨Hh, -, HO, -, -, -⟩, -⟩
      imodintro
      isplitl [Hh]; · iexact Hh
      iexists ∅; iexact HO)
    (QY := QC m ρ)
    (hfin := fun c s' => by
      dsimp only [Tₙ]
      unfold Args Res
      rw [V_unwritten m ρ c main_arg0 (by decide), V_unwritten m ρ c main_arg1 (by decide), V_unwritten m ρ c main_arg2 (by decide),
        V_unwritten m ρ c main_arg3 (by decide), V_unwritten m ρ c main_arg4 (by decide)]
      iintro ⟨⟨⟨H0, H1, H2, H3, H4⟩, H6⟩, HSI⟩
      icombine HSI H0 gives %h0
      icombine HSI H1 gives %h1
      icombine HSI H2 gives %h2
      icombine HSI H3 gives %h3
      icombine HSI H4 gives %h4
      icombine HSI H6 gives %h6
      imodintro
      isplitr
      · ipureintro
        exact ⟨Buf.eq_of_forall_mem_univ h6, Buf.eq_of_forall_mem_univ h0, Buf.eq_of_forall_mem_univ h1,
          Buf.eq_of_forall_mem_univ h2, Buf.eq_of_forall_mem_univ h3, Buf.eq_of_forall_mem_univ h4⟩
      iexact HSI)
    (hQ := fun _ h hz => ⟨h, funext fun g => hz g (.inr (by revert g; decide +kernel))⟩)

end Cert.Proof.Ffn

end
-- ==== Proof.Pay.lean ====
/-
  The stored values of one trip at an index, over extended reals.
-/
module

public import proofs.«01_k».proof.Proof.Mem
public import Idealize.ShloMosaic.Lib.Pointwise
public import Idealize.ShloMosaic.Lib.Pointwise.Select

@[expose] public section

noncomputable section

namespace Cert.Proof.Ffn

open Cert.KernelIdeal Cert.KernelIdeal.Gen
open Idealize.ShloMosaic
open Idealize.SL Idealize.SL.Sem

/-- The hidden activation of a token from its products with the gate and the up column. -/
def act (g u : EReal) : EReal := g * Ideal.logistic g * u

/-- What is stored of a block: it replaces the old value on an expert's first trip and is added to it later. -/
def upd (w : BitVec 32) (y a : EReal) : EReal := if w = 0#32 then y else a + y

theorem select_upd (w : BitVec 32) (y a : EReal) :
    Scalar.select (Scalar.cmpi .eq w 0#32) y (a + y) = upd w y a := by
  by_cases h : w = 0#32
  · subst h; rfl
  · have hb : (w == 0#32) = false := beq_eq_false_iff_ne.mpr h
    have : Scalar.cmpi .eq w 0#32 = 0#1 := by simp only [Scalar.cmpi, IntOp.cmpi, hb]; rfl
    rw [this, upd, if_neg h]; rfl

section Chunks
variable (Y0 Y1 Y2 Y3 : S1x1024x256.Idx → EReal) (D0 D1 D2 D3 : S1x256x1024.Idx → EReal)

/-- If block `k` of four is columns `b + 256 k` onwards of an array, the four side by side are its columns from `b` on: -/
theorem pay1_at (f : ℕ → ℕ → EReal) (b : ℕ) (h0 : ∀ d j, Y0 (ix3 0 d j) = f d.val (b + j.val)) (h1 : ∀ d j, Y1 (ix3 0 d j) = f d.val (b + 256 + j.val))
    (h2 : ∀ d j, Y2 (ix3 0 d j) = f d.val (b + 512 + j.val)) (h3 : ∀ d j, Y3 (ix3 0 d j) = f d.val (b + 768 + j.val)) (d h : Fin 1024) :
    k0_pay1 (F := Ideal) Y0 Y1 Y2 Y3 (ix2 d h) = f d.val (b + h.val) := by
  pointwise [k0_pay1]
  simp only [h0, h1, h2, h3]
  split_ifs <;> congr 1 <;> omega

/-- the up weights' blocks likewise, -/
theorem pay3_at (f : ℕ → ℕ → EReal) (b : ℕ) (h0 : ∀ d j, Y0 (ix3 0 d j) = f d.val (b + j.val)) (h1 : ∀ d j, Y1 (ix3 0 d j) = f d.val (b + 256 + j.val))
    (h2 : ∀ d j, Y2 (ix3 0 d j) = f d.val (b + 512 + j.val)) (h3 : ∀ d j, Y3 (ix3 0 d j) = f d.val (b + 768 + j.val)) (d h : Fin 1024) :
    k0_pay3 (F := Ideal) (k0_pay2 Y0) Y1 Y2 Y3 (ix2 d h) = f d.val (b + h.val) :=
  pay1_at Y0 Y1 Y2 Y3 f b h0 h1 h2 h3 d h

/-- and the down weights', along the rows. -/
theorem pay6_at (f : ℕ → ℕ → EReal) (b : ℕ) (h0 : ∀ j q, D0 (ix3 0 j q) = f (b + j.val) q.val) (h1 : ∀ j q, D1 (ix3 0 j q) = f (b + 256 + j.val) q.val)
    (h2 : ∀ j q, D2 (ix3 0 j q) = f (b + 512 + j.val) q.val) (h3 : ∀ j q, D3 (ix3 0 j q) = f (b + 768 + j.val) q.val) (h q : Fin 1024) :
    k0_pay6 (F := Ideal) (k0_pay4 D0) (k0_pay5 D1) D2 D3 (ix2 h q) = f (b + h.val) q.val := by
  pointwise [k0_pay6, k0_pay4, k0_pay5]
  simp only [h0, h1, h2, h3]
  split_ifs <;> congr 1 <;> omega

/-- Three blocks side by side, -/
theorem pay8_at (f : ℕ → ℕ → EReal) (b : ℕ) (h0 : ∀ d j, Y0 (ix3 0 d j) = f d.val (b + j.val)) (h1 : ∀ d j, Y1 (ix3 0 d j) = f d.val (b + 256 + j.val))
    (h2 : ∀ d j, Y2 (ix3 0 d j) = f d.val (b + 512 + j.val)) (d : Fin 1024) (h : Fin 768) :
    k0_pay8 (F := Ideal) Y0 Y1 Y2 (ix2 d h) = f d.val (b + h.val) := by
  pointwise [k0_pay8]
  simp only [h0, h1, h2]
  split_ifs <;> congr 1 <;> omega

theorem pay11_at (f : ℕ → ℕ → EReal) (b : ℕ) (h0 : ∀ d j, Y0 (ix3 0 d j) = f d.val (b + j.val)) (h1 : ∀ d j, Y1 (ix3 0 d j) = f d.val (b + 256 + j.val))
    (h2 : ∀ d j, Y2 (ix3 0 d j) = f d.val (b + 512 + j.val)) (d : Fin 1024) (h : Fin 768) :
    k0_pay11 (F := Ideal) (k0_pay9 Y0) (k0_pay10 Y1) Y2 (ix2 d h) = f d.val (b + h.val) :=
  pay8_at Y0 Y1 Y2 f b h0 h1 h2 d h

theorem pay12_at (f : ℕ → ℕ → EReal) (b : ℕ) (h0 : ∀ j q, D0 (ix3 0 j q) = f (b + j.val) q.val) (h1 : ∀ j q, D1 (ix3 0 j q) = f (b + 256 + j.val) q.val)
    (h2 : ∀ j q, D2 (ix3 0 j q) = f (b + 512 + j.val) q.val) (h : Fin 768) (q : Fin 1024) :
    k0_pay12 (F := Ideal) D0 D1 D2 (ix2 h q) = f (b + h.val) q.val := by
  pointwise [k0_pay12]
  simp only [h0, h1, h2]
  split_ifs <;> congr 1 <;> omega

end Chunks

/-- One hidden unit's contribution to a column of the output: the token `x` times the unit's gate and up columns, the
    activation, times its down weight. -/
def unit (x : ℕ → EReal) (g u : ℕ → ℕ → EReal) (w : ℕ → ℕ → EReal) (q h : ℕ) : EReal :=
  act (∑ d ∈ Finset.range 1024, x d * g d h) (∑ d ∈ Finset.range 1024, x d * u d h) * w h q

section Rows
variable (w : BitVec 32) (X : S1x1x1024x1024.Idx → EReal) (A : S1024x1024.Idx → EReal) (x g u wd : ℕ → ℕ → EReal) (b : ℕ)
  (hX : ∀ r d, X (ix4 0 0 r d) = x r.val d.val)
include hX

/-- What a trip of four blocks stores into one batch entry's rows, -/
theorem pay17_at (G U W : FVec Ideal S1024x1024 .bf16) (hG : ∀ d h, G (ix2 d h) = g d.val (b + h.val))
    (hU : ∀ d h, U (ix2 d h) = u d.val (b + h.val)) (hW : ∀ h q, W (ix2 h q) = wd (b + h.val) q.val) (r q : Fin 1024) :
    k0_pay17 (F := Ideal) w G U W X A (ix2 r q)
      = upd w (∑ k ∈ Finset.range 1024, unit (x r.val) g u wd q.val (b + k)) (A (ix2 r q)) := by
  pointwise [k0_pay17]
  rw [select_upd, Finset.sum_range]
  simp only [hX, hG, hU, hW, unit, act, Finset.sum_range]

/-- and what a trip of three stores. -/
theorem pay19_at (G U : FVec Ideal S1024x768 .bf16) (W : FVec Ideal S768x1024 .bf16) (hG : ∀ d h, G (ix2 d h) = g d.val (b + h.val))
    (hU : ∀ d h, U (ix2 d h) = u d.val (b + h.val)) (hW : ∀ h q, W (ix2 h q) = wd (b + h.val) q.val) (r q : Fin 1024) :
    k0_pay19 (F := Ideal) w G U W X A (ix2 r q)
      = upd w (∑ k ∈ Finset.range 768, unit (x r.val) g u wd q.val (b + k)) (A (ix2 r q)) := by
  pointwise [k0_pay19]
  rw [select_upd, Finset.sum_range]
  simp only [hX, hG, hU, hW, unit, act, Finset.sum_range]

end Rows

/-- The result block: each row of the accumulator times its routing weight. -/
theorem pay20_at (s : S2x1x1024x1.Idx → EReal) (A : S2048x1024.Idx → EReal) (i : S2x1x1024x1024.Idx) :
    unslot (k0_pay20 (F := Ideal) s A) i
      = A (ix2 ⟨(i 0).val * 1024 + (i 2).val, by have h0 : (i 0).val < 2 := (i 0).isLt; have h2 : (i 2).val < 1024 := (i 2).isLt; show _ < 2048; omega⟩ (i 3))
        * s (ix4 (i 0) 0 (i 2) 0) := by
  pointwise [k0_pay20, unslot]

/-- The accumulator's first contents. -/
theorem pay16_at (i : S2048x1024.Idx) : k0_pay16 (F := Ideal) i = 0 := by
  pointwise [k0_pay16]

end Cert.Proof.Ffn
end
-- ==== Proof.Blocks.lean ====
/-
  The blocks of the arrays at an index, and what one trip makes of the accumulator.
-/
module

public import proofs.«01_k».proof.Proof.Pay
public import proofs.«01_k».proof.Proof.Trip

@[expose] public section

noncomputable section

namespace Cert.Proof.Ffn

open Cert.KernelIdeal Cert.KernelIdeal.Gen
open Idealize.ShloMosaic
open Idealize.SL Idealize.SL.Sem

/-! ## The arrays by natural-number coordinates -/

/-- Gate or up weight of expert `e`, input `d`, hidden unit `h`. Coordinates wrap round at the sizes; only coordinates in range are used. -/
def gAt (f : S16x1024x2816.Idx → EReal) (e d h : ℕ) : EReal :=
  f (ix3 ⟨e % 16, Nat.mod_lt _ (by decide)⟩ ⟨d % 1024, Nat.mod_lt _ (by decide)⟩ ⟨h % 2816, Nat.mod_lt _ (by decide)⟩)
/-- Down weight of expert `e`, hidden unit `h`, output `q`. -/
def dAt (f : S16x2816x1024.Idx → EReal) (e h q : ℕ) : EReal :=
  f (ix3 ⟨e % 16, Nat.mod_lt _ (by decide)⟩ ⟨h % 2816, Nat.mod_lt _ (by decide)⟩ ⟨q % 1024, Nat.mod_lt _ (by decide)⟩)
/-- Token entry `d` of row `r` of batch entry `b`, as routed to expert `e`. -/
def xAt (f : S2x16x1024x1024.Idx → EReal) (b e r d : ℕ) : EReal :=
  f (ix4 ⟨b % 2, Nat.mod_lt _ (by decide)⟩ ⟨e % 16, Nat.mod_lt _ (by decide)⟩ ⟨r % 1024, Nat.mod_lt _ (by decide)⟩ ⟨d % 1024, Nat.mod_lt _ (by decide)⟩)
/-- Its routing weight. -/
def sAt (f : S2x16x1024x128.Idx → EReal) (b e r : ℕ) : EReal :=
  f (ix4 ⟨b % 2, Nat.mod_lt _ (by decide)⟩ ⟨e % 16, Nat.mod_lt _ (by decide)⟩ ⟨r % 1024, Nat.mod_lt _ (by decide)⟩ 0)

theorem gAt_of (f : S16x1024x2816.Idx → EReal) (i : S16x1024x2816.Idx) {e d h : ℕ} (h0 : (i 0).val = e) (h1 : (i 1).val = d) (h2 : (i 2).val = h) :
    f i = gAt f e d h := by
  subst h0 h1 h2
  refine congrArg f (funext fun a => Fin.ext ?_)
  match a with
  | 0 => exact (Nat.mod_eq_of_lt (i 0).isLt).symm
  | 1 => exact (Nat.mod_eq_of_lt (i 1).isLt).symm
  | 2 => exact (Nat.mod_eq_of_lt (i 2).isLt).symm
theorem dAt_of (f : S16x2816x1024.Idx → EReal) (i : S16x2816x1024.Idx) {e h q : ℕ} (h0 : (i 0).val = e) (h1 : (i 1).val = h) (h2 : (i 2).val = q) :
    f i = dAt f e h q := by
  subst h0 h1 h2
  refine congrArg f (funext fun a => Fin.ext ?_)
  match a with
  | 0 => exact (Nat.mod_eq_of_lt (i 0).isLt).symm
  | 1 => exact (Nat.mod_eq_of_lt (i 1).isLt).symm
  | 2 => exact (Nat.mod_eq_of_lt (i 2).isLt).symm
theorem xAt_of (f : S2x16x1024x1024.Idx → EReal) (i : S2x16x1024x1024.Idx) {b e r d : ℕ} (h0 : (i 0).val = b) (h1 : (i 1).val = e) (h2 : (i 2).val = r)
    (h3 : (i 3).val = d) : f i = xAt f b e r d := by
  subst h0 h1 h2 h3
  refine congrArg f (funext fun a => Fin.ext ?_)
  match a with
  | 0 => exact (Nat.mod_eq_of_lt (i 0).isLt).symm
  | 1 => exact (Nat.mod_eq_of_lt (i 1).isLt).symm
  | 2 => exact (Nat.mod_eq_of_lt (i 2).isLt).symm
  | 3 => exact (Nat.mod_eq_of_lt (i 3).isLt).symm
theorem sAt_of (f : S2x16x1024x128.Idx → EReal) (i : S2x16x1024x128.Idx) {b e r : ℕ} (h0 : (i 0).val = b) (h1 : (i 1).val = e) (h2 : (i 2).val = r)
    (h3 : (i 3).val = 0) : f i = sAt f b e r := by
  subst h0 h1 h2
  refine congrArg f (funext fun a => Fin.ext ?_)
  match a with
  | 0 => exact (Nat.mod_eq_of_lt (i 0).isLt).symm
  | 1 => exact (Nat.mod_eq_of_lt (i 1).isLt).symm
  | 2 => exact (Nat.mod_eq_of_lt (i 2).isLt).symm
  | 3 => exact h3

/-! ## The blocks -/

variable (c : Dev nD) (f0 : HB (F := Ideal) c M0) (f1 : HB (F := Ideal) c M1) (f2 : HB (F := Ideal) c M2)
  (fx : HB (F := Ideal) c M5) (fs : HB (F := Ideal) c M4)

theorem XG0_at (k n : ℕ) (hn : n < 48) (hk : 4 * (n % 3) + k ≤ 10) (d : Fin 1024) (j : Fin 256) :
    XG c M0 f0 k n (ix3 0 d j) = gAt f0 (n / 3) d.val (1024 * (n % 3) + 256 * k + j.val) := by
  refine gAt_of f0 (fun a => ⟨![n / 3 % 16, 0, 256 * min (4 * (n % 3) + k) 10] a + 1 * (ix3 (0 : Fin 1) d j a).val, _⟩) ?_ ?_ ?_
  · show n / 3 % 16 + 1 * 0 = _; omega
  · show 0 + 1 * d.val = _; omega
  · show 256 * min (4 * (n % 3) + k) 10 + 1 * j.val = _; rw [Nat.min_eq_left hk]; omega
theorem XG1_at (k n : ℕ) (hn : n < 48) (hk : 4 * (n % 3) + k ≤ 10) (d : Fin 1024) (j : Fin 256) :
    XG c M1 f1 k n (ix3 0 d j) = gAt f1 (n / 3) d.val (1024 * (n % 3) + 256 * k + j.val) := by
  refine gAt_of f1 (fun a => ⟨![n / 3 % 16, 0, 256 * min (4 * (n % 3) + k) 10] a + 1 * (ix3 (0 : Fin 1) d j a).val, _⟩) ?_ ?_ ?_
  · show n / 3 % 16 + 1 * 0 = _; omega
  · show 0 + 1 * d.val = _; omega
  · show 256 * min (4 * (n % 3) + k) 10 + 1 * j.val = _; rw [Nat.min_eq_left hk]; omega
theorem XD_at (k n : ℕ) (hn : n < 48) (hk : 4 * (n % 3) + k ≤ 10) (j : Fin 256) (q : Fin 1024) :
    XD c M2 f2 k n (ix3 0 j q) = dAt f2 (n / 3) (1024 * (n % 3) + 256 * k + j.val) q.val := by
  refine dAt_of f2 (fun a => ⟨![n / 3 % 16, 256 * min (4 * (n % 3) + k) 10, 0] a + 1 * (ix3 (0 : Fin 1) j q a).val, _⟩) ?_ ?_ ?_
  · show n / 3 % 16 + 1 * 0 = _; omega
  · show 256 * min (4 * (n % 3) + k) 10 + 1 * j.val = _; rw [Nat.min_eq_left hk]; omega
  · show 0 + 1 * q.val = _; omega
theorem rows0_at (n : ℕ) (hn : n < 48) (r d : Fin 1024) : rows0 (XX c fx n) (ix4 0 0 r d) = xAt fx 0 (n / 3) r.val d.val := by
  refine xAt_of fx (fun a => ⟨![0, n / 3 % 16, 0, 0] a + 1 * (![0, 0, 0, 0] a + 1 * (ix4 (0 : Fin 1) (0 : Fin 1) r d a).val), _⟩) ?_ ?_ ?_ ?_
  · rfl
  · show n / 3 % 16 + 1 * (0 + 1 * 0) = _; omega
  · show 0 + 1 * (0 + 1 * r.val) = _; omega
  · show 0 + 1 * (0 + 1 * d.val) = _; omega
theorem rows1_at (n : ℕ) (hn : n < 48) (r d : Fin 1024) : rows1 (XX c fx n) (ix4 0 0 r d) = xAt fx 1 (n / 3) r.val d.val := by
  refine xAt_of fx (fun a => ⟨![0, n / 3 % 16, 0, 0] a + 1 * (![1, 0, 0, 0] a + 1 * (ix4 (0 : Fin 1) (0 : Fin 1) r d a).val), _⟩) ?_ ?_ ?_ ?_
  · rfl
  · show n / 3 % 16 + 1 * (0 + 1 * 0) = _; omega
  · show 0 + 1 * (0 + 1 * r.val) = _; omega
  · show 0 + 1 * (0 + 1 * d.val) = _; omega
theorem weight_at (e : ℕ) (he : e < 16) (b : Fin 2) (r : Fin 1024) :
    VecWindow.window (s := S2x1x1024x128) (XS c fs (3 * e + 2)) ![0, 0, 0, 0] S2x1x1024x1.size inb_S2x1x1024x128_S2x1x1024x1_0_0_0_0 (ix4 b 0 r 0)
      = sAt fs b.val e r.val := by
  refine sAt_of fs (fun a => ⟨![0, (3 * e + 2) / 3 % 16, 0, 0] a + 1 * (![0, 0, 0, 0] a + 1 * (ix4 b (0 : Fin 1) r (0 : Fin 1) a).val), _⟩) ?_ ?_ ?_ ?_
  · show 0 + 1 * (0 + 1 * b.val) = _; omega
  · show (3 * e + 2) / 3 % 16 + 1 * (0 + 1 * 0) = _; omega
  · show 0 + 1 * (0 + 1 * r.val) = _; omega
  · rfl

/-! ## The accumulator's two halves -/

theorem setBot_setTop (A : S2048x1024.Idx → EReal) (T B : S1024x1024.Idx → EReal) (b : Fin 2) (r q : Fin 1024) (i : S2048x1024.Idx)
    (h0 : (i 0).val = b.val * 1024 + r.val) (h1 : (i 1).val = q.val) :
    setBot (F := Ideal) (setTop (F := Ideal) A T) B i = if b = 0 then T (ix2 r q) else B (ix2 r q) := by
  have hb := b.isLt
  have hr := r.isLt
  have hq := q.isLt
  have g0 : ∀ o : ℕ, (∀ a, (![o, 0] : Fin 2 → ℕ) a ≤ (i a).val ∧ (i a).val < (![o, 0] : Fin 2 → ℕ) a + S1024x1024.size a)
      ↔ o ≤ b.val * 1024 + r.val ∧ b.val * 1024 + r.val < o + 1024 := by
    intro o
    rw [Fin.forall_fin_two]
    show (o ≤ (i 0).val ∧ (i 0).val < o + 1024) ∧ (0 ≤ (i 1).val ∧ (i 1).val < 0 + 1024) ↔ _
    rw [h0, h1]; omega
  by_cases hz : b = 0
  · subst hz
    rw [if_pos rfl]
    have n1 : ¬ _ := fun h => absurd ((g0 1024).mp h) (by show ¬(1024 ≤ 0 * 1024 + r.val ∧ _); omega)
    have y0 := (g0 0).mpr (by show 0 ≤ 0 * 1024 + r.val ∧ 0 * 1024 + r.val < 0 + 1024; omega)
    refine (dif_neg n1).trans ((dif_pos y0).trans (congrArg T (funext fun a => Fin.ext ?_)))
    match a with
    | 0 => show (i 0).val - 0 = r.val; rw [h0]; show 0 * 1024 + r.val - 0 = _; omega
    | 1 => show (i 1).val - 0 = q.val; omega
  · rw [if_neg hz]
    have hb1 : b.val = 1 := by have : b.val ≠ 0 := fun h => hz (Fin.ext h); omega
    have y1 := (g0 1024).mpr (by rw [hb1]; omega)
    refine (dif_pos y1).trans (congrArg B (funext fun a => Fin.ext ?_))
    match a with
    | 0 => show (i 0).val - 1024 = r.val; rw [h0, hb1]; omega
    | 1 => show (i 1).val - 0 = q.val; omega

/-- Row `r` of batch entry `b` in the accumulator. -/
def row (b : Fin 2) (r : Fin 1024) : Fin 2048 := ⟨b.val * 1024 + r.val, by have := b.isLt; have := r.isLt; omega⟩

theorem top_at (A : S2048x1024.Idx → EReal) (r q : Fin 1024) : top (F := Ideal) A (ix2 r q) = A (ix2 (row 0 r) q) := by
  refine congrArg A (funext fun a => Fin.ext ?_)
  match a with
  | 0 => show 0 + 1 * r.val = 0 * 1024 + r.val; omega
  | 1 => show 0 + 1 * q.val = q.val; omega
theorem bot_setTop_at (A : S2048x1024.Idx → EReal) (T : S1024x1024.Idx → EReal) (r q : Fin 1024) :
    bot (F := Ideal) (setTop (F := Ideal) A T) (ix2 r q) = A (ix2 (row 1 r) q) := by
  have h : bot (F := Ideal) (setTop (F := Ideal) A T) = bot (F := Ideal) A :=
    VecWindow.window_put_of_disjoint A _ _ _ _ _ T 0 (.inr (by show 0 + 1024 ≤ 1024; omega))
  rw [h]
  refine congrArg A (funext fun a => Fin.ext ?_)
  match a with
  | 0 => show 1024 + 1 * r.val = 1 * 1024 + r.val; omega
  | 1 => show 0 + 1 * q.val = q.val; omega

end Cert.Proof.Ffn
end
-- ==== Proof.Value.lean ====
/-
  What the kernel computes, over extended reals: each output row is the sum over all hidden units, times the row's
  routing weight.
-/
module

public import proofs.«01_k».proof.Proof.Blocks
public import proofs.«01_k».proof.Proof.Frame

@[expose] public section

noncomputable section

namespace Cert.Proof.Ffn

open Cert.KernelIdeal Cert.KernelIdeal.Gen
open Idealize.ShloMosaic
open Idealize.SL Idealize.SL.Sem

section
variable (c : Dev nD) (f0 : HB (F := Ideal) c M0) (f1 : HB (F := Ideal) c M1) (f2 : HB (F := Ideal) c M2)
  (fx : HB (F := Ideal) c M5) (fs : HB (F := Ideal) c M4)

/-- Hidden unit `h`'s contribution to entry `q` of row `r` of batch entry `b` at expert `e`. -/
def part (e b r q h : ℕ) : EReal := unit (xAt fx b e r) (gAt f0 e) (gAt f1 e) (dAt f2 e) q h

/-- The hidden units of trip `n`. -/
def width (n : ℕ) : ℕ := if n % 3 = 2 then 768 else 1024

/-- One trip adds its hidden units' contributions, or begins with them. -/
theorem fin_at (n : ℕ) (hn : n < 48) (A : S2048x1024.Idx → EReal) (b : Fin 2) (r q : Fin 1024) :
    fin (F := Ideal) c f0 f1 f2 fx n A (ix2 (row b r) q)
      = upd (wF n) (∑ k ∈ Finset.range (width n), part c f0 f1 f2 fx (n / 3) b.val r.val q.val (1024 * (n % 3) + k))
          ((if n = 0 then k0_pay16 (F := Ideal) else A) (ix2 (row b r) q)) := by
  have hm : n % 3 < 3 := Nat.mod_lt _ (by decide)
  by_cases h2 : n % 3 = 2
  · have h0 : n ≠ 0 := by rintro rfl; exact absurd h2 (by decide)
    unfold fin mid acc20 acc19 width endAcc
    rw [if_pos h2, if_neg (by omega : ¬ n % 3 < 2), if_neg h0, if_pos h2]
    unfold endTop
    rw [setBot_setTop A _ _ b r q _ rfl rfl]
    have hG := pay8_at _ _ _ (gAt f0 (n / 3)) (1024 * (n % 3)) (XG0_at c f0 0 n hn (by omega)) (XG0_at c f0 1 n hn (by omega)) (XG0_at c f0 2 n hn (by omega))
    have hU := pay11_at _ _ _ (gAt f1 (n / 3)) (1024 * (n % 3)) (XG1_at c f1 0 n hn (by omega)) (XG1_at c f1 1 n hn (by omega)) (XG1_at c f1 2 n hn (by omega))
    have hD := pay12_at _ _ _ (dAt f2 (n / 3)) (1024 * (n % 3)) (XD_at c f2 0 n hn (by omega)) (XD_at c f2 1 n hn (by omega)) (XD_at c f2 2 n hn (by omega))
    by_cases hb : b = 0
    · subst hb
      rw [if_pos rfl]
      refine (pay19_at (wF n) _ _ _ _ _ _ _ (rows0_at c fx n hn) _ _ _ hG hU hD r q).trans ?_
      rw [top_at]; rfl
    · have hb1 : b = 1 := by omega
      subst hb1
      rw [if_neg hb]
      refine (pay19_at (wF n) _ _ _ _ _ _ _ (rows1_at c fx n hn) _ _ _ hG hU hD r q).trans ?_
      rw [bot_setTop_at]; rfl
  · unfold fin mid acc20 acc19 width midAcc
    rw [if_neg h2, if_pos (by omega : n % 3 < 2), if_neg h2]
    unfold midTop
    rw [setBot_setTop _ _ _ b r q _ rfl rfl]
    have hG := pay1_at _ _ _ _ (gAt f0 (n / 3)) (1024 * (n % 3)) (XG0_at c f0 0 n hn (by omega)) (XG0_at c f0 1 n hn (by omega)) (XG0_at c f0 2 n hn (by omega)) (XG0_at c f0 3 n hn (by omega))
    have hU := pay3_at _ _ _ _ (gAt f1 (n / 3)) (1024 * (n % 3)) (XG1_at c f1 0 n hn (by omega)) (XG1_at c f1 1 n hn (by omega)) (XG1_at c f1 2 n hn (by omega)) (XG1_at c f1 3 n hn (by omega))
    have hD := pay6_at _ _ _ _ (dAt f2 (n / 3)) (1024 * (n % 3)) (XD_at c f2 0 n hn (by omega)) (XD_at c f2 1 n hn (by omega)) (XD_at c f2 2 n hn (by omega)) (XD_at c f2 3 n hn (by omega))
    by_cases hb : b = 0
    · subst hb
      rw [if_pos rfl]
      refine (pay17_at (wF n) _ _ _ _ _ _ _ (rows0_at c fx n hn) _ _ _ hG hU hD r q).trans ?_
      rw [top_at]; rfl
    · have hb1 : b = 1 := by omega
      subst hb1
      rw [if_neg hb]
      refine (pay17_at (wF n) _ _ _ _ _ _ _ (rows1_at c fx n hn) _ _ _ hG hU hD r q).trans ?_
      rw [bot_setTop_at]; rfl

/-- On an expert's first trip the accumulator begins anew, -/
theorem fin_first (n : ℕ) (hn : n < 48) (h : n % 3 = 0) (A : S2048x1024.Idx → EReal) (b : Fin 2) (r q : Fin 1024) :
    fin (F := Ideal) c f0 f1 f2 fx n A (ix2 (row b r) q)
      = ∑ k ∈ Finset.range 1024, part c f0 f1 f2 fx (n / 3) b.val r.val q.val k := by
  rw [fin_at c f0 f1 f2 fx n hn A b r q, upd, wF, h, if_pos rfl, width, h]
  simp only [Nat.mul_zero, Nat.zero_add]
  rfl
/-- on its later trips it is added to. -/
theorem fin_later (n : ℕ) (hn : n < 48) (h : n % 3 ≠ 0) (A : S2048x1024.Idx → EReal) (b : Fin 2) (r q : Fin 1024) :
    fin (F := Ideal) c f0 f1 f2 fx n A (ix2 (row b r) q)
      = A (ix2 (row b r) q) + ∑ k ∈ Finset.range (width n), part c f0 f1 f2 fx (n / 3) b.val r.val q.val (1024 * (n % 3) + k) := by
  have hw : wF n ≠ 0#32 := by
    have : n % 3 = 1 ∨ n % 3 = 2 := by omega
    rcases this with h' | h' <;> rw [wF, h'] <;> decide
  rw [fin_at c f0 f1 f2 fx n hn A b r q, upd, if_neg hw, if_neg (by rintro rfl; exact h rfl)]

/-- After an expert's three trips the accumulator holds the sum over all hidden units. -/
theorem acc_at (e : ℕ) (he : e < 16) (b : Fin 2) (r q : Fin 1024) :
    accN (F := Ideal) c f0 f1 f2 fx (3 * e + 3) (ix2 (row b r) q) = ∑ h ∈ Finset.range 2816, part c f0 f1 f2 fx e b.val r.val q.val h := by
  show fin (F := Ideal) c f0 f1 f2 fx (3 * e + 2) (fin (F := Ideal) c f0 f1 f2 fx (3 * e + 1) (fin (F := Ideal) c f0 f1 f2 fx (3 * e) _)) _ = _
  rw [fin_later c f0 f1 f2 fx (3 * e + 2) (by omega) (by omega), fin_later c f0 f1 f2 fx (3 * e + 1) (by omega) (by omega),
    fin_first c f0 f1 f2 fx (3 * e) (by omega) (by omega)]
  rw [show (3 * e) / 3 = e by omega, show (3 * e + 1) / 3 = e by omega, show (3 * e + 2) / 3 = e by omega,
    show (3 * e + 1) % 3 = 1 by omega, show (3 * e + 2) % 3 = 2 by omega,
    show width (3 * e + 1) = 1024 from if_neg (by omega), show width (3 * e + 2) = 768 from if_pos (by omega)]
  rw [show 2816 = 1024 + 1024 + 768 from rfl, Finset.sum_range_add, Finset.sum_range_add]

/-- The kernel's result at an index. -/
theorem outG_at (i : S2x16x1024x1024.Idx) :
    outG (F := Ideal) c f0 f1 f2 fx fs i
      = (∑ h ∈ Finset.range 2816, part c f0 f1 f2 fx (i 1).val (i 0).val (i 2).val (i 3).val h) * sAt fs (i 0).val (i 1).val (i 2).val := by
  have he : (i 1).val < 16 := (i 1).isLt
  unfold outG resE outBlk
  rw [pay20_at]
  refine congrArg₂ (· * ·) ?_ ?_
  · exact acc_at c f0 f1 f2 fx (i 1).val he (inBlk i 0) (inBlk i 2) (inBlk i 3)
  · exact weight_at c fs (i 1).val he (inBlk i 0) (inBlk i 2)
end

/-! ## The operands -/

variable (m : (ℓ : Loc nD τ sig) → Buf (Elt Ideal) ℓ) (ρ : Dev nD → PrngReg) (c : Dev nD)

/-- The layer's result at an index, from the five arguments: the sum over the hidden units of the activation times the down weight, times the routing
    weight. -/
def ffn (a0 : S2x16x1024x1024.Idx → EReal) (a1 : S2x16x1024.Idx → EReal) (a2 a3 : S1x16x1024x2816.Idx → EReal) (a4 : S1x16x2816x1024.Idx → EReal)
    (i : S2x16x1024x1024.Idx) : EReal :=
  (∑ h : Fin 2816, act (∑ d : Fin 1024, a0 (ix4 (i 0) (i 1) (i 2) d) * a2 (ix4 0 (i 1) d h)) (∑ d : Fin 1024, a0 (ix4 (i 0) (i 1) (i 2) d) * a3 (ix4 0 (i 1) d h))
    * a4 (ix4 0 (i 1) h (i 3))) * a1 (ix3 (i 0) (i 1) (i 2))

/-- The arguments as launched. -/
abbrev A0 : S2x16x1024x1024.Idx → EReal := m ((c.tc : Thread nD τ).loc main_arg0)
abbrev A1 : S2x16x1024.Idx → EReal := m ((c.tc : Thread nD τ).loc main_arg1)
abbrev A2 : S1x16x1024x2816.Idx → EReal := m ((c.tc : Thread nD τ).loc main_arg2)
abbrev A3 : S1x16x1024x2816.Idx → EReal := m ((c.tc : Thread nD τ).loc main_arg3)
abbrev A4 : S1x16x2816x1024.Idx → EReal := m ((c.tc : Thread nD τ).loc main_arg4)

/-- The operands at the region: the weights without their leading axis, -/
theorem V_v0 : V m ρ c main_v0 = (shapeCast S16x1024x2816 (A2 m c) shapeCasts_S1x16x1024x2816_S16x1024x2816 : S16x1024x2816.Idx → EReal) := by
  unfold V hostOps0
  after_results
  rfl
theorem V_v1 : V m ρ c main_v1 = (shapeCast S16x1024x2816 (A3 m c) shapeCasts_S1x16x1024x2816_S16x1024x2816 : S16x1024x2816.Idx → EReal) := by
  unfold V hostOps0
  after_results
  rfl
theorem V_v2 : V m ρ c main_v2 = (shapeCast S16x2816x1024 (A4 m c) shapeCasts_S1x16x2816x1024_S16x2816x1024 : S16x2816x1024.Idx → EReal) := by
  unfold V hostOps0
  after_results
  rfl
/-- the routing weights repeated along a last axis, -/
theorem V_v4 : V m ρ c main_v4 = (broadcastInDim S2x16x1024x128 ![0, 1, 2, 3] bcast_S2x16x1024x1_S2x16x1024x128_0_1_2_3
    (broadcastInDim S2x16x1024x1 ![0, 1, 2] bcast_S2x16x1024_S2x16x1024x1_0_1_2 (A1 m c)) : S2x16x1024x128.Idx → EReal) := by
  unfold V hostOps0
  after_results
/-- and the tokens. -/
theorem V_v5 : V m ρ c main_v5 = (truncf (F := Ideal) .bf16 (A0 m c) bitsLt_bf16_f32 : S2x16x1024x1024.Idx → EReal) := by
  unfold V hostOps0
  after_results

section
variable (b : Fin 2) (e : Fin 16) (r d q : Fin 1024) (h : Fin 2816)
theorem gate_at : gAt (V m ρ c main_v0) e.val d.val h.val = A2 m c (ix4 0 e d h) := by
  refine (gAt_of (V m ρ c main_v0) (ix3 e d h) rfl rfl rfl).symm.trans ?_
  rw [V_v0]
  pointwise
theorem up_at : gAt (V m ρ c main_v1) e.val d.val h.val = A3 m c (ix4 0 e d h) := by
  refine (gAt_of (V m ρ c main_v1) (ix3 e d h) rfl rfl rfl).symm.trans ?_
  rw [V_v1]
  pointwise
theorem down_at : dAt (V m ρ c main_v2) e.val h.val q.val = A4 m c (ix4 0 e h q) := by
  refine (dAt_of (V m ρ c main_v2) (ix3 e h q) rfl rfl rfl).symm.trans ?_
  rw [V_v2]
  pointwise
theorem token_at : xAt (V m ρ c main_v5) b.val e.val r.val d.val = A0 m c (ix4 b e r d) := by
  refine (xAt_of (V m ρ c main_v5) (ix4 b e r d) rfl rfl rfl rfl).symm.trans ?_
  rw [V_v5]
  rfl
theorem routing_at : sAt (V m ρ c main_v4) b.val e.val r.val = A1 m c (ix3 b e r) := by
  refine (sAt_of (V m ρ c main_v4) (ix4 b e r 0) rfl rfl rfl rfl).symm.trans ?_
  rw [V_v4]
  pointwise

/-- The kernel's sum over the hidden units is the layer's. -/
theorem sum_at : (∑ k ∈ Finset.range 2816, part c (V m ρ c main_v0) (V m ρ c main_v1) (V m ρ c main_v2) (V m ρ c main_v5) e.val b.val r.val q.val k)
      * sAt (V m ρ c main_v4) b.val e.val r.val
    = (∑ k : Fin 2816, act (∑ d : Fin 1024, A0 m c (ix4 b e r d) * A2 m c (ix4 0 e d k)) (∑ d : Fin 1024, A0 m c (ix4 b e r d) * A3 m c (ix4 0 e d k))
        * A4 m c (ix4 0 e k q)) * A1 m c (ix3 b e r) := by
  rw [routing_at, Finset.sum_range]
  refine congrArg (· * _) (Finset.sum_congr rfl fun k _ => ?_)
  unfold part unit
  rw [down_at, Finset.sum_range, Finset.sum_range]
  exact congrArg (· * _) (congrArg₂ act
    (Finset.sum_congr rfl fun d _ => congrArg₂ (· * ·) (token_at m ρ c b e r d) (gate_at m ρ c e d k))
    (Finset.sum_congr rfl fun d _ => congrArg₂ (· * ·) (token_at m ρ c b e r d) (up_at m ρ c e d k)))
end

/-- The kernel computes the layer. -/
theorem resV_eq : resV m ρ c = ffn (A0 m c) (A1 m c) (A2 m c) (A3 m c) (A4 m c) :=
  funext fun i : S2x16x1024x1024.Idx =>
    (outG_at c (V m ρ c main_v0) (V m ρ c main_v1) (V m ρ c main_v2) (V m ρ c main_v5) (V m ρ c main_v4) i).trans
      (sum_at m ρ c (i 0) (i 1) (i 2) (i 3))

end Cert.Proof.Ffn
end
-- ==== Proof.Ref.lean ====
/-
  What the reference computes, over extended reals.
-/
module

public import proofs.«01_k».proof.Proof.Value
public import proofs.«01_k».proof.Proof.Gen.ReferenceIdeal.Run

@[expose] public section

noncomputable section

namespace Cert.Proof.Ref

open Cert.ReferenceIdeal Cert.ReferenceIdeal.Gen
open Idealize.ShloMosaic
open Idealize.SL Idealize.SL.Sem

/-- The reference's term of its arguments is the layer. -/
theorem out_eq (a0 : FVec Ideal S2x16x1024x1024 .f32) (a1 : FVec Ideal S2x16x1024 .f32) (a2 a3 : FVec Ideal S1x16x1024x2816 .f32) (a4 : FVec Ideal S1x16x2816x1024 .f32) :
    (truncf (F := Ideal) .bf16 (mulf (transpose S2x16x1024x1024 [2, 0, 3, 1] (Host.dotGeneral dot_S16x2816x1024_S2x16x1024x2816_S16x1024x2x1024_1_3_2_02_0_1 none (shapeCast _ a4 shapeCasts_S1x16x2816x1024_S16x2816x1024) (mulf (mulf (transpose S2x16x1024x2816 [2, 0, 3, 1] (Host.dotGeneral dot_S16x1024x2816_S2x16x1024x1024_S16x2816x2x1024_1_3_2_02_0_1 none (shapeCast _ a2 shapeCasts_S1x16x1024x2816_S16x1024x2816) a0) transposes_S16x2816x2x1024_S2x16x1024x2816_2_0_3_1) (Host.divf (broadcastInDim S2x16x1024x2816 ![] bcast_S_S2x16x1024x2816 (constant S_ .f32 0x3F800000#32)) (addf (broadcastInDim S2x16x1024x2816 ![] bcast_S_S2x16x1024x2816 (constant S_ .f32 0x3F800000#32)) (Host.exp (Host.negf (transpose S2x16x1024x2816 [2, 0, 3, 1] (Host.dotGeneral dot_S16x1024x2816_S2x16x1024x1024_S16x2816x2x1024_1_3_2_02_0_1 none (shapeCast _ a2 shapeCasts_S1x16x1024x2816_S16x1024x2816) a0) transposes_S16x2816x2x1024_S2x16x1024x2816_2_0_3_1)))))) (transpose S2x16x1024x2816 [2, 0, 3, 1] (Host.dotGeneral dot_S16x1024x2816_S2x16x1024x1024_S16x2816x2x1024_1_3_2_02_0_1 none (shapeCast _ a3 shapeCasts_S1x16x1024x2816_S16x1024x2816) a0) transposes_S16x2816x2x1024_S2x16x1024x2816_2_0_3_1))) transposes_S16x1024x2x1024_S2x16x1024x1024_2_0_3_1) (broadcastInDim S2x16x1024x1024 ![0, 1, 2, 3] bcast_S2x16x1024x1_S2x16x1024x1024_0_1_2_3 (broadcastInDim S2x16x1024x1 ![0, 1, 2] bcast_S2x16x1024_S2x16x1024x1_0_1_2 a1))) bitsLt_bf16_f32 : FVec Ideal S2x16x1024x1024 .bf16) = Ffn.ffn a0 a1 a2 a3 a4 := by
  funext i
  pointwise
  unfold Ffn.ffn Ffn.act Ideal.logistic
  refine congrArg (· * _) (Finset.sum_congr rfl fun h _ => ?_)
  rw [mul_comm (a4 _)]
  have hg : ∀ w : FVec Ideal S1x16x1024x2816 .f32, (∑ d : Fin 1024, w (ix4 0 (i 1) d h) * a0 (ix4 (i 0) (i 1) (i 2) d))
      = ∑ d : Fin 1024, a0 (ix4 (i 0) (i 1) (i 2) d) * w (ix4 0 (i 1) d h) := fun w => Finset.sum_congr rfl fun d _ => mul_comm _ _
  rw [hg a2, hg a3]

end Cert.Proof.Ref
end
-- ==== Proof.Adaln.lean ====
/-
  The conditioning's projection: what the call computes, over extended reals, and that the reference computes it too.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Proof.Adaln

open Cert.Kernel2Ideal Cert.Kernel2Ideal.Gen
open Idealize.ShloMosaic Idealize.ShloMosaic.TcCoe
open Idealize.SL Idealize.SL.Sem

/-- The modulation: the conditioning through silu, times the weights' columns, plus the bias. -/
def ada (a : FVec Ideal S2x1024 .f32) (w : FVec Ideal S1x1024x6144 .f32) (b : FVec Ideal S1x6144 .f32) :
    S2x6144.Idx → EReal :=
  fun i => (∑ d : Fin 1024, a (ix2 (i 0) d) * Ideal.logistic (a (ix2 (i 0) d)) * w (ix3 0 d (i 1))) + b (ix2 0 (i 1))

variable (m : (ℓ : Loc nD τ sig) → Buf (Elt Ideal) ℓ) (ρ : Dev nD → PrngReg)

/-- Where each window's block lies at a point of the grid. -/
theorem idx : ∀ t : Fin grid0.N, win0_0.index t = ![0, 0] ∧ win0_1.index t = ![0, t.val] ∧ win0_2.index t = ![0, t.val]
    ∧ win0_3.index t = ![0, t.val] := by decide +kernel

/-- The array that the call leaves. -/
theorem out_eq (c : Dev nD) : (dats m 0 c).arrAt 3 cfg0.N
    = ada (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ada]
  blk_point [iblk, V, idx t]

end Cert.Proof.Adaln

namespace Cert.Proof.AdalnRef

open Cert.Reference2Ideal Cert.Reference2Ideal.Gen
open Idealize.ShloMosaic
open Idealize.SL Idealize.SL.Sem

/-- The reference's term of its arguments is the modulation. -/
theorem ref_eq (a : FVec Ideal S2x1024 .f32) (w : FVec Ideal S1x1024x6144 .f32)
    (b : FVec Ideal S1x6144 .f32) : addf (Host.dotGeneral dot_S2x1024_S1024x6144_S2x6144_1_0_0_1_n_n none (mulf a (Host.divf (broadcastInDim S2x1024 ![] bcast_S_S2x1024 (constant S_ .f32 0x3F800000#32)) (addf (broadcastInDim S2x1024 ![] bcast_S_S2x1024 (constant S_ .f32 0x3F800000#32)) (Host.exp (Host.negf a))))) (shapeCast S1024x6144 w shapeCasts_S1x1024x6144_S1024x6144)) (broadcastInDim S2x6144 ![0, 1] bcast_S1x6144_S2x6144_0_1 (broadcastInDim S1x6144 ![1] bcast_S6144_S1x6144_1 (shapeCast S6144 b shapeCasts_S1x6144_S6144)))
    = Adaln.ada a w b := by
  funext i
  pointwise
  unfold Adaln.ada Ideal.logistic
  rfl

end Cert.Proof.AdalnRef

namespace Cert.Proof

open Idealize.ShloMosaic Idealize.SL.Sem

/-- The projection's program and its reference compute the same array. -/
theorem value2 : Cert.algebraic_Kernel2Ideal_Reference2Ideal := by
  intro m ρ m' ρ' _ hag
  refine ⟨fun c => Adaln.ada (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · exact (θ_run Cert.Kernel2Ideal.defs _ _).mono (fun _ h c => ⟨(h c).1.trans (Adaln.out_eq m c), (h c).2⟩)
      (Cert.Kernel2Ideal.Value.run_blocks (F := Ideal) m ρ)
  · refine (θ_run Cert.Reference2Ideal.defs _ _).mono (fun _ h c => ⟨(h c).1.trans ((AdalnRef.ref_eq _ _ _).trans ?_), (h c).2⟩)
      (Cert.Reference2Ideal.Value.run (F := Ideal) m' ρ')
    obtain ⟨h0, h1, h2⟩ := hag c
    rw [h0, h1, h2]

end Cert.Proof
end
-- ==== Proof.ProjBlock.lean ====
/-
  The input projection: what one grid point of the call leaves in each output's block, over extended reals.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe
open Idealize.SL Idealize.SL.Sem

/-- One row of the first norm, its gain, scale and shift applied. -/
def nrm (x g sc sh : Fin 1024 → EReal) : Fin 1024 → EReal := fun d =>
  x d * Ideal.rsqrt (Ideal.div (∑ k : Fin 1024, x k * x k) (Ideal.ofBits .f32 0x44800000#32) + Ideal.ofBits .f32 0x358637BD#32)
    * (g d * (1 + sc d)) + sh d
/-- One entry of its product with the weights. -/
def prj (x g sc sh w : Fin 1024 → EReal) : EReal := ∑ d : Fin 1024, nrm x g sc sh d * w d
/-- The gelu, by its hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-! ## One block -/

section
variable (x0 : Vec Ideal S1024x1024 .f32) (x1 : Vec Ideal S1x6x1024 .f32) (x2 : Vec Ideal S1x1024 .f32) (x3 : Vec Ideal S1024x1792 .bf16)

/-- The product's entry at row `r` of the block and column `j`. -/
def blkP (r : Fin 1024) (j : Fin 1792) : EReal :=
  prj (fun k => x0 (ix2 r k)) (fun k => x2 (ix2 0 k)) (fun k => x1 (ix3 0 1 k)) (fun k => x1 (ix3 0 0 k)) (fun k => x3 (ix2 k j))

theorem blk_at {r r' : Fin 1024} {j j' : Fin 1792} (hr : r'.val = r.val) (hj : j'.val = j.val) :
    (∑ d : Fin 1024, (x0 (ix2 r d) * Ideal.rsqrt (Ideal.div (∑ k : Fin 1024, x0 (ix2 r k) * x0 (ix2 r k)) (Ideal.ofBits .f32 0x44800000#32) + Ideal.ofBits .f32 0x358637BD#32)
      * (x2 (ix2 0 d) * (1 + x1 (ix3 0 1 d))) + x1 (ix3 0 0 d)) * x3 (ix2 d j)) = blkP x0 x1 x2 x3 r' j' := by
  obtain rfl := Fin.ext hr
  obtain rfl := Fin.ext hj
  rfl

theorem out4 (y : S1024x512.Idx) (hj : (y 1).val < 1792) : out0_4 x0 x1 x2 x3 y
    = blkP x0 x1 x2 x3 (y 0) ⟨(y 1).val, hj⟩ * Ideal.ofBits .f32 0x3E000000#32 := by
  unfold_out out0_4
  canon_tiles x h
  all_goals open_payloads
  all_goals pointwise
  all_goals exact congrArg (· * _) (blk_at x0 x1 x2 x3 h0 h1)
theorem out6 (y : S1024x512.Idx) (hj : 768 + (y 1).val < 1792) : out0_6 x0 x1 x2 x3 y
    = gelu (blkP x0 x1 x2 x3 (y 0) ⟨768 + (y 1).val, hj⟩) := by
  unfold_out out0_6
  canon_tiles x h
  all_goals open_payloads
  all_goals pointwise
  all_goals exact congrArg gelu (blk_at x0 x1 x2 x3 h0 (congrArg (768 + ·) h1))
theorem out7 (y : S1024x512.Idx) (hj : 1280 + (y 1).val < 1792) : out0_7 x0 x1 x2 x3 y
    = gelu (blkP x0 x1 x2 x3 (y 0) ⟨1280 + (y 1).val, hj⟩) := by
  unfold_out out0_7
  canon_tiles x h
  all_goals open_payloads
  all_goals pointwise
  all_goals exact congrArg gelu (blk_at x0 x1 x2 x3 h0 (by show 1280 + (y 1).val = 768 + (512 + (x 1).val); omega))

theorem select_lt {n : ℕ} (h : n < 128) (a b : EReal) :
    Scalar.select (IntOp.cmpi .slt (BitVec.ofNat 32 n) 64#32) a b = if n < 64 then a else b := by
  have e : (BitVec.ofNat 32 n).slt 64#32 = decide (n < 64) :=
    (by decide +kernel : ∀ n : Fin 128, (BitVec.ofNat 32 n.val).slt 64#32 = decide (n.val < 64)) ⟨n, h⟩
  by_cases g : n < 64 <;> simp [Scalar.select, IntOp.cmpi, e, g]

set_option maxHeartbeats 2000000 in
theorem out5 (y : S1024x512.Idx) (hj : 512 + (y 1).val / 128 * 64 + (y 1).val % 64 < 1792) : out0_5 x0 x1 x2 x3 y
    = blkP x0 x1 x2 x3 (y 0) ⟨512 + (y 1).val / 128 * 64 + (y 1).val % 64, hj⟩ := by
  unfold_out out0_5
  canon_tiles x h
  all_goals open_payloads
  all_goals pointwise
  all_goals refine (select_lt x1_lt _ _).trans ?_
  all_goals split
  all_goals exact blk_at x0 x1 x2 x3 h0 (by simp only; omega)
end

end Cert.Proof.Proj
end
-- ==== Proof.Proj.lean ====
/-
  The input projection: the arrays the call leaves, over extended reals.
-/
module

public import proofs.«01_k».proof.Defs
public import proofs.«01_k».proof.Proof.ProjBlock
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe
open Idealize.SL Idealize.SL.Sem

/-! ## The whole arrays -/

/-- The product's entry at row `r` of all the tokens and column `j`. -/
def P (x : S2x8192x1024.Idx → EReal) (md : S2x6144.Idx → EReal) (g : S1x1024.Idx → EReal) (w : S1x1024x1792.Idx → EReal)
    (r : Fin 16384) (j : Fin 1792) : EReal :=
  prj (fun k => x (ix3 ⟨r.val / 8192, by omega⟩ ⟨r.val % 8192, by omega⟩ k)) (fun k => g (ix2 0 k))
    (fun k => md (ix2 ⟨r.val / 8192, by omega⟩ ⟨1024 + k.val, by omega⟩)) (fun k => md (ix2 ⟨r.val / 8192, by omega⟩ ⟨k.val, by omega⟩))
    (fun k => w (ix3 0 k j))

variable (m : (ℓ : Loc nD τ sig) → Buf (Elt Ideal) ℓ) (ρ : Dev nD → PrngReg) (c : Dev nD)

theorem idx : ∀ t : Fin grid0.N, win0_0.index t = ![t.val, 0] ∧ win0_1.index t = ![t.val / 8, 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := by decide +kernel

/-- The product of this launch's arguments. -/
abbrev PM (r : Fin 16384) (j : Fin 1792) : EReal :=
  P (m ((c : Thread nD τ).loc main_arg0)) (m ((c : Thread nD τ).loc main_arg1)) (m ((c : Thread nD τ).loc main_arg2)) (m ((c : Thread nD τ).loc main_arg3)) r j

variable (t : Fin cfg0.N) (r k : Fin 1024) (j : Fin 1792)

/-- The blocks' entries are the arguments'. -/
theorem blk0 (h0 : (t.val * 1024 + r.val) / 8192 < 2) (h1 : (t.val * 1024 + r.val) % 8192 < 8192) :
    iblk m c 0 t (ix2 r k) = m ((c : Thread nD τ).loc main_arg0) (ix3 ⟨(t.val * 1024 + r.val) / 8192, h0⟩ ⟨(t.val * 1024 + r.val) % 8192, h1⟩ k) := by
  blk_point [iblk, V, idx t]
theorem blk1 (a : Fin 6) {b : Fin 2} {q : Fin 6144} (h0 : b.val = t.val / 8) (h1 : q.val = a.val * 1024 + k.val) :
    iblk m c 1 t (ix3 0 a k) = m ((c : Thread nD τ).loc main_arg1) (ix2 b q) := by
  blk_point [iblk, V, idx t]
theorem blk2 : iblk m c 2 t (ix2 0 k) = m ((c : Thread nD τ).loc main_arg2) (ix2 0 k) := by
  blk_point [iblk, V, idx t]
theorem blk3 : iblk m c 3 t (ix2 k j) = m ((c : Thread nD τ).loc main_arg3) (ix3 0 k j) := by
  blk_point [iblk, V, idx t]

/-- A block's product is the whole product at the block's rows. -/
theorem blk_eq (h : t.val * 1024 + r.val < 16384) :
    blkP (iblk m c 0 t) (iblk m c 1 t) (iblk m c 2 t) (iblk m c 3 t) r j = PM m c ⟨t.val * 1024 + r.val, h⟩ j := by
  have hr := r.isLt
  show prj _ _ _ _ _ = prj _ _ _ _ _
  congr 1 <;> funext k
  · exact blk0 m c t r k _ _
  · exact blk2 m c t k
  · exact blk1 m c t k 1 (by show (t.val * 1024 + r.val) / 8192 = _; omega) (by show 1024 + k.val = 1 * 1024 + k.val; omega)
  · exact blk1 m c t k 0 (by show (t.val * 1024 + r.val) / 8192 = _; omega) (by show k.val = 0 * 1024 + k.val; omega)
  · exact blk3 m c t k j

section
/-- The queries, scaled; -/
def R4 (p : Fin 16384 → Fin 1792 → EReal) : S16384x512.Idx → EReal := fun i => p (i 0) ⟨(i 1).val, (i 1).isLt.trans (by decide)⟩ * Ideal.ofBits .f32 0x3E000000#32
/-- the key and value heads, each twice; -/
def R5 (p : Fin 16384 → Fin 1792 → EReal) : S16384x512.Idx → EReal := fun i => p (i 0) ⟨512 + (i 1).val / 128 * 64 + (i 1).val % 64, by have := (i 1).isLt; change (i 1).val < 512 at this; omega⟩
/-- and the two gated halves. -/
def R6 (p : Fin 16384 → Fin 1792 → EReal) : S16384x512.Idx → EReal := fun i => gelu (p (i 0) ⟨768 + (i 1).val, by have := (i 1).isLt; change (i 1).val < 512 at this; omega⟩)
/-- The second of them. -/
def R7 (p : Fin 16384 → Fin 1792 → EReal) : S16384x512.Idx → EReal := fun i => gelu (p (i 0) ⟨1280 + (i 1).val, by have := (i 1).isLt; change (i 1).val < 512 at this; omega⟩)
end

theorem arr4 : (dats m 0 c).arrAt 4 cfg0.N = R4 (PM m c) := by
  unfold R4
  refine (dats m 0 c).arrAt_eq_of_covers 4 _ (by decide +kernel) fun t hf y => ?_
  have h1 : (y 1).val < 512 := (y 1).isLt
  have h0 : (y 0).val < 1024 := (y 0).isLt
  have ht : t.val < 16 := t.isLt
  have e0 : (((win0_4.blk t).view.emb y) 0 : ℕ) = t.val * 1024 + (y 0).val := by blk_simp [idx t]
  rw [after0_4]
  blk_simp [idx t]
  refine (out4 _ _ _ _ y (by omega)).trans ?_
  rw [blk_eq m c t (y 0) _ (by omega)]
  have key : (⟨t.val * 1024 + (y 0).val, by omega⟩ : Fin 16384) = (win0_4.blk t).view.emb y 0 := Fin.ext e0.symm
  rw [key]

theorem arr5 : (dats m 0 c).arrAt 5 cfg0.N = R5 (PM m c) := by
  unfold R5
  refine (dats m 0 c).arrAt_eq_of_covers 5 _ (by decide +kernel) fun t hf y => ?_
  have h1 : (y 1).val < 512 := (y 1).isLt
  have h0 : (y 0).val < 1024 := (y 0).isLt
  have ht : t.val < 16 := t.isLt
  have e0 : (((win0_5.blk t).view.emb y) 0 : ℕ) = t.val * 1024 + (y 0).val := by blk_simp [idx t]
  rw [after0_5]
  blk_simp [idx t]
  refine (out5 _ _ _ _ y (by omega)).trans ?_
  rw [blk_eq m c t (y 0) _ (by omega)]
  have key : (⟨t.val * 1024 + (y 0).val, by omega⟩ : Fin 16384) = (win0_5.blk t).view.emb y 0 := Fin.ext e0.symm
  rw [key]

theorem arr6 : (dats m 0 c).arrAt 6 cfg0.N = R6 (PM m c) := by
  unfold R6
  refine (dats m 0 c).arrAt_eq_of_covers 6 _ (by decide +kernel) fun t hf y => ?_
  have h1 : (y 1).val < 512 := (y 1).isLt
  have h0 : (y 0).val < 1024 := (y 0).isLt
  have ht : t.val < 16 := t.isLt
  have e0 : (((win0_6.blk t).view.emb y) 0 : ℕ) = t.val * 1024 + (y 0).val := by blk_simp [idx t]
  rw [after0_6]
  blk_simp [idx t]
  refine (out6 _ _ _ _ y (by omega)).trans ?_
  rw [blk_eq m c t (y 0) _ (by omega)]
  have key : (⟨t.val * 1024 + (y 0).val, by omega⟩ : Fin 16384) = (win0_6.blk t).view.emb y 0 := Fin.ext e0.symm
  rw [key]

theorem arr7 : (dats m 0 c).arrAt 7 cfg0.N = R7 (PM m c) := by
  unfold R7
  refine (dats m 0 c).arrAt_eq_of_covers 7 _ (by decide +kernel) fun t hf y => ?_
  have h1 : (y 1).val < 512 := (y 1).isLt
  have h0 : (y 0).val < 1024 := (y 0).isLt
  have ht : t.val < 16 := t.isLt
  have e0 : (((win0_7.blk t).view.emb y) 0 : ℕ) = t.val * 1024 + (y 0).val := by blk_simp [idx t]
  rw [after0_7]
  blk_simp [idx t]
  refine (out7 _ _ _ _ y (by omega)).trans ?_
  rw [blk_eq m c t (y 0) _ (by omega)]
  have key : (⟨t.val * 1024 + (y 0).val, by omega⟩ : Fin 16384) = (win0_7.blk t).view.emb y 0 := Fin.ext e0.symm
  rw [key]

end Cert.Proof.Proj
end
-- ==== Proof.ProjRef.lean ====
/-
  The input projection: what the reference computes, over extended reals, and that it is what the call leaves.
-/
module

public import proofs.«01_k».proof.Proof.Proj
public import proofs.«01_k».proof.Proof.Gen.Reference3Ideal.Run

@[expose] public section

set_option maxRecDepth 16384

noncomputable section

namespace Cert.Proof.ProjRef

open Cert.Reference3Ideal Cert.Reference3Ideal.Gen
open Idealize.ShloMosaic
open Idealize.SL Idealize.SL.Sem

variable (a0 : FVec Ideal S2x8192x1024 .f32) (a1 : FVec Ideal S2x6144 .f32) (a2 : FVec Ideal S1x1024 .f32) (a3 : FVec Ideal S1x1024x1792 .f32)

/-- The reference's product. -/
def prod : FVec Ideal S2x8192x1792 .f32 := Host.dotGeneral dot_S2x8192x1024_S1024x1792_S2x8192x1792_2_0_01_1_n_n none (addf (mulf (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 a2 shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] a1 slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] a1 slices_S2x6144_S2x1024_0_0)))) (shapeCast S1024x1792 a3 shapeCasts_S1x1024x1792_S1024x1792)

/-- The reference's product is the call's: the gain and the scale meet in the other order. -/
theorem prod_at (i : S2x8192x1792.Idx) (r : Fin 16384) (j : Fin 1792) (hr : r.val = (i 0).val * 8192 + (i 1).val) (hj : j.val = (i 2).val) :
    prod a0 a1 a2 a3 i = Proj.P a0 a1 a2 a3 r j := by
  have h1 : (i 1).val < 8192 := (i 1).isLt
  have e0 : (⟨r.val / 8192, by omega⟩ : Fin 2) = i 0 := Fin.ext (by show r.val / 8192 = _; omega)
  have e1 : (⟨r.val % 8192, by omega⟩ : Fin 8192) = i 1 := Fin.ext (by show r.val % 8192 = _; omega)
  obtain rfl : j = i 2 := Fin.ext hj
  unfold prod
  pointwise
  unfold Proj.P Proj.prj Proj.nrm
  simp only [e0, e1, mul_assoc]

/-- The reference's row of a token is its sequence's and its place in it. -/
theorem row (i : S16384x512.Idx) : (i 0).val = (i 0).val / 8192 * 8192 + (i 0).val % 8192 := by omega

theorem prod_row (i : S16384x512.Idx) (q j : Fin 1792) (h0 : (i 0).val / 8192 < 2) (h1 : (i 0).val % 8192 < 8192) (hj : j.val = q.val) :
    prod a0 a1 a2 a3 (ix3 ⟨(i 0).val / 8192, h0⟩ ⟨(i 0).val % 8192, h1⟩ q) = Proj.P a0 a1 a2 a3 (i 0) j :=
  prod_at a0 a1 a2 a3 (ix3 ⟨(i 0).val / 8192, h0⟩ ⟨(i 0).val % 8192, h1⟩ q) (i 0) j (row i) hj

/-- The reference's queries, -/
theorem ref4 : (truncf .bf16 (shapeCast S16384x512 (mulf (extractStridedSlice S2x8192x512 ![0, 0, 0] (prod a0 a1 a2 a3) slices_S2x8192x1792_S2x8192x512_0_0_0) (broadcastInDim S2x8192x512 ![] bcast_S_S2x8192x512 (constant S_ .f32 0x3E000000#32))) shapeCasts_S2x8192x512_S16384x512) bitsLt_bf16_f32) = Proj.R4 (Proj.P a0 a1 a2 a3) := by
  funext i
  unfold Proj.R4
  pointwise
  rw [prod_row a0 a1 a2 a3 i _ ⟨(i 1).val, (i 1).isLt.trans (by decide)⟩ _ _ rfl]

/-- its key and value heads, -/
theorem ref5 : (truncf .bf16 (shapeCast S16384x512 (broadcastInDim S16384x4x2x64 ![0, 1, 2, 3] bcast_S16384x4x1x64_S16384x4x2x64_0_1_2_3 (broadcastInDim S16384x4x1x64 ![0, 1, 3] bcast_S16384x4x64_S16384x4x1x64_0_1_3 (concatenate S16384x4x64 1 [⟨S16384x2x64, (shapeCast S16384x2x64 (extractStridedSlice S2x8192x128 ![0, 0, 512] (prod a0 a1 a2 a3) slices_S2x8192x1792_S2x8192x128_0_0_512) shapeCasts_S2x8192x128_S16384x2x64)⟩, ⟨S16384x2x64, (shapeCast S16384x2x64 (extractStridedSlice S2x8192x128 ![0, 0, 640] (prod a0 a1 a2 a3) slices_S2x8192x1792_S2x8192x128_0_0_640) shapeCasts_S2x8192x128_S16384x2x64)⟩] concatenates_S16384x2x64_S16384x2x64_S16384x4x64_d1))) shapeCasts_S16384x4x2x64_S16384x512) bitsLt_bf16_f32) = Proj.R5 (Proj.P a0 a1 a2 a3) := by
  funext i
  unfold Proj.R5
  pointwise
  have hi : (i 1).val < 512 := (i 1).isLt
  split
  · exact prod_row a0 a1 a2 a3 i _ _ _ _ (by show 512 + (i 1).val / 128 * 64 + (i 1).val % 64 = 512 + ((i 1).val / 128 * 64 + (i 1).val % 64); omega)
  · exact prod_row a0 a1 a2 a3 i _ _ _ _ (by show 512 + (i 1).val / 128 * 64 + (i 1).val % 64 = 640 + (((i 1).val / 128 - 2) * 64 + (i 1).val % 64); omega)

/-- and its two gated halves, -/
theorem ref6 : (shapeCast S16384x512 (extractStridedSlice S2x8192x512 ![0, 0, 0] (mulf (extractStridedSlice S2x8192x1024 ![0, 0, 768] (prod a0 a1 a2 a3) slices_S2x8192x1792_S2x8192x1024_0_0_768) (mulf (broadcastInDim S2x8192x1024 ![] bcast_S_S2x8192x1024 (constant S_ .f32 0x3F000000#32)) (addf (broadcastInDim S2x8192x1024 ![] bcast_S_S2x8192x1024 (constant S_ .f32 0x3F800000#32)) (Host.tanh (mulf (broadcastInDim S2x8192x1024 ![] bcast_S_S2x8192x1024 (constant S_ .f32 0x3F4C422A#32)) (addf (extractStridedSlice S2x8192x1024 ![0, 0, 768] (prod a0 a1 a2 a3) slices_S2x8192x1792_S2x8192x1024_0_0_768) (mulf (broadcastInDim S2x8192x1024 ![] bcast_S_S2x8192x1024 (constant S_ .f32 0x3D372713#32)) (mulf (mulf (extractStridedSlice S2x8192x1024 ![0, 0, 768] (prod a0 a1 a2 a3) slices_S2x8192x1792_S2x8192x1024_0_0_768) (extractStridedSlice S2x8192x1024 ![0, 0, 768] (prod a0 a1 a2 a3) slices_S2x8192x1792_S2x8192x1024_0_0_768)) (extractStridedSlice S2x8192x1024 ![0, 0, 768] (prod a0 a1 a2 a3) slices_S2x8192x1792_S2x8192x1024_0_0_768))))))))) slices_S2x8192x1024_S2x8192x512_0_0_0) shapeCasts_S2x8192x512_S16384x512) = Proj.R6 (Proj.P a0 a1 a2 a3) := by
  funext i
  unfold Proj.R6
  pointwise
  have hi : (i 1).val < 512 := (i 1).isLt
  rw [prod_row a0 a1 a2 a3 i ⟨768 + (i 1).val, by omega⟩ ⟨768 + (i 1).val, by omega⟩ _ _ rfl]
  rfl

/-- are the call's. -/
theorem ref7 : (shapeCast S16384x512 (extractStridedSlice S2x8192x512 ![0, 0, 512] (mulf (extractStridedSlice S2x8192x1024 ![0, 0, 768] (prod a0 a1 a2 a3) slices_S2x8192x1792_S2x8192x1024_0_0_768) (mulf (broadcastInDim S2x8192x1024 ![] bcast_S_S2x8192x1024 (constant S_ .f32 0x3F000000#32)) (addf (broadcastInDim S2x8192x1024 ![] bcast_S_S2x8192x1024 (constant S_ .f32 0x3F800000#32)) (Host.tanh (mulf (broadcastInDim S2x8192x1024 ![] bcast_S_S2x8192x1024 (constant S_ .f32 0x3F4C422A#32)) (addf (extractStridedSlice S2x8192x1024 ![0, 0, 768] (prod a0 a1 a2 a3) slices_S2x8192x1792_S2x8192x1024_0_0_768) (mulf (broadcastInDim S2x8192x1024 ![] bcast_S_S2x8192x1024 (constant S_ .f32 0x3D372713#32)) (mulf (mulf (extractStridedSlice S2x8192x1024 ![0, 0, 768] (prod a0 a1 a2 a3) slices_S2x8192x1792_S2x8192x1024_0_0_768) (extractStridedSlice S2x8192x1024 ![0, 0, 768] (prod a0 a1 a2 a3) slices_S2x8192x1792_S2x8192x1024_0_0_768)) (extractStridedSlice S2x8192x1024 ![0, 0, 768] (prod a0 a1 a2 a3) slices_S2x8192x1792_S2x8192x1024_0_0_768))))))))) slices_S2x8192x1024_S2x8192x512_0_0_512) shapeCasts_S2x8192x512_S16384x512) = Proj.R7 (Proj.P a0 a1 a2 a3) := by
  funext i
  unfold Proj.R7
  pointwise
  have hi : (i 1).val < 512 := (i 1).isLt
  rw [prod_row a0 a1 a2 a3 i ⟨768 + (512 + (i 1).val), by omega⟩ ⟨1280 + (i 1).val, by omega⟩ _ _ (by show 1280 + (i 1).val = 768 + (512 + (i 1).val); omega)]
  rfl

end Cert.Proof.ProjRef

namespace Cert.Proof

open Idealize.ShloMosaic Idealize.SL.Sem

/-- The input projection's program and its reference compute the same four arrays. -/
theorem value3 : Cert.algebraic_Kernel3Ideal_Reference3Ideal := by
  intro m ρ m' ρ' _ hag
  refine ⟨fun c => Proj.R4 (Proj.PM m c), fun c => Proj.R5 (Proj.PM m c), fun c => Proj.R6 (Proj.PM m c), fun c => Proj.R7 (Proj.PM m c), ?_, ?_⟩
  · exact (θ_run Cert.Kernel3Ideal.defs _ _).mono
      (fun _ h c => ⟨(h c).1.trans (Proj.arr4 m c), (h c).2.1.trans (Proj.arr5 m c), (h c).2.2.1.trans (Proj.arr6 m c),
        (h c).2.2.2.1.trans (Proj.arr7 m c), (h c).2.2.2.2⟩)
      (Cert.Kernel3Ideal.Value.run_blocks (F := Ideal) m ρ)
  · refine (θ_run Cert.Reference3Ideal.defs _ _).mono
      (fun _ h c => ⟨(h c).1.trans ((ProjRef.ref4 _ _ _ _).trans (congrArg Proj.R4 ?_)), (h c).2.1.trans ((ProjRef.ref5 _ _ _ _).trans (congrArg Proj.R5 ?_)),
        (h c).2.2.1.trans ((ProjRef.ref6 _ _ _ _).trans (congrArg Proj.R6 ?_)), (h c).2.2.2.1.trans ((ProjRef.ref7 _ _ _ _).trans (congrArg Proj.R7 ?_)),
        (h c).2.2.2.2⟩)
      (Cert.Reference3Ideal.Value.run (F := Ideal) m' ρ')
    all_goals
      obtain ⟨h0, h1, h2, h3⟩ := hag c
      rw [h0, h1, h2, h3]

end Cert.Proof
end
-- ==== Proof.lean ====
/-
  The claims about the expert feed-forward call, the conditioning's projection and the input projection: of each, the
  frames of the program, its ideal reading and the reference, and the equality of the results at the ideal instance.
  Of the mixing, the frames of the program and its ideal reading.
-/
module

public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.Kernel4Ideal
public import proofs.«01_k».proof.Proof.Mix.Frame
public import proofs.«01_k».proof.Proof.Mix.Same
public import proofs.«01_k».proof.Proof.Gen.Kernel2Ideal
public import proofs.«01_k».proof.Proof.Gen.Kernel2Ideal.Value
public import proofs.«01_k».proof.Proof.Gen.Kernel3Ideal
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.K.Frame
public import proofs.«01_k».proof.Proof.Ref
public import proofs.«01_k».proof.Proof.Adaln
public import proofs.«01_k».proof.Proof.ProjRef

@[expose] public section

noncomputable section

namespace Cert.Proof

open Idealize.ShloMosaic Idealize.SL.Sem

/-- The ideal reading's frame, -/
theorem frame_ideal : Cert.quiescent_KernelIdeal := fun m ρ _ =>
  (θ_run Cert.KernelIdeal.defs _ _).mono (fun _ h => ⟨fun c => (h.1 c).2, h.2⟩) (Ffn.run_main (F := Ideal) m ρ)
/-- the program's own, by the same run written over its own loop records and read at machine words, -/
theorem frame_kernel : Cert.quiescent_Kernel := fun m ρ _ =>
  (θ_run Cert.Kernel.defs _ _).mono (fun _ h => ⟨fun c => (h.1 c).2, h.2⟩) (FfnK.run_main (F := Bits) m ρ)
/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal reading and the reference compute the same array. -/
theorem value : Cert.algebraic_KernelIdeal_ReferenceIdeal := by
  intro m ρ m' ρ' _ hag
  refine ⟨fun c => Ffn.ffn (Ffn.A0 m c) (Ffn.A1 m c) (Ffn.A2 m c) (Ffn.A3 m c) (Ffn.A4 m c), ?_, ?_⟩
  · exact (θ_run Cert.KernelIdeal.defs _ _).mono (fun _ h c => ⟨(h.1 c).1.trans (Ffn.resV_eq m ρ c), (h.1 c).2⟩)
      (Ffn.run_main (F := Ideal) m ρ)
  · refine (θ_run Cert.ReferenceIdeal.defs _ _).mono (fun _ h c => ⟨(h c).1.trans ((Ref.out_eq _ _ _ _ _).trans ?_), (h c).2⟩)
      (Cert.ReferenceIdeal.Value.run (F := Ideal) m' ρ')
    obtain ⟨h0, h1, h2, h3, h4⟩ := hag c
    rw [h0, h1, h2, h3, h4]

/-- The conditioning's projection: the program's one label has the same body in both readings, -/
theorem body2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))
theorem defs2 : Cert.Kernel2.defs (F := Bits) = Cert.Kernel2Ideal.defs (F := Bits) :=
  congrArg (Pipeline.defs (Cert.Kernel2Ideal.pcfgs (F := Bits))) body2
/-- so that the one run, read at machine words, is the program's frame; the ideal reading's; the reference's. -/
theorem frame_kernel2 : Cert.quiescent_Kernel2 := fun m ρ _ => by
  have h := Cert.Kernel2Ideal.Gen.frame (F := Bits) m ρ
  rw [← defs2] at h
  exact h
theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection: the program's one label has the same body in both readings, -/
theorem body3 : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl
  | ⟨_ + 1, h⟩, _ => exact absurd h (Nat.not_lt.2 (Nat.le_add_left _ _))
theorem defs3 : Cert.Kernel3.defs (F := Bits) = Cert.Kernel3Ideal.defs (F := Bits) :=
  congrArg (Pipeline.defs (Cert.Kernel3Ideal.pcfgs (F := Bits))) body3
/-- so that the one run, read at machine words, is the program's frame; the ideal reading's; the reference's. -/
theorem frame_kernel3 : Cert.quiescent_Kernel3 := fun m ρ _ => by
  have h := Cert.Kernel3Ideal.Gen.frame (F := Bits) m ρ
  rw [← defs3] at h
  exact h
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The mixing: the ideal reading's frame; the program's own is in `Mix.Same`. -/
theorem frame_ideal4 : Cert.quiescent_Kernel4Ideal := fun m ρ _ => Cert.Mix.frame (F := Ideal) m ρ

/-- All eighteen claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts,
    frame_kernel, frame_ideal, frame_reference, frame_kernel2, frame_ideal2, frame_reference2, frame_kernel3, frame_ideal3, frame_reference3,
    Mix.frame_kernel, frame_ideal4,
    trivial, value, trivial, value2, trivial, value3, trivial⟩

end Cert.Proof

end
